-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite29 [hPre_finite29 : Cert.Pre_finite29.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite29 [hPre_finite29 : Cert.Pre_finite29.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2))) = (fun _ => 1#1)

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def Pre_Kernel49 (m : (ℓ : Loc Cert.Kernel49.nD Cert.Kernel49.τ Cert.Kernel49.sig) → Buf (Elt Bits) ℓ) : Prop :=
  True

def Pre_Kernel49Ideal (m : (ℓ : Loc Cert.Kernel49Ideal.nD Cert.Kernel49Ideal.τ Cert.Kernel49Ideal.sig) → Buf (Elt Ideal) ℓ) : Prop :=
  True

def Pre_Reference49Ideal (m : (ℓ : Loc Cert.Reference49Ideal.nD Cert.Reference49Ideal.τ Cert.Reference49Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def Pre_Kernel55 (m : (ℓ : Loc Cert.Kernel55.nD Cert.Kernel55.τ Cert.Kernel55.sig) → Buf (Elt Bits) ℓ) : Prop :=
  True

def Pre_Kernel55Ideal (m : (ℓ : Loc Cert.Kernel55Ideal.nD Cert.Kernel55Ideal.τ Cert.Kernel55Ideal.sig) → Buf (Elt Ideal) ℓ) : Prop :=
  True

def Pre_Reference55Ideal (m : (ℓ : Loc Cert.Reference55Ideal.nD Cert.Reference55Ideal.τ Cert.Reference55Ideal.sig) → Buf (Elt Ideal) ℓ) : Prop :=
  True

def Pre_Kernel51 (m : (ℓ : Loc Cert.Kernel51.nD Cert.Kernel51.τ Cert.Kernel51.sig) → Buf (Elt Bits) ℓ) : Prop :=
  True

def Pre_Kernel51Ideal (m : (ℓ : Loc Cert.Kernel51Ideal.nD Cert.Kernel51Ideal.τ Cert.Kernel51Ideal.sig) → Buf (Elt Ideal) ℓ) : Prop :=
  True

def Pre_Reference51Ideal (m : (ℓ : Loc Cert.Reference51Ideal.nD Cert.Reference51Ideal.τ Cert.Reference51Ideal.sig) → Buf (Elt Ideal) ℓ) : Prop :=
  True

def Pre_Kernel52 (m : (ℓ : Loc Cert.Kernel52.nD Cert.Kernel52.τ Cert.Kernel52.sig) → Buf (Elt Bits) ℓ) : Prop :=
  True

def Pre_Kernel52Ideal (m : (ℓ : Loc Cert.Kernel52Ideal.nD Cert.Kernel52Ideal.τ Cert.Kernel52Ideal.sig) → Buf (Elt Ideal) ℓ) : Prop :=
  True

def Pre_Reference52Ideal (m : (ℓ : Loc Cert.Reference52Ideal.nD Cert.Reference52Ideal.τ Cert.Reference52Ideal.sig) → Buf (Elt Ideal) ℓ) : Prop :=
  True

def Pre_Kernel53 (m : (ℓ : Loc Cert.Kernel53.nD Cert.Kernel53.τ Cert.Kernel53.sig) → Buf (Elt Bits) ℓ) : Prop :=
  True

def Pre_Kernel53Ideal (m : (ℓ : Loc Cert.Kernel53Ideal.nD Cert.Kernel53Ideal.τ Cert.Kernel53Ideal.sig) → Buf (Elt Ideal) ℓ) : Prop :=
  True

def Pre_Reference53Ideal (m : (ℓ : Loc Cert.Reference53Ideal.nD Cert.Reference53Ideal.τ Cert.Reference53Ideal.sig) → Buf (Elt Ideal) ℓ) : Prop :=
  True

def Pre_Kernel54 (m : (ℓ : Loc Cert.Kernel54.nD Cert.Kernel54.τ Cert.Kernel54.sig) → Buf (Elt Bits) ℓ) : Prop :=
  True

def Pre_Kernel54Ideal (m : (ℓ : Loc Cert.Kernel54Ideal.nD Cert.Kernel54Ideal.τ Cert.Kernel54Ideal.sig) → Buf (Elt Ideal) ℓ) : Prop :=
  True

def Pre_Reference54Ideal (m : (ℓ : Loc Cert.Reference54Ideal.nD Cert.Reference54Ideal.τ Cert.Reference54Ideal.sig) → Buf (Elt Ideal) ℓ) : Prop :=
  True

def Pre_Kernel56 (m : (ℓ : Loc Cert.Kernel56.nD Cert.Kernel56.τ Cert.Kernel56.sig) → Buf (Elt Bits) ℓ) : Prop :=
  True

def Pre_Kernel56Ideal (m : (ℓ : Loc Cert.Kernel56Ideal.nD Cert.Kernel56Ideal.τ Cert.Kernel56Ideal.sig) → Buf (Elt Ideal) ℓ) : Prop :=
  True

def Pre_Reference56Ideal (m : (ℓ : Loc Cert.Reference56Ideal.nD Cert.Reference56Ideal.τ Cert.Reference56Ideal.sig) → Buf (Elt Ideal) ℓ) : Prop :=
  True

def Pre_Kernel57 (m : (ℓ : Loc Cert.Kernel57.nD Cert.Kernel57.τ Cert.Kernel57.sig) → Buf (Elt Bits) ℓ) : Prop :=
  True

def Pre_Kernel57Ideal (m : (ℓ : Loc Cert.Kernel57Ideal.nD Cert.Kernel57Ideal.τ Cert.Kernel57Ideal.sig) → Buf (Elt Ideal) ℓ) : Prop :=
  True

def Pre_Reference57Ideal (m : (ℓ : Loc Cert.Reference57Ideal.nD Cert.Reference57Ideal.τ Cert.Reference57Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Kernel29Ideal_pre_finite29 [hKernel29Ideal : Cert.Kernel29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite29 m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Reference29Ideal_pre_finite29 [hReference29Ideal : Cert.Reference29Ideal.Facts] [hPre_finite29 : Cert.Pre_finite29.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite29 m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3)
      ∧ r.2.mem ((c.tc : Thread Cert.Kernel36.nD Cert.Kernel36.τ).loc Cert.Kernel36.main_arg4) = m ((c.tc : Thread Cert.Kernel36.nD Cert.Kernel36.τ).loc Cert.Kernel36.main_arg4))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
      ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3)
      ∧ r.2.mem ((c.tc : Thread Cert.Reference36Ideal.nD Cert.Reference36Ideal.τ).loc Cert.Reference36Ideal.main_arg4) = m ((c.tc : Thread Cert.Reference36Ideal.nD Cert.Reference36Ideal.τ).loc Cert.Reference36Ideal.main_arg4))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1)
      ∧ r.2.mem ((c.tc : Thread Cert.Kernel48.nD Cert.Kernel48.τ).loc Cert.Kernel48.main_arg2) = m ((c.tc : Thread Cert.Kernel48.nD Cert.Kernel48.τ).loc Cert.Kernel48.main_arg2))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
      ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1)
      ∧ r.2.mem ((c.tc : Thread Cert.Reference48Ideal.nD Cert.Reference48Ideal.τ).loc Cert.Reference48Ideal.main_arg2) = m ((c.tc : Thread Cert.Reference48Ideal.nD Cert.Reference48Ideal.τ).loc Cert.Reference48Ideal.main_arg2))
      ∧ r.2.sem = fun _ => 0)

def quiescent_Kernel49 [hKernel49 : Cert.Kernel49.Facts] : Prop :=
  ∀ (m : (ℓ : Loc Cert.Kernel49.nD Cert.Kernel49.τ Cert.Kernel49.sig) → Buf (Elt Bits) ℓ) (g : Dev Cert.Kernel49.nD → PrngReg), Pre_Kernel49 m →
    θ_run (Cert.Kernel49.defs (F := Bits)) (onTc (τ := Cert.Kernel49.τ) (Cert.Kernel49.main (F := Bits))) ⟨m, fun _ => 0, g⟩ (fun r => (∀ c : Dev Cert.Kernel49.nD,
      r.2.mem ((c.tc : Thread Cert.Kernel49.nD Cert.Kernel49.τ).loc Cert.Kernel49.main_arg0) = m ((c.tc : Thread Cert.Kernel49.nD Cert.Kernel49.τ).loc Cert.Kernel49.main_arg0)
      ∧ r.2.mem ((c.tc : Thread Cert.Kernel49.nD Cert.Kernel49.τ).loc Cert.Kernel49.main_arg1) = m ((c.tc : Thread Cert.Kernel49.nD Cert.Kernel49.τ).loc Cert.Kernel49.main_arg1)
      ∧ r.2.mem ((c.tc : Thread Cert.Kernel49.nD Cert.Kernel49.τ).loc Cert.Kernel49.main_arg2) = m ((c.tc : Thread Cert.Kernel49.nD Cert.Kernel49.τ).loc Cert.Kernel49.main_arg2)
      ∧ r.2.mem ((c.tc : Thread Cert.Kernel49.nD Cert.Kernel49.τ).loc Cert.Kernel49.main_arg3) = m ((c.tc : Thread Cert.Kernel49.nD Cert.Kernel49.τ).loc Cert.Kernel49.main_arg3)
      ∧ r.2.mem ((c.tc : Thread Cert.Kernel49.nD Cert.Kernel49.τ).loc Cert.Kernel49.main_arg4) = m ((c.tc : Thread Cert.Kernel49.nD Cert.Kernel49.τ).loc Cert.Kernel49.main_arg4))
      ∧ r.2.sem = fun _ => 0)

def quiescent_Kernel49Ideal [hKernel49Ideal : Cert.Kernel49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg), Pre_Kernel49Ideal m →
    θ_run (Cert.Kernel49Ideal.defs (F := Ideal)) (onTc (τ := Cert.Kernel49Ideal.τ) (Cert.Kernel49Ideal.main (F := Ideal))) ⟨m, fun _ => 0, g⟩ (fun r => (∀ c : Dev Cert.Kernel49Ideal.nD,
      r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
      ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
      ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
      ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3)
      ∧ r.2.mem ((c.tc : Thread Cert.Kernel49Ideal.nD Cert.Kernel49Ideal.τ).loc Cert.Kernel49Ideal.main_arg4) = m ((c.tc : Thread Cert.Kernel49Ideal.nD Cert.Kernel49Ideal.τ).loc Cert.Kernel49Ideal.main_arg4))
      ∧ r.2.sem = fun _ => 0)

def quiescent_Reference49Ideal [hReference49Ideal : Cert.Reference49Ideal.Facts] : Prop :=
  ∀ (m : (ℓ : Loc Cert.Reference49Ideal.nD Cert.Reference49Ideal.τ Cert.Reference49Ideal.sig) → Buf (Elt Ideal) ℓ) (g : Dev Cert.Reference49Ideal.nD → PrngReg), Pre_Reference49Ideal m →
    θ_run (Cert.Reference49Ideal.defs (F := Ideal)) (onTc (τ := Cert.Reference49Ideal.τ) (Cert.Reference49Ideal.main (F := Ideal))) ⟨m, fun _ => 0, g⟩ (fun r => (∀ c : Dev Cert.Reference49Ideal.nD,
      r.2.mem ((c.tc : Thread Cert.Reference49Ideal.nD Cert.Reference49Ideal.τ).loc Cert.Reference49Ideal.main_arg0) = m ((c.tc : Thread Cert.Reference49Ideal.nD Cert.Reference49Ideal.τ).loc Cert.Reference49Ideal.main_arg0)
      ∧ r.2.mem ((c.tc : Thread Cert.Reference49Ideal.nD Cert.Reference49Ideal.τ).loc Cert.Reference49Ideal.main_arg1) = m ((c.tc : Thread Cert.Reference49Ideal.nD Cert.Reference49Ideal.τ).loc Cert.Reference49Ideal.main_arg1)
      ∧ r.2.mem ((c.tc : Thread Cert.Reference49Ideal.nD Cert.Reference49Ideal.τ).loc Cert.Reference49Ideal.main_arg2) = m ((c.tc : Thread Cert.Reference49Ideal.nD Cert.Reference49Ideal.τ).loc Cert.Reference49Ideal.main_arg2)
      ∧ r.2.mem ((c.tc : Thread Cert.Reference49Ideal.nD Cert.Reference49Ideal.τ).loc Cert.Reference49Ideal.main_arg3) = m ((c.tc : Thread Cert.Reference49Ideal.nD Cert.Reference49Ideal.τ).loc Cert.Reference49Ideal.main_arg3)
      ∧ r.2.mem ((c.tc : Thread Cert.Reference49Ideal.nD Cert.Reference49Ideal.τ).loc Cert.Reference49Ideal.main_arg4) = m ((c.tc : Thread Cert.Reference49Ideal.nD Cert.Reference49Ideal.τ).loc Cert.Reference49Ideal.main_arg4))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0)
      ∧ r.2.mem ((c.tc : Thread Cert.Kernel50.nD Cert.Kernel50.τ).loc Cert.Kernel50.main_arg1) = m ((c.tc : Thread Cert.Kernel50.nD Cert.Kernel50.τ).loc Cert.Kernel50.main_arg1))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
      ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0)
      ∧ r.2.mem ((c.tc : Thread Cert.Reference50Ideal.nD Cert.Reference50Ideal.τ).loc Cert.Reference50Ideal.main_arg1) = m ((c.tc : Thread Cert.Reference50Ideal.nD Cert.Reference50Ideal.τ).loc Cert.Reference50Ideal.main_arg1))
      ∧ r.2.sem = fun _ => 0)

def quiescent_Kernel55 [hKernel55 : Cert.Kernel55.Facts] : Prop :=
  ∀ (m : (ℓ : Loc Cert.Kernel55.nD Cert.Kernel55.τ Cert.Kernel55.sig) → Buf (Elt Bits) ℓ) (g : Dev Cert.Kernel55.nD → PrngReg), Pre_Kernel55 m →
    θ_run (Cert.Kernel55.defs (F := Bits)) (onTc (τ := Cert.Kernel55.τ) (Cert.Kernel55.main (F := Bits))) ⟨m, fun _ => 0, g⟩ (fun r => (∀ c : Dev Cert.Kernel55.nD,
      r.2.mem ((c.tc : Thread Cert.Kernel55.nD Cert.Kernel55.τ).loc Cert.Kernel55.main_arg0) = m ((c.tc : Thread Cert.Kernel55.nD Cert.Kernel55.τ).loc Cert.Kernel55.main_arg0))
      ∧ r.2.sem = fun _ => 0)

def quiescent_Kernel55Ideal [hKernel55Ideal : Cert.Kernel55Ideal.Facts] : Prop :=
  ∀ (m : (ℓ : Loc Cert.Kernel55Ideal.nD Cert.Kernel55Ideal.τ Cert.Kernel55Ideal.sig) → Buf (Elt Ideal) ℓ) (g : Dev Cert.Kernel55Ideal.nD → PrngReg), Pre_Kernel55Ideal m →
    θ_run (Cert.Kernel55Ideal.defs (F := Ideal)) (onTc (τ := Cert.Kernel55Ideal.τ) (Cert.Kernel55Ideal.main (F := Ideal))) ⟨m, fun _ => 0, g⟩ (fun r => (∀ c : Dev Cert.Kernel55Ideal.nD,
      r.2.mem ((c.tc : Thread Cert.Kernel55Ideal.nD Cert.Kernel55Ideal.τ).loc Cert.Kernel55Ideal.main_arg0) = m ((c.tc : Thread Cert.Kernel55Ideal.nD Cert.Kernel55Ideal.τ).loc Cert.Kernel55Ideal.main_arg0))
      ∧ r.2.sem = fun _ => 0)

def quiescent_Reference55Ideal [hReference55Ideal : Cert.Reference55Ideal.Facts] : Prop :=
  ∀ (m : (ℓ : Loc Cert.Reference55Ideal.nD Cert.Reference55Ideal.τ Cert.Reference55Ideal.sig) → Buf (Elt Ideal) ℓ) (g : Dev Cert.Reference55Ideal.nD → PrngReg), Pre_Reference55Ideal m →
    θ_run (Cert.Reference55Ideal.defs (F := Ideal)) (onTc (τ := Cert.Reference55Ideal.τ) (Cert.Reference55Ideal.main (F := Ideal))) ⟨m, fun _ => 0, g⟩ (fun r => (∀ c : Dev Cert.Reference55Ideal.nD,
      r.2.mem ((c.tc : Thread Cert.Reference55Ideal.nD Cert.Reference55Ideal.τ).loc Cert.Reference55Ideal.main_arg0) = m ((c.tc : Thread Cert.Reference55Ideal.nD Cert.Reference55Ideal.τ).loc Cert.Reference55Ideal.main_arg0))
      ∧ r.2.sem = fun _ => 0)

def quiescent_Kernel51 [hKernel51 : Cert.Kernel51.Facts] : Prop :=
  ∀ (m : (ℓ : Loc Cert.Kernel51.nD Cert.Kernel51.τ Cert.Kernel51.sig) → Buf (Elt Bits) ℓ) (g : Dev Cert.Kernel51.nD → PrngReg), Pre_Kernel51 m →
    θ_run (Cert.Kernel51.defs (F := Bits)) (onTc (τ := Cert.Kernel51.τ) (Cert.Kernel51.main (F := Bits))) ⟨m, fun _ => 0, g⟩ (fun r => (∀ c : Dev Cert.Kernel51.nD,
      r.2.mem ((c.tc : Thread Cert.Kernel51.nD Cert.Kernel51.τ).loc Cert.Kernel51.main_arg0) = m ((c.tc : Thread Cert.Kernel51.nD Cert.Kernel51.τ).loc Cert.Kernel51.main_arg0)
      ∧ r.2.mem ((c.tc : Thread Cert.Kernel51.nD Cert.Kernel51.τ).loc Cert.Kernel51.main_arg1) = m ((c.tc : Thread Cert.Kernel51.nD Cert.Kernel51.τ).loc Cert.Kernel51.main_arg1)
      ∧ r.2.mem ((c.tc : Thread Cert.Kernel51.nD Cert.Kernel51.τ).loc Cert.Kernel51.main_arg2) = m ((c.tc : Thread Cert.Kernel51.nD Cert.Kernel51.τ).loc Cert.Kernel51.main_arg2)
      ∧ r.2.mem ((c.tc : Thread Cert.Kernel51.nD Cert.Kernel51.τ).loc Cert.Kernel51.main_arg3) = m ((c.tc : Thread Cert.Kernel51.nD Cert.Kernel51.τ).loc Cert.Kernel51.main_arg3)
      ∧ r.2.mem ((c.tc : Thread Cert.Kernel51.nD Cert.Kernel51.τ).loc Cert.Kernel51.main_arg4) = m ((c.tc : Thread Cert.Kernel51.nD Cert.Kernel51.τ).loc Cert.Kernel51.main_arg4)
      ∧ r.2.mem ((c.tc : Thread Cert.Kernel51.nD Cert.Kernel51.τ).loc Cert.Kernel51.main_arg5) = m ((c.tc : Thread Cert.Kernel51.nD Cert.Kernel51.τ).loc Cert.Kernel51.main_arg5)
      ∧ r.2.mem ((c.tc : Thread Cert.Kernel51.nD Cert.Kernel51.τ).loc Cert.Kernel51.main_arg6) = m ((c.tc : Thread Cert.Kernel51.nD Cert.Kernel51.τ).loc Cert.Kernel51.main_arg6))
      ∧ r.2.sem = fun _ => 0)

def quiescent_Kernel51Ideal [hKernel51Ideal : Cert.Kernel51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg), Pre_Kernel51Ideal m →
    θ_run (Cert.Kernel51Ideal.defs (F := Ideal)) (onTc (τ := Cert.Kernel51Ideal.τ) (Cert.Kernel51Ideal.main (F := Ideal))) ⟨m, fun _ => 0, g⟩ (fun r => (∀ c : Dev Cert.Kernel51Ideal.nD,
      r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
      ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
      ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2)
      ∧ r.2.mem ((c.tc : Thread Cert.Kernel51Ideal.nD Cert.Kernel51Ideal.τ).loc Cert.Kernel51Ideal.main_arg3) = m ((c.tc : Thread Cert.Kernel51Ideal.nD Cert.Kernel51Ideal.τ).loc Cert.Kernel51Ideal.main_arg3)
      ∧ r.2.mem ((c.tc : Thread Cert.Kernel51Ideal.nD Cert.Kernel51Ideal.τ).loc Cert.Kernel51Ideal.main_arg4) = m ((c.tc : Thread Cert.Kernel51Ideal.nD Cert.Kernel51Ideal.τ).loc Cert.Kernel51Ideal.main_arg4)
      ∧ r.2.mem ((c.tc : Thread Cert.Kernel51Ideal.nD Cert.Kernel51Ideal.τ).loc Cert.Kernel51Ideal.main_arg5) = m ((c.tc : Thread Cert.Kernel51Ideal.nD Cert.Kernel51Ideal.τ).loc Cert.Kernel51Ideal.main_arg5)
      ∧ r.2.mem ((c.tc : Thread Cert.Kernel51Ideal.nD Cert.Kernel51Ideal.τ).loc Cert.Kernel51Ideal.main_arg6) = m ((c.tc : Thread Cert.Kernel51Ideal.nD Cert.Kernel51Ideal.τ).loc Cert.Kernel51Ideal.main_arg6))
      ∧ r.2.sem = fun _ => 0)

def quiescent_Reference51Ideal [hReference51Ideal : Cert.Reference51Ideal.Facts] : Prop :=
  ∀ (m : (ℓ : Loc Cert.Reference51Ideal.nD Cert.Reference51Ideal.τ Cert.Reference51Ideal.sig) → Buf (Elt Ideal) ℓ) (g : Dev Cert.Reference51Ideal.nD → PrngReg), Pre_Reference51Ideal m →
    θ_run (Cert.Reference51Ideal.defs (F := Ideal)) (onTc (τ := Cert.Reference51Ideal.τ) (Cert.Reference51Ideal.main (F := Ideal))) ⟨m, fun _ => 0, g⟩ (fun r => (∀ c : Dev Cert.Reference51Ideal.nD,
      r.2.mem ((c.tc : Thread Cert.Reference51Ideal.nD Cert.Reference51Ideal.τ).loc Cert.Reference51Ideal.main_arg0) = m ((c.tc : Thread Cert.Reference51Ideal.nD Cert.Reference51Ideal.τ).loc Cert.Reference51Ideal.main_arg0)
      ∧ r.2.mem ((c.tc : Thread Cert.Reference51Ideal.nD Cert.Reference51Ideal.τ).loc Cert.Reference51Ideal.main_arg1) = m ((c.tc : Thread Cert.Reference51Ideal.nD Cert.Reference51Ideal.τ).loc Cert.Reference51Ideal.main_arg1)
      ∧ r.2.mem ((c.tc : Thread Cert.Reference51Ideal.nD Cert.Reference51Ideal.τ).loc Cert.Reference51Ideal.main_arg2) = m ((c.tc : Thread Cert.Reference51Ideal.nD Cert.Reference51Ideal.τ).loc Cert.Reference51Ideal.main_arg2)
      ∧ r.2.mem ((c.tc : Thread Cert.Reference51Ideal.nD Cert.Reference51Ideal.τ).loc Cert.Reference51Ideal.main_arg3) = m ((c.tc : Thread Cert.Reference51Ideal.nD Cert.Reference51Ideal.τ).loc Cert.Reference51Ideal.main_arg3)
      ∧ r.2.mem ((c.tc : Thread Cert.Reference51Ideal.nD Cert.Reference51Ideal.τ).loc Cert.Reference51Ideal.main_arg4) = m ((c.tc : Thread Cert.Reference51Ideal.nD Cert.Reference51Ideal.τ).loc Cert.Reference51Ideal.main_arg4)
      ∧ r.2.mem ((c.tc : Thread Cert.Reference51Ideal.nD Cert.Reference51Ideal.τ).loc Cert.Reference51Ideal.main_arg5) = m ((c.tc : Thread Cert.Reference51Ideal.nD Cert.Reference51Ideal.τ).loc Cert.Reference51Ideal.main_arg5)
      ∧ r.2.mem ((c.tc : Thread Cert.Reference51Ideal.nD Cert.Reference51Ideal.τ).loc Cert.Reference51Ideal.main_arg6) = m ((c.tc : Thread Cert.Reference51Ideal.nD Cert.Reference51Ideal.τ).loc Cert.Reference51Ideal.main_arg6))
      ∧ r.2.sem = fun _ => 0)

def quiescent_Kernel52 [hKernel52 : Cert.Kernel52.Facts] : Prop :=
  ∀ (m : (ℓ : Loc Cert.Kernel52.nD Cert.Kernel52.τ Cert.Kernel52.sig) → Buf (Elt Bits) ℓ) (g : Dev Cert.Kernel52.nD → PrngReg), Pre_Kernel52 m →
    θ_run (Cert.Kernel52.defs (F := Bits)) (onTc (τ := Cert.Kernel52.τ) (Cert.Kernel52.main (F := Bits))) ⟨m, fun _ => 0, g⟩ (fun r => (∀ c : Dev Cert.Kernel52.nD,
      r.2.mem ((c.tc : Thread Cert.Kernel52.nD Cert.Kernel52.τ).loc Cert.Kernel52.main_arg0) = m ((c.tc : Thread Cert.Kernel52.nD Cert.Kernel52.τ).loc Cert.Kernel52.main_arg0)
      ∧ r.2.mem ((c.tc : Thread Cert.Kernel52.nD Cert.Kernel52.τ).loc Cert.Kernel52.main_arg1) = m ((c.tc : Thread Cert.Kernel52.nD Cert.Kernel52.τ).loc Cert.Kernel52.main_arg1)
      ∧ r.2.mem ((c.tc : Thread Cert.Kernel52.nD Cert.Kernel52.τ).loc Cert.Kernel52.main_arg2) = m ((c.tc : Thread Cert.Kernel52.nD Cert.Kernel52.τ).loc Cert.Kernel52.main_arg2)
      ∧ r.2.mem ((c.tc : Thread Cert.Kernel52.nD Cert.Kernel52.τ).loc Cert.Kernel52.main_arg3) = m ((c.tc : Thread Cert.Kernel52.nD Cert.Kernel52.τ).loc Cert.Kernel52.main_arg3)
      ∧ r.2.mem ((c.tc : Thread Cert.Kernel52.nD Cert.Kernel52.τ).loc Cert.Kernel52.main_arg4) = m ((c.tc : Thread Cert.Kernel52.nD Cert.Kernel52.τ).loc Cert.Kernel52.main_arg4))
      ∧ r.2.sem = fun _ => 0)

def quiescent_Kernel52Ideal [hKernel52Ideal : Cert.Kernel52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg), Pre_Kernel52Ideal m →
    θ_run (Cert.Kernel52Ideal.defs (F := Ideal)) (onTc (τ := Cert.Kernel52Ideal.τ) (Cert.Kernel52Ideal.main (F := Ideal))) ⟨m, fun _ => 0, g⟩ (fun r => (∀ c : Dev Cert.Kernel52Ideal.nD,
      r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
      ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1)
      ∧ r.2.mem ((c.tc : Thread Cert.Kernel52Ideal.nD Cert.Kernel52Ideal.τ).loc Cert.Kernel52Ideal.main_arg2) = m ((c.tc : Thread Cert.Kernel52Ideal.nD Cert.Kernel52Ideal.τ).loc Cert.Kernel52Ideal.main_arg2)
      ∧ r.2.mem ((c.tc : Thread Cert.Kernel52Ideal.nD Cert.Kernel52Ideal.τ).loc Cert.Kernel52Ideal.main_arg3) = m ((c.tc : Thread Cert.Kernel52Ideal.nD Cert.Kernel52Ideal.τ).loc Cert.Kernel52Ideal.main_arg3)
      ∧ r.2.mem ((c.tc : Thread Cert.Kernel52Ideal.nD Cert.Kernel52Ideal.τ).loc Cert.Kernel52Ideal.main_arg4) = m ((c.tc : Thread Cert.Kernel52Ideal.nD Cert.Kernel52Ideal.τ).loc Cert.Kernel52Ideal.main_arg4))
      ∧ r.2.sem = fun _ => 0)

def quiescent_Reference52Ideal [hReference52Ideal : Cert.Reference52Ideal.Facts] : Prop :=
  ∀ (m : (ℓ : Loc Cert.Reference52Ideal.nD Cert.Reference52Ideal.τ Cert.Reference52Ideal.sig) → Buf (Elt Ideal) ℓ) (g : Dev Cert.Reference52Ideal.nD → PrngReg), Pre_Reference52Ideal m →
    θ_run (Cert.Reference52Ideal.defs (F := Ideal)) (onTc (τ := Cert.Reference52Ideal.τ) (Cert.Reference52Ideal.main (F := Ideal))) ⟨m, fun _ => 0, g⟩ (fun r => (∀ c : Dev Cert.Reference52Ideal.nD,
      r.2.mem ((c.tc : Thread Cert.Reference52Ideal.nD Cert.Reference52Ideal.τ).loc Cert.Reference52Ideal.main_arg0) = m ((c.tc : Thread Cert.Reference52Ideal.nD Cert.Reference52Ideal.τ).loc Cert.Reference52Ideal.main_arg0)
      ∧ r.2.mem ((c.tc : Thread Cert.Reference52Ideal.nD Cert.Reference52Ideal.τ).loc Cert.Reference52Ideal.main_arg1) = m ((c.tc : Thread Cert.Reference52Ideal.nD Cert.Reference52Ideal.τ).loc Cert.Reference52Ideal.main_arg1)
      ∧ r.2.mem ((c.tc : Thread Cert.Reference52Ideal.nD Cert.Reference52Ideal.τ).loc Cert.Reference52Ideal.main_arg2) = m ((c.tc : Thread Cert.Reference52Ideal.nD Cert.Reference52Ideal.τ).loc Cert.Reference52Ideal.main_arg2)
      ∧ r.2.mem ((c.tc : Thread Cert.Reference52Ideal.nD Cert.Reference52Ideal.τ).loc Cert.Reference52Ideal.main_arg3) = m ((c.tc : Thread Cert.Reference52Ideal.nD Cert.Reference52Ideal.τ).loc Cert.Reference52Ideal.main_arg3)
      ∧ r.2.mem ((c.tc : Thread Cert.Reference52Ideal.nD Cert.Reference52Ideal.τ).loc Cert.Reference52Ideal.main_arg4) = m ((c.tc : Thread Cert.Reference52Ideal.nD Cert.Reference52Ideal.τ).loc Cert.Reference52Ideal.main_arg4))
      ∧ r.2.sem = fun _ => 0)

def quiescent_Kernel53 [hKernel53 : Cert.Kernel53.Facts] : Prop :=
  ∀ (m : (ℓ : Loc Cert.Kernel53.nD Cert.Kernel53.τ Cert.Kernel53.sig) → Buf (Elt Bits) ℓ) (g : Dev Cert.Kernel53.nD → PrngReg), Pre_Kernel53 m →
    θ_run (Cert.Kernel53.defs (F := Bits)) (onTc (τ := Cert.Kernel53.τ) (Cert.Kernel53.main (F := Bits))) ⟨m, fun _ => 0, g⟩ (fun r => (∀ c : Dev Cert.Kernel53.nD,
      r.2.mem ((c.tc : Thread Cert.Kernel53.nD Cert.Kernel53.τ).loc Cert.Kernel53.main_arg0) = m ((c.tc : Thread Cert.Kernel53.nD Cert.Kernel53.τ).loc Cert.Kernel53.main_arg0)
      ∧ r.2.mem ((c.tc : Thread Cert.Kernel53.nD Cert.Kernel53.τ).loc Cert.Kernel53.main_arg1) = m ((c.tc : Thread Cert.Kernel53.nD Cert.Kernel53.τ).loc Cert.Kernel53.main_arg1)
      ∧ r.2.mem ((c.tc : Thread Cert.Kernel53.nD Cert.Kernel53.τ).loc Cert.Kernel53.main_arg2) = m ((c.tc : Thread Cert.Kernel53.nD Cert.Kernel53.τ).loc Cert.Kernel53.main_arg2)
      ∧ r.2.mem ((c.tc : Thread Cert.Kernel53.nD Cert.Kernel53.τ).loc Cert.Kernel53.main_arg3) = m ((c.tc : Thread Cert.Kernel53.nD Cert.Kernel53.τ).loc Cert.Kernel53.main_arg3)
      ∧ r.2.mem ((c.tc : Thread Cert.Kernel53.nD Cert.Kernel53.τ).loc Cert.Kernel53.main_arg4) = m ((c.tc : Thread Cert.Kernel53.nD Cert.Kernel53.τ).loc Cert.Kernel53.main_arg4)
      ∧ r.2.mem ((c.tc : Thread Cert.Kernel53.nD Cert.Kernel53.τ).loc Cert.Kernel53.main_arg5) = m ((c.tc : Thread Cert.Kernel53.nD Cert.Kernel53.τ).loc Cert.Kernel53.main_arg5)
      ∧ r.2.mem ((c.tc : Thread Cert.Kernel53.nD Cert.Kernel53.τ).loc Cert.Kernel53.main_arg6) = m ((c.tc : Thread Cert.Kernel53.nD Cert.Kernel53.τ).loc Cert.Kernel53.main_arg6)
      ∧ r.2.mem ((c.tc : Thread Cert.Kernel53.nD Cert.Kernel53.τ).loc Cert.Kernel53.main_arg7) = m ((c.tc : Thread Cert.Kernel53.nD Cert.Kernel53.τ).loc Cert.Kernel53.main_arg7))
      ∧ r.2.sem = fun _ => 0)

def quiescent_Kernel53Ideal [hKernel53Ideal : Cert.Kernel53Ideal.Facts] : Prop :=
  ∀ (m : (ℓ : Loc Cert.Kernel53Ideal.nD Cert.Kernel53Ideal.τ Cert.Kernel53Ideal.sig) → Buf (Elt Ideal) ℓ) (g : Dev Cert.Kernel53Ideal.nD → PrngReg), Pre_Kernel53Ideal m →
    θ_run (Cert.Kernel53Ideal.defs (F := Ideal)) (onTc (τ := Cert.Kernel53Ideal.τ) (Cert.Kernel53Ideal.main (F := Ideal))) ⟨m, fun _ => 0, g⟩ (fun r => (∀ c : Dev Cert.Kernel53Ideal.nD,
      r.2.mem ((c.tc : Thread Cert.Kernel53Ideal.nD Cert.Kernel53Ideal.τ).loc Cert.Kernel53Ideal.main_arg0) = m ((c.tc : Thread Cert.Kernel53Ideal.nD Cert.Kernel53Ideal.τ).loc Cert.Kernel53Ideal.main_arg0)
      ∧ r.2.mem ((c.tc : Thread Cert.Kernel53Ideal.nD Cert.Kernel53Ideal.τ).loc Cert.Kernel53Ideal.main_arg1) = m ((c.tc : Thread Cert.Kernel53Ideal.nD Cert.Kernel53Ideal.τ).loc Cert.Kernel53Ideal.main_arg1)
      ∧ r.2.mem ((c.tc : Thread Cert.Kernel53Ideal.nD Cert.Kernel53Ideal.τ).loc Cert.Kernel53Ideal.main_arg2) = m ((c.tc : Thread Cert.Kernel53Ideal.nD Cert.Kernel53Ideal.τ).loc Cert.Kernel53Ideal.main_arg2)
      ∧ r.2.mem ((c.tc : Thread Cert.Kernel53Ideal.nD Cert.Kernel53Ideal.τ).loc Cert.Kernel53Ideal.main_arg3) = m ((c.tc : Thread Cert.Kernel53Ideal.nD Cert.Kernel53Ideal.τ).loc Cert.Kernel53Ideal.main_arg3)
      ∧ r.2.mem ((c.tc : Thread Cert.Kernel53Ideal.nD Cert.Kernel53Ideal.τ).loc Cert.Kernel53Ideal.main_arg4) = m ((c.tc : Thread Cert.Kernel53Ideal.nD Cert.Kernel53Ideal.τ).loc Cert.Kernel53Ideal.main_arg4)
      ∧ r.2.mem ((c.tc : Thread Cert.Kernel53Ideal.nD Cert.Kernel53Ideal.τ).loc Cert.Kernel53Ideal.main_arg5) = m ((c.tc : Thread Cert.Kernel53Ideal.nD Cert.Kernel53Ideal.τ).loc Cert.Kernel53Ideal.main_arg5)
      ∧ r.2.mem ((c.tc : Thread Cert.Kernel53Ideal.nD Cert.Kernel53Ideal.τ).loc Cert.Kernel53Ideal.main_arg6) = m ((c.tc : Thread Cert.Kernel53Ideal.nD Cert.Kernel53Ideal.τ).loc Cert.Kernel53Ideal.main_arg6)
      ∧ r.2.mem ((c.tc : Thread Cert.Kernel53Ideal.nD Cert.Kernel53Ideal.τ).loc Cert.Kernel53Ideal.main_arg7) = m ((c.tc : Thread Cert.Kernel53Ideal.nD Cert.Kernel53Ideal.τ).loc Cert.Kernel53Ideal.main_arg7))
      ∧ r.2.sem = fun _ => 0)

def quiescent_Reference53Ideal [hReference53Ideal : Cert.Reference53Ideal.Facts] : Prop :=
  ∀ (m : (ℓ : Loc Cert.Reference53Ideal.nD Cert.Reference53Ideal.τ Cert.Reference53Ideal.sig) → Buf (Elt Ideal) ℓ) (g : Dev Cert.Reference53Ideal.nD → PrngReg), Pre_Reference53Ideal m →
    θ_run (Cert.Reference53Ideal.defs (F := Ideal)) (onTc (τ := Cert.Reference53Ideal.τ) (Cert.Reference53Ideal.main (F := Ideal))) ⟨m, fun _ => 0, g⟩ (fun r => (∀ c : Dev Cert.Reference53Ideal.nD,
      r.2.mem ((c.tc : Thread Cert.Reference53Ideal.nD Cert.Reference53Ideal.τ).loc Cert.Reference53Ideal.main_arg0) = m ((c.tc : Thread Cert.Reference53Ideal.nD Cert.Reference53Ideal.τ).loc Cert.Reference53Ideal.main_arg0)
      ∧ r.2.mem ((c.tc : Thread Cert.Reference53Ideal.nD Cert.Reference53Ideal.τ).loc Cert.Reference53Ideal.main_arg1) = m ((c.tc : Thread Cert.Reference53Ideal.nD Cert.Reference53Ideal.τ).loc Cert.Reference53Ideal.main_arg1)
      ∧ r.2.mem ((c.tc : Thread Cert.Reference53Ideal.nD Cert.Reference53Ideal.τ).loc Cert.Reference53Ideal.main_arg2) = m ((c.tc : Thread Cert.Reference53Ideal.nD Cert.Reference53Ideal.τ).loc Cert.Reference53Ideal.main_arg2)
      ∧ r.2.mem ((c.tc : Thread Cert.Reference53Ideal.nD Cert.Reference53Ideal.τ).loc Cert.Reference53Ideal.main_arg3) = m ((c.tc : Thread Cert.Reference53Ideal.nD Cert.Reference53Ideal.τ).loc Cert.Reference53Ideal.main_arg3)
      ∧ r.2.mem ((c.tc : Thread Cert.Reference53Ideal.nD Cert.Reference53Ideal.τ).loc Cert.Reference53Ideal.main_arg4) = m ((c.tc : Thread Cert.Reference53Ideal.nD Cert.Reference53Ideal.τ).loc Cert.Reference53Ideal.main_arg4)
      ∧ r.2.mem ((c.tc : Thread Cert.Reference53Ideal.nD Cert.Reference53Ideal.τ).loc Cert.Reference53Ideal.main_arg5) = m ((c.tc : Thread Cert.Reference53Ideal.nD Cert.Reference53Ideal.τ).loc Cert.Reference53Ideal.main_arg5)
      ∧ r.2.mem ((c.tc : Thread Cert.Reference53Ideal.nD Cert.Reference53Ideal.τ).loc Cert.Reference53Ideal.main_arg6) = m ((c.tc : Thread Cert.Reference53Ideal.nD Cert.Reference53Ideal.τ).loc Cert.Reference53Ideal.main_arg6)
      ∧ r.2.mem ((c.tc : Thread Cert.Reference53Ideal.nD Cert.Reference53Ideal.τ).loc Cert.Reference53Ideal.main_arg7) = m ((c.tc : Thread Cert.Reference53Ideal.nD Cert.Reference53Ideal.τ).loc Cert.Reference53Ideal.main_arg7))
      ∧ r.2.sem = fun _ => 0)

def quiescent_Kernel54 [hKernel54 : Cert.Kernel54.Facts] : Prop :=
  ∀ (m : (ℓ : Loc Cert.Kernel54.nD Cert.Kernel54.τ Cert.Kernel54.sig) → Buf (Elt Bits) ℓ) (g : Dev Cert.Kernel54.nD → PrngReg), Pre_Kernel54 m →
    θ_run (Cert.Kernel54.defs (F := Bits)) (onTc (τ := Cert.Kernel54.τ) (Cert.Kernel54.main (F := Bits))) ⟨m, fun _ => 0, g⟩ (fun r => (∀ c : Dev Cert.Kernel54.nD,
      r.2.mem ((c.tc : Thread Cert.Kernel54.nD Cert.Kernel54.τ).loc Cert.Kernel54.main_arg0) = m ((c.tc : Thread Cert.Kernel54.nD Cert.Kernel54.τ).loc Cert.Kernel54.main_arg0)
      ∧ r.2.mem ((c.tc : Thread Cert.Kernel54.nD Cert.Kernel54.τ).loc Cert.Kernel54.main_arg1) = m ((c.tc : Thread Cert.Kernel54.nD Cert.Kernel54.τ).loc Cert.Kernel54.main_arg1)
      ∧ r.2.mem ((c.tc : Thread Cert.Kernel54.nD Cert.Kernel54.τ).loc Cert.Kernel54.main_arg2) = m ((c.tc : Thread Cert.Kernel54.nD Cert.Kernel54.τ).loc Cert.Kernel54.main_arg2)
      ∧ r.2.mem ((c.tc : Thread Cert.Kernel54.nD Cert.Kernel54.τ).loc Cert.Kernel54.main_arg3) = m ((c.tc : Thread Cert.Kernel54.nD Cert.Kernel54.τ).loc Cert.Kernel54.main_arg3)
      ∧ r.2.mem ((c.tc : Thread Cert.Kernel54.nD Cert.Kernel54.τ).loc Cert.Kernel54.main_arg4) = m ((c.tc : Thread Cert.Kernel54.nD Cert.Kernel54.τ).loc Cert.Kernel54.main_arg4))
      ∧ r.2.sem = fun _ => 0)

def quiescent_Kernel54Ideal [hKernel54Ideal : Cert.Kernel54Ideal.Facts] : Prop :=
  ∀ (m : (ℓ : Loc Cert.Kernel54Ideal.nD Cert.Kernel54Ideal.τ Cert.Kernel54Ideal.sig) → Buf (Elt Ideal) ℓ) (g : Dev Cert.Kernel54Ideal.nD → PrngReg), Pre_Kernel54Ideal m →
    θ_run (Cert.Kernel54Ideal.defs (F := Ideal)) (onTc (τ := Cert.Kernel54Ideal.τ) (Cert.Kernel54Ideal.main (F := Ideal))) ⟨m, fun _ => 0, g⟩ (fun r => (∀ c : Dev Cert.Kernel54Ideal.nD,
      r.2.mem ((c.tc : Thread Cert.Kernel54Ideal.nD Cert.Kernel54Ideal.τ).loc Cert.Kernel54Ideal.main_arg0) = m ((c.tc : Thread Cert.Kernel54Ideal.nD Cert.Kernel54Ideal.τ).loc Cert.Kernel54Ideal.main_arg0)
      ∧ r.2.mem ((c.tc : Thread Cert.Kernel54Ideal.nD Cert.Kernel54Ideal.τ).loc Cert.Kernel54Ideal.main_arg1) = m ((c.tc : Thread Cert.Kernel54Ideal.nD Cert.Kernel54Ideal.τ).loc Cert.Kernel54Ideal.main_arg1)
      ∧ r.2.mem ((c.tc : Thread Cert.Kernel54Ideal.nD Cert.Kernel54Ideal.τ).loc Cert.Kernel54Ideal.main_arg2) = m ((c.tc : Thread Cert.Kernel54Ideal.nD Cert.Kernel54Ideal.τ).loc Cert.Kernel54Ideal.main_arg2)
      ∧ r.2.mem ((c.tc : Thread Cert.Kernel54Ideal.nD Cert.Kernel54Ideal.τ).loc Cert.Kernel54Ideal.main_arg3) = m ((c.tc : Thread Cert.Kernel54Ideal.nD Cert.Kernel54Ideal.τ).loc Cert.Kernel54Ideal.main_arg3)
      ∧ r.2.mem ((c.tc : Thread Cert.Kernel54Ideal.nD Cert.Kernel54Ideal.τ).loc Cert.Kernel54Ideal.main_arg4) = m ((c.tc : Thread Cert.Kernel54Ideal.nD Cert.Kernel54Ideal.τ).loc Cert.Kernel54Ideal.main_arg4))
      ∧ r.2.sem = fun _ => 0)

def quiescent_Reference54Ideal [hReference54Ideal : Cert.Reference54Ideal.Facts] : Prop :=
  ∀ (m : (ℓ : Loc Cert.Reference54Ideal.nD Cert.Reference54Ideal.τ Cert.Reference54Ideal.sig) → Buf (Elt Ideal) ℓ) (g : Dev Cert.Reference54Ideal.nD → PrngReg), Pre_Reference54Ideal m →
    θ_run (Cert.Reference54Ideal.defs (F := Ideal)) (onTc (τ := Cert.Reference54Ideal.τ) (Cert.Reference54Ideal.main (F := Ideal))) ⟨m, fun _ => 0, g⟩ (fun r => (∀ c : Dev Cert.Reference54Ideal.nD,
      r.2.mem ((c.tc : Thread Cert.Reference54Ideal.nD Cert.Reference54Ideal.τ).loc Cert.Reference54Ideal.main_arg0) = m ((c.tc : Thread Cert.Reference54Ideal.nD Cert.Reference54Ideal.τ).loc Cert.Reference54Ideal.main_arg0)
      ∧ r.2.mem ((c.tc : Thread Cert.Reference54Ideal.nD Cert.Reference54Ideal.τ).loc Cert.Reference54Ideal.main_arg1) = m ((c.tc : Thread Cert.Reference54Ideal.nD Cert.Reference54Ideal.τ).loc Cert.Reference54Ideal.main_arg1)
      ∧ r.2.mem ((c.tc : Thread Cert.Reference54Ideal.nD Cert.Reference54Ideal.τ).loc Cert.Reference54Ideal.main_arg2) = m ((c.tc : Thread Cert.Reference54Ideal.nD Cert.Reference54Ideal.τ).loc Cert.Reference54Ideal.main_arg2)
      ∧ r.2.mem ((c.tc : Thread Cert.Reference54Ideal.nD Cert.Reference54Ideal.τ).loc Cert.Reference54Ideal.main_arg3) = m ((c.tc : Thread Cert.Reference54Ideal.nD Cert.Reference54Ideal.τ).loc Cert.Reference54Ideal.main_arg3)
      ∧ r.2.mem ((c.tc : Thread Cert.Reference54Ideal.nD Cert.Reference54Ideal.τ).loc Cert.Reference54Ideal.main_arg4) = m ((c.tc : Thread Cert.Reference54Ideal.nD Cert.Reference54Ideal.τ).loc Cert.Reference54Ideal.main_arg4))
      ∧ r.2.sem = fun _ => 0)

def quiescent_Kernel56 [hKernel56 : Cert.Kernel56.Facts] : Prop :=
  ∀ (m : (ℓ : Loc Cert.Kernel56.nD Cert.Kernel56.τ Cert.Kernel56.sig) → Buf (Elt Bits) ℓ) (g : Dev Cert.Kernel56.nD → PrngReg), Pre_Kernel56 m →
    θ_run (Cert.Kernel56.defs (F := Bits)) (onTc (τ := Cert.Kernel56.τ) (Cert.Kernel56.main (F := Bits))) ⟨m, fun _ => 0, g⟩ (fun r => (∀ c : Dev Cert.Kernel56.nD,
      r.2.mem ((c.tc : Thread Cert.Kernel56.nD Cert.Kernel56.τ).loc Cert.Kernel56.main_arg0) = m ((c.tc : Thread Cert.Kernel56.nD Cert.Kernel56.τ).loc Cert.Kernel56.main_arg0)
      ∧ r.2.mem ((c.tc : Thread Cert.Kernel56.nD Cert.Kernel56.τ).loc Cert.Kernel56.main_arg1) = m ((c.tc : Thread Cert.Kernel56.nD Cert.Kernel56.τ).loc Cert.Kernel56.main_arg1)
      ∧ r.2.mem ((c.tc : Thread Cert.Kernel56.nD Cert.Kernel56.τ).loc Cert.Kernel56.main_arg2) = m ((c.tc : Thread Cert.Kernel56.nD Cert.Kernel56.τ).loc Cert.Kernel56.main_arg2)
      ∧ r.2.mem ((c.tc : Thread Cert.Kernel56.nD Cert.Kernel56.τ).loc Cert.Kernel56.main_arg3) = m ((c.tc : Thread Cert.Kernel56.nD Cert.Kernel56.τ).loc Cert.Kernel56.main_arg3))
      ∧ r.2.sem = fun _ => 0)

def quiescent_Kernel56Ideal [hKernel56Ideal : Cert.Kernel56Ideal.Facts] : Prop :=
  ∀ (m : (ℓ : Loc Cert.Kernel56Ideal.nD Cert.Kernel56Ideal.τ Cert.Kernel56Ideal.sig) → Buf (Elt Ideal) ℓ) (g : Dev Cert.Kernel56Ideal.nD → PrngReg), Pre_Kernel56Ideal m →
    θ_run (Cert.Kernel56Ideal.defs (F := Ideal)) (onTc (τ := Cert.Kernel56Ideal.τ) (Cert.Kernel56Ideal.main (F := Ideal))) ⟨m, fun _ => 0, g⟩ (fun r => (∀ c : Dev Cert.Kernel56Ideal.nD,
      r.2.mem ((c.tc : Thread Cert.Kernel56Ideal.nD Cert.Kernel56Ideal.τ).loc Cert.Kernel56Ideal.main_arg0) = m ((c.tc : Thread Cert.Kernel56Ideal.nD Cert.Kernel56Ideal.τ).loc Cert.Kernel56Ideal.main_arg0)
      ∧ r.2.mem ((c.tc : Thread Cert.Kernel56Ideal.nD Cert.Kernel56Ideal.τ).loc Cert.Kernel56Ideal.main_arg1) = m ((c.tc : Thread Cert.Kernel56Ideal.nD Cert.Kernel56Ideal.τ).loc Cert.Kernel56Ideal.main_arg1)
      ∧ r.2.mem ((c.tc : Thread Cert.Kernel56Ideal.nD Cert.Kernel56Ideal.τ).loc Cert.Kernel56Ideal.main_arg2) = m ((c.tc : Thread Cert.Kernel56Ideal.nD Cert.Kernel56Ideal.τ).loc Cert.Kernel56Ideal.main_arg2)
      ∧ r.2.mem ((c.tc : Thread Cert.Kernel56Ideal.nD Cert.Kernel56Ideal.τ).loc Cert.Kernel56Ideal.main_arg3) = m ((c.tc : Thread Cert.Kernel56Ideal.nD Cert.Kernel56Ideal.τ).loc Cert.Kernel56Ideal.main_arg3))
      ∧ r.2.sem = fun _ => 0)

def quiescent_Reference56Ideal [hReference56Ideal : Cert.Reference56Ideal.Facts] : Prop :=
  ∀ (m : (ℓ : Loc Cert.Reference56Ideal.nD Cert.Reference56Ideal.τ Cert.Reference56Ideal.sig) → Buf (Elt Ideal) ℓ) (g : Dev Cert.Reference56Ideal.nD → PrngReg), Pre_Reference56Ideal m →
    θ_run (Cert.Reference56Ideal.defs (F := Ideal)) (onTc (τ := Cert.Reference56Ideal.τ) (Cert.Reference56Ideal.main (F := Ideal))) ⟨m, fun _ => 0, g⟩ (fun r => (∀ c : Dev Cert.Reference56Ideal.nD,
      r.2.mem ((c.tc : Thread Cert.Reference56Ideal.nD Cert.Reference56Ideal.τ).loc Cert.Reference56Ideal.main_arg0) = m ((c.tc : Thread Cert.Reference56Ideal.nD Cert.Reference56Ideal.τ).loc Cert.Reference56Ideal.main_arg0)
      ∧ r.2.mem ((c.tc : Thread Cert.Reference56Ideal.nD Cert.Reference56Ideal.τ).loc Cert.Reference56Ideal.main_arg1) = m ((c.tc : Thread Cert.Reference56Ideal.nD Cert.Reference56Ideal.τ).loc Cert.Reference56Ideal.main_arg1)
      ∧ r.2.mem ((c.tc : Thread Cert.Reference56Ideal.nD Cert.Reference56Ideal.τ).loc Cert.Reference56Ideal.main_arg2) = m ((c.tc : Thread Cert.Reference56Ideal.nD Cert.Reference56Ideal.τ).loc Cert.Reference56Ideal.main_arg2)
      ∧ r.2.mem ((c.tc : Thread Cert.Reference56Ideal.nD Cert.Reference56Ideal.τ).loc Cert.Reference56Ideal.main_arg3) = m ((c.tc : Thread Cert.Reference56Ideal.nD Cert.Reference56Ideal.τ).loc Cert.Reference56Ideal.main_arg3))
      ∧ r.2.sem = fun _ => 0)

def quiescent_Kernel57 [hKernel57 : Cert.Kernel57.Facts] : Prop :=
  ∀ (m : (ℓ : Loc Cert.Kernel57.nD Cert.Kernel57.τ Cert.Kernel57.sig) → Buf (Elt Bits) ℓ) (g : Dev Cert.Kernel57.nD → PrngReg), Pre_Kernel57 m →
    θ_run (Cert.Kernel57.defs (F := Bits)) (onTc (τ := Cert.Kernel57.τ) (Cert.Kernel57.main (F := Bits))) ⟨m, fun _ => 0, g⟩ (fun r => (∀ c : Dev Cert.Kernel57.nD,
      r.2.mem ((c.tc : Thread Cert.Kernel57.nD Cert.Kernel57.τ).loc Cert.Kernel57.main_arg0) = m ((c.tc : Thread Cert.Kernel57.nD Cert.Kernel57.τ).loc Cert.Kernel57.main_arg0)
      ∧ r.2.mem ((c.tc : Thread Cert.Kernel57.nD Cert.Kernel57.τ).loc Cert.Kernel57.main_arg1) = m ((c.tc : Thread Cert.Kernel57.nD Cert.Kernel57.τ).loc Cert.Kernel57.main_arg1)
      ∧ r.2.mem ((c.tc : Thread Cert.Kernel57.nD Cert.Kernel57.τ).loc Cert.Kernel57.main_arg2) = m ((c.tc : Thread Cert.Kernel57.nD Cert.Kernel57.τ).loc Cert.Kernel57.main_arg2)
      ∧ r.2.mem ((c.tc : Thread Cert.Kernel57.nD Cert.Kernel57.τ).loc Cert.Kernel57.main_arg3) = m ((c.tc : Thread Cert.Kernel57.nD Cert.Kernel57.τ).loc Cert.Kernel57.main_arg3)
      ∧ r.2.mem ((c.tc : Thread Cert.Kernel57.nD Cert.Kernel57.τ).loc Cert.Kernel57.main_arg4) = m ((c.tc : Thread Cert.Kernel57.nD Cert.Kernel57.τ).loc Cert.Kernel57.main_arg4)
      ∧ r.2.mem ((c.tc : Thread Cert.Kernel57.nD Cert.Kernel57.τ).loc Cert.Kernel57.main_arg5) = m ((c.tc : Thread Cert.Kernel57.nD Cert.Kernel57.τ).loc Cert.Kernel57.main_arg5))
      ∧ r.2.sem = fun _ => 0)

def quiescent_Kernel57Ideal [hKernel57Ideal : Cert.Kernel57Ideal.Facts] : Prop :=
  ∀ (m : (ℓ : Loc Cert.Kernel57Ideal.nD Cert.Kernel57Ideal.τ Cert.Kernel57Ideal.sig) → Buf (Elt Ideal) ℓ) (g : Dev Cert.Kernel57Ideal.nD → PrngReg), Pre_Kernel57Ideal m →
    θ_run (Cert.Kernel57Ideal.defs (F := Ideal)) (onTc (τ := Cert.Kernel57Ideal.τ) (Cert.Kernel57Ideal.main (F := Ideal))) ⟨m, fun _ => 0, g⟩ (fun r => (∀ c : Dev Cert.Kernel57Ideal.nD,
      r.2.mem ((c.tc : Thread Cert.Kernel57Ideal.nD Cert.Kernel57Ideal.τ).loc Cert.Kernel57Ideal.main_arg0) = m ((c.tc : Thread Cert.Kernel57Ideal.nD Cert.Kernel57Ideal.τ).loc Cert.Kernel57Ideal.main_arg0)
      ∧ r.2.mem ((c.tc : Thread Cert.Kernel57Ideal.nD Cert.Kernel57Ideal.τ).loc Cert.Kernel57Ideal.main_arg1) = m ((c.tc : Thread Cert.Kernel57Ideal.nD Cert.Kernel57Ideal.τ).loc Cert.Kernel57Ideal.main_arg1)
      ∧ r.2.mem ((c.tc : Thread Cert.Kernel57Ideal.nD Cert.Kernel57Ideal.τ).loc Cert.Kernel57Ideal.main_arg2) = m ((c.tc : Thread Cert.Kernel57Ideal.nD Cert.Kernel57Ideal.τ).loc Cert.Kernel57Ideal.main_arg2)
      ∧ r.2.mem ((c.tc : Thread Cert.Kernel57Ideal.nD Cert.Kernel57Ideal.τ).loc Cert.Kernel57Ideal.main_arg3) = m ((c.tc : Thread Cert.Kernel57Ideal.nD Cert.Kernel57Ideal.τ).loc Cert.Kernel57Ideal.main_arg3)
      ∧ r.2.mem ((c.tc : Thread Cert.Kernel57Ideal.nD Cert.Kernel57Ideal.τ).loc Cert.Kernel57Ideal.main_arg4) = m ((c.tc : Thread Cert.Kernel57Ideal.nD Cert.Kernel57Ideal.τ).loc Cert.Kernel57Ideal.main_arg4)
      ∧ r.2.mem ((c.tc : Thread Cert.Kernel57Ideal.nD Cert.Kernel57Ideal.τ).loc Cert.Kernel57Ideal.main_arg5) = m ((c.tc : Thread Cert.Kernel57Ideal.nD Cert.Kernel57Ideal.τ).loc Cert.Kernel57Ideal.main_arg5))
      ∧ r.2.sem = fun _ => 0)

def quiescent_Reference57Ideal [hReference57Ideal : Cert.Reference57Ideal.Facts] : Prop :=
  ∀ (m : (ℓ : Loc Cert.Reference57Ideal.nD Cert.Reference57Ideal.τ Cert.Reference57Ideal.sig) → Buf (Elt Ideal) ℓ) (g : Dev Cert.Reference57Ideal.nD → PrngReg), Pre_Reference57Ideal m →
    θ_run (Cert.Reference57Ideal.defs (F := Ideal)) (onTc (τ := Cert.Reference57Ideal.τ) (Cert.Reference57Ideal.main (F := Ideal))) ⟨m, fun _ => 0, g⟩ (fun r => (∀ c : Dev Cert.Reference57Ideal.nD,
      r.2.mem ((c.tc : Thread Cert.Reference57Ideal.nD Cert.Reference57Ideal.τ).loc Cert.Reference57Ideal.main_arg0) = m ((c.tc : Thread Cert.Reference57Ideal.nD Cert.Reference57Ideal.τ).loc Cert.Reference57Ideal.main_arg0)
      ∧ r.2.mem ((c.tc : Thread Cert.Reference57Ideal.nD Cert.Reference57Ideal.τ).loc Cert.Reference57Ideal.main_arg1) = m ((c.tc : Thread Cert.Reference57Ideal.nD Cert.Reference57Ideal.τ).loc Cert.Reference57Ideal.main_arg1)
      ∧ r.2.mem ((c.tc : Thread Cert.Reference57Ideal.nD Cert.Reference57Ideal.τ).loc Cert.Reference57Ideal.main_arg2) = m ((c.tc : Thread Cert.Reference57Ideal.nD Cert.Reference57Ideal.τ).loc Cert.Reference57Ideal.main_arg2)
      ∧ r.2.mem ((c.tc : Thread Cert.Reference57Ideal.nD Cert.Reference57Ideal.τ).loc Cert.Reference57Ideal.main_arg3) = m ((c.tc : Thread Cert.Reference57Ideal.nD Cert.Reference57Ideal.τ).loc Cert.Reference57Ideal.main_arg3)
      ∧ r.2.mem ((c.tc : Thread Cert.Reference57Ideal.nD Cert.Reference57Ideal.τ).loc Cert.Reference57Ideal.main_arg4) = m ((c.tc : Thread Cert.Reference57Ideal.nD Cert.Reference57Ideal.τ).loc Cert.Reference57Ideal.main_arg4)
      ∧ r.2.mem ((c.tc : Thread Cert.Reference57Ideal.nD Cert.Reference57Ideal.τ).loc Cert.Reference57Ideal.main_arg5) = m ((c.tc : Thread Cert.Reference57Ideal.nD Cert.Reference57Ideal.τ).loc Cert.Reference57Ideal.main_arg5))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)
  ∧ IdealRules.named_const.Statement Cert.KernelIdeal.κ "inv_scale" .f32 0x415DB3D7#32 ((Real.sqrt 192 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v11) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v11) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v11) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v11) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v9) = v0 c
          ∧ r.2.mem ((c.tc : Thread Cert.Reference20Ideal.nD Cert.Reference20Ideal.τ).loc Cert.Reference20Ideal.main_v13) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  IdealRules.named_const.Statement Cert.Kernel29Ideal.κ "scale_log2e" .f32 0x3DD53B95#32 (((Real.sqrt 192)⁻¹ * (Real.log 2)⁻¹ : ℝ) : EReal)

def algebraic_Kernel29Ideal_Reference29Ideal_pre_finite29 [hKernel29Ideal : Cert.Kernel29Ideal.Facts] [hReference29Ideal : Cert.Reference29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite29 m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v6)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v6) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v28) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_arg1) = v0 c
          ∧ r.2.mem ((c.tc : Thread Cert.Reference30Ideal.nD Cert.Reference30Ideal.τ).loc Cert.Reference30Ideal.main_v23) = v1 c
          ∧ r.2.mem ((c.tc : Thread Cert.Reference30Ideal.nD Cert.Reference30Ideal.τ).loc Cert.Reference30Ideal.main_v4) = v2 c
          ∧ r.2.mem ((c.tc : Thread Cert.Reference30Ideal.nD Cert.Reference30Ideal.τ).loc Cert.Reference30Ideal.main_v10) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_arg1) = v0 c
          ∧ r.2.mem ((c.tc : Thread Cert.Reference31Ideal.nD Cert.Reference31Ideal.τ).loc Cert.Reference31Ideal.main_v23) = v1 c
          ∧ r.2.mem ((c.tc : Thread Cert.Reference31Ideal.nD Cert.Reference31Ideal.τ).loc Cert.Reference31Ideal.main_v4) = v2 c
          ∧ r.2.mem ((c.tc : Thread Cert.Reference31Ideal.nD Cert.Reference31Ideal.τ).loc Cert.Reference31Ideal.main_v10) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_arg1) = v0 c
          ∧ r.2.mem ((c.tc : Thread Cert.Reference32Ideal.nD Cert.Reference32Ideal.τ).loc Cert.Reference32Ideal.main_v23) = v1 c
          ∧ r.2.mem ((c.tc : Thread Cert.Reference32Ideal.nD Cert.Reference32Ideal.τ).loc Cert.Reference32Ideal.main_v4) = v2 c
          ∧ r.2.mem ((c.tc : Thread Cert.Reference32Ideal.nD Cert.Reference32Ideal.τ).loc Cert.Reference32Ideal.main_v10) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_arg1) = v0 c
          ∧ r.2.mem ((c.tc : Thread Cert.Reference33Ideal.nD Cert.Reference33Ideal.τ).loc Cert.Reference33Ideal.main_v23) = v1 c
          ∧ r.2.mem ((c.tc : Thread Cert.Reference33Ideal.nD Cert.Reference33Ideal.τ).loc Cert.Reference33Ideal.main_v4) = v2 c
          ∧ r.2.mem ((c.tc : Thread Cert.Reference33Ideal.nD Cert.Reference33Ideal.τ).loc Cert.Reference33Ideal.main_v10) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_arg1) = v0 c
          ∧ r.2.mem ((c.tc : Thread Cert.Reference34Ideal.nD Cert.Reference34Ideal.τ).loc Cert.Reference34Ideal.main_v23) = v1 c
          ∧ r.2.mem ((c.tc : Thread Cert.Reference34Ideal.nD Cert.Reference34Ideal.τ).loc Cert.Reference34Ideal.main_v4) = v2 c
          ∧ r.2.mem ((c.tc : Thread Cert.Reference34Ideal.nD Cert.Reference34Ideal.τ).loc Cert.Reference34Ideal.main_v10) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_arg1) = v0 c
          ∧ r.2.mem ((c.tc : Thread Cert.Reference35Ideal.nD Cert.Reference35Ideal.τ).loc Cert.Reference35Ideal.main_v23) = v1 c
          ∧ r.2.mem ((c.tc : Thread Cert.Reference35Ideal.nD Cert.Reference35Ideal.τ).loc Cert.Reference35Ideal.main_v4) = v2 c
          ∧ r.2.mem ((c.tc : Thread Cert.Reference35Ideal.nD Cert.Reference35Ideal.τ).loc Cert.Reference35Ideal.main_v10) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)
      ∧ m' ((c.tc : Thread Cert.Reference36Ideal.nD Cert.Reference36Ideal.τ).loc Cert.Reference36Ideal.main_arg4) = m ((c.tc : Thread Cert.Kernel36Ideal.nD Cert.Kernel36Ideal.τ).loc Cert.Kernel36Ideal.main_arg4)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
          ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_arg1) = v0 c
          ∧ r.2.mem ((c.tc : Thread Cert.Reference36Ideal.nD Cert.Reference36Ideal.τ).loc Cert.Reference36Ideal.main_v23) = v1 c
          ∧ r.2.mem ((c.tc : Thread Cert.Reference36Ideal.nD Cert.Reference36Ideal.τ).loc Cert.Reference36Ideal.main_v4) = v2 c
          ∧ r.2.mem ((c.tc : Thread Cert.Reference36Ideal.nD Cert.Reference36Ideal.τ).loc Cert.Reference36Ideal.main_v10) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3)
          ∧ r.2.mem ((c.tc : Thread Cert.Reference36Ideal.nD Cert.Reference36Ideal.τ).loc Cert.Reference36Ideal.main_arg4) = m' ((c.tc : Thread Cert.Reference36Ideal.nD Cert.Reference36Ideal.τ).loc Cert.Reference36Ideal.main_arg4))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)) (v3 : (c : Dev Cert.Kernel37Ideal.nD) → Buf (Elt Ideal) ((c.tc : Thread Cert.Kernel37Ideal.nD Cert.Kernel37Ideal.τ).loc Cert.Kernel37Ideal.main_v0_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_v0_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_arg1) = v0 c
          ∧ r.2.mem ((c.tc : Thread Cert.Reference37Ideal.nD Cert.Reference37Ideal.τ).loc Cert.Reference37Ideal.main_v23) = v1 c
          ∧ r.2.mem ((c.tc : Thread Cert.Reference37Ideal.nD Cert.Reference37Ideal.τ).loc Cert.Reference37Ideal.main_v4) = v2 c
          ∧ r.2.mem ((c.tc : Thread Cert.Reference37Ideal.nD Cert.Reference37Ideal.τ).loc Cert.Reference37Ideal.main_v10) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)) (v3 : (c : Dev Cert.Kernel38Ideal.nD) → Buf (Elt Ideal) ((c.tc : Thread Cert.Kernel38Ideal.nD Cert.Kernel38Ideal.τ).loc Cert.Kernel38Ideal.main_v0_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_v0_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_arg1) = v0 c
          ∧ r.2.mem ((c.tc : Thread Cert.Reference38Ideal.nD Cert.Reference38Ideal.τ).loc Cert.Reference38Ideal.main_v23) = v1 c
          ∧ r.2.mem ((c.tc : Thread Cert.Reference38Ideal.nD Cert.Reference38Ideal.τ).loc Cert.Reference38Ideal.main_v4) = v2 c
          ∧ r.2.mem ((c.tc : Thread Cert.Reference38Ideal.nD Cert.Reference38Ideal.τ).loc Cert.Reference38Ideal.main_v10) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)) (v3 : (c : Dev Cert.Kernel39Ideal.nD) → Buf (Elt Ideal) ((c.tc : Thread Cert.Kernel39Ideal.nD Cert.Kernel39Ideal.τ).loc Cert.Kernel39Ideal.main_v0_3)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_v0_3) = v3 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_arg1) = v0 c
          ∧ r.2.mem ((c.tc : Thread Cert.Reference39Ideal.nD Cert.Reference39Ideal.τ).loc Cert.Reference39Ideal.main_v23) = v1 c
          ∧ r.2.mem ((c.tc : Thread Cert.Reference39Ideal.nD Cert.Reference39Ideal.τ).loc Cert.Reference39Ideal.main_v4) = v2 c
          ∧ r.2.mem ((c.tc : Thread Cert.Reference39Ideal.nD Cert.Reference39Ideal.τ).loc Cert.Reference39Ideal.main_v10) = v3 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)) →
    ∃ (v0 : (c : Dev Cert.Kernel40Ideal.nD) → Buf (Elt Ideal) ((c.tc : Thread Cert.Kernel40Ideal.nD Cert.Kernel40Ideal.τ).loc Cert.Kernel40Ideal.main_v2)) (v1 : (c : Dev Cert.Kernel40Ideal.nD) → Buf (Elt Ideal) ((c.tc : Thread Cert.Kernel40Ideal.nD Cert.Kernel40Ideal.τ).loc Cert.Kernel40Ideal.main_v1)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v2) = v0 c
          ∧ r.2.mem ((c.tc : Thread Cert.Kernel40Ideal.nD Cert.Kernel40Ideal.τ).loc Cert.Kernel40Ideal.main_v1) = v1 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v3) = v0 c
          ∧ r.2.mem ((c.tc : Thread Cert.Reference40Ideal.nD Cert.Reference40Ideal.τ).loc Cert.Reference40Ideal.main_v10) = v1 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v4) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v0) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)
      ∧ m' ((c.tc : Thread Cert.Reference48Ideal.nD Cert.Reference48Ideal.τ).loc Cert.Reference48Ideal.main_arg2) = m ((c.tc : Thread Cert.Kernel48Ideal.nD Cert.Kernel48Ideal.τ).loc Cert.Kernel48Ideal.main_arg2)) →
    ∃ (v0 : (c : Dev Cert.Kernel48Ideal.nD) → Buf (Elt Ideal) ((c.tc : Thread Cert.Kernel48Ideal.nD Cert.Kernel48Ideal.τ).loc Cert.Kernel48Ideal.main_v0)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v0) = v0 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
          ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v20) = v0 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1)
          ∧ r.2.mem ((c.tc : Thread Cert.Reference48Ideal.nD Cert.Reference48Ideal.τ).loc Cert.Reference48Ideal.main_arg2) = m' ((c.tc : Thread Cert.Reference48Ideal.nD Cert.Reference48Ideal.τ).loc Cert.Reference48Ideal.main_arg2))

def preserves_Kernel49_Kernel49Ideal : Prop :=
  True

def algebraic_Kernel49Ideal_Reference49Ideal [hKernel49Ideal : Cert.Kernel49Ideal.Facts] [hReference49Ideal : Cert.Reference49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg)
    (m' : (ℓ : Loc Cert.Reference49Ideal.nD Cert.Reference49Ideal.τ Cert.Reference49Ideal.sig) → Buf (Elt Ideal) ℓ) (g' : Dev Cert.Reference49Ideal.nD → PrngReg), Pre_Kernel49Ideal m →
    (∀ c : Dev Cert.Kernel49Ideal.nD,
      m' ((c.tc : Thread Cert.Reference49Ideal.nD Cert.Reference49Ideal.τ).loc Cert.Reference49Ideal.main_arg0) = m ((c.tc : Thread Cert.Kernel49Ideal.nD Cert.Kernel49Ideal.τ).loc Cert.Kernel49Ideal.main_arg0)
      ∧ m' ((c.tc : Thread Cert.Reference49Ideal.nD Cert.Reference49Ideal.τ).loc Cert.Reference49Ideal.main_arg1) = m ((c.tc : Thread Cert.Kernel49Ideal.nD Cert.Kernel49Ideal.τ).loc Cert.Kernel49Ideal.main_arg1)
      ∧ m' ((c.tc : Thread Cert.Reference49Ideal.nD Cert.Reference49Ideal.τ).loc Cert.Reference49Ideal.main_arg2) = m ((c.tc : Thread Cert.Kernel49Ideal.nD Cert.Kernel49Ideal.τ).loc Cert.Kernel49Ideal.main_arg2)
      ∧ m' ((c.tc : Thread Cert.Reference49Ideal.nD Cert.Reference49Ideal.τ).loc Cert.Reference49Ideal.main_arg3) = m ((c.tc : Thread Cert.Kernel49Ideal.nD Cert.Kernel49Ideal.τ).loc Cert.Kernel49Ideal.main_arg3)
      ∧ m' ((c.tc : Thread Cert.Reference49Ideal.nD Cert.Reference49Ideal.τ).loc Cert.Reference49Ideal.main_arg4) = m ((c.tc : Thread Cert.Kernel49Ideal.nD Cert.Kernel49Ideal.τ).loc Cert.Kernel49Ideal.main_arg4)) →
    ∃ (v0 : (c : Dev Cert.Kernel49Ideal.nD) → Buf (Elt Ideal) ((c.tc : Thread Cert.Kernel49Ideal.nD Cert.Kernel49Ideal.τ).loc Cert.Kernel49Ideal.main_v0_0)) (v1 : (c : Dev Cert.Kernel49Ideal.nD) → Buf (Elt Ideal) ((c.tc : Thread Cert.Kernel49Ideal.nD Cert.Kernel49Ideal.τ).loc Cert.Kernel49Ideal.main_v0_1)) (v2 : (c : Dev Cert.Kernel49Ideal.nD) → Buf (Elt Ideal) ((c.tc : Thread Cert.Kernel49Ideal.nD Cert.Kernel49Ideal.τ).loc Cert.Kernel49Ideal.main_v0_2)),
      θ_run (Cert.Kernel49Ideal.defs (F := Ideal)) (onTc (τ := Cert.Kernel49Ideal.τ) (Cert.Kernel49Ideal.main (F := Ideal))) ⟨m, fun _ => 0, g⟩ (fun r => ∀ c : Dev Cert.Kernel49Ideal.nD,
          r.2.mem ((c.tc : Thread Cert.Kernel49Ideal.nD Cert.Kernel49Ideal.τ).loc Cert.Kernel49Ideal.main_v0_0) = v0 c
          ∧ r.2.mem ((c.tc : Thread Cert.Kernel49Ideal.nD Cert.Kernel49Ideal.τ).loc Cert.Kernel49Ideal.main_v0_1) = v1 c
          ∧ r.2.mem ((c.tc : Thread Cert.Kernel49Ideal.nD Cert.Kernel49Ideal.τ).loc Cert.Kernel49Ideal.main_v0_2) = v2 c
          ∧ r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
          ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
          ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
          ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3)
          ∧ r.2.mem ((c.tc : Thread Cert.Kernel49Ideal.nD Cert.Kernel49Ideal.τ).loc Cert.Kernel49Ideal.main_arg4) = m ((c.tc : Thread Cert.Kernel49Ideal.nD Cert.Kernel49Ideal.τ).loc Cert.Kernel49Ideal.main_arg4))
      ∧ θ_run (Cert.Reference49Ideal.defs (F := Ideal)) (onTc (τ := Cert.Reference49Ideal.τ) (Cert.Reference49Ideal.main (F := Ideal))) ⟨m', fun _ => 0, g'⟩ (fun r => ∀ c : Dev Cert.Reference49Ideal.nD,
          r.2.mem ((c.tc : Thread Cert.Reference49Ideal.nD Cert.Reference49Ideal.τ).loc Cert.Reference49Ideal.main_v38) = v0 c
          ∧ r.2.mem ((c.tc : Thread Cert.Reference49Ideal.nD Cert.Reference49Ideal.τ).loc Cert.Reference49Ideal.main_v39) = v1 c
          ∧ r.2.mem ((c.tc : Thread Cert.Reference49Ideal.nD Cert.Reference49Ideal.τ).loc Cert.Reference49Ideal.main_v40) = v2 c
          ∧ r.2.mem ((c.tc : Thread Cert.Reference49Ideal.nD Cert.Reference49Ideal.τ).loc Cert.Reference49Ideal.main_arg0) = m' ((c.tc : Thread Cert.Reference49Ideal.nD Cert.Reference49Ideal.τ).loc Cert.Reference49Ideal.main_arg0)
          ∧ r.2.mem ((c.tc : Thread Cert.Reference49Ideal.nD Cert.Reference49Ideal.τ).loc Cert.Reference49Ideal.main_arg1) = m' ((c.tc : Thread Cert.Reference49Ideal.nD Cert.Reference49Ideal.τ).loc Cert.Reference49Ideal.main_arg1)
          ∧ r.2.mem ((c.tc : Thread Cert.Reference49Ideal.nD Cert.Reference49Ideal.τ).loc Cert.Reference49Ideal.main_arg2) = m' ((c.tc : Thread Cert.Reference49Ideal.nD Cert.Reference49Ideal.τ).loc Cert.Reference49Ideal.main_arg2)
          ∧ r.2.mem ((c.tc : Thread Cert.Reference49Ideal.nD Cert.Reference49Ideal.τ).loc Cert.Reference49Ideal.main_arg3) = m' ((c.tc : Thread Cert.Reference49Ideal.nD Cert.Reference49Ideal.τ).loc Cert.Reference49Ideal.main_arg3)
          ∧ r.2.mem ((c.tc : Thread Cert.Reference49Ideal.nD Cert.Reference49Ideal.τ).loc Cert.Reference49Ideal.main_arg4) = m' ((c.tc : Thread Cert.Reference49Ideal.nD Cert.Reference49Ideal.τ).loc Cert.Reference49Ideal.main_arg4))

def preserves_Kernel50_Kernel50Ideal : Prop :=
  True

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)
      ∧ m' ((c.tc : Thread Cert.Reference50Ideal.nD Cert.Reference50Ideal.τ).loc Cert.Reference50Ideal.main_arg1) = m ((c.tc : Thread Cert.Kernel50Ideal.nD Cert.Kernel50Ideal.τ).loc Cert.Kernel50Ideal.main_arg1)) →
    ∃ (v0 : (c : Dev Cert.Kernel50Ideal.nD) → Buf (Elt Ideal) ((c.tc : Thread Cert.Kernel50Ideal.nD Cert.Kernel50Ideal.τ).loc Cert.Kernel50Ideal.main_v0)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v0) = v0 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
          ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v1) = v0 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0)
          ∧ r.2.mem ((c.tc : Thread Cert.Reference50Ideal.nD Cert.Reference50Ideal.τ).loc Cert.Reference50Ideal.main_arg1) = m' ((c.tc : Thread Cert.Reference50Ideal.nD Cert.Reference50Ideal.τ).loc Cert.Reference50Ideal.main_arg1))

def preserves_Kernel55_Kernel55Ideal : Prop :=
  True

def algebraic_Kernel55Ideal_Reference55Ideal [hKernel55Ideal : Cert.Kernel55Ideal.Facts] [hReference55Ideal : Cert.Reference55Ideal.Facts] : Prop :=
  ∀ (m : (ℓ : Loc Cert.Kernel55Ideal.nD Cert.Kernel55Ideal.τ Cert.Kernel55Ideal.sig) → Buf (Elt Ideal) ℓ) (g : Dev Cert.Kernel55Ideal.nD → PrngReg)
    (m' : (ℓ : Loc Cert.Reference55Ideal.nD Cert.Reference55Ideal.τ Cert.Reference55Ideal.sig) → Buf (Elt Ideal) ℓ) (g' : Dev Cert.Reference55Ideal.nD → PrngReg), Pre_Kernel55Ideal m →
    (∀ c : Dev Cert.Kernel55Ideal.nD,
      m' ((c.tc : Thread Cert.Reference55Ideal.nD Cert.Reference55Ideal.τ).loc Cert.Reference55Ideal.main_arg0) = m ((c.tc : Thread Cert.Kernel55Ideal.nD Cert.Kernel55Ideal.τ).loc Cert.Kernel55Ideal.main_arg0)) →
    ∃ (v0 : (c : Dev Cert.Kernel55Ideal.nD) → Buf (Elt Ideal) ((c.tc : Thread Cert.Kernel55Ideal.nD Cert.Kernel55Ideal.τ).loc Cert.Kernel55Ideal.main_v0)),
      θ_run (Cert.Kernel55Ideal.defs (F := Ideal)) (onTc (τ := Cert.Kernel55Ideal.τ) (Cert.Kernel55Ideal.main (F := Ideal))) ⟨m, fun _ => 0, g⟩ (fun r => ∀ c : Dev Cert.Kernel55Ideal.nD,
          r.2.mem ((c.tc : Thread Cert.Kernel55Ideal.nD Cert.Kernel55Ideal.τ).loc Cert.Kernel55Ideal.main_v0) = v0 c
          ∧ r.2.mem ((c.tc : Thread Cert.Kernel55Ideal.nD Cert.Kernel55Ideal.τ).loc Cert.Kernel55Ideal.main_arg0) = m ((c.tc : Thread Cert.Kernel55Ideal.nD Cert.Kernel55Ideal.τ).loc Cert.Kernel55Ideal.main_arg0))
      ∧ θ_run (Cert.Reference55Ideal.defs (F := Ideal)) (onTc (τ := Cert.Reference55Ideal.τ) (Cert.Reference55Ideal.main (F := Ideal))) ⟨m', fun _ => 0, g'⟩ (fun r => ∀ c : Dev Cert.Reference55Ideal.nD,
          r.2.mem ((c.tc : Thread Cert.Reference55Ideal.nD Cert.Reference55Ideal.τ).loc Cert.Reference55Ideal.main_v0) = v0 c
          ∧ r.2.mem ((c.tc : Thread Cert.Reference55Ideal.nD Cert.Reference55Ideal.τ).loc Cert.Reference55Ideal.main_arg0) = m' ((c.tc : Thread Cert.Reference55Ideal.nD Cert.Reference55Ideal.τ).loc Cert.Reference55Ideal.main_arg0))

def preserves_Kernel51_Kernel51Ideal : Prop :=
  True

def algebraic_Kernel51Ideal_Reference51Ideal [hKernel51Ideal : Cert.Kernel51Ideal.Facts] [hReference51Ideal : Cert.Reference51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg)
    (m' : (ℓ : Loc Cert.Reference51Ideal.nD Cert.Reference51Ideal.τ Cert.Reference51Ideal.sig) → Buf (Elt Ideal) ℓ) (g' : Dev Cert.Reference51Ideal.nD → PrngReg), Pre_Kernel51Ideal m →
    (∀ c : Dev Cert.Kernel51Ideal.nD,
      m' ((c.tc : Thread Cert.Reference51Ideal.nD Cert.Reference51Ideal.τ).loc Cert.Reference51Ideal.main_arg0) = m ((c.tc : Thread Cert.Kernel51Ideal.nD Cert.Kernel51Ideal.τ).loc Cert.Kernel51Ideal.main_arg0)
      ∧ m' ((c.tc : Thread Cert.Reference51Ideal.nD Cert.Reference51Ideal.τ).loc Cert.Reference51Ideal.main_arg1) = m ((c.tc : Thread Cert.Kernel51Ideal.nD Cert.Kernel51Ideal.τ).loc Cert.Kernel51Ideal.main_arg1)
      ∧ m' ((c.tc : Thread Cert.Reference51Ideal.nD Cert.Reference51Ideal.τ).loc Cert.Reference51Ideal.main_arg2) = m ((c.tc : Thread Cert.Kernel51Ideal.nD Cert.Kernel51Ideal.τ).loc Cert.Kernel51Ideal.main_arg2)
      ∧ m' ((c.tc : Thread Cert.Reference51Ideal.nD Cert.Reference51Ideal.τ).loc Cert.Reference51Ideal.main_arg3) = m ((c.tc : Thread Cert.Kernel51Ideal.nD Cert.Kernel51Ideal.τ).loc Cert.Kernel51Ideal.main_arg3)
      ∧ m' ((c.tc : Thread Cert.Reference51Ideal.nD Cert.Reference51Ideal.τ).loc Cert.Reference51Ideal.main_arg4) = m ((c.tc : Thread Cert.Kernel51Ideal.nD Cert.Kernel51Ideal.τ).loc Cert.Kernel51Ideal.main_arg4)
      ∧ m' ((c.tc : Thread Cert.Reference51Ideal.nD Cert.Reference51Ideal.τ).loc Cert.Reference51Ideal.main_arg5) = m ((c.tc : Thread Cert.Kernel51Ideal.nD Cert.Kernel51Ideal.τ).loc Cert.Kernel51Ideal.main_arg5)
      ∧ m' ((c.tc : Thread Cert.Reference51Ideal.nD Cert.Reference51Ideal.τ).loc Cert.Reference51Ideal.main_arg6) = m ((c.tc : Thread Cert.Kernel51Ideal.nD Cert.Kernel51Ideal.τ).loc Cert.Kernel51Ideal.main_arg6)) →
    ∃ (v0 : (c : Dev Cert.Kernel51Ideal.nD) → Buf (Elt Ideal) ((c.tc : Thread Cert.Kernel51Ideal.nD Cert.Kernel51Ideal.τ).loc Cert.Kernel51Ideal.main_v0_0)) (v1 : (c : Dev Cert.Kernel51Ideal.nD) → Buf (Elt Ideal) ((c.tc : Thread Cert.Kernel51Ideal.nD Cert.Kernel51Ideal.τ).loc Cert.Kernel51Ideal.main_v0_1)) (v2 : (c : Dev Cert.Kernel51Ideal.nD) → Buf (Elt Ideal) ((c.tc : Thread Cert.Kernel51Ideal.nD Cert.Kernel51Ideal.τ).loc Cert.Kernel51Ideal.main_v0_2)) (v3 : (c : Dev Cert.Kernel51Ideal.nD) → Buf (Elt Ideal) ((c.tc : Thread Cert.Kernel51Ideal.nD Cert.Kernel51Ideal.τ).loc Cert.Kernel51Ideal.main_v0_3)),
      θ_run (Cert.Kernel51Ideal.defs (F := Ideal)) (onTc (τ := Cert.Kernel51Ideal.τ) (Cert.Kernel51Ideal.main (F := Ideal))) ⟨m, fun _ => 0, g⟩ (fun r => ∀ c : Dev Cert.Kernel51Ideal.nD,
          r.2.mem ((c.tc : Thread Cert.Kernel51Ideal.nD Cert.Kernel51Ideal.τ).loc Cert.Kernel51Ideal.main_v0_0) = v0 c
          ∧ r.2.mem ((c.tc : Thread Cert.Kernel51Ideal.nD Cert.Kernel51Ideal.τ).loc Cert.Kernel51Ideal.main_v0_1) = v1 c
          ∧ r.2.mem ((c.tc : Thread Cert.Kernel51Ideal.nD Cert.Kernel51Ideal.τ).loc Cert.Kernel51Ideal.main_v0_2) = v2 c
          ∧ r.2.mem ((c.tc : Thread Cert.Kernel51Ideal.nD Cert.Kernel51Ideal.τ).loc Cert.Kernel51Ideal.main_v0_3) = v3 c
          ∧ r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
          ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
          ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2)
          ∧ r.2.mem ((c.tc : Thread Cert.Kernel51Ideal.nD Cert.Kernel51Ideal.τ).loc Cert.Kernel51Ideal.main_arg3) = m ((c.tc : Thread Cert.Kernel51Ideal.nD Cert.Kernel51Ideal.τ).loc Cert.Kernel51Ideal.main_arg3)
          ∧ r.2.mem ((c.tc : Thread Cert.Kernel51Ideal.nD Cert.Kernel51Ideal.τ).loc Cert.Kernel51Ideal.main_arg4) = m ((c.tc : Thread Cert.Kernel51Ideal.nD Cert.Kernel51Ideal.τ).loc Cert.Kernel51Ideal.main_arg4)
          ∧ r.2.mem ((c.tc : Thread Cert.Kernel51Ideal.nD Cert.Kernel51Ideal.τ).loc Cert.Kernel51Ideal.main_arg5) = m ((c.tc : Thread Cert.Kernel51Ideal.nD Cert.Kernel51Ideal.τ).loc Cert.Kernel51Ideal.main_arg5)
          ∧ r.2.mem ((c.tc : Thread Cert.Kernel51Ideal.nD Cert.Kernel51Ideal.τ).loc Cert.Kernel51Ideal.main_arg6) = m ((c.tc : Thread Cert.Kernel51Ideal.nD Cert.Kernel51Ideal.τ).loc Cert.Kernel51Ideal.main_arg6))
      ∧ θ_run (Cert.Reference51Ideal.defs (F := Ideal)) (onTc (τ := Cert.Reference51Ideal.τ) (Cert.Reference51Ideal.main (F := Ideal))) ⟨m', fun _ => 0, g'⟩ (fun r => ∀ c : Dev Cert.Reference51Ideal.nD,
          r.2.mem ((c.tc : Thread Cert.Reference51Ideal.nD Cert.Reference51Ideal.τ).loc Cert.Reference51Ideal.main_v48) = v0 c
          ∧ r.2.mem ((c.tc : Thread Cert.Reference51Ideal.nD Cert.Reference51Ideal.τ).loc Cert.Reference51Ideal.main_v31) = v1 c
          ∧ r.2.mem ((c.tc : Thread Cert.Reference51Ideal.nD Cert.Reference51Ideal.τ).loc Cert.Reference51Ideal.main_v26) = v2 c
          ∧ r.2.mem ((c.tc : Thread Cert.Reference51Ideal.nD Cert.Reference51Ideal.τ).loc Cert.Reference51Ideal.main_v23) = v3 c
          ∧ r.2.mem ((c.tc : Thread Cert.Reference51Ideal.nD Cert.Reference51Ideal.τ).loc Cert.Reference51Ideal.main_arg0) = m' ((c.tc : Thread Cert.Reference51Ideal.nD Cert.Reference51Ideal.τ).loc Cert.Reference51Ideal.main_arg0)
          ∧ r.2.mem ((c.tc : Thread Cert.Reference51Ideal.nD Cert.Reference51Ideal.τ).loc Cert.Reference51Ideal.main_arg1) = m' ((c.tc : Thread Cert.Reference51Ideal.nD Cert.Reference51Ideal.τ).loc Cert.Reference51Ideal.main_arg1)
          ∧ r.2.mem ((c.tc : Thread Cert.Reference51Ideal.nD Cert.Reference51Ideal.τ).loc Cert.Reference51Ideal.main_arg2) = m' ((c.tc : Thread Cert.Reference51Ideal.nD Cert.Reference51Ideal.τ).loc Cert.Reference51Ideal.main_arg2)
          ∧ r.2.mem ((c.tc : Thread Cert.Reference51Ideal.nD Cert.Reference51Ideal.τ).loc Cert.Reference51Ideal.main_arg3) = m' ((c.tc : Thread Cert.Reference51Ideal.nD Cert.Reference51Ideal.τ).loc Cert.Reference51Ideal.main_arg3)
          ∧ r.2.mem ((c.tc : Thread Cert.Reference51Ideal.nD Cert.Reference51Ideal.τ).loc Cert.Reference51Ideal.main_arg4) = m' ((c.tc : Thread Cert.Reference51Ideal.nD Cert.Reference51Ideal.τ).loc Cert.Reference51Ideal.main_arg4)
          ∧ r.2.mem ((c.tc : Thread Cert.Reference51Ideal.nD Cert.Reference51Ideal.τ).loc Cert.Reference51Ideal.main_arg5) = m' ((c.tc : Thread Cert.Reference51Ideal.nD Cert.Reference51Ideal.τ).loc Cert.Reference51Ideal.main_arg5)
          ∧ r.2.mem ((c.tc : Thread Cert.Reference51Ideal.nD Cert.Reference51Ideal.τ).loc Cert.Reference51Ideal.main_arg6) = m' ((c.tc : Thread Cert.Reference51Ideal.nD Cert.Reference51Ideal.τ).loc Cert.Reference51Ideal.main_arg6))

def preserves_Kernel52_Kernel52Ideal : Prop :=
  True

def algebraic_Kernel52Ideal_Reference52Ideal [hKernel52Ideal : Cert.Kernel52Ideal.Facts] [hReference52Ideal : Cert.Reference52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg)
    (m' : (ℓ : Loc Cert.Reference52Ideal.nD Cert.Reference52Ideal.τ Cert.Reference52Ideal.sig) → Buf (Elt Ideal) ℓ) (g' : Dev Cert.Reference52Ideal.nD → PrngReg), Pre_Kernel52Ideal m →
    (∀ c : Dev Cert.Kernel52Ideal.nD,
      m' ((c.tc : Thread Cert.Reference52Ideal.nD Cert.Reference52Ideal.τ).loc Cert.Reference52Ideal.main_arg0) = m ((c.tc : Thread Cert.Kernel52Ideal.nD Cert.Kernel52Ideal.τ).loc Cert.Kernel52Ideal.main_arg0)
      ∧ m' ((c.tc : Thread Cert.Reference52Ideal.nD Cert.Reference52Ideal.τ).loc Cert.Reference52Ideal.main_arg1) = m ((c.tc : Thread Cert.Kernel52Ideal.nD Cert.Kernel52Ideal.τ).loc Cert.Kernel52Ideal.main_arg1)
      ∧ m' ((c.tc : Thread Cert.Reference52Ideal.nD Cert.Reference52Ideal.τ).loc Cert.Reference52Ideal.main_arg2) = m ((c.tc : Thread Cert.Kernel52Ideal.nD Cert.Kernel52Ideal.τ).loc Cert.Kernel52Ideal.main_arg2)
      ∧ m' ((c.tc : Thread Cert.Reference52Ideal.nD Cert.Reference52Ideal.τ).loc Cert.Reference52Ideal.main_arg3) = m ((c.tc : Thread Cert.Kernel52Ideal.nD Cert.Kernel52Ideal.τ).loc Cert.Kernel52Ideal.main_arg3)
      ∧ m' ((c.tc : Thread Cert.Reference52Ideal.nD Cert.Reference52Ideal.τ).loc Cert.Reference52Ideal.main_arg4) = m ((c.tc : Thread Cert.Kernel52Ideal.nD Cert.Kernel52Ideal.τ).loc Cert.Kernel52Ideal.main_arg4)) →
    ∃ (v0 : (c : Dev Cert.Kernel52Ideal.nD) → Buf (Elt Ideal) ((c.tc : Thread Cert.Kernel52Ideal.nD Cert.Kernel52Ideal.τ).loc Cert.Kernel52Ideal.main_v1_0)) (v1 : (c : Dev Cert.Kernel52Ideal.nD) → Buf (Elt Ideal) ((c.tc : Thread Cert.Kernel52Ideal.nD Cert.Kernel52Ideal.τ).loc Cert.Kernel52Ideal.main_v1_1)) (v2 : (c : Dev Cert.Kernel52Ideal.nD) → Buf (Elt Ideal) ((c.tc : Thread Cert.Kernel52Ideal.nD Cert.Kernel52Ideal.τ).loc Cert.Kernel52Ideal.main_v1_2)) (v3 : (c : Dev Cert.Kernel52Ideal.nD) → Buf (Elt Ideal) ((c.tc : Thread Cert.Kernel52Ideal.nD Cert.Kernel52Ideal.τ).loc Cert.Kernel52Ideal.main_v1_3)),
      θ_run (Cert.Kernel52Ideal.defs (F := Ideal)) (onTc (τ := Cert.Kernel52Ideal.τ) (Cert.Kernel52Ideal.main (F := Ideal))) ⟨m, fun _ => 0, g⟩ (fun r => ∀ c : Dev Cert.Kernel52Ideal.nD,
          r.2.mem ((c.tc : Thread Cert.Kernel52Ideal.nD Cert.Kernel52Ideal.τ).loc Cert.Kernel52Ideal.main_v1_0) = v0 c
          ∧ r.2.mem ((c.tc : Thread Cert.Kernel52Ideal.nD Cert.Kernel52Ideal.τ).loc Cert.Kernel52Ideal.main_v1_1) = v1 c
          ∧ r.2.mem ((c.tc : Thread Cert.Kernel52Ideal.nD Cert.Kernel52Ideal.τ).loc Cert.Kernel52Ideal.main_v1_2) = v2 c
          ∧ r.2.mem ((c.tc : Thread Cert.Kernel52Ideal.nD Cert.Kernel52Ideal.τ).loc Cert.Kernel52Ideal.main_v1_3) = v3 c
          ∧ r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
          ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1)
          ∧ r.2.mem ((c.tc : Thread Cert.Kernel52Ideal.nD Cert.Kernel52Ideal.τ).loc Cert.Kernel52Ideal.main_arg2) = m ((c.tc : Thread Cert.Kernel52Ideal.nD Cert.Kernel52Ideal.τ).loc Cert.Kernel52Ideal.main_arg2)
          ∧ r.2.mem ((c.tc : Thread Cert.Kernel52Ideal.nD Cert.Kernel52Ideal.τ).loc Cert.Kernel52Ideal.main_arg3) = m ((c.tc : Thread Cert.Kernel52Ideal.nD Cert.Kernel52Ideal.τ).loc Cert.Kernel52Ideal.main_arg3)
          ∧ r.2.mem ((c.tc : Thread Cert.Kernel52Ideal.nD Cert.Kernel52Ideal.τ).loc Cert.Kernel52Ideal.main_arg4) = m ((c.tc : Thread Cert.Kernel52Ideal.nD Cert.Kernel52Ideal.τ).loc Cert.Kernel52Ideal.main_arg4))
      ∧ θ_run (Cert.Reference52Ideal.defs (F := Ideal)) (onTc (τ := Cert.Reference52Ideal.τ) (Cert.Reference52Ideal.main (F := Ideal))) ⟨m', fun _ => 0, g'⟩ (fun r => ∀ c : Dev Cert.Reference52Ideal.nD,
          r.2.mem ((c.tc : Thread Cert.Reference52Ideal.nD Cert.Reference52Ideal.τ).loc Cert.Reference52Ideal.main_v54) = v0 c
          ∧ r.2.mem ((c.tc : Thread Cert.Reference52Ideal.nD Cert.Reference52Ideal.τ).loc Cert.Reference52Ideal.main_v60) = v1 c
          ∧ r.2.mem ((c.tc : Thread Cert.Reference52Ideal.nD Cert.Reference52Ideal.τ).loc Cert.Reference52Ideal.main_v59) = v2 c
          ∧ r.2.mem ((c.tc : Thread Cert.Reference52Ideal.nD Cert.Reference52Ideal.τ).loc Cert.Reference52Ideal.main_v38) = v3 c
          ∧ r.2.mem ((c.tc : Thread Cert.Reference52Ideal.nD Cert.Reference52Ideal.τ).loc Cert.Reference52Ideal.main_arg0) = m' ((c.tc : Thread Cert.Reference52Ideal.nD Cert.Reference52Ideal.τ).loc Cert.Reference52Ideal.main_arg0)
          ∧ r.2.mem ((c.tc : Thread Cert.Reference52Ideal.nD Cert.Reference52Ideal.τ).loc Cert.Reference52Ideal.main_arg1) = m' ((c.tc : Thread Cert.Reference52Ideal.nD Cert.Reference52Ideal.τ).loc Cert.Reference52Ideal.main_arg1)
          ∧ r.2.mem ((c.tc : Thread Cert.Reference52Ideal.nD Cert.Reference52Ideal.τ).loc Cert.Reference52Ideal.main_arg2) = m' ((c.tc : Thread Cert.Reference52Ideal.nD Cert.Reference52Ideal.τ).loc Cert.Reference52Ideal.main_arg2)
          ∧ r.2.mem ((c.tc : Thread Cert.Reference52Ideal.nD Cert.Reference52Ideal.τ).loc Cert.Reference52Ideal.main_arg3) = m' ((c.tc : Thread Cert.Reference52Ideal.nD Cert.Reference52Ideal.τ).loc Cert.Reference52Ideal.main_arg3)
          ∧ r.2.mem ((c.tc : Thread Cert.Reference52Ideal.nD Cert.Reference52Ideal.τ).loc Cert.Reference52Ideal.main_arg4) = m' ((c.tc : Thread Cert.Reference52Ideal.nD Cert.Reference52Ideal.τ).loc Cert.Reference52Ideal.main_arg4))

def preserves_Kernel53_Kernel53Ideal : Prop :=
  True

def algebraic_Kernel53Ideal_Reference53Ideal [hKernel53Ideal : Cert.Kernel53Ideal.Facts] [hReference53Ideal : Cert.Reference53Ideal.Facts] : Prop :=
  ∀ (m : (ℓ : Loc Cert.Kernel53Ideal.nD Cert.Kernel53Ideal.τ Cert.Kernel53Ideal.sig) → Buf (Elt Ideal) ℓ) (g : Dev Cert.Kernel53Ideal.nD → PrngReg)
    (m' : (ℓ : Loc Cert.Reference53Ideal.nD Cert.Reference53Ideal.τ Cert.Reference53Ideal.sig) → Buf (Elt Ideal) ℓ) (g' : Dev Cert.Reference53Ideal.nD → PrngReg), Pre_Kernel53Ideal m →
    (∀ c : Dev Cert.Kernel53Ideal.nD,
      m' ((c.tc : Thread Cert.Reference53Ideal.nD Cert.Reference53Ideal.τ).loc Cert.Reference53Ideal.main_arg0) = m ((c.tc : Thread Cert.Kernel53Ideal.nD Cert.Kernel53Ideal.τ).loc Cert.Kernel53Ideal.main_arg0)
      ∧ m' ((c.tc : Thread Cert.Reference53Ideal.nD Cert.Reference53Ideal.τ).loc Cert.Reference53Ideal.main_arg1) = m ((c.tc : Thread Cert.Kernel53Ideal.nD Cert.Kernel53Ideal.τ).loc Cert.Kernel53Ideal.main_arg1)
      ∧ m' ((c.tc : Thread Cert.Reference53Ideal.nD Cert.Reference53Ideal.τ).loc Cert.Reference53Ideal.main_arg2) = m ((c.tc : Thread Cert.Kernel53Ideal.nD Cert.Kernel53Ideal.τ).loc Cert.Kernel53Ideal.main_arg2)
      ∧ m' ((c.tc : Thread Cert.Reference53Ideal.nD Cert.Reference53Ideal.τ).loc Cert.Reference53Ideal.main_arg3) = m ((c.tc : Thread Cert.Kernel53Ideal.nD Cert.Kernel53Ideal.τ).loc Cert.Kernel53Ideal.main_arg3)
      ∧ m' ((c.tc : Thread Cert.Reference53Ideal.nD Cert.Reference53Ideal.τ).loc Cert.Reference53Ideal.main_arg4) = m ((c.tc : Thread Cert.Kernel53Ideal.nD Cert.Kernel53Ideal.τ).loc Cert.Kernel53Ideal.main_arg4)
      ∧ m' ((c.tc : Thread Cert.Reference53Ideal.nD Cert.Reference53Ideal.τ).loc Cert.Reference53Ideal.main_arg5) = m ((c.tc : Thread Cert.Kernel53Ideal.nD Cert.Kernel53Ideal.τ).loc Cert.Kernel53Ideal.main_arg5)
      ∧ m' ((c.tc : Thread Cert.Reference53Ideal.nD Cert.Reference53Ideal.τ).loc Cert.Reference53Ideal.main_arg6) = m ((c.tc : Thread Cert.Kernel53Ideal.nD Cert.Kernel53Ideal.τ).loc Cert.Kernel53Ideal.main_arg6)
      ∧ m' ((c.tc : Thread Cert.Reference53Ideal.nD Cert.Reference53Ideal.τ).loc Cert.Reference53Ideal.main_arg7) = m ((c.tc : Thread Cert.Kernel53Ideal.nD Cert.Kernel53Ideal.τ).loc Cert.Kernel53Ideal.main_arg7)) →
    ∃ (v0 : (c : Dev Cert.Kernel53Ideal.nD) → Buf (Elt Ideal) ((c.tc : Thread Cert.Kernel53Ideal.nD Cert.Kernel53Ideal.τ).loc Cert.Kernel53Ideal.main_v0_0)) (v1 : (c : Dev Cert.Kernel53Ideal.nD) → Buf (Elt Ideal) ((c.tc : Thread Cert.Kernel53Ideal.nD Cert.Kernel53Ideal.τ).loc Cert.Kernel53Ideal.main_v0_1)) (v2 : (c : Dev Cert.Kernel53Ideal.nD) → Buf (Elt Ideal) ((c.tc : Thread Cert.Kernel53Ideal.nD Cert.Kernel53Ideal.τ).loc Cert.Kernel53Ideal.main_v0_2)) (v3 : (c : Dev Cert.Kernel53Ideal.nD) → Buf (Elt Ideal) ((c.tc : Thread Cert.Kernel53Ideal.nD Cert.Kernel53Ideal.τ).loc Cert.Kernel53Ideal.main_v0_3)) (v4 : (c : Dev Cert.Kernel53Ideal.nD) → Buf (Elt Ideal) ((c.tc : Thread Cert.Kernel53Ideal.nD Cert.Kernel53Ideal.τ).loc Cert.Kernel53Ideal.main_v0_4)) (v5 : (c : Dev Cert.Kernel53Ideal.nD) → Buf (Elt Ideal) ((c.tc : Thread Cert.Kernel53Ideal.nD Cert.Kernel53Ideal.τ).loc Cert.Kernel53Ideal.main_v0_5)),
      θ_run (Cert.Kernel53Ideal.defs (F := Ideal)) (onTc (τ := Cert.Kernel53Ideal.τ) (Cert.Kernel53Ideal.main (F := Ideal))) ⟨m, fun _ => 0, g⟩ (fun r => ∀ c : Dev Cert.Kernel53Ideal.nD,
          r.2.mem ((c.tc : Thread Cert.Kernel53Ideal.nD Cert.Kernel53Ideal.τ).loc Cert.Kernel53Ideal.main_v0_0) = v0 c
          ∧ r.2.mem ((c.tc : Thread Cert.Kernel53Ideal.nD Cert.Kernel53Ideal.τ).loc Cert.Kernel53Ideal.main_v0_1) = v1 c
          ∧ r.2.mem ((c.tc : Thread Cert.Kernel53Ideal.nD Cert.Kernel53Ideal.τ).loc Cert.Kernel53Ideal.main_v0_2) = v2 c
          ∧ r.2.mem ((c.tc : Thread Cert.Kernel53Ideal.nD Cert.Kernel53Ideal.τ).loc Cert.Kernel53Ideal.main_v0_3) = v3 c
          ∧ r.2.mem ((c.tc : Thread Cert.Kernel53Ideal.nD Cert.Kernel53Ideal.τ).loc Cert.Kernel53Ideal.main_v0_4) = v4 c
          ∧ r.2.mem ((c.tc : Thread Cert.Kernel53Ideal.nD Cert.Kernel53Ideal.τ).loc Cert.Kernel53Ideal.main_v0_5) = v5 c
          ∧ r.2.mem ((c.tc : Thread Cert.Kernel53Ideal.nD Cert.Kernel53Ideal.τ).loc Cert.Kernel53Ideal.main_arg0) = m ((c.tc : Thread Cert.Kernel53Ideal.nD Cert.Kernel53Ideal.τ).loc Cert.Kernel53Ideal.main_arg0)
          ∧ r.2.mem ((c.tc : Thread Cert.Kernel53Ideal.nD Cert.Kernel53Ideal.τ).loc Cert.Kernel53Ideal.main_arg1) = m ((c.tc : Thread Cert.Kernel53Ideal.nD Cert.Kernel53Ideal.τ).loc Cert.Kernel53Ideal.main_arg1)
          ∧ r.2.mem ((c.tc : Thread Cert.Kernel53Ideal.nD Cert.Kernel53Ideal.τ).loc Cert.Kernel53Ideal.main_arg2) = m ((c.tc : Thread Cert.Kernel53Ideal.nD Cert.Kernel53Ideal.τ).loc Cert.Kernel53Ideal.main_arg2)
          ∧ r.2.mem ((c.tc : Thread Cert.Kernel53Ideal.nD Cert.Kernel53Ideal.τ).loc Cert.Kernel53Ideal.main_arg3) = m ((c.tc : Thread Cert.Kernel53Ideal.nD Cert.Kernel53Ideal.τ).loc Cert.Kernel53Ideal.main_arg3)
          ∧ r.2.mem ((c.tc : Thread Cert.Kernel53Ideal.nD Cert.Kernel53Ideal.τ).loc Cert.Kernel53Ideal.main_arg4) = m ((c.tc : Thread Cert.Kernel53Ideal.nD Cert.Kernel53Ideal.τ).loc Cert.Kernel53Ideal.main_arg4)
          ∧ r.2.mem ((c.tc : Thread Cert.Kernel53Ideal.nD Cert.Kernel53Ideal.τ).loc Cert.Kernel53Ideal.main_arg5) = m ((c.tc : Thread Cert.Kernel53Ideal.nD Cert.Kernel53Ideal.τ).loc Cert.Kernel53Ideal.main_arg5)
          ∧ r.2.mem ((c.tc : Thread Cert.Kernel53Ideal.nD Cert.Kernel53Ideal.τ).loc Cert.Kernel53Ideal.main_arg6) = m ((c.tc : Thread Cert.Kernel53Ideal.nD Cert.Kernel53Ideal.τ).loc Cert.Kernel53Ideal.main_arg6)
          ∧ r.2.mem ((c.tc : Thread Cert.Kernel53Ideal.nD Cert.Kernel53Ideal.τ).loc Cert.Kernel53Ideal.main_arg7) = m ((c.tc : Thread Cert.Kernel53Ideal.nD Cert.Kernel53Ideal.τ).loc Cert.Kernel53Ideal.main_arg7))
      ∧ θ_run (Cert.Reference53Ideal.defs (F := Ideal)) (onTc (τ := Cert.Reference53Ideal.τ) (Cert.Reference53Ideal.main (F := Ideal))) ⟨m', fun _ => 0, g'⟩ (fun r => ∀ c : Dev Cert.Reference53Ideal.nD,
          r.2.mem ((c.tc : Thread Cert.Reference53Ideal.nD Cert.Reference53Ideal.τ).loc Cert.Reference53Ideal.main_v51) = v0 c
          ∧ r.2.mem ((c.tc : Thread Cert.Reference53Ideal.nD Cert.Reference53Ideal.τ).loc Cert.Reference53Ideal.main_v58) = v1 c
          ∧ r.2.mem ((c.tc : Thread Cert.Reference53Ideal.nD Cert.Reference53Ideal.τ).loc Cert.Reference53Ideal.main_v57) = v2 c
          ∧ r.2.mem ((c.tc : Thread Cert.Reference53Ideal.nD Cert.Reference53Ideal.τ).loc Cert.Reference53Ideal.main_v34) = v3 c
          ∧ r.2.mem ((c.tc : Thread Cert.Reference53Ideal.nD Cert.Reference53Ideal.τ).loc Cert.Reference53Ideal.main_v29) = v4 c
          ∧ r.2.mem ((c.tc : Thread Cert.Reference53Ideal.nD Cert.Reference53Ideal.τ).loc Cert.Reference53Ideal.main_v26) = v5 c
          ∧ r.2.mem ((c.tc : Thread Cert.Reference53Ideal.nD Cert.Reference53Ideal.τ).loc Cert.Reference53Ideal.main_arg0) = m' ((c.tc : Thread Cert.Reference53Ideal.nD Cert.Reference53Ideal.τ).loc Cert.Reference53Ideal.main_arg0)
          ∧ r.2.mem ((c.tc : Thread Cert.Reference53Ideal.nD Cert.Reference53Ideal.τ).loc Cert.Reference53Ideal.main_arg1) = m' ((c.tc : Thread Cert.Reference53Ideal.nD Cert.Reference53Ideal.τ).loc Cert.Reference53Ideal.main_arg1)
          ∧ r.2.mem ((c.tc : Thread Cert.Reference53Ideal.nD Cert.Reference53Ideal.τ).loc Cert.Reference53Ideal.main_arg2) = m' ((c.tc : Thread Cert.Reference53Ideal.nD Cert.Reference53Ideal.τ).loc Cert.Reference53Ideal.main_arg2)
          ∧ r.2.mem ((c.tc : Thread Cert.Reference53Ideal.nD Cert.Reference53Ideal.τ).loc Cert.Reference53Ideal.main_arg3) = m' ((c.tc : Thread Cert.Reference53Ideal.nD Cert.Reference53Ideal.τ).loc Cert.Reference53Ideal.main_arg3)
          ∧ r.2.mem ((c.tc : Thread Cert.Reference53Ideal.nD Cert.Reference53Ideal.τ).loc Cert.Reference53Ideal.main_arg4) = m' ((c.tc : Thread Cert.Reference53Ideal.nD Cert.Reference53Ideal.τ).loc Cert.Reference53Ideal.main_arg4)
          ∧ r.2.mem ((c.tc : Thread Cert.Reference53Ideal.nD Cert.Reference53Ideal.τ).loc Cert.Reference53Ideal.main_arg5) = m' ((c.tc : Thread Cert.Reference53Ideal.nD Cert.Reference53Ideal.τ).loc Cert.Reference53Ideal.main_arg5)
          ∧ r.2.mem ((c.tc : Thread Cert.Reference53Ideal.nD Cert.Reference53Ideal.τ).loc Cert.Reference53Ideal.main_arg6) = m' ((c.tc : Thread Cert.Reference53Ideal.nD Cert.Reference53Ideal.τ).loc Cert.Reference53Ideal.main_arg6)
          ∧ r.2.mem ((c.tc : Thread Cert.Reference53Ideal.nD Cert.Reference53Ideal.τ).loc Cert.Reference53Ideal.main_arg7) = m' ((c.tc : Thread Cert.Reference53Ideal.nD Cert.Reference53Ideal.τ).loc Cert.Reference53Ideal.main_arg7))

def preserves_Kernel54_Kernel54Ideal : Prop :=
  True

def algebraic_Kernel54Ideal_Reference54Ideal [hKernel54Ideal : Cert.Kernel54Ideal.Facts] [hReference54Ideal : Cert.Reference54Ideal.Facts] : Prop :=
  ∀ (m : (ℓ : Loc Cert.Kernel54Ideal.nD Cert.Kernel54Ideal.τ Cert.Kernel54Ideal.sig) → Buf (Elt Ideal) ℓ) (g : Dev Cert.Kernel54Ideal.nD → PrngReg)
    (m' : (ℓ : Loc Cert.Reference54Ideal.nD Cert.Reference54Ideal.τ Cert.Reference54Ideal.sig) → Buf (Elt Ideal) ℓ) (g' : Dev Cert.Reference54Ideal.nD → PrngReg), Pre_Kernel54Ideal m →
    (∀ c : Dev Cert.Kernel54Ideal.nD,
      m' ((c.tc : Thread Cert.Reference54Ideal.nD Cert.Reference54Ideal.τ).loc Cert.Reference54Ideal.main_arg0) = m ((c.tc : Thread Cert.Kernel54Ideal.nD Cert.Kernel54Ideal.τ).loc Cert.Kernel54Ideal.main_arg0)
      ∧ m' ((c.tc : Thread Cert.Reference54Ideal.nD Cert.Reference54Ideal.τ).loc Cert.Reference54Ideal.main_arg1) = m ((c.tc : Thread Cert.Kernel54Ideal.nD Cert.Kernel54Ideal.τ).loc Cert.Kernel54Ideal.main_arg1)
      ∧ m' ((c.tc : Thread Cert.Reference54Ideal.nD Cert.Reference54Ideal.τ).loc Cert.Reference54Ideal.main_arg2) = m ((c.tc : Thread Cert.Kernel54Ideal.nD Cert.Kernel54Ideal.τ).loc Cert.Kernel54Ideal.main_arg2)
      ∧ m' ((c.tc : Thread Cert.Reference54Ideal.nD Cert.Reference54Ideal.τ).loc Cert.Reference54Ideal.main_arg3) = m ((c.tc : Thread Cert.Kernel54Ideal.nD Cert.Kernel54Ideal.τ).loc Cert.Kernel54Ideal.main_arg3)
      ∧ m' ((c.tc : Thread Cert.Reference54Ideal.nD Cert.Reference54Ideal.τ).loc Cert.Reference54Ideal.main_arg4) = m ((c.tc : Thread Cert.Kernel54Ideal.nD Cert.Kernel54Ideal.τ).loc Cert.Kernel54Ideal.main_arg4)) →
    ∃ (v0 : (c : Dev Cert.Kernel54Ideal.nD) → Buf (Elt Ideal) ((c.tc : Thread Cert.Kernel54Ideal.nD Cert.Kernel54Ideal.τ).loc Cert.Kernel54Ideal.main_v0)),
      θ_run (Cert.Kernel54Ideal.defs (F := Ideal)) (onTc (τ := Cert.Kernel54Ideal.τ) (Cert.Kernel54Ideal.main (F := Ideal))) ⟨m, fun _ => 0, g⟩ (fun r => ∀ c : Dev Cert.Kernel54Ideal.nD,
          r.2.mem ((c.tc : Thread Cert.Kernel54Ideal.nD Cert.Kernel54Ideal.τ).loc Cert.Kernel54Ideal.main_v0) = v0 c
          ∧ r.2.mem ((c.tc : Thread Cert.Kernel54Ideal.nD Cert.Kernel54Ideal.τ).loc Cert.Kernel54Ideal.main_arg0) = m ((c.tc : Thread Cert.Kernel54Ideal.nD Cert.Kernel54Ideal.τ).loc Cert.Kernel54Ideal.main_arg0)
          ∧ r.2.mem ((c.tc : Thread Cert.Kernel54Ideal.nD Cert.Kernel54Ideal.τ).loc Cert.Kernel54Ideal.main_arg1) = m ((c.tc : Thread Cert.Kernel54Ideal.nD Cert.Kernel54Ideal.τ).loc Cert.Kernel54Ideal.main_arg1)
          ∧ r.2.mem ((c.tc : Thread Cert.Kernel54Ideal.nD Cert.Kernel54Ideal.τ).loc Cert.Kernel54Ideal.main_arg2) = m ((c.tc : Thread Cert.Kernel54Ideal.nD Cert.Kernel54Ideal.τ).loc Cert.Kernel54Ideal.main_arg2)
          ∧ r.2.mem ((c.tc : Thread Cert.Kernel54Ideal.nD Cert.Kernel54Ideal.τ).loc Cert.Kernel54Ideal.main_arg3) = m ((c.tc : Thread Cert.Kernel54Ideal.nD Cert.Kernel54Ideal.τ).loc Cert.Kernel54Ideal.main_arg3)
          ∧ r.2.mem ((c.tc : Thread Cert.Kernel54Ideal.nD Cert.Kernel54Ideal.τ).loc Cert.Kernel54Ideal.main_arg4) = m ((c.tc : Thread Cert.Kernel54Ideal.nD Cert.Kernel54Ideal.τ).loc Cert.Kernel54Ideal.main_arg4))
      ∧ θ_run (Cert.Reference54Ideal.defs (F := Ideal)) (onTc (τ := Cert.Reference54Ideal.τ) (Cert.Reference54Ideal.main (F := Ideal))) ⟨m', fun _ => 0, g'⟩ (fun r => ∀ c : Dev Cert.Reference54Ideal.nD,
          r.2.mem ((c.tc : Thread Cert.Reference54Ideal.nD Cert.Reference54Ideal.τ).loc Cert.Reference54Ideal.main_v22) = v0 c
          ∧ r.2.mem ((c.tc : Thread Cert.Reference54Ideal.nD Cert.Reference54Ideal.τ).loc Cert.Reference54Ideal.main_arg0) = m' ((c.tc : Thread Cert.Reference54Ideal.nD Cert.Reference54Ideal.τ).loc Cert.Reference54Ideal.main_arg0)
          ∧ r.2.mem ((c.tc : Thread Cert.Reference54Ideal.nD Cert.Reference54Ideal.τ).loc Cert.Reference54Ideal.main_arg1) = m' ((c.tc : Thread Cert.Reference54Ideal.nD Cert.Reference54Ideal.τ).loc Cert.Reference54Ideal.main_arg1)
          ∧ r.2.mem ((c.tc : Thread Cert.Reference54Ideal.nD Cert.Reference54Ideal.τ).loc Cert.Reference54Ideal.main_arg2) = m' ((c.tc : Thread Cert.Reference54Ideal.nD Cert.Reference54Ideal.τ).loc Cert.Reference54Ideal.main_arg2)
          ∧ r.2.mem ((c.tc : Thread Cert.Reference54Ideal.nD Cert.Reference54Ideal.τ).loc Cert.Reference54Ideal.main_arg3) = m' ((c.tc : Thread Cert.Reference54Ideal.nD Cert.Reference54Ideal.τ).loc Cert.Reference54Ideal.main_arg3)
          ∧ r.2.mem ((c.tc : Thread Cert.Reference54Ideal.nD Cert.Reference54Ideal.τ).loc Cert.Reference54Ideal.main_arg4) = m' ((c.tc : Thread Cert.Reference54Ideal.nD Cert.Reference54Ideal.τ).loc Cert.Reference54Ideal.main_arg4))

def preserves_Kernel56_Kernel56Ideal : Prop :=
  True

def algebraic_Kernel56Ideal_Reference56Ideal [hKernel56Ideal : Cert.Kernel56Ideal.Facts] [hReference56Ideal : Cert.Reference56Ideal.Facts] : Prop :=
  ∀ (m : (ℓ : Loc Cert.Kernel56Ideal.nD Cert.Kernel56Ideal.τ Cert.Kernel56Ideal.sig) → Buf (Elt Ideal) ℓ) (g : Dev Cert.Kernel56Ideal.nD → PrngReg)
    (m' : (ℓ : Loc Cert.Reference56Ideal.nD Cert.Reference56Ideal.τ Cert.Reference56Ideal.sig) → Buf (Elt Ideal) ℓ) (g' : Dev Cert.Reference56Ideal.nD → PrngReg), Pre_Kernel56Ideal m →
    (∀ c : Dev Cert.Kernel56Ideal.nD,
      m' ((c.tc : Thread Cert.Reference56Ideal.nD Cert.Reference56Ideal.τ).loc Cert.Reference56Ideal.main_arg0) = m ((c.tc : Thread Cert.Kernel56Ideal.nD Cert.Kernel56Ideal.τ).loc Cert.Kernel56Ideal.main_arg0)
      ∧ m' ((c.tc : Thread Cert.Reference56Ideal.nD Cert.Reference56Ideal.τ).loc Cert.Reference56Ideal.main_arg1) = m ((c.tc : Thread Cert.Kernel56Ideal.nD Cert.Kernel56Ideal.τ).loc Cert.Kernel56Ideal.main_arg1)
      ∧ m' ((c.tc : Thread Cert.Reference56Ideal.nD Cert.Reference56Ideal.τ).loc Cert.Reference56Ideal.main_arg2) = m ((c.tc : Thread Cert.Kernel56Ideal.nD Cert.Kernel56Ideal.τ).loc Cert.Kernel56Ideal.main_arg2)
      ∧ m' ((c.tc : Thread Cert.Reference56Ideal.nD Cert.Reference56Ideal.τ).loc Cert.Reference56Ideal.main_arg3) = m ((c.tc : Thread Cert.Kernel56Ideal.nD Cert.Kernel56Ideal.τ).loc Cert.Kernel56Ideal.main_arg3)) →
    ∃ (v0 : (c : Dev Cert.Kernel56Ideal.nD) → Buf (Elt Ideal) ((c.tc : Thread Cert.Kernel56Ideal.nD Cert.Kernel56Ideal.τ).loc Cert.Kernel56Ideal.main_v0)),
      θ_run (Cert.Kernel56Ideal.defs (F := Ideal)) (onTc (τ := Cert.Kernel56Ideal.τ) (Cert.Kernel56Ideal.main (F := Ideal))) ⟨m, fun _ => 0, g⟩ (fun r => ∀ c : Dev Cert.Kernel56Ideal.nD,
          r.2.mem ((c.tc : Thread Cert.Kernel56Ideal.nD Cert.Kernel56Ideal.τ).loc Cert.Kernel56Ideal.main_v0) = v0 c
          ∧ r.2.mem ((c.tc : Thread Cert.Kernel56Ideal.nD Cert.Kernel56Ideal.τ).loc Cert.Kernel56Ideal.main_arg0) = m ((c.tc : Thread Cert.Kernel56Ideal.nD Cert.Kernel56Ideal.τ).loc Cert.Kernel56Ideal.main_arg0)
          ∧ r.2.mem ((c.tc : Thread Cert.Kernel56Ideal.nD Cert.Kernel56Ideal.τ).loc Cert.Kernel56Ideal.main_arg1) = m ((c.tc : Thread Cert.Kernel56Ideal.nD Cert.Kernel56Ideal.τ).loc Cert.Kernel56Ideal.main_arg1)
          ∧ r.2.mem ((c.tc : Thread Cert.Kernel56Ideal.nD Cert.Kernel56Ideal.τ).loc Cert.Kernel56Ideal.main_arg2) = m ((c.tc : Thread Cert.Kernel56Ideal.nD Cert.Kernel56Ideal.τ).loc Cert.Kernel56Ideal.main_arg2)
          ∧ r.2.mem ((c.tc : Thread Cert.Kernel56Ideal.nD Cert.Kernel56Ideal.τ).loc Cert.Kernel56Ideal.main_arg3) = m ((c.tc : Thread Cert.Kernel56Ideal.nD Cert.Kernel56Ideal.τ).loc Cert.Kernel56Ideal.main_arg3))
      ∧ θ_run (Cert.Reference56Ideal.defs (F := Ideal)) (onTc (τ := Cert.Reference56Ideal.τ) (Cert.Reference56Ideal.main (F := Ideal))) ⟨m', fun _ => 0, g'⟩ (fun r => ∀ c : Dev Cert.Reference56Ideal.nD,
          r.2.mem ((c.tc : Thread Cert.Reference56Ideal.nD Cert.Reference56Ideal.τ).loc Cert.Reference56Ideal.main_v18) = v0 c
          ∧ r.2.mem ((c.tc : Thread Cert.Reference56Ideal.nD Cert.Reference56Ideal.τ).loc Cert.Reference56Ideal.main_arg0) = m' ((c.tc : Thread Cert.Reference56Ideal.nD Cert.Reference56Ideal.τ).loc Cert.Reference56Ideal.main_arg0)
          ∧ r.2.mem ((c.tc : Thread Cert.Reference56Ideal.nD Cert.Reference56Ideal.τ).loc Cert.Reference56Ideal.main_arg1) = m' ((c.tc : Thread Cert.Reference56Ideal.nD Cert.Reference56Ideal.τ).loc Cert.Reference56Ideal.main_arg1)
          ∧ r.2.mem ((c.tc : Thread Cert.Reference56Ideal.nD Cert.Reference56Ideal.τ).loc Cert.Reference56Ideal.main_arg2) = m' ((c.tc : Thread Cert.Reference56Ideal.nD Cert.Reference56Ideal.τ).loc Cert.Reference56Ideal.main_arg2)
          ∧ r.2.mem ((c.tc : Thread Cert.Reference56Ideal.nD Cert.Reference56Ideal.τ).loc Cert.Reference56Ideal.main_arg3) = m' ((c.tc : Thread Cert.Reference56Ideal.nD Cert.Reference56Ideal.τ).loc Cert.Reference56Ideal.main_arg3))

def preserves_Kernel57_Kernel57Ideal : Prop :=
  True

def algebraic_Kernel57Ideal_Reference57Ideal [hKernel57Ideal : Cert.Kernel57Ideal.Facts] [hReference57Ideal : Cert.Reference57Ideal.Facts] : Prop :=
  ∀ (m : (ℓ : Loc Cert.Kernel57Ideal.nD Cert.Kernel57Ideal.τ Cert.Kernel57Ideal.sig) → Buf (Elt Ideal) ℓ) (g : Dev Cert.Kernel57Ideal.nD → PrngReg)
    (m' : (ℓ : Loc Cert.Reference57Ideal.nD Cert.Reference57Ideal.τ Cert.Reference57Ideal.sig) → Buf (Elt Ideal) ℓ) (g' : Dev Cert.Reference57Ideal.nD → PrngReg), Pre_Kernel57Ideal m →
    (∀ c : Dev Cert.Kernel57Ideal.nD,
      m' ((c.tc : Thread Cert.Reference57Ideal.nD Cert.Reference57Ideal.τ).loc Cert.Reference57Ideal.main_arg0) = m ((c.tc : Thread Cert.Kernel57Ideal.nD Cert.Kernel57Ideal.τ).loc Cert.Kernel57Ideal.main_arg0)
      ∧ m' ((c.tc : Thread Cert.Reference57Ideal.nD Cert.Reference57Ideal.τ).loc Cert.Reference57Ideal.main_arg1) = m ((c.tc : Thread Cert.Kernel57Ideal.nD Cert.Kernel57Ideal.τ).loc Cert.Kernel57Ideal.main_arg1)
      ∧ m' ((c.tc : Thread Cert.Reference57Ideal.nD Cert.Reference57Ideal.τ).loc Cert.Reference57Ideal.main_arg2) = m ((c.tc : Thread Cert.Kernel57Ideal.nD Cert.Kernel57Ideal.τ).loc Cert.Kernel57Ideal.main_arg2)
      ∧ m' ((c.tc : Thread Cert.Reference57Ideal.nD Cert.Reference57Ideal.τ).loc Cert.Reference57Ideal.main_arg3) = m ((c.tc : Thread Cert.Kernel57Ideal.nD Cert.Kernel57Ideal.τ).loc Cert.Kernel57Ideal.main_arg3)
      ∧ m' ((c.tc : Thread Cert.Reference57Ideal.nD Cert.Reference57Ideal.τ).loc Cert.Reference57Ideal.main_arg4) = m ((c.tc : Thread Cert.Kernel57Ideal.nD Cert.Kernel57Ideal.τ).loc Cert.Kernel57Ideal.main_arg4)
      ∧ m' ((c.tc : Thread Cert.Reference57Ideal.nD Cert.Reference57Ideal.τ).loc Cert.Reference57Ideal.main_arg5) = m ((c.tc : Thread Cert.Kernel57Ideal.nD Cert.Kernel57Ideal.τ).loc Cert.Kernel57Ideal.main_arg5)) →
    ∃ (v0 : (c : Dev Cert.Kernel57Ideal.nD) → Buf (Elt Ideal) ((c.tc : Thread Cert.Kernel57Ideal.nD Cert.Kernel57Ideal.τ).loc Cert.Kernel57Ideal.main_v0_0)) (v1 : (c : Dev Cert.Kernel57Ideal.nD) → Buf (Elt Ideal) ((c.tc : Thread Cert.Kernel57Ideal.nD Cert.Kernel57Ideal.τ).loc Cert.Kernel57Ideal.main_v0_1)),
      θ_run (Cert.Kernel57Ideal.defs (F := Ideal)) (onTc (τ := Cert.Kernel57Ideal.τ) (Cert.Kernel57Ideal.main (F := Ideal))) ⟨m, fun _ => 0, g⟩ (fun r => ∀ c : Dev Cert.Kernel57Ideal.nD,
          r.2.mem ((c.tc : Thread Cert.Kernel57Ideal.nD Cert.Kernel57Ideal.τ).loc Cert.Kernel57Ideal.main_v0_0) = v0 c
          ∧ r.2.mem ((c.tc : Thread Cert.Kernel57Ideal.nD Cert.Kernel57Ideal.τ).loc Cert.Kernel57Ideal.main_v0_1) = v1 c
          ∧ r.2.mem ((c.tc : Thread Cert.Kernel57Ideal.nD Cert.Kernel57Ideal.τ).loc Cert.Kernel57Ideal.main_arg0) = m ((c.tc : Thread Cert.Kernel57Ideal.nD Cert.Kernel57Ideal.τ).loc Cert.Kernel57Ideal.main_arg0)
          ∧ r.2.mem ((c.tc : Thread Cert.Kernel57Ideal.nD Cert.Kernel57Ideal.τ).loc Cert.Kernel57Ideal.main_arg1) = m ((c.tc : Thread Cert.Kernel57Ideal.nD Cert.Kernel57Ideal.τ).loc Cert.Kernel57Ideal.main_arg1)
          ∧ r.2.mem ((c.tc : Thread Cert.Kernel57Ideal.nD Cert.Kernel57Ideal.τ).loc Cert.Kernel57Ideal.main_arg2) = m ((c.tc : Thread Cert.Kernel57Ideal.nD Cert.Kernel57Ideal.τ).loc Cert.Kernel57Ideal.main_arg2)
          ∧ r.2.mem ((c.tc : Thread Cert.Kernel57Ideal.nD Cert.Kernel57Ideal.τ).loc Cert.Kernel57Ideal.main_arg3) = m ((c.tc : Thread Cert.Kernel57Ideal.nD Cert.Kernel57Ideal.τ).loc Cert.Kernel57Ideal.main_arg3)
          ∧ r.2.mem ((c.tc : Thread Cert.Kernel57Ideal.nD Cert.Kernel57Ideal.τ).loc Cert.Kernel57Ideal.main_arg4) = m ((c.tc : Thread Cert.Kernel57Ideal.nD Cert.Kernel57Ideal.τ).loc Cert.Kernel57Ideal.main_arg4)
          ∧ r.2.mem ((c.tc : Thread Cert.Kernel57Ideal.nD Cert.Kernel57Ideal.τ).loc Cert.Kernel57Ideal.main_arg5) = m ((c.tc : Thread Cert.Kernel57Ideal.nD Cert.Kernel57Ideal.τ).loc Cert.Kernel57Ideal.main_arg5))
      ∧ θ_run (Cert.Reference57Ideal.defs (F := Ideal)) (onTc (τ := Cert.Reference57Ideal.τ) (Cert.Reference57Ideal.main (F := Ideal))) ⟨m', fun _ => 0, g'⟩ (fun r => ∀ c : Dev Cert.Reference57Ideal.nD,
          r.2.mem ((c.tc : Thread Cert.Reference57Ideal.nD Cert.Reference57Ideal.τ).loc Cert.Reference57Ideal.main_v2) = v0 c
          ∧ r.2.mem ((c.tc : Thread Cert.Reference57Ideal.nD Cert.Reference57Ideal.τ).loc Cert.Reference57Ideal.main_v21) = v1 c
          ∧ r.2.mem ((c.tc : Thread Cert.Reference57Ideal.nD Cert.Reference57Ideal.τ).loc Cert.Reference57Ideal.main_arg0) = m' ((c.tc : Thread Cert.Reference57Ideal.nD Cert.Reference57Ideal.τ).loc Cert.Reference57Ideal.main_arg0)
          ∧ r.2.mem ((c.tc : Thread Cert.Reference57Ideal.nD Cert.Reference57Ideal.τ).loc Cert.Reference57Ideal.main_arg1) = m' ((c.tc : Thread Cert.Reference57Ideal.nD Cert.Reference57Ideal.τ).loc Cert.Reference57Ideal.main_arg1)
          ∧ r.2.mem ((c.tc : Thread Cert.Reference57Ideal.nD Cert.Reference57Ideal.τ).loc Cert.Reference57Ideal.main_arg2) = m' ((c.tc : Thread Cert.Reference57Ideal.nD Cert.Reference57Ideal.τ).loc Cert.Reference57Ideal.main_arg2)
          ∧ r.2.mem ((c.tc : Thread Cert.Reference57Ideal.nD Cert.Reference57Ideal.τ).loc Cert.Reference57Ideal.main_arg3) = m' ((c.tc : Thread Cert.Reference57Ideal.nD Cert.Reference57Ideal.τ).loc Cert.Reference57Ideal.main_arg3)
          ∧ r.2.mem ((c.tc : Thread Cert.Reference57Ideal.nD Cert.Reference57Ideal.τ).loc Cert.Reference57Ideal.main_arg4) = m' ((c.tc : Thread Cert.Reference57Ideal.nD Cert.Reference57Ideal.τ).loc Cert.Reference57Ideal.main_arg4)
          ∧ r.2.mem ((c.tc : Thread Cert.Reference57Ideal.nD Cert.Reference57Ideal.τ).loc Cert.Reference57Ideal.main_arg5) = m' ((c.tc : Thread Cert.Reference57Ideal.nD Cert.Reference57Ideal.τ).loc Cert.Reference57Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel48 : Cert.Kernel48.Facts) (hKernel48Ideal : Cert.Kernel48Ideal.Facts) (hReference48Ideal : Cert.Reference48Ideal.Facts) (hKernel49 : Cert.Kernel49.Facts) (hKernel49Ideal : Cert.Kernel49Ideal.Facts) (hReference49Ideal : Cert.Reference49Ideal.Facts) (hKernel50 : Cert.Kernel50.Facts) (hKernel50Ideal : Cert.Kernel50Ideal.Facts) (hReference50Ideal : Cert.Reference50Ideal.Facts) (hKernel55 : Cert.Kernel55.Facts) (hKernel55Ideal : Cert.Kernel55Ideal.Facts) (hReference55Ideal : Cert.Reference55Ideal.Facts) (hKernel51 : Cert.Kernel51.Facts) (hKernel51Ideal : Cert.Kernel51Ideal.Facts) (hReference51Ideal : Cert.Reference51Ideal.Facts) (hKernel52 : Cert.Kernel52.Facts) (hKernel52Ideal : Cert.Kernel52Ideal.Facts) (hReference52Ideal : Cert.Reference52Ideal.Facts) (hKernel53 : Cert.Kernel53.Facts) (hKernel53Ideal : Cert.Kernel53Ideal.Facts) (hReference53Ideal : Cert.Reference53Ideal.Facts) (hKernel54 : Cert.Kernel54.Facts) (hKernel54Ideal : Cert.Kernel54Ideal.Facts) (hReference54Ideal : Cert.Reference54Ideal.Facts) (hKernel56 : Cert.Kernel56.Facts) (hKernel56Ideal : Cert.Kernel56Ideal.Facts) (hReference56Ideal : Cert.Reference56Ideal.Facts) (hKernel57 : Cert.Kernel57.Facts) (hKernel57Ideal : Cert.Kernel57Ideal.Facts) (hReference57Ideal : Cert.Reference57Ideal.Facts) (hPre_finite : Cert.Pre_finite.Facts) (hPre_finite2 : Cert.Pre_finite2.Facts) (hPre_finite29 : Cert.Pre_finite29.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Kernel29Ideal_pre_finite29 (hKernel29Ideal := hKernel29Ideal) (hPre_finite29 := hPre_finite29)
    ∧ quiescent_Reference29Ideal (hReference29Ideal := hReference29Ideal)
    ∧ quiescent_Reference29Ideal_pre_finite29 (hReference29Ideal := hReference29Ideal) (hPre_finite29 := hPre_finite29)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel48 (hKernel48 := hKernel48)
    ∧ quiescent_Kernel48Ideal (hKernel48Ideal := hKernel48Ideal)
    ∧ quiescent_Reference48Ideal (hReference48Ideal := hReference48Ideal)
    ∧ quiescent_Kernel49 (hKernel49 := hKernel49)
    ∧ quiescent_Kernel49Ideal (hKernel49Ideal := hKernel49Ideal)
    ∧ quiescent_Reference49Ideal (hReference49Ideal := hReference49Ideal)
    ∧ quiescent_Kernel50 (hKernel50 := hKernel50)
    ∧ quiescent_Kernel50Ideal (hKernel50Ideal := hKernel50Ideal)
    ∧ quiescent_Reference50Ideal (hReference50Ideal := hReference50Ideal)
    ∧ quiescent_Kernel55 (hKernel55 := hKernel55)
    ∧ quiescent_Kernel55Ideal (hKernel55Ideal := hKernel55Ideal)
    ∧ quiescent_Reference55Ideal (hReference55Ideal := hReference55Ideal)
    ∧ quiescent_Kernel51 (hKernel51 := hKernel51)
    ∧ quiescent_Kernel51Ideal (hKernel51Ideal := hKernel51Ideal)
    ∧ quiescent_Reference51Ideal (hReference51Ideal := hReference51Ideal)
    ∧ quiescent_Kernel52 (hKernel52 := hKernel52)
    ∧ quiescent_Kernel52Ideal (hKernel52Ideal := hKernel52Ideal)
    ∧ quiescent_Reference52Ideal (hReference52Ideal := hReference52Ideal)
    ∧ quiescent_Kernel53 (hKernel53 := hKernel53)
    ∧ quiescent_Kernel53Ideal (hKernel53Ideal := hKernel53Ideal)
    ∧ quiescent_Reference53Ideal (hReference53Ideal := hReference53Ideal)
    ∧ quiescent_Kernel54 (hKernel54 := hKernel54)
    ∧ quiescent_Kernel54Ideal (hKernel54Ideal := hKernel54Ideal)
    ∧ quiescent_Reference54Ideal (hReference54Ideal := hReference54Ideal)
    ∧ quiescent_Kernel56 (hKernel56 := hKernel56)
    ∧ quiescent_Kernel56Ideal (hKernel56Ideal := hKernel56Ideal)
    ∧ quiescent_Reference56Ideal (hReference56Ideal := hReference56Ideal)
    ∧ quiescent_Kernel57 (hKernel57 := hKernel57)
    ∧ quiescent_Kernel57Ideal (hKernel57Ideal := hKernel57Ideal)
    ∧ quiescent_Reference57Ideal (hReference57Ideal := hReference57Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal_pre_finite29 (hKernel29Ideal := hKernel29Ideal) (hReference29Ideal := hReference29Ideal) (hPre_finite29 := hPre_finite29)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel48_Kernel48Ideal
    ∧ algebraic_Kernel48Ideal_Reference48Ideal (hKernel48Ideal := hKernel48Ideal) (hReference48Ideal := hReference48Ideal)
    ∧ preserves_Kernel49_Kernel49Ideal
    ∧ algebraic_Kernel49Ideal_Reference49Ideal (hKernel49Ideal := hKernel49Ideal) (hReference49Ideal := hReference49Ideal)
    ∧ preserves_Kernel50_Kernel50Ideal
    ∧ algebraic_Kernel50Ideal_Reference50Ideal (hKernel50Ideal := hKernel50Ideal) (hReference50Ideal := hReference50Ideal)
    ∧ preserves_Kernel55_Kernel55Ideal
    ∧ algebraic_Kernel55Ideal_Reference55Ideal (hKernel55Ideal := hKernel55Ideal) (hReference55Ideal := hReference55Ideal)
    ∧ preserves_Kernel51_Kernel51Ideal
    ∧ algebraic_Kernel51Ideal_Reference51Ideal (hKernel51Ideal := hKernel51Ideal) (hReference51Ideal := hReference51Ideal)
    ∧ preserves_Kernel52_Kernel52Ideal
    ∧ algebraic_Kernel52Ideal_Reference52Ideal (hKernel52Ideal := hKernel52Ideal) (hReference52Ideal := hReference52Ideal)
    ∧ preserves_Kernel53_Kernel53Ideal
    ∧ algebraic_Kernel53Ideal_Reference53Ideal (hKernel53Ideal := hKernel53Ideal) (hReference53Ideal := hReference53Ideal)
    ∧ preserves_Kernel54_Kernel54Ideal
    ∧ algebraic_Kernel54Ideal_Reference54Ideal (hKernel54Ideal := hKernel54Ideal) (hReference54Ideal := hReference54Ideal)
    ∧ preserves_Kernel56_Kernel56Ideal
    ∧ algebraic_Kernel56Ideal_Reference56Ideal (hKernel56Ideal := hKernel56Ideal) (hReference56Ideal := hReference56Ideal)
    ∧ preserves_Kernel57_Kernel57Ideal
    ∧ algebraic_Kernel57Ideal_Reference57Ideal (hKernel57Ideal := hKernel57Ideal) (hReference57Ideal := hReference57Ideal)
-- ==== Pre_finite.lean ====
abbrev S2048x1536 : Shape := ⟨2, ![2048, 1536]⟩
abbrev S2304x2048 : Shape := ⟨2, ![2304, 2048]⟩
abbrev S2304x64 : Shape := ⟨2, ![2304, 64]⟩
abbrev S2048x1024 : Shape := ⟨2, ![2048, 1024]⟩
abbrev S2304x8x256 : Shape := ⟨3, ![2304, 8, 256]⟩
abbrev S2304x8x128 : Shape := ⟨3, ![2304, 8, 128]⟩
abbrev S_ : Shape := ⟨0, ![]⟩

class Facts : Prop where
  shapeCasts_S2304x2048_S2304x8x256 : S2304x2048.ShapeCasts S2304x8x256
  slices_S2304x8x256_S2304x8x128_0_0_0 : S2304x8x256.Slices ![0, 0, 0] S2304x8x128
  bitsLt_bf16_f32 : FTy.bits .bf16 < FTy.bits .f32
  bcast_S_S2048x1536 : S_.BroadcastsInDim S2048x1536 (![] : Fin 0 → Fin S2048x1536.rank)
  reducesTo_S2048x1536_S_d0_1 : S2048x1536.ReducesTo [0, 1] S_
  h_S_ : 0 < S_.numel
  bcast_S_S2304x8x128 : S_.BroadcastsInDim S2304x8x128 (![] : Fin 0 → Fin S2304x8x128.rank)
  reducesTo_S2304x8x128_S_d0_1_2 : S2304x8x128.ReducesTo [0, 1, 2] S_
  bcast_S_S2304x64 : S_.BroadcastsInDim S2304x64 (![] : Fin 0 → Fin S2304x64.rank)
  reducesTo_S2304x64_S_d0_1 : S2304x64.ReducesTo [0, 1] S_

variable [Facts]

def fn_part1 {F : FTy → Type} [FloatOps F] (main_v16 : IVec S_ 1) (main_v17 : IVec S_ 1) : IVec S_ 1 :=
  let main_v18 : IVec S_ 1 := andi main_v17 main_v16
  main_v18

def fn {F : FTy → Type} [FloatOps F] (main_arg0 : FVec F S2048x1536 .bf16) (main_arg1 : FVec F S2304x2048 .bf16) (main_arg2 : FVec F S2304x64 .bf16) (main_arg3 : FVec F S2048x1024 .bf16) : IVec S_ 1 :=
  let main_v0 : FVec F S2304x8x256 .bf16 := shapeCast S2304x8x256 main_arg1 shapeCasts_S2304x2048_S2304x8x256
  let main_v1 : FVec F S2304x8x128 .bf16 := (extractStridedSlice S2304x8x128 ![0, 0, 0] · slices_S2304x8x256_S2304x8x128_0_0_0) main_v0
  let main_v2 : FVec F S2048x1536 .f32 := (extf .f32 · bitsLt_bf16_f32) main_arg0
  let main_v3 : FVec F S2048x1536 .f32 := Host.absf main_v2
  let main_cst : FVec F S_ .f32 := constant S_ .f32 0x7F800000#32
  let main_v4 : FVec F S2048x1536 .f32 := broadcastInDim S2048x1536 ![] bcast_S_S2048x1536 main_cst
  let main_v5 : IVec S2048x1536 1 := cmpf .olt main_v3 main_v4
  let main_c : IVec S_ 1 := constantI S_ 1 1#1
  let main_v6 : IVec S_ 1 := (fun x v => Host.reduce IntOp.andi x v reducesTo_S2048x1536_S_d0_1 h_S_) main_v5 main_c
  let main_v7 : FVec F S2304x8x128 .f32 := (extf .f32 · bitsLt_bf16_f32) main_v1
  let main_v8 : FVec F S2304x8x128 .f32 := Host.absf main_v7
  let main_cst_0 : FVec F S_ .f32 := constant S_ .f32 0x7F800000#32
  let main_v9 : FVec F S2304x8x128 .f32 := broadcastInDim S2304x8x128 ![] bcast_S_S2304x8x128 main_cst_0
  let main_v10 : IVec S2304x8x128 1 := cmpf .olt main_v8 main_v9
  let main_c_1 : IVec S_ 1 := constantI S_ 1 1#1
  let main_v11 : IVec S_ 1 := (fun x v => Host.reduce IntOp.andi x v reducesTo_S2304x8x128_S_d0_1_2 h_S_) main_v10 main_c_1
  let main_v12 : FVec F S2304x64 .f32 := (extf .f32 · bitsLt_bf16_f32) main_arg2
  let main_v13 : FVec F S2304x64 .f32 := Host.absf main_v12
  let main_cst_2 : FVec F S_ .f32 := constant S_ .f32 0x7F800000#32
  let main_v14 : FVec F S2304x64 .f32 := broadcastInDim S2304x64 ![] bcast_S_S2304x64 main_cst_2
  let main_v15 : IVec S2304x64 1 := cmpf .olt main_v13 main_v14
  let main_c_3 : IVec S_ 1 := constantI S_ 1 1#1
  let main_v16 : IVec S_ 1 := (fun x v => Host.reduce IntOp.andi x v reducesTo_S2304x64_S_d0_1 h_S_) main_v15 main_c_3
  let main_v17 : IVec S_ 1 := andi main_v6 main_v11
  fn_part1 (F := F) main_v16 main_v17
-- ==== Pre_finite2.lean ====
abbrev S2048x2048 : Shape := ⟨2, ![2048, 2048]⟩
abbrev S5632x2048 : Shape := ⟨2, ![5632, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S_ : Shape := ⟨0, ![]⟩

class Facts : Prop where
  slices_S2x2048x5632_S1x2048x5632_1_0_0 : S2x2048x5632.Slices ![1, 0, 0] S1x2048x5632
  shapeCasts_S1x2048x5632_S2048x5632 : S1x2048x5632.ShapeCasts S2048x5632
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn_part1 {F : FTy → Type} [FloatOps F] (main_v16 : IVec S_ 1) (main_v17 : IVec S_ 1) : IVec S_ 1 :=
  let main_v18 : IVec S_ 1 := andi main_v17 main_v16
  main_v18

def fn {F : FTy → Type} [FloatOps F] (main_arg0 : FVec F S2048x2048 .bf16) (main_arg1 : FVec F S5632x2048 .bf16) (main_arg2 : FVec F S2x2048x5632 .bf16) : IVec S_ 1 :=
  let main_v0 : FVec F S1x2048x5632 .bf16 := (extractStridedSlice S1x2048x5632 ![1, 0, 0] · slices_S2x2048x5632_S1x2048x5632_1_0_0) main_arg2
  let main_v1 : FVec F S2048x5632 .bf16 := shapeCast S2048x5632 main_v0 shapeCasts_S1x2048x5632_S2048x5632
  let main_v2 : FVec F S2048x2048 .f32 := (extf .f32 · bitsLt_bf16_f32) main_arg0
  let main_v3 : FVec F S2048x2048 .f32 := Host.absf main_v2
  let main_cst : FVec F S_ .f32 := constant S_ .f32 0x7F800000#32
  let main_v4 : FVec F S2048x2048 .f32 := broadcastInDim S2048x2048 ![] bcast_S_S2048x2048 main_cst
  let main_v5 : IVec S2048x2048 1 := cmpf .olt main_v3 main_v4
  let main_c : IVec S_ 1 := constantI S_ 1 1#1
  let main_v6 : IVec S_ 1 := (fun x v => Host.reduce IntOp.andi x v reducesTo_S2048x2048_S_d0_1 h_S_) main_v5 main_c
  let main_v7 : FVec F S5632x2048 .f32 := (extf .f32 · bitsLt_bf16_f32) main_arg1
  let main_v8 : FVec F S5632x2048 .f32 := Host.absf main_v7
  let main_cst_0 : FVec F S_ .f32 := constant S_ .f32 0x7F800000#32
  let main_v9 : FVec F S5632x2048 .f32 := broadcastInDim S5632x2048 ![] bcast_S_S5632x2048 main_cst_0
  let main_v10 : IVec S5632x2048 1 := cmpf .olt main_v8 main_v9
  let main_c_1 : IVec S_ 1 := constantI S_ 1 1#1
  let main_v11 : IVec S_ 1 := (fun x v => Host.reduce IntOp.andi x v reducesTo_S5632x2048_S_d0_1 h_S_) main_v10 main_c_1
  let main_v12 : FVec F S2048x5632 .f32 := (extf .f32 · bitsLt_bf16_f32) main_v1
  let main_v13 : FVec F S2048x5632 .f32 := Host.absf main_v12
  let main_cst_2 : FVec F S_ .f32 := constant S_ .f32 0x7F800000#32
  let main_v14 : FVec F S2048x5632 .f32 := broadcastInDim S2048x5632 ![] bcast_S_S2048x5632 main_cst_2
  let main_v15 : IVec S2048x5632 1 := cmpf .olt main_v13 main_v14
  let main_c_3 : IVec S_ 1 := constantI S_ 1 1#1
  let main_v16 : IVec S_ 1 := (fun x v => Host.reduce IntOp.andi x v reducesTo_S2048x5632_S_d0_1 h_S_) main_v15 main_c_3
  let main_v17 : IVec S_ 1 := andi main_v6 main_v11
  fn_part1 (F := F) main_v16 main_v17
-- ==== Pre_finite29.lean ====
abbrev S2048x1536 : Shape := ⟨2, ![2048, 1536]⟩
abbrev S2304x2048 : Shape := ⟨2, ![2304, 2048]⟩
abbrev S2304x64 : Shape := ⟨2, ![2304, 64]⟩
abbrev S2304x8x256 : Shape := ⟨3, ![2304, 8, 256]⟩
abbrev S2304x8x128 : Shape := ⟨3, ![2304, 8, 128]⟩
abbrev S_ : Shape := ⟨0, ![]⟩

class Facts : Prop where
  shapeCasts_S2304x2048_S2304x8x256 : S2304x2048.ShapeCasts S2304x8x256
  slices_S2304x8x256_S2304x8x128_0_0_0 : S2304x8x256.Slices ![0, 0, 0] S2304x8x128
  bitsLt_bf16_f32 : FTy.bits .bf16 < FTy.bits .f32
  bcast_S_S2048x1536 : S_.BroadcastsInDim S2048x1536 (![] : Fin 0 → Fin S2048x1536.rank)
  reducesTo_S2048x1536_S_d0_1 : S2048x1536.ReducesTo [0, 1] S_
  h_S_ : 0 < S_.numel
  bcast_S_S2304x8x128 : S_.BroadcastsInDim S2304x8x128 (![] : Fin 0 → Fin S2304x8x128.rank)
  reducesTo_S2304x8x128_S_d0_1_2 : S2304x8x128.ReducesTo [0, 1, 2] S_
  bcast_S_S2304x64 : S_.BroadcastsInDim S2304x64 (![] : Fin 0 → Fin S2304x64.rank)
  reducesTo_S2304x64_S_d0_1 : S2304x64.ReducesTo [0, 1] S_

variable [Facts]

def fn_part1 {F : FTy → Type} [FloatOps F] (main_v16 : IVec S_ 1) (main_v17 : IVec S_ 1) : IVec S_ 1 :=
  let main_v18 : IVec S_ 1 := andi main_v17 main_v16
  main_v18

def fn {F : FTy → Type} [FloatOps F] (main_arg0 : FVec F S2048x1536 .bf16) (main_arg1 : FVec F S2304x2048 .bf16) (main_arg2 : FVec F S2304x64 .bf16) : IVec S_ 1 :=
  let main_v0 : FVec F S2304x8x256 .bf16 := shapeCast S2304x8x256 main_arg1 shapeCasts_S2304x2048_S2304x8x256
  let main_v1 : FVec F S2304x8x128 .bf16 := (extractStridedSlice S2304x8x128 ![0, 0, 0] · slices_S2304x8x256_S2304x8x128_0_0_0) main_v0
  let main_v2 : FVec F S2048x1536 .f32 := (extf .f32 · bitsLt_bf16_f32) main_arg0
  let main_v3 : FVec F S2048x1536 .f32 := Host.absf main_v2
  let main_cst : FVec F S_ .f32 := constant S_ .f32 0x7F800000#32
  let main_v4 : FVec F S2048x1536 .f32 := broadcastInDim S2048x1536 ![] bcast_S_S2048x1536 main_cst
  let main_v5 : IVec S2048x1536 1 := cmpf .olt main_v3 main_v4
  let main_c : IVec S_ 1 := constantI S_ 1 1#1
  let main_v6 : IVec S_ 1 := (fun x v => Host.reduce IntOp.andi x v reducesTo_S2048x1536_S_d0_1 h_S_) main_v5 main_c
  let main_v7 : FVec F S2304x8x128 .f32 := (extf .f32 · bitsLt_bf16_f32) main_v1
  let main_v8 : FVec F S2304x8x128 .f32 := Host.absf main_v7
  let main_cst_0 : FVec F S_ .f32 := constant S_ .f32 0x7F800000#32
  let main_v9 : FVec F S2304x8x128 .f32 := broadcastInDim S2304x8x128 ![] bcast_S_S2304x8x128 main_cst_0
  let main_v10 : IVec S2304x8x128 1 := cmpf .olt main_v8 main_v9
  let main_c_1 : IVec S_ 1 := constantI S_ 1 1#1
  let main_v11 : IVec S_ 1 := (fun x v => Host.reduce IntOp.andi x v reducesTo_S2304x8x128_S_d0_1_2 h_S_) main_v10 main_c_1
  let main_v12 : FVec F S2304x64 .f32 := (extf .f32 · bitsLt_bf16_f32) main_arg2
  let main_v13 : FVec F S2304x64 .f32 := Host.absf main_v12
  let main_cst_2 : FVec F S_ .f32 := constant S_ .f32 0x7F800000#32
  let main_v14 : FVec F S2304x64 .f32 := broadcastInDim S2304x64 ![] bcast_S_S2304x64 main_cst_2
  let main_v15 : IVec S2304x64 1 := cmpf .olt main_v13 main_v14
  let main_c_3 : IVec S_ 1 := constantI S_ 1 1#1
  let main_v16 : IVec S_ 1 := (fun x v => Host.reduce IntOp.andi x v reducesTo_S2304x64_S_d0_1 h_S_) main_v15 main_c_3
  let main_v17 : IVec S_ 1 := andi main_v6 main_v11
  fn_part1 (F := F) main_v16 main_v17
-- ==== Kernel.lean ====
abbrev S2048x1536 : Shape := ⟨2, ![2048, 1536]⟩
abbrev S2304x2048 : Shape := ⟨2, ![2304, 2048]⟩
abbrev S2304x64 : Shape := ⟨2, ![2304, 64]⟩
abbrev S2048x1024 : Shape := ⟨2, ![2048, 1024]⟩
abbrev S2048x8x192 : Shape := ⟨3, ![2048, 8, 192]⟩
abbrev S_ : Shape := ⟨0, ![]⟩
abbrev S2048x8x64 : Shape := ⟨3, ![2048, 8, 64]⟩
abbrev S2048x8x256 : Shape := ⟨3, ![2048, 8, 256]⟩
abbrev S2048x2048 : Shape := ⟨2, ![2048, 2048]⟩
abbrev S2304x128 : Shape := ⟨2, ![2304, 128]⟩
abbrev S512x256 : Shape := ⟨2, ![512, 256]⟩
abbrev S2304x256 : Shape := ⟨2, ![2304, 256]⟩
abbrev S512x128 : Shape := ⟨2, ![512, 128]⟩
abbrev S512x2304 : Shape := ⟨2, ![512, 2304]⟩
abbrev S512 : Shape := ⟨1, ![512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S2048x1536, .bf16⟩
  | .hbm, ⟨1, _⟩ => ⟨S2304x2048, .bf16⟩
  | .hbm, ⟨2, _⟩ => ⟨S2304x64, .bf16⟩
  | .hbm, ⟨3, _⟩ => ⟨S2048x1024, .bf16⟩
  | .hbm, ⟨4, _⟩ => ⟨S2048x8x192, .bf16⟩
  | .hbm, ⟨5, _⟩ => ⟨S_, .bf16⟩
  | .hbm, ⟨6, _⟩ => ⟨S2048x8x64, .bf16⟩
  | .hbm, ⟨7, _⟩ => ⟨S2048x8x256, .bf16⟩
  | .hbm, ⟨8, _⟩ => ⟨S2048x2048, .bf16⟩
  | .hbm, ⟨9, _⟩ => ⟨S_, .bf16⟩
  | .hbm, ⟨10, _⟩ => ⟨S2304x64, .bf16⟩
  | .hbm, ⟨11, _⟩ => ⟨S2304x128, .bf16⟩
  | .hbm, ⟨12, _⟩ => ⟨S2048x2048, .f32⟩
  | .hbm, ⟨13, _⟩ => ⟨S2304x2048, .bf16⟩
  | .hbm, ⟨14, _⟩ => ⟨S2304x128, .f32⟩
  | .local _ .vmem, ⟨0, _⟩ => ⟨S512x256, .bf16⟩
  | .local _ .vmem, ⟨1, _⟩ => ⟨S512x256, .bf16⟩
  | .local _ .vmem, ⟨2, _⟩ => ⟨S2304x256, .bf16⟩
  | .local _ .vmem, ⟨3, _⟩ => ⟨S2304x256, .bf16⟩
  | .local _ .vmem, ⟨4, _⟩ => ⟨S2304x128, .bf16⟩
  | .local _ .vmem, ⟨5, _⟩ => ⟨S512x128, .bf16⟩
  | .local _ .vmem, ⟨6, _⟩ => ⟨S512x128, .bf16⟩
  | .local _ .vmem, ⟨7, _⟩ => ⟨S512x256, .f32⟩
  | .local _ .vmem, ⟨8, _⟩ => ⟨S512x256, .f32⟩
  | .local _ .vmem, ⟨9, _⟩ => ⟨S2304x256, .bf16⟩
  | .local _ .vmem, ⟨10, _⟩ => ⟨S2304x256, .bf16⟩
  | .local _ .vmem, ⟨11, _⟩ => ⟨S2304x128, .f32⟩
  | .local _ .vmem, ⟨12, _⟩ => ⟨S2304x128, .f32⟩
  | .local _ .vmem, ⟨13, _⟩ => ⟨S2304x128, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v75 : BitVec 1 := Scalar.cmpi .eq arg1 c3_i32
  let v76 : BitVec 32 := Scalar.extui v75
  let c0_i32_40 : BitVec 32 := 0#32
  let v77 : BitVec 1 := Scalar.cmpi .ne v76 c0_i32_40
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2304x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2304x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2304x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== KernelIdeal.lean ====
variable {F : FTy → Type} [FloatOps F] [Named F]
def κ : String → Option EReal := fun
  | "inv_scale" => some ((Real.sqrt 192 : ℝ) : EReal)
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S2048x1536 : Shape := ⟨2, ![2048, 1536]⟩
abbrev S2304x2048 : Shape := ⟨2, ![2304, 2048]⟩
abbrev S2304x64 : Shape := ⟨2, ![2304, 64]⟩
abbrev S2048x1024 : Shape := ⟨2, ![2048, 1024]⟩
abbrev S1x2048x8x192 : Shape := ⟨4, ![1, 2048, 8, 192]⟩
abbrev S1x2304x8x256 : Shape := ⟨4, ![1, 2304, 8, 256]⟩
abbrev S1x2304x8x128 : Shape := ⟨4, ![1, 2304, 8, 128]⟩
abbrev S1x2304x1x64 : Shape := ⟨4, ![1, 2304, 1, 64]⟩
abbrev S1x2304x8x64 : Shape := ⟨4, ![1, 2304, 8, 64]⟩
abbrev S1x2304x8x192 : Shape := ⟨4, ![1, 2304, 8, 192]⟩
abbrev S1x8x2048x2304 : Shape := ⟨4, ![1, 8, 2048, 2304]⟩
abbrev S_ : Shape := ⟨0, ![]⟩
abbrev S1x8x2048 : Shape := ⟨3, ![1, 8, 2048]⟩
abbrev S1x8x2048x1 : Shape := ⟨4, ![1, 8, 2048, 1]⟩
abbrev S1x8x128x2048 : Shape := ⟨4, ![1, 8, 128, 2048]⟩
abbrev S1x2048x8x128 : Shape := ⟨4, ![1, 2048, 8, 128]⟩
abbrev S1x8x128x2304 : Shape := ⟨4, ![1, 8, 128, 2304]⟩
abbrev S8x2048 : Shape := ⟨2, ![8, 2048]⟩
abbrev S1x8x2304x192 : Shape := ⟨4, ![1, 8, 2304, 192]⟩
abbrev S1x8x2048x192 : Shape := ⟨4, ![1, 8, 2048, 192]⟩
abbrev S2048x8x192 : Shape := ⟨3, ![2048, 8, 192]⟩
abbrev S2048x8x64 : Shape := ⟨3, ![2048, 8, 64]⟩
abbrev S2048x8x256 : Shape := ⟨3, ![2048, 8, 256]⟩
abbrev S2304x128 : Shape := ⟨2, ![2304, 128]⟩
abbrev S2048x2048 : Shape := ⟨2, ![2048, 2048]⟩

abbrev nBuf : Space → Nat
  | .hbm => 110
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S2304x2048, .bf16⟩
  | .hbm, ⟨2, _⟩ => ⟨S2304x64, .bf16⟩
  | .hbm, ⟨3, _⟩ => ⟨S2048x1024, .bf16⟩
  | .hbm, ⟨4, _⟩ => ⟨S2048x1536, .f32⟩
  | .hbm, ⟨5, _⟩ => ⟨S2304x2048, .f32⟩
  | .hbm, ⟨6, _⟩ => ⟨S2304x64, .f32⟩
  | .hbm, ⟨7, _⟩ => ⟨S2048x1024, .f32⟩
  | .hbm, ⟨8, _⟩ => ⟨S1x2048x8x192, .f32⟩
  | .hbm, ⟨9, _⟩ => ⟨S1x2304x8x256, .f32⟩
  | .hbm, ⟨10, _⟩ => ⟨S1x2304x8x128, .f32⟩
  | .hbm, ⟨11, _⟩ => ⟨S1x2304x8x128, .f32⟩
  | .hbm, ⟨12, _⟩ => ⟨S1x2304x1x64, .f32⟩
  | .hbm, ⟨13, _⟩ => ⟨S1x2304x8x64, .f32⟩
  | .hbm, ⟨14, _⟩ => ⟨S1x2304x8x192, .f32⟩
  | .hbm, ⟨15, _⟩ => ⟨S1x8x2048x2304, .f32⟩
  | .hbm, ⟨16, _⟩ => ⟨S_, .f32⟩
  | .hbm, ⟨17, _⟩ => ⟨S_, .f32⟩
  | .hbm, ⟨18, _⟩ => ⟨S1x8x2048x2304, .f32⟩
  | .hbm, ⟨19, _⟩ => ⟨S1x8x2048x2304, .f32⟩
  | .hbm, ⟨20, _⟩ => ⟨S_, .f32⟩
  | .hbm, ⟨21, _⟩ => ⟨S1x8x2048, .f32⟩
  | .hbm, ⟨22, _⟩ => ⟨S1x8x2048x1, .f32⟩
  | .hbm, ⟨23, _⟩ => ⟨S1x8x2048x2304, .f32⟩
  | .hbm, ⟨24, _⟩ => ⟨S1x8x2048x2304, .i1⟩
  | .hbm, ⟨25, _⟩ => ⟨S1x8x2048x2304, .f32⟩
  | .hbm, ⟨26, _⟩ => ⟨S_, .f32⟩
  | .hbm, ⟨27, _⟩ => ⟨S1x8x2048, .f32⟩
  | .hbm, ⟨28, _⟩ => ⟨S_, .f32⟩
  | .hbm, ⟨29, _⟩ => ⟨S1x8x2048, .f32⟩
  | .hbm, ⟨30, _⟩ => ⟨S1x8x2048, .f32⟩
  | .hbm, ⟨31, _⟩ => ⟨S_, .f32⟩
  | .hbm, ⟨32, _⟩ => ⟨S1x8x2048, .f32⟩
  | .hbm, ⟨33, _⟩ => ⟨S1x8x2048, .i1⟩
  | .hbm, ⟨34, _⟩ => ⟨S_, .f32⟩
  | .hbm, ⟨35, _⟩ => ⟨S1x8x2048, .f32⟩
  | .hbm, ⟨36, _⟩ => ⟨S1x8x2048, .i1⟩
  | .hbm, ⟨37, _⟩ => ⟨S_, .f32⟩
  | .hbm, ⟨38, _⟩ => ⟨S1x8x2048, .f32⟩
  | .hbm, ⟨39, _⟩ => ⟨S_, .f32⟩
  | .hbm, ⟨40, _⟩ => ⟨S1x8x2048, .f32⟩
  | .hbm, ⟨41, _⟩ => ⟨S_, .f32⟩
  | .hbm, ⟨42, _⟩ => ⟨S1x8x2048, .f32⟩
  | .hbm, ⟨43, _⟩ => ⟨S1x8x2048, .f32⟩
  | .hbm, ⟨44, _⟩ => ⟨S1x8x2048, .f32⟩
  | .hbm, ⟨45, _⟩ => ⟨S1x8x2048x1, .f32⟩
  | .hbm, ⟨46, _⟩ => ⟨S1x8x2048x2304, .f32⟩
  | .hbm, ⟨47, _⟩ => ⟨S1x8x2048x2304, .f32⟩
  | .hbm, ⟨48, _⟩ => ⟨S1x8x2048x2304, .f32⟩
  | .hbm, ⟨49, _⟩ => ⟨S_, .f32⟩
  | .hbm, ⟨50, _⟩ => ⟨S1x8x2048, .f32⟩
  | .hbm, ⟨51, _⟩ => ⟨S1x8x2048x1, .f32⟩
  | .hbm, ⟨52, _⟩ => ⟨S1x8x2048x2304, .f32⟩
  | .hbm, ⟨53, _⟩ => ⟨S1x8x2048x2304, .f32⟩
  | .hbm, ⟨54, _⟩ => ⟨S1x8x2048x1, .f32⟩
  | .hbm, ⟨55, _⟩ => ⟨S_, .f32⟩
  | .hbm, ⟨56, _⟩ => ⟨S1x8x2048x1, .f32⟩
  | .hbm, ⟨57, _⟩ => ⟨S1x8x2048x1, .f32⟩
  | .hbm, ⟨58, _⟩ => ⟨S1x8x128x2048, .f32⟩
  | .hbm, ⟨59, _⟩ => ⟨S1x2048x8x128, .f32⟩
  | .hbm, ⟨60, _⟩ => ⟨S2048x1024, .f32⟩
  | .hbm, ⟨61, _⟩ => ⟨S1x2048x8x128, .f32⟩
  | .hbm, ⟨62, _⟩ => ⟨S1x8x128x2048, .f32⟩
  | .hbm, ⟨63, _⟩ => ⟨S1x8x2048x2304, .f32⟩
  | .hbm, ⟨64, _⟩ => ⟨S1x8x128x2304, .f32⟩
  | .hbm, ⟨65, _⟩ => ⟨S1x2304x8x128, .f32⟩
  | .hbm, ⟨66, _⟩ => ⟨S1x8x2048x2304, .f32⟩
  | .hbm, ⟨67, _⟩ => ⟨S1x8x2048x2304, .f32⟩
  | .hbm, ⟨68, _⟩ => ⟨S1x8x2048x2304, .f32⟩
  | .hbm, ⟨69, _⟩ => ⟨S_, .f32⟩
  | .hbm, ⟨70, _⟩ => ⟨S1x8x2048, .f32⟩
  | .hbm, ⟨71, _⟩ => ⟨S1x8x2048x1, .f32⟩
  | .hbm, ⟨72, _⟩ => ⟨S1x8x2048x1, .f32⟩
  | .hbm, ⟨73, _⟩ => ⟨S1x8x2048x2304, .f32⟩
  | .hbm, ⟨74, _⟩ => ⟨S1x8x2048x2304, .f32⟩
  | .hbm, ⟨75, _⟩ => ⟨S_, .f32⟩
  | .hbm, ⟨76, _⟩ => ⟨S8x2048, .f32⟩
  | .hbm, ⟨77, _⟩ => ⟨S1x8x2048, .f32⟩
  | .hbm, ⟨78, _⟩ => ⟨S1x8x2048x2304, .f32⟩
  | .hbm, ⟨79, _⟩ => ⟨S1x8x2048x2304, .f32⟩
  | .hbm, ⟨80, _⟩ => ⟨S1x8x2048x2304, .f32⟩
  | .hbm, ⟨81, _⟩ => ⟨S1x8x2048x2304, .f32⟩
  | .hbm, ⟨82, _⟩ => ⟨S1x8x2048x2304, .f32⟩
  | .hbm, ⟨83, _⟩ => ⟨S1x8x2304x192, .f32⟩
  | .hbm, ⟨84, _⟩ => ⟨S1x2304x8x192, .f32⟩
  | .hbm, ⟨85, _⟩ => ⟨S1x8x2048x192, .f32⟩
  | .hbm, ⟨86, _⟩ => ⟨S1x2048x8x192, .f32⟩
  | .hbm, ⟨87, _⟩ => ⟨S1x2304x8x128, .f32⟩
  | .hbm, ⟨88, _⟩ => ⟨S1x2304x8x64, .f32⟩
  | .hbm, ⟨89, _⟩ => ⟨S_, .f32⟩
  | .hbm, ⟨90, _⟩ => ⟨S2304x64, .f32⟩
  | .hbm, ⟨91, _⟩ => ⟨S1x2304x1x64, .f32⟩
  | .hbm, ⟨92, _⟩ => ⟨S_, .f32⟩
  | .hbm, ⟨93, _⟩ => ⟨S2304x64, .f32⟩
  | .hbm, ⟨94, _⟩ => ⟨S_, .f32⟩
  | .hbm, ⟨95, _⟩ => ⟨S1x2304x8x256, .f32⟩
  | .hbm, ⟨96, _⟩ => ⟨S_, .f32⟩
  | .hbm, ⟨97, _⟩ => ⟨S1x2304x8x256, .f32⟩
  | .hbm, ⟨98, _⟩ => ⟨S1x2304x8x256, .f32⟩
  | .hbm, ⟨99, _⟩ => ⟨S2304x2048, .f32⟩
  | .hbm, ⟨100, _⟩ => ⟨S2048x1536, .f32⟩
  | .hbm, ⟨101, _⟩ => ⟨S2048x8x192, .f32⟩
  | .hbm, ⟨102, _⟩ => ⟨S_, .f32⟩
  | .hbm, ⟨103, _⟩ => ⟨S2048x8x64, .f32⟩
  | .hbm, ⟨104, _⟩ => ⟨S2048x8x256, .f32⟩
  | .hbm, ⟨105, _⟩ => ⟨S_, .f32⟩
  | .hbm, ⟨106, _⟩ => ⟨S2304x64, .f32⟩
  | .hbm, ⟨107, _⟩ => ⟨S2304x128, .f32⟩
  | .hbm, ⟨108, _⟩ => ⟨S2048x2048, .f32⟩
  | .hbm, ⟨109, _⟩ => ⟨S2304x2048, .bf16⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_12 : Ref sig .tc := ⟨.hbm, 89, rfl⟩
abbrev main_v72 : Ref sig .tc := ⟨.hbm, 90, rfl⟩
abbrev main_v73 : Ref sig .tc := ⟨.hbm, 91, rfl⟩
abbrev main_cst_13 : Ref sig .tc := ⟨.hbm, 92, rfl⟩
abbrev main_v74 : Ref sig .tc := ⟨.hbm, 93, rfl⟩
abbrev main_cst_14 : Ref sig .tc := ⟨.hbm, 94, rfl⟩
abbrev main_v75 : Ref sig .tc := ⟨.hbm, 95, rfl⟩
abbrev main_cst_15 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_16 : Ref sig .tc := ⟨.hbm, 102, rfl⟩
abbrev main_v81 : Ref sig .tc := ⟨.hbm, 103, rfl⟩
abbrev main_v82 : Ref sig .tc := ⟨.hbm, 104, rfl⟩
abbrev main_cst_17 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩

abbrev nD : Nat := 1
abbrev τ : Topo := Topo.v7x

variable {F : FTy → Type} [FloatOps F]
-- ==== Kernel2.lean ====
abbrev S2048x2048 : Shape := ⟨2, ![2048, 2048]⟩
abbrev S5632x2048 : Shape := ⟨2, ![5632, 2048]⟩
abbrev S2x2048x5632 : Shape := ⟨3, ![2, 2048, 5632]⟩
abbrev S1024x2048 : Shape := ⟨2, ![1024, 2048]⟩
abbrev S512x2048 : Shape := ⟨2, ![512, 2048]⟩
abbrev S2x1024x512 : Shape := ⟨3, ![2, 1024, 512]⟩
abbrev S1024x512 : Shape := ⟨2, ![1024, 512]⟩
abbrev S1x1024x512 : Shape := ⟨3, ![1, 1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2x2048x5632, .bf16⟩
  | .hbm, ⟨3, _⟩ => ⟨S2x2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S2x1024x512, .bf16⟩
  | .local _ .vmem, ⟨5, _⟩ => ⟨S2x1024x512, .bf16⟩
  | .local _ .vmem, ⟨6, _⟩ => ⟨S2x1024x512, .bf16⟩
  | .local _ .vmem, ⟨7, _⟩ => ⟨S2x1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2048x2048 : Shape := ⟨2, ![2048, 2048]⟩
abbrev S5632x2048 : Shape := ⟨2, ![5632, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2x2048x5632, .bf16⟩
  | .hbm, ⟨3, _⟩ => ⟨S2048x2048, .f32⟩
  | .hbm, ⟨4, _⟩ => ⟨S5632x2048, .f32⟩
  | .hbm, ⟨5, _⟩ => ⟨S2x2048x5632, .f32⟩
  | .hbm, ⟨6, _⟩ => ⟨S1x2048x5632, .f32⟩
  | .hbm, ⟨7, _⟩ => ⟨S2048x5632, .f32⟩
  | .hbm, ⟨8, _⟩ => ⟨S1x2048x5632, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S_, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x2048, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S1x2048x5632, .f32⟩
  | .hbm, ⟨33, _⟩ => ⟨S_, .f32⟩
  | .hbm, ⟨34, _⟩ => ⟨S2x2048x5632, .f32⟩
  | .hbm, ⟨35, _⟩ => ⟨S1x2048x5632, .f32⟩
  | .hbm, ⟨36, _⟩ => ⟨S_, .f32⟩
  | .hbm, ⟨37, _⟩ => ⟨S2x2048x5632, .f32⟩
  | .hbm, ⟨38, _⟩ => ⟨S2x2048x5632, .f32⟩
  | .hbm, ⟨39, _⟩ => ⟨S2x2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== Kernel3.lean ====
abbrev S2x2048x5632 : Shape := ⟨3, ![2, 2048, 5632]⟩
abbrev S4x2048x2816 : Shape := ⟨3, ![4, 2048, 2816]⟩
abbrev S2048x2048 : Shape := ⟨2, ![2048, 2048]⟩
abbrev S1x1024x2816 : Shape := ⟨3, ![1, 1024, 2816]⟩
abbrev S1024x1024 : Shape := ⟨2, ![1024, 1024]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S4x2048x2816, .bf16⟩
  | .hbm, ⟨2, _⟩ => ⟨S2048x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x2048x5632 : Shape := ⟨3, ![2, 2048, 5632]⟩
abbrev S4x2048x2816 : Shape := ⟨3, ![4, 2048, 2816]⟩
abbrev S1x2048x5632 : Shape := ⟨3, ![1, 2048, 5632]⟩
abbrev S2048x5632 : Shape := ⟨2, ![2048, 5632]⟩
abbrev S2048x11264 : Shape := ⟨2, ![2048, 11264]⟩
abbrev S_ : Shape := ⟨0, ![]⟩
abbrev S2048x2048 : Shape := ⟨2, ![2048, 2048]⟩
abbrev S2048x4x2816 : Shape := ⟨3, ![2048, 4, 2816]⟩

abbrev nBuf : Space → Nat
  | .hbm => 15
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S4x2048x2816, .bf16⟩
  | .hbm, ⟨2, _⟩ => ⟨S2x2048x5632, .f32⟩
  | .hbm, ⟨3, _⟩ => ⟨S4x2048x2816, .f32⟩
  | .hbm, ⟨4, _⟩ => ⟨S1x2048x5632, .f32⟩
  | .hbm, ⟨5, _⟩ => ⟨S2048x5632, .f32⟩
  | .hbm, ⟨6, _⟩ => ⟨S1x2048x5632, .f32⟩
  | .hbm, ⟨7, _⟩ => ⟨S2048x5632, .f32⟩
  | .hbm, ⟨8, _⟩ => ⟨S2048x11264, .f32⟩
  | .hbm, ⟨9, _⟩ => ⟨S_, .f32⟩
  | .hbm, ⟨10, _⟩ => ⟨S2048x2048, .f32⟩
  | .hbm, ⟨11, _⟩ => ⟨S2048x4x2816, .f32⟩
  | .hbm, ⟨12, _⟩ => ⟨S2048x11264, .f32⟩
  | .hbm, ⟨13, _⟩ => ⟨S2048x11264, .f32⟩
  | .hbm, ⟨14, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel4.lean ====
abbrev S2048x2048 : Shape := ⟨2, ![2048, 2048]⟩
abbrev S2x2048x5632 : Shape := ⟨3, ![2, 2048, 5632]⟩
abbrev S4x2048x2816 : Shape := ⟨3, ![4, 2048, 2816]⟩
abbrev S1x2048x256 : Shape := ⟨3, ![1, 2048, 256]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S4x2048x2816, .bf16⟩
  | .local _ .vmem, ⟨0, _⟩ => ⟨S2048x2048, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 44, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.divsi arg1 c22_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c22_i32 c0_i32_1
  let v7 : BitVec 32 := Scalar.extui v6
  let c0_i32_2 : BitVec 32 := 0#32
  let v8 : BitVec 1 := Scalar.cmpi .slt c22_i32 c0_i32_2
  let v9 : BitVec 32 := Scalar.extui v8
  let v10 : BitVec 32 := Scalar.subi v7 v9
  let v11 : BitVec 1 := Scalar.cmpi .ne v5 v10
  let v12 : BitVec 32 := Scalar.remsi arg1 c22_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c22_i32_4 : BitVec 32 := 22#32
  let c0_i32_5 : BitVec 32 := 0#32
  let v17 : BitVec 1 := Scalar.cmpi .eq c22_i32_4 c0_i32_5
  let c1_i32_6 : BitVec 32 := 1#32
  let v18 : BitVec 32 := Scalar.select v17 c1_i32_6 c22_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S2048x11264 : Shape := ⟨2, ![2048, 11264]⟩
abbrev S_ : Shape := ⟨0, ![]⟩
abbrev S4x2048x2816 : Shape := ⟨3, ![4, 2048, 2816]⟩
abbrev S2048x4x2816 : Shape := ⟨3, ![2048, 4, 2816]⟩
abbrev S11264x2048 : Shape := ⟨2, ![11264, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S2048x2048, .f32⟩
  | .hbm, ⟨3, _⟩ => ⟨S2x2048x5632, .f32⟩
  | .hbm, ⟨4, _⟩ => ⟨S1x2048x5632, .f32⟩
  | .hbm, ⟨5, _⟩ => ⟨S2048x5632, .f32⟩
  | .hbm, ⟨6, _⟩ => ⟨S1x2048x5632, .f32⟩
  | .hbm, ⟨7, _⟩ => ⟨S2048x5632, .f32⟩
  | .hbm, ⟨8, _⟩ => ⟨S2048x11264, .f32⟩
  | .hbm, ⟨9, _⟩ => ⟨S_, .f32⟩
  | .hbm, ⟨10, _⟩ => ⟨S4x2048x2816, .f32⟩
  | .hbm, ⟨11, _⟩ => ⟨S2048x4x2816, .f32⟩
  | .hbm, ⟨12, _⟩ => ⟨S2048x11264, .f32⟩
  | .hbm, ⟨13, _⟩ => ⟨S2048x11264, .f32⟩
  | .hbm, ⟨14, _⟩ => ⟨S11264x2048, .f32⟩
  | .hbm, ⟨15, _⟩ => ⟨S2048x11264, .f32⟩
  | .hbm, ⟨16, _⟩ => ⟨S2048x4x2816, .f32⟩
  | .hbm, ⟨17, _⟩ => ⟨S4x2048x2816, .f32⟩
  | .hbm, ⟨18, _⟩ => ⟨S4x2048x2816, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel5.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2048x5632, .f32⟩
  | .hbm, ⟨3, _⟩ => ⟨S2048x2048, .f32⟩
  | .hbm, ⟨4, _⟩ => ⟨S_, .f32⟩
  | .hbm, ⟨5, _⟩ => ⟨S5632x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x4096 : Shape := ⟨2, ![2048, 4096]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x4096 : Shape := ⟨2, ![2048, 4096]⟩
abbrev S_ : Shape := ⟨0, ![]⟩
abbrev S2048x2048 : Shape := ⟨2, ![2048, 2048]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .bf16⟩
  | .hbm, ⟨2, _⟩ => ⟨S_, .f32⟩
  | .hbm, ⟨3, _⟩ => ⟨S2048x2048, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S4096x2048, .f32⟩
  | .hbm, ⟨8, _⟩ => ⟨S2048x4096, .f32⟩
  | .hbm, ⟨9, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x2048 : Shape := ⟨2, ![2048, 2048]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2048 : Shape := ⟨2, ![2048, 2048]⟩
abbrev S2048x4096 : Shape := ⟨2, ![2048, 4096]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S_, .f32⟩
  | .hbm, ⟨3, _⟩ => ⟨S2048x4096, .f32⟩
  | .hbm, ⟨4, _⟩ => ⟨S2048x2048, .f32⟩
  | .hbm, ⟨5, _⟩ => ⟨S2048x4096, .f32⟩
  | .hbm, ⟨6, _⟩ => ⟨S2048x4096, .f32⟩
  | .hbm, ⟨7, _⟩ => ⟨S4096x2048, .f32⟩
  | .hbm, ⟨8, _⟩ => ⟨S2048x4096, .f32⟩
  | .hbm, ⟨9, _⟩ => ⟨S2048x2048, .f32⟩
  | .hbm, ⟨10, _⟩ => ⟨S2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S2304x2048 : Shape := ⟨2, ![2304, 2048]⟩
abbrev S2048x2048 : Shape := ⟨2, ![2048, 2048]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .local _ .vmem, ⟨0, _⟩ => ⟨S768x2048, .bf16⟩
  | .local _ .vmem, ⟨1, _⟩ => ⟨S768x2048, .bf16⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2304x2048 : Shape := ⟨2, ![2304, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S_, .f32⟩
  | .hbm, ⟨3, _⟩ => ⟨S2304x2048, .f32⟩
  | .hbm, ⟨4, _⟩ => ⟨S2048x2048, .f32⟩
  | .hbm, ⟨5, _⟩ => ⟨S2304x2048, .f32⟩
  | .hbm, ⟨6, _⟩ => ⟨S2304x2048, .f32⟩
  | .hbm, ⟨7, _⟩ => ⟨S2048x2048, .f32⟩
  | .hbm, ⟨8, _⟩ => ⟨S2048x2048, .f32⟩
  | .hbm, ⟨9, _⟩ => ⟨S2304x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S2304x2048 : Shape := ⟨2, ![2304, 2048]⟩
abbrev S2048x2048 : Shape := ⟨2, ![2048, 2048]⟩
abbrev S2304x1024 : Shape := ⟨2, ![2304, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2304x2048, .bf16⟩
  | .hbm, ⟨2, _⟩ => ⟨S2048x2048, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .bf16⟩
  | .local _ .vmem, ⟨5, _⟩ => ⟨S1024x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2304x2048 : Shape := ⟨2, ![2304, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x2048, .bf16⟩
  | .hbm, ⟨2, _⟩ => ⟨S_, .f32⟩
  | .hbm, ⟨3, _⟩ => ⟨S2048x2048, .f32⟩
  | .hbm, ⟨4, _⟩ => ⟨S2304x2048, .f32⟩
  | .hbm, ⟨5, _⟩ => ⟨S2304x2048, .f32⟩
  | .hbm, ⟨6, _⟩ => ⟨S2304x2048, .f32⟩
  | .hbm, ⟨7, _⟩ => ⟨S2048x2048, .f32⟩
  | .hbm, ⟨8, _⟩ => ⟨S2048x2048, .f32⟩
  | .hbm, ⟨9, _⟩ => ⟨S2304x2048, .f32⟩
  | .hbm, ⟨10, _⟩ => ⟨S2048x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S2048x4096 : Shape := ⟨2, ![2048, 4096]⟩
abbrev S4x1024x1024 : Shape := ⟨3, ![4, 1024, 1024]⟩
abbrev S2048x1024 : Shape := ⟨2, ![2048, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S4x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x4096 : Shape := ⟨2, ![2048, 4096]⟩
abbrev S4x1024x1024 : Shape := ⟨3, ![4, 1024, 1024]⟩
abbrev S_ : Shape := ⟨0, ![]⟩
abbrev S2048x1024 : Shape := ⟨2, ![2048, 1024]⟩
abbrev S1024x4x1024 : Shape := ⟨3, ![1024, 4, 1024]⟩
abbrev S1024x4096 : Shape := ⟨2, ![1024, 4096]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4x1024x1024, .bf16⟩
  | .hbm, ⟨2, _⟩ => ⟨S_, .f32⟩
  | .hbm, ⟨3, _⟩ => ⟨S2048x1024, .f32⟩
  | .hbm, ⟨4, _⟩ => ⟨S4x1024x1024, .f32⟩
  | .hbm, ⟨5, _⟩ => ⟨S1024x4x1024, .f32⟩
  | .hbm, ⟨6, _⟩ => ⟨S1024x4096, .f32⟩
  | .hbm, ⟨7, _⟩ => ⟨S2048x4096, .f32⟩
  | .hbm, ⟨8, _⟩ => ⟨S2048x4096, .f32⟩
  | .hbm, ⟨9, _⟩ => ⟨S4096x1024, .f32⟩
  | .hbm, ⟨10, _⟩ => ⟨S1024x4096, .f32⟩
  | .hbm, ⟨11, _⟩ => ⟨S2048x1024, .f32⟩
  | .hbm, ⟨12, _⟩ => ⟨S1024x4x1024, .f32⟩
  | .hbm, ⟨13, _⟩ => ⟨S4x1024x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel13.lean ====
abbrev S2048x1024 : Shape := ⟨2, ![2048, 1024]⟩
abbrev S2048x4096 : Shape := ⟨2, ![2048, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .bf16⟩
  | .local _ .vmem, ⟨4, _⟩ => ⟨S1x1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x1024 : Shape := ⟨2, ![2048, 1024]⟩
abbrev S2048x4096 : Shape := ⟨2, ![2048, 4096]⟩
abbrev S_ : Shape := ⟨0, ![]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x1024 : Shape := ⟨2, ![4096, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S4x1024x1024, .f32⟩
  | .hbm, ⟨4, _⟩ => ⟨S2048x1024, .f32⟩
  | .hbm, ⟨5, _⟩ => ⟨S1024x4x1024, .f32⟩
  | .hbm, ⟨6, _⟩ => ⟨S1024x4096, .f32⟩
  | .hbm, ⟨7, _⟩ => ⟨S2048x4096, .f32⟩
  | .hbm, ⟨8, _⟩ => ⟨S2048x4096, .f32⟩
  | .hbm, ⟨9, _⟩ => ⟨S4096x1024, .f32⟩
  | .hbm, ⟨10, _⟩ => ⟨S1024x4096, .f32⟩
  | .hbm, ⟨11, _⟩ => ⟨S2048x1024, .f32⟩
  | .hbm, ⟨12, _⟩ => ⟨S1024x4x1024, .f32⟩
  | .hbm, ⟨13, _⟩ => ⟨S4x1024x1024, .f32⟩
  | .hbm, ⟨14, _⟩ => ⟨S4x1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel14.lean ====
abbrev S2048x2048 : Shape := ⟨2, ![2048, 2048]⟩
abbrev S4x1024x512 : Shape := ⟨3, ![4, 1024, 512]⟩
abbrev S2048x1024 : Shape := ⟨2, ![2048, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x2048 : Shape := ⟨2, ![2048, 2048]⟩
abbrev S4x1024x512 : Shape := ⟨3, ![4, 1024, 512]⟩
abbrev S_ : Shape := ⟨0, ![]⟩
abbrev S2048x1024 : Shape := ⟨2, ![2048, 1024]⟩
abbrev S1024x4x512 : Shape := ⟨3, ![1024, 4, 512]⟩
abbrev S1024x2048 : Shape := ⟨2, ![1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S_, .f32⟩
  | .hbm, ⟨3, _⟩ => ⟨S2048x1024, .f32⟩
  | .hbm, ⟨4, _⟩ => ⟨S4x1024x512, .f32⟩
  | .hbm, ⟨5, _⟩ => ⟨S1024x4x512, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x1024, .f32⟩
  | .hbm, ⟨10, _⟩ => ⟨S1024x2048, .f32⟩
  | .hbm, ⟨11, _⟩ => ⟨S2048x1024, .f32⟩
  | .hbm, ⟨12, _⟩ => ⟨S1024x4x512, .f32⟩
  | .hbm, ⟨13, _⟩ => ⟨S4x1024x512, .f32⟩
  | .hbm, ⟨14, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel15.lean ====
abbrev S2048x1024 : Shape := ⟨2, ![2048, 1024]⟩
abbrev S2048x2048 : Shape := ⟨2, ![2048, 2048]⟩
abbrev S4x1024x512 : Shape := ⟨3, ![4, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S4x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x1024 : Shape := ⟨2, ![2048, 1024]⟩
abbrev S2048x2048 : Shape := ⟨2, ![2048, 2048]⟩
abbrev S_ : Shape := ⟨0, ![]⟩
abbrev S4x1024x512 : Shape := ⟨3, ![4, 1024, 512]⟩
abbrev S1024x4x512 : Shape := ⟨3, ![1024, 4, 512]⟩
abbrev S1024x2048 : Shape := ⟨2, ![1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S4x1024x512, .f32⟩
  | .hbm, ⟨4, _⟩ => ⟨S2048x1024, .f32⟩
  | .hbm, ⟨5, _⟩ => ⟨S1024x4x512, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x1024, .f32⟩
  | .hbm, ⟨10, _⟩ => ⟨S1024x2048, .f32⟩
  | .hbm, ⟨11, _⟩ => ⟨S2048x1024, .f32⟩
  | .hbm, ⟨12, _⟩ => ⟨S1024x4x512, .f32⟩
  | .hbm, ⟨13, _⟩ => ⟨S4x1024x512, .f32⟩
  | .hbm, ⟨14, _⟩ => ⟨S4x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel16.lean ====
abbrev S2048x2048 : Shape := ⟨2, ![2048, 2048]⟩
abbrev S512x2048 : Shape := ⟨2, ![512, 2048]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S512x2048, .bf16⟩
  | .hbm, ⟨2, _⟩ => ⟨S2048x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x2048 : Shape := ⟨2, ![2048, 2048]⟩
abbrev S512x2048 : Shape := ⟨2, ![512, 2048]⟩
abbrev S_ : Shape := ⟨0, ![]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S512x2048, .bf16⟩
  | .hbm, ⟨2, _⟩ => ⟨S_, .f32⟩
  | .hbm, ⟨3, _⟩ => ⟨S2048x512, .f32⟩
  | .hbm, ⟨4, _⟩ => ⟨S512x2048, .f32⟩
  | .hbm, ⟨5, _⟩ => ⟨S2048x2048, .f32⟩
  | .hbm, ⟨6, _⟩ => ⟨S2048x2048, .f32⟩
  | .hbm, ⟨7, _⟩ => ⟨S2048x512, .f32⟩
  | .hbm, ⟨8, _⟩ => ⟨S512x2048, .f32⟩
  | .hbm, ⟨9, _⟩ => ⟨S2048x512, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S2048x512 : Shape := ⟨2, ![2048, 512]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S512x2048, .bf16⟩
  | .local _ .vmem, ⟨0, _⟩ => ⟨S2048x512, .bf16⟩
  | .local _ .vmem, ⟨1, _⟩ => ⟨S2048x1024, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x512 : Shape := ⟨2, ![2048, 512]⟩
abbrev S2048x2048 : Shape := ⟨2, ![2048, 2048]⟩
abbrev S_ : Shape := ⟨0, ![]⟩
abbrev S512x2048 : Shape := ⟨2, ![512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S_, .f32⟩
  | .hbm, ⟨3, _⟩ => ⟨S512x2048, .f32⟩
  | .hbm, ⟨4, _⟩ => ⟨S2048x512, .f32⟩
  | .hbm, ⟨5, _⟩ => ⟨S2048x2048, .f32⟩
  | .hbm, ⟨6, _⟩ => ⟨S2048x2048, .f32⟩
  | .hbm, ⟨7, _⟩ => ⟨S2048x512, .f32⟩
  | .hbm, ⟨8, _⟩ => ⟨S512x2048, .f32⟩
  | .hbm, ⟨9, _⟩ => ⟨S2048x512, .f32⟩
  | .hbm, ⟨10, _⟩ => ⟨S512x2048, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel18.lean ====
abbrev S2304x2048 : Shape := ⟨2, ![2304, 2048]⟩
abbrev S4x256x512 : Shape := ⟨3, ![4, 256, 512]⟩
abbrev S2304x256 : Shape := ⟨2, ![2304, 256]⟩
abbrev S1152x512 : Shape := ⟨2, ![1152, 512]⟩
abbrev S1x256x512 : Shape := ⟨3, ![1, 256, 512]⟩
abbrev S1152x256 : Shape := ⟨2, ![1152, 256]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S4x256x512, .bf16⟩
  | .hbm, ⟨2, _⟩ => ⟨S2304x256, .f32⟩
  | .local _ .vmem, ⟨0, _⟩ => ⟨S1152x512, .bf16⟩
  | .local _ .vmem, ⟨1, _⟩ => ⟨S1152x512, .bf16⟩
  | .local _ .vmem, ⟨2, _⟩ => ⟨S1x256x512, .bf16⟩
  | .local _ .vmem, ⟨3, _⟩ => ⟨S1x256x512, .bf16⟩
  | .local _ .vmem, ⟨4, _⟩ => ⟨S1152x256, .f32⟩
  | .local _ .vmem, ⟨5, _⟩ => ⟨S1152x256, .f32⟩
  | .local _ .vmem, ⟨6, _⟩ => ⟨S1152x256, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2304x2048 : Shape := ⟨2, ![2304, 2048]⟩
abbrev S4x256x512 : Shape := ⟨3, ![4, 256, 512]⟩
abbrev S_ : Shape := ⟨0, ![]⟩
abbrev S2304x256 : Shape := ⟨2, ![2304, 256]⟩
abbrev S256x4x512 : Shape := ⟨3, ![256, 4, 512]⟩
abbrev S256x2048 : Shape := ⟨2, ![256, 2048]⟩
abbrev S2048x256 : Shape := ⟨2, ![2048, 256]⟩

abbrev nBuf : Space → Nat
  | .hbm => 14
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x256x512, .bf16⟩
  | .hbm, ⟨2, _⟩ => ⟨S_, .f32⟩
  | .hbm, ⟨3, _⟩ => ⟨S2304x256, .f32⟩
  | .hbm, ⟨4, _⟩ => ⟨S4x256x512, .f32⟩
  | .hbm, ⟨5, _⟩ => ⟨S256x4x512, .f32⟩
  | .hbm, ⟨6, _⟩ => ⟨S256x2048, .f32⟩
  | .hbm, ⟨7, _⟩ => ⟨S2304x2048, .f32⟩
  | .hbm, ⟨8, _⟩ => ⟨S2304x2048, .f32⟩
  | .hbm, ⟨9, _⟩ => ⟨S2048x256, .f32⟩
  | .hbm, ⟨10, _⟩ => ⟨S256x2048, .f32⟩
  | .hbm, ⟨11, _⟩ => ⟨S2304x256, .f32⟩
  | .hbm, ⟨12, _⟩ => ⟨S256x4x512, .f32⟩
  | .hbm, ⟨13, _⟩ => ⟨S4x256x512, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel19.lean ====
abbrev S2304x256 : Shape := ⟨2, ![2304, 256]⟩
abbrev S2304x2048 : Shape := ⟨2, ![2304, 2048]⟩
abbrev S4x256x512 : Shape := ⟨3, ![4, 256, 512]⟩
abbrev S2304x512 : Shape := ⟨2, ![2304, 512]⟩
abbrev S1x256x512 : Shape := ⟨3, ![1, 256, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S2304x256, .bf16⟩
  | .hbm, ⟨1, _⟩ => ⟨S2304x2048, .bf16⟩
  | .hbm, ⟨2, _⟩ => ⟨S4x256x512, .bf16⟩
  | .local _ .vmem, ⟨0, _⟩ => ⟨S2304x256, .bf16⟩
  | .local _ .vmem, ⟨1, _⟩ => ⟨S2304x512, .bf16⟩
  | .local _ .vmem, ⟨2, _⟩ => ⟨S2304x512, .bf16⟩
  | .local _ .vmem, ⟨3, _⟩ => ⟨S1x256x512, .bf16⟩
  | .local _ .vmem, ⟨4, _⟩ => ⟨S1x256x512, .bf16⟩
  | _, _ => ⟨S2304x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2304x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2304x256 : Shape := ⟨2, ![2304, 256]⟩
abbrev S2304x2048 : Shape := ⟨2, ![2304, 2048]⟩
abbrev S_ : Shape := ⟨0, ![]⟩
abbrev S4x256x512 : Shape := ⟨3, ![4, 256, 512]⟩
abbrev S256x4x512 : Shape := ⟨3, ![256, 4, 512]⟩
abbrev S256x2048 : Shape := ⟨2, ![256, 2048]⟩
abbrev S2048x256 : Shape := ⟨2, ![2048, 256]⟩

abbrev nBuf : Space → Nat
  | .hbm => 15
  | .vmem => 0
  | .smem => 0
  | _ => 0

abbrev bufTy : (tb : Table) → Fin (tcTables nBuf tb) → BufTy
  | .hbm, ⟨0, _⟩ => ⟨S2304x256, .bf16⟩
  | .hbm, ⟨1, _⟩ => ⟨S2304x2048, .bf16⟩
  | .hbm, ⟨2, _⟩ => ⟨S_, .f32⟩
  | .hbm, ⟨3, _⟩ => ⟨S4x256x512, .f32⟩
  | .hbm, ⟨4, _⟩ => ⟨S2304x256, .f32⟩
  | .hbm, ⟨5, _⟩ => ⟨S256x4x512, .f32⟩
  | .hbm, ⟨6, _⟩ => ⟨S256x2048, .f32⟩
  | .hbm, ⟨7, _⟩ => ⟨S2304x2048, .f32⟩
  | .hbm, ⟨8, _⟩ => ⟨S2304x2048, .f32⟩
  | .hbm, ⟨9, _⟩ => ⟨S2048x256, .f32⟩
  | .hbm, ⟨10, _⟩ => ⟨S256x2048, .f32⟩
  | .hbm, ⟨11, _⟩ => ⟨S2304x256, .f32⟩
  | .hbm, ⟨12, _⟩ => ⟨S256x4x512, .f32⟩
  | .hbm, ⟨13, _⟩ => ⟨S4x256x512, .f32⟩
  | .hbm, ⟨14, _⟩ => ⟨S4x256x512, .bf16⟩
  | _, _ => ⟨S2304x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel20.lean ====
abbrev S2048x2048 : Shape := ⟨2, ![2048, 2048]⟩
abbrev S4x2048x2816 : Shape := ⟨3, ![4, 2048, 2816]⟩
abbrev S2048x5632 : Shape := ⟨2, ![2048, 5632]⟩
abbrev S2x2048x5632 : Shape := ⟨3, ![2, 2048, 5632]⟩
abbrev S1x2048x256 : Shape := ⟨3, ![1, 2048, 256]⟩
abbrev S2048x256 : Shape := ⟨2, ![2048, 256]⟩
abbrev S2x2048x256 : Shape := ⟨3, ![2, 2048, 256]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x5632, .bf16⟩
  | .hbm, ⟨3, _⟩ => ⟨S2x2048x5632, .bf16⟩
  | .local _ .vmem, ⟨0, _⟩ => ⟨S2048x2048, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S2048x256, .bf16⟩
  | .local _ .vmem, ⟨6, _⟩ => ⟨S2048x256, .bf16⟩
  | .local _ .vmem, ⟨7, _⟩ => ⟨S2x2048x256, .bf16⟩
  | .local _ .vmem, ⟨8, _⟩ => ⟨S2x2048x256, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.addi c2_i32 v16
  let c11_i32_4 : BitVec 32 := 11#32
  let c0_i32_5 : BitVec 32 := 0#32
  let v18 : BitVec 1 := Scalar.cmpi .eq c11_i32_4 c0_i32_5
  let c1_i32_6 : BitVec 32 := 1#32
  let v19 : BitVec 32 := Scalar.select v18 c1_i32_6 c11_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference20Ideal.lean ====
abbrev S2048x2048 : Shape := ⟨2, ![2048, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S2048x5632 : Shape := ⟨2, ![2048, 5632]⟩
abbrev S_ : Shape := ⟨0, ![]⟩
abbrev S1x2048x5632 : Shape := ⟨3, ![1, 2048, 5632]⟩
abbrev S2x2048x5632 : Shape := ⟨3, ![2, 2048, 5632]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x2048, .f32⟩
  | .hbm, ⟨3, _⟩ => ⟨S4x2048x2816, .f32⟩
  | .hbm, ⟨4, _⟩ => ⟨S2048x4x2816, .f32⟩
  | .hbm, ⟨5, _⟩ => ⟨S2048x11264, .f32⟩
  | .hbm, ⟨6, _⟩ => ⟨S2048x11264, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .bf16⟩
  | .hbm, ⟨20, _⟩ => ⟨S1x2048x5632, .f32⟩
  | .hbm, ⟨21, _⟩ => ⟨S1x2048x5632, .f32⟩
  | .hbm, ⟨22, _⟩ => ⟨S2x2048x5632, .f32⟩
  | .hbm, ⟨23, _⟩ => ⟨S2x2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel21.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S2048x2048 : Shape := ⟨2, ![2048, 2048]⟩
abbrev S2048x4096 : Shape := ⟨2, ![2048, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S2048x2048 : Shape := ⟨2, ![2048, 2048]⟩
abbrev S2048x4096 : Shape := ⟨2, ![2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x2048, .f32⟩
  | .hbm, ⟨3, _⟩ => ⟨S2048x4096, .f32⟩
  | .hbm, ⟨4, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S2304x2048 : Shape := ⟨2, ![2304, 2048]⟩
abbrev S2048x2048 : Shape := ⟨2, ![2048, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S2304x2048 : Shape := ⟨2, ![2304, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .hbm, ⟨3, _⟩ => ⟨S2048x2048, .f32⟩
  | .hbm, ⟨4, _⟩ => ⟨S2304x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel24.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel25.lean ====
abbrev S2048x1024 : Shape := ⟨2, ![2048, 1024]⟩
abbrev S4x1024x1024 : Shape := ⟨3, ![4, 1024, 1024]⟩
abbrev S2048x4096 : Shape := ⟨2, ![2048, 4096]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4x1024x1024, .bf16⟩
  | .hbm, ⟨2, _⟩ => ⟨S2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S2048x1024 : Shape := ⟨2, ![2048, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1024, .bf16⟩
  | .hbm, ⟨2, _⟩ => ⟨S2048x1024, .f32⟩
  | .hbm, ⟨3, _⟩ => ⟨S4x1024x1024, .f32⟩
  | .hbm, ⟨4, _⟩ => ⟨S1024x4x1024, .f32⟩
  | .hbm, ⟨5, _⟩ => ⟨S1024x4096, .f32⟩
  | .hbm, ⟨6, _⟩ => ⟨S2048x4096, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel26.lean ====
abbrev S2048x1024 : Shape := ⟨2, ![2048, 1024]⟩
abbrev S4x1024x512 : Shape := ⟨3, ![4, 1024, 512]⟩
abbrev S2048x2048 : Shape := ⟨2, ![2048, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4x1024x512, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S2048x1024 : Shape := ⟨2, ![2048, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x512, .bf16⟩
  | .hbm, ⟨2, _⟩ => ⟨S2048x1024, .f32⟩
  | .hbm, ⟨3, _⟩ => ⟨S4x1024x512, .f32⟩
  | .hbm, ⟨4, _⟩ => ⟨S1024x4x512, .f32⟩
  | .hbm, ⟨5, _⟩ => ⟨S1024x2048, .f32⟩
  | .hbm, ⟨6, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel27.lean ====
abbrev S2048x512 : Shape := ⟨2, ![2048, 512]⟩
abbrev S512x2048 : Shape := ⟨2, ![512, 2048]⟩
abbrev S2048x2048 : Shape := ⟨2, ![2048, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S2048x512 : Shape := ⟨2, ![2048, 512]⟩
abbrev S512x2048 : Shape := ⟨2, ![512, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x512, .f32⟩
  | .hbm, ⟨3, _⟩ => ⟨S512x2048, .f32⟩
  | .hbm, ⟨4, _⟩ => ⟨S2048x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel28.lean ====
abbrev S2304x256 : Shape := ⟨2, ![2304, 256]⟩
abbrev S4x256x512 : Shape := ⟨3, ![4, 256, 512]⟩
abbrev S2304x2048 : Shape := ⟨2, ![2304, 2048]⟩
abbrev S768x256 : Shape := ⟨2, ![768, 256]⟩
abbrev S1x256x512 : Shape := ⟨3, ![1, 256, 512]⟩
abbrev S768x512 : Shape := ⟨2, ![768, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S2304x256, .bf16⟩
  | .hbm, ⟨1, _⟩ => ⟨S4x256x512, .bf16⟩
  | .hbm, ⟨2, _⟩ => ⟨S2304x2048, .bf16⟩
  | .local _ .vmem, ⟨0, _⟩ => ⟨S768x256, .bf16⟩
  | .local _ .vmem, ⟨1, _⟩ => ⟨S768x256, .bf16⟩
  | .local _ .vmem, ⟨2, _⟩ => ⟨S1x256x512, .bf16⟩
  | .local _ .vmem, ⟨3, _⟩ => ⟨S1x256x512, .bf16⟩
  | .local _ .vmem, ⟨4, _⟩ => ⟨S768x512, .bf16⟩
  | .local _ .vmem, ⟨5, _⟩ => ⟨S768x512, .bf16⟩
  | _, _ => ⟨S2304x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S2304x256 : Shape := ⟨2, ![2304, 256]⟩
abbrev S4x256x512 : Shape := ⟨3, ![4, 256, 512]⟩
abbrev S256x4x512 : Shape := ⟨3, ![256, 4, 512]⟩
abbrev S256x2048 : Shape := ⟨2, ![256, 2048]⟩
abbrev S2304x2048 : Shape := ⟨2, ![2304, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2304x256, .bf16⟩
  | .hbm, ⟨1, _⟩ => ⟨S4x256x512, .bf16⟩
  | .hbm, ⟨2, _⟩ => ⟨S2304x256, .f32⟩
  | .hbm, ⟨3, _⟩ => ⟨S4x256x512, .f32⟩
  | .hbm, ⟨4, _⟩ => ⟨S256x4x512, .f32⟩
  | .hbm, ⟨5, _⟩ => ⟨S256x2048, .f32⟩
  | .hbm, ⟨6, _⟩ => ⟨S2304x2048, .f32⟩
  | .hbm, ⟨7, _⟩ => ⟨S2304x2048, .bf16⟩
  | _, _ => ⟨S2304x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel29.lean ====
abbrev S2048x1536 : Shape := ⟨2, ![2048, 1536]⟩
abbrev S2304x2048 : Shape := ⟨2, ![2304, 2048]⟩
abbrev S2304x64 : Shape := ⟨2, ![2304, 64]⟩
abbrev S2048x8x192 : Shape := ⟨3, ![2048, 8, 192]⟩
abbrev S_ : Shape := ⟨0, ![]⟩
abbrev S2048x8x64 : Shape := ⟨3, ![2048, 8, 64]⟩
abbrev S2048x8x256 : Shape := ⟨3, ![2048, 8, 256]⟩
abbrev S2048x2048 : Shape := ⟨2, ![2048, 2048]⟩
abbrev S2304x128 : Shape := ⟨2, ![2304, 128]⟩
abbrev S2048x1024 : Shape := ⟨2, ![2048, 1024]⟩
abbrev S256x256 : Shape := ⟨2, ![256, 256]⟩
abbrev S2304x256 : Shape := ⟨2, ![2304, 256]⟩
abbrev S256x128 : Shape := ⟨2, ![256, 128]⟩
abbrev S256x2304 : Shape := ⟨2, ![256, 2304]⟩
abbrev S256 : Shape := ⟨1, ![256]⟩
abbrev S256x1 : Shape := ⟨2, ![256, 1]⟩

abbrev nBuf : Space → Nat
  | .hbm => 12
  | .vmem => 7
  | .smem => 0
  | _ => 0

abbrev bufTy : (tb : Table) → Fin (tcTables nBuf tb) → BufTy
  | .hbm, ⟨0, _⟩ => ⟨S2048x1536, .bf16⟩
  | .hbm, ⟨1, _⟩ => ⟨S2304x2048, .bf16⟩
  | .hbm, ⟨2, _⟩ => ⟨S2304x64, .bf16⟩
  | .hbm, ⟨3, _⟩ => ⟨S2048x8x192, .bf16⟩
  | .hbm, ⟨4, _⟩ => ⟨S_, .bf16⟩
  | .hbm, ⟨5, _⟩ => ⟨S2048x8x64, .bf16⟩
  | .hbm, ⟨6, _⟩ => ⟨S2048x8x256, .bf16⟩
  | .hbm, ⟨7, _⟩ => ⟨S2048x2048, .bf16⟩
  | .hbm, ⟨8, _⟩ => ⟨S_, .bf16⟩
  | .hbm, ⟨9, _⟩ => ⟨S2304x64, .bf16⟩
  | .hbm, ⟨10, _⟩ => ⟨S2304x128, .bf16⟩
  | .hbm, ⟨11, _⟩ => ⟨S2048x1024, .bf16⟩
  | .local _ .vmem, ⟨0, _⟩ => ⟨S256x256, .bf16⟩
  | .local _ .vmem, ⟨1, _⟩ => ⟨S256x256, .bf16⟩
  | .local _ .vmem, ⟨2, _⟩ => ⟨S2304x256, .bf16⟩
  | .local _ .vmem, ⟨3, _⟩ => ⟨S2304x256, .bf16⟩
  | .local _ .vmem, ⟨4, _⟩ => ⟨S2304x128, .bf16⟩
  | .local _ .vmem, ⟨5, _⟩ => ⟨S256x128, .bf16⟩
  | .local _ .vmem, ⟨6, _⟩ => ⟨S256x128, .bf16⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2304x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel29Ideal.lean ====
variable {F : FTy → Type} [FloatOps F] [Named F]
def κ : String → Option EReal := fun
  | "scale_log2e" => some (((Real.sqrt 192)⁻¹ * (Real.log 2)⁻¹ : ℝ) : EReal)
  | _ => none
-- ==== Reference29Ideal.lean ====
abbrev S2048x1536 : Shape := ⟨2, ![2048, 1536]⟩
abbrev S2304x2048 : Shape := ⟨2, ![2304, 2048]⟩
abbrev S2304x64 : Shape := ⟨2, ![2304, 64]⟩
abbrev S1x2048x8x192 : Shape := ⟨4, ![1, 2048, 8, 192]⟩
abbrev S1x2304x8x256 : Shape := ⟨4, ![1, 2304, 8, 256]⟩
abbrev S1x2304x8x128 : Shape := ⟨4, ![1, 2304, 8, 128]⟩
abbrev S1x2304x1x64 : Shape := ⟨4, ![1, 2304, 1, 64]⟩
abbrev S1x2304x8x64 : Shape := ⟨4, ![1, 2304, 8, 64]⟩
abbrev S1x2304x8x192 : Shape := ⟨4, ![1, 2304, 8, 192]⟩
abbrev S1x8x2048x2304 : Shape := ⟨4, ![1, 8, 2048, 2304]⟩
abbrev S_ : Shape := ⟨0, ![]⟩
abbrev S1x8x2048 : Shape := ⟨3, ![1, 8, 2048]⟩
abbrev S1x8x2048x1 : Shape := ⟨4, ![1, 8, 2048, 1]⟩
abbrev S1x8x128x2048 : Shape := ⟨4, ![1, 8, 128, 2048]⟩
abbrev S1x2048x8x128 : Shape := ⟨4, ![1, 2048, 8, 128]⟩
abbrev S2048x1024 : Shape := ⟨2, ![2048, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S2304x2048, .bf16⟩
  | .hbm, ⟨2, _⟩ => ⟨S2304x64, .bf16⟩
  | .hbm, ⟨3, _⟩ => ⟨S2048x1536, .f32⟩
  | .hbm, ⟨4, _⟩ => ⟨S2304x2048, .f32⟩
  | .hbm, ⟨5, _⟩ => ⟨S2304x64, .f32⟩
  | .hbm, ⟨6, _⟩ => ⟨S1x2048x8x192, .f32⟩
  | .hbm, ⟨7, _⟩ => ⟨S1x2304x8x256, .f32⟩
  | .hbm, ⟨8, _⟩ => ⟨S1x2304x8x128, .f32⟩
  | .hbm, ⟨9, _⟩ => ⟨S1x2304x8x128, .f32⟩
  | .hbm, ⟨10, _⟩ => ⟨S1x2304x1x64, .f32⟩
  | .hbm, ⟨11, _⟩ => ⟨S1x2304x8x64, .f32⟩
  | .hbm, ⟨12, _⟩ => ⟨S1x2304x8x192, .f32⟩
  | .hbm, ⟨13, _⟩ => ⟨S1x8x2048x2304, .f32⟩
  | .hbm, ⟨14, _⟩ => ⟨S_, .f32⟩
  | .hbm, ⟨15, _⟩ => ⟨S_, .f32⟩
  | .hbm, ⟨16, _⟩ => ⟨S1x8x2048x2304, .f32⟩
  | .hbm, ⟨17, _⟩ => ⟨S1x8x2048x2304, .f32⟩
  | .hbm, ⟨18, _⟩ => ⟨S_, .f32⟩
  | .hbm, ⟨19, _⟩ => ⟨S1x8x2048, .f32⟩
  | .hbm, ⟨20, _⟩ => ⟨S_, .f32⟩
  | .hbm, ⟨21, _⟩ => ⟨S1x8x2048, .f32⟩
  | .hbm, ⟨22, _⟩ => ⟨S1x8x2048, .f32⟩
  | .hbm, ⟨23, _⟩ => ⟨S1x8x2048x1, .f32⟩
  | .hbm, ⟨24, _⟩ => ⟨S1x8x2048x2304, .f32⟩
  | .hbm, ⟨25, _⟩ => ⟨S1x8x2048x2304, .f32⟩
  | .hbm, ⟨26, _⟩ => ⟨S1x8x2048x2304, .f32⟩
  | .hbm, ⟨27, _⟩ => ⟨S_, .f32⟩
  | .hbm, ⟨28, _⟩ => ⟨S1x8x2048, .f32⟩
  | .hbm, ⟨29, _⟩ => ⟨S1x8x2048x1, .f32⟩
  | .hbm, ⟨30, _⟩ => ⟨S1x8x2048x2304, .f32⟩
  | .hbm, ⟨31, _⟩ => ⟨S1x8x2048x2304, .f32⟩
  | .hbm, ⟨32, _⟩ => ⟨S1x8x128x2048, .f32⟩
  | .hbm, ⟨33, _⟩ => ⟨S1x2048x8x128, .f32⟩
  | .hbm, ⟨34, _⟩ => ⟨S2048x1024, .f32⟩
  | .hbm, ⟨35, _⟩ => ⟨S2048x1024, .bf16⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel30.lean ====
abbrev S2048x3072 : Shape := ⟨2, ![2048, 3072]⟩
abbrev S8x128 : Shape := ⟨2, ![8, 128]⟩
abbrev S128x3072 : Shape := ⟨2, ![128, 3072]⟩

abbrev nBuf : Space → Nat
  | .hbm => 9
  | .vmem => 17
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S8x128, .f32⟩
  | .hbm, ⟨5, _⟩ => ⟨S2048x3072, .f32⟩
  | .hbm, ⟨6, _⟩ => ⟨S2048x3072, .f32⟩
  | .hbm, ⟨7, _⟩ => ⟨S2048x3072, .f32⟩
  | .hbm, ⟨8, _⟩ => ⟨S2048x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S8x128, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | .local _ .vmem, ⟨14, _⟩ => ⟨S128x3072, .f32⟩
  | .local _ .vmem, ⟨15, _⟩ => ⟨S128x3072, .f32⟩
  | .local _ .vmem, ⟨16, _⟩ => ⟨S128x3072, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference30Ideal.lean ====
abbrev S2048x3072 : Shape := ⟨2, ![2048, 3072]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S8x128, .f32⟩
  | .hbm, ⟨5, _⟩ => ⟨S_, .f32⟩
  | .hbm, ⟨6, _⟩ => ⟨S2048x3072, .f32⟩
  | .hbm, ⟨7, _⟩ => ⟨S2048x3072, .f32⟩
  | .hbm, ⟨8, _⟩ => ⟨S_, .f32⟩
  | .hbm, ⟨9, _⟩ => ⟨S2048x3072, .f32⟩
  | .hbm, ⟨10, _⟩ => ⟨S2048x3072, .f32⟩
  | .hbm, ⟨11, _⟩ => ⟨S2048x3072, .f32⟩
  | .hbm, ⟨12, _⟩ => ⟨S_, .f32⟩
  | .hbm, ⟨13, _⟩ => ⟨S2048x3072, .f32⟩
  | .hbm, ⟨14, _⟩ => ⟨S2048x3072, .f32⟩
  | .hbm, ⟨15, _⟩ => ⟨S2048x3072, .f32⟩
  | .hbm, ⟨16, _⟩ => ⟨S_, .f32⟩
  | .hbm, ⟨17, _⟩ => ⟨S2048x3072, .f32⟩
  | .hbm, ⟨18, _⟩ => ⟨S2048x3072, .f32⟩
  | .hbm, ⟨19, _⟩ => ⟨S2048x3072, .f32⟩
  | .hbm, ⟨20, _⟩ => ⟨S_, .f32⟩
  | .hbm, ⟨21, _⟩ => ⟨S2048x3072, .f32⟩
  | .hbm, ⟨22, _⟩ => ⟨S2048x3072, .f32⟩
  | .hbm, ⟨23, _⟩ => ⟨S_, .f32⟩
  | .hbm, ⟨24, _⟩ => ⟨S2048x3072, .f32⟩
  | .hbm, ⟨25, _⟩ => ⟨S2048x3072, .f32⟩
  | .hbm, ⟨26, _⟩ => ⟨S2048x3072, .f32⟩
  | .hbm, ⟨27, _⟩ => ⟨S_, .f32⟩
  | .hbm, ⟨28, _⟩ => ⟨S2048x3072, .f32⟩
  | .hbm, ⟨29, _⟩ => ⟨S2048x3072, .f32⟩
  | .hbm, ⟨30, _⟩ => ⟨S2048x3072, .f32⟩
  | .hbm, ⟨31, _⟩ => ⟨S_, .f32⟩
  | .hbm, ⟨32, _⟩ => ⟨S2048x3072, .f32⟩
  | .hbm, ⟨33, _⟩ => ⟨S2048x3072, .f32⟩
  | .hbm, ⟨34, _⟩ => ⟨S2048x3072, .f32⟩
  | .hbm, ⟨35, _⟩ => ⟨S_, .f32⟩
  | .hbm, ⟨36, _⟩ => ⟨S2048x3072, .f32⟩
  | .hbm, ⟨37, _⟩ => ⟨S2048x3072, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel31.lean ====
abbrev S1408x2048 : Shape := ⟨2, ![1408, 2048]⟩
abbrev S8x128 : Shape := ⟨2, ![8, 128]⟩
abbrev S176x2048 : Shape := ⟨2, ![176, 2048]⟩

abbrev nBuf : Space → Nat
  | .hbm => 9
  | .vmem => 17
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S8x128, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S8x128, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference31Ideal.lean ====
abbrev S1408x2048 : Shape := ⟨2, ![1408, 2048]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S8x128, .f32⟩
  | .hbm, ⟨5, _⟩ => ⟨S_, .f32⟩
  | .hbm, ⟨6, _⟩ => ⟨S1408x2048, .f32⟩
  | .hbm, ⟨7, _⟩ => ⟨S1408x2048, .f32⟩
  | .hbm, ⟨8, _⟩ => ⟨S_, .f32⟩
  | .hbm, ⟨9, _⟩ => ⟨S1408x2048, .f32⟩
  | .hbm, ⟨10, _⟩ => ⟨S1408x2048, .f32⟩
  | .hbm, ⟨11, _⟩ => ⟨S1408x2048, .f32⟩
  | .hbm, ⟨12, _⟩ => ⟨S_, .f32⟩
  | .hbm, ⟨13, _⟩ => ⟨S1408x2048, .f32⟩
  | .hbm, ⟨14, _⟩ => ⟨S1408x2048, .f32⟩
  | .hbm, ⟨15, _⟩ => ⟨S1408x2048, .f32⟩
  | .hbm, ⟨16, _⟩ => ⟨S_, .f32⟩
  | .hbm, ⟨17, _⟩ => ⟨S1408x2048, .f32⟩
  | .hbm, ⟨18, _⟩ => ⟨S1408x2048, .f32⟩
  | .hbm, ⟨19, _⟩ => ⟨S1408x2048, .f32⟩
  | .hbm, ⟨20, _⟩ => ⟨S_, .f32⟩
  | .hbm, ⟨21, _⟩ => ⟨S1408x2048, .f32⟩
  | .hbm, ⟨22, _⟩ => ⟨S1408x2048, .f32⟩
  | .hbm, ⟨23, _⟩ => ⟨S_, .f32⟩
  | .hbm, ⟨24, _⟩ => ⟨S1408x2048, .f32⟩
  | .hbm, ⟨25, _⟩ => ⟨S1408x2048, .f32⟩
  | .hbm, ⟨26, _⟩ => ⟨S1408x2048, .f32⟩
  | .hbm, ⟨27, _⟩ => ⟨S_, .f32⟩
  | .hbm, ⟨28, _⟩ => ⟨S1408x2048, .f32⟩
  | .hbm, ⟨29, _⟩ => ⟨S1408x2048, .f32⟩
  | .hbm, ⟨30, _⟩ => ⟨S1408x2048, .f32⟩
  | .hbm, ⟨31, _⟩ => ⟨S_, .f32⟩
  | .hbm, ⟨32, _⟩ => ⟨S1408x2048, .f32⟩
  | .hbm, ⟨33, _⟩ => ⟨S1408x2048, .f32⟩
  | .hbm, ⟨34, _⟩ => ⟨S1408x2048, .f32⟩
  | .hbm, ⟨35, _⟩ => ⟨S_, .f32⟩
  | .hbm, ⟨36, _⟩ => ⟨S1408x2048, .f32⟩
  | .hbm, ⟨37, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel32.lean ====
abbrev S2048x2816 : Shape := ⟨2, ![2048, 2816]⟩
abbrev S128x2816 : Shape := ⟨2, ![128, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | .local _ .vmem, ⟨14, _⟩ => ⟨S128x2816, .f32⟩
  | .local _ .vmem, ⟨15, _⟩ => ⟨S128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference32Ideal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S512x2048 : Shape := ⟨2, ![512, 2048]⟩
abbrev S8x128 : Shape := ⟨2, ![8, 128]⟩
abbrev S128x2048 : Shape := ⟨2, ![128, 2048]⟩

abbrev nBuf : Space → Nat
  | .hbm => 9
  | .vmem => 17
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S8x128, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S8x128, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference33Ideal.lean ====
abbrev S512x2048 : Shape := ⟨2, ![512, 2048]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S8x128, .f32⟩
  | .hbm, ⟨5, _⟩ => ⟨S_, .f32⟩
  | .hbm, ⟨6, _⟩ => ⟨S512x2048, .f32⟩
  | .hbm, ⟨7, _⟩ => ⟨S512x2048, .f32⟩
  | .hbm, ⟨8, _⟩ => ⟨S_, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S_, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S_, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S_, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S_, .f32⟩
  | .hbm, ⟨28, _⟩ => ⟨S512x2048, .f32⟩
  | .hbm, ⟨29, _⟩ => ⟨S512x2048, .f32⟩
  | .hbm, ⟨30, _⟩ => ⟨S512x2048, .f32⟩
  | .hbm, ⟨31, _⟩ => ⟨S_, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S_, .f32⟩
  | .hbm, ⟨36, _⟩ => ⟨S512x2048, .f32⟩
  | .hbm, ⟨37, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel34.lean ====
abbrev S1024x1024 : Shape := ⟨2, ![1024, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference34Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S1024x512 : Shape := ⟨2, ![1024, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference35Ideal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S512x384 : Shape := ⟨2, ![512, 384]⟩
abbrev S8x128 : Shape := ⟨2, ![8, 128]⟩

abbrev nBuf : Space → Nat
  | .hbm => 9
  | .vmem => 9
  | .smem => 0
  | _ => 0

abbrev bufTy : (tb : Table) → Fin (tcTables nBuf tb) → BufTy
  | .hbm, ⟨0, _⟩ => ⟨S512x384, .f32⟩
  | .hbm, ⟨1, _⟩ => ⟨S512x384, .f32⟩
  | .hbm, ⟨2, _⟩ => ⟨S512x384, .f32⟩
  | .hbm, ⟨3, _⟩ => ⟨S512x384, .f32⟩
  | .hbm, ⟨4, _⟩ => ⟨S8x128, .f32⟩
  | .hbm, ⟨5, _⟩ => ⟨S512x384, .f32⟩
  | .hbm, ⟨6, _⟩ => ⟨S512x384, .f32⟩
  | .hbm, ⟨7, _⟩ => ⟨S512x384, .f32⟩
  | .hbm, ⟨8, _⟩ => ⟨S512x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S8x128, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | _, _ => ⟨S512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference36Ideal.lean ====
abbrev S512x384 : Shape := ⟨2, ![512, 384]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S512x384, .f32⟩
  | .hbm, ⟨1, _⟩ => ⟨S512x384, .f32⟩
  | .hbm, ⟨2, _⟩ => ⟨S512x384, .f32⟩
  | .hbm, ⟨3, _⟩ => ⟨S512x384, .f32⟩
  | .hbm, ⟨4, _⟩ => ⟨S8x128, .f32⟩
  | .hbm, ⟨5, _⟩ => ⟨S_, .f32⟩
  | .hbm, ⟨6, _⟩ => ⟨S512x384, .f32⟩
  | .hbm, ⟨7, _⟩ => ⟨S512x384, .f32⟩
  | .hbm, ⟨8, _⟩ => ⟨S_, .f32⟩
  | .hbm, ⟨9, _⟩ => ⟨S512x384, .f32⟩
  | .hbm, ⟨10, _⟩ => ⟨S512x384, .f32⟩
  | .hbm, ⟨11, _⟩ => ⟨S512x384, .f32⟩
  | .hbm, ⟨12, _⟩ => ⟨S_, .f32⟩
  | .hbm, ⟨13, _⟩ => ⟨S512x384, .f32⟩
  | .hbm, ⟨14, _⟩ => ⟨S512x384, .f32⟩
  | .hbm, ⟨15, _⟩ => ⟨S512x384, .f32⟩
  | .hbm, ⟨16, _⟩ => ⟨S_, .f32⟩
  | .hbm, ⟨17, _⟩ => ⟨S512x384, .f32⟩
  | .hbm, ⟨18, _⟩ => ⟨S512x384, .f32⟩
  | .hbm, ⟨19, _⟩ => ⟨S512x384, .f32⟩
  | .hbm, ⟨20, _⟩ => ⟨S_, .f32⟩
  | .hbm, ⟨21, _⟩ => ⟨S512x384, .f32⟩
  | .hbm, ⟨22, _⟩ => ⟨S512x384, .f32⟩
  | .hbm, ⟨23, _⟩ => ⟨S_, .f32⟩
  | .hbm, ⟨24, _⟩ => ⟨S512x384, .f32⟩
  | .hbm, ⟨25, _⟩ => ⟨S512x384, .f32⟩
  | .hbm, ⟨26, _⟩ => ⟨S512x384, .f32⟩
  | .hbm, ⟨27, _⟩ => ⟨S_, .f32⟩
  | .hbm, ⟨28, _⟩ => ⟨S512x384, .f32⟩
  | .hbm, ⟨29, _⟩ => ⟨S512x384, .f32⟩
  | .hbm, ⟨30, _⟩ => ⟨S512x384, .f32⟩
  | .hbm, ⟨31, _⟩ => ⟨S_, .f32⟩
  | .hbm, ⟨32, _⟩ => ⟨S512x384, .f32⟩
  | .hbm, ⟨33, _⟩ => ⟨S512x384, .f32⟩
  | .hbm, ⟨34, _⟩ => ⟨S512x384, .f32⟩
  | .hbm, ⟨35, _⟩ => ⟨S_, .f32⟩
  | .hbm, ⟨36, _⟩ => ⟨S512x384, .f32⟩
  | .hbm, ⟨37, _⟩ => ⟨S512x384, .f32⟩
  | _, _ => ⟨S512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel37.lean ====
abbrev S256x512 : Shape := ⟨2, ![256, 512]⟩

abbrev nBuf : Space → Nat
  | .hbm => 8
  | .vmem => 8
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference37Ideal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel38.lean ====
abbrev S2048x1488 : Shape := ⟨2, ![2048, 1488]⟩
abbrev S256x1488 : Shape := ⟨2, ![256, 1488]⟩

abbrev nBuf : Space → Nat
  | .hbm => 8
  | .vmem => 16
  | .smem => 0
  | _ => 0

abbrev bufTy : (tb : Table) → Fin (tcTables nBuf tb) → BufTy
  | .hbm, ⟨0, _⟩ => ⟨S2048x1488, .f32⟩
  | .hbm, ⟨1, _⟩ => ⟨S2048x1488, .f32⟩
  | .hbm, ⟨2, _⟩ => ⟨S2048x1488, .f32⟩
  | .hbm, ⟨3, _⟩ => ⟨S2048x1488, .f32⟩
  | .hbm, ⟨4, _⟩ => ⟨S2048x1488, .f32⟩
  | .hbm, ⟨5, _⟩ => ⟨S2048x1488, .f32⟩
  | .hbm, ⟨6, _⟩ => ⟨S2048x1488, .f32⟩
  | .hbm, ⟨7, _⟩ => ⟨S2048x1488, .f32⟩
  | .local _ .vmem, ⟨0, _⟩ => ⟨S256x1488, .f32⟩
  | .local _ .vmem, ⟨1, _⟩ => ⟨S256x1488, .f32⟩
  | .local _ .vmem, ⟨2, _⟩ => ⟨S256x1488, .f32⟩
  | .local _ .vmem, ⟨3, _⟩ => ⟨S256x1488, .f32⟩
  | .local _ .vmem, ⟨4, _⟩ => ⟨S256x1488, .f32⟩
  | .local _ .vmem, ⟨5, _⟩ => ⟨S256x1488, .f32⟩
  | .local _ .vmem, ⟨6, _⟩ => ⟨S256x1488, .f32⟩
  | .local _ .vmem, ⟨7, _⟩ => ⟨S256x1488, .f32⟩
  | .local _ .vmem, ⟨8, _⟩ => ⟨S256x1488, .f32⟩
  | .local _ .vmem, ⟨9, _⟩ => ⟨S256x1488, .f32⟩
  | .local _ .vmem, ⟨10, _⟩ => ⟨S256x1488, .f32⟩
  | .local _ .vmem, ⟨11, _⟩ => ⟨S256x1488, .f32⟩
  | .local _ .vmem, ⟨12, _⟩ => ⟨S256x1488, .f32⟩
  | .local _ .vmem, ⟨13, _⟩ => ⟨S256x1488, .f32⟩
  | .local _ .vmem, ⟨14, _⟩ => ⟨S256x1488, .f32⟩
  | .local _ .vmem, ⟨15, _⟩ => ⟨S256x1488, .f32⟩
  | _, _ => ⟨S2048x1488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1488 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1488 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1488 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1488 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1488 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1488 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1488 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1488 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference38Ideal.lean ====
abbrev S2048x1488 : Shape := ⟨2, ![2048, 1488]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1488, .f32⟩
  | .hbm, ⟨1, _⟩ => ⟨S2048x1488, .f32⟩
  | .hbm, ⟨2, _⟩ => ⟨S2048x1488, .f32⟩
  | .hbm, ⟨3, _⟩ => ⟨S2048x1488, .f32⟩
  | .hbm, ⟨4, _⟩ => ⟨S_, .f32⟩
  | .hbm, ⟨5, _⟩ => ⟨S2048x1488, .f32⟩
  | .hbm, ⟨6, _⟩ => ⟨S2048x1488, .f32⟩
  | .hbm, ⟨7, _⟩ => ⟨S_, .f32⟩
  | .hbm, ⟨8, _⟩ => ⟨S2048x1488, .f32⟩
  | .hbm, ⟨9, _⟩ => ⟨S2048x1488, .f32⟩
  | .hbm, ⟨10, _⟩ => ⟨S2048x1488, .f32⟩
  | .hbm, ⟨11, _⟩ => ⟨S_, .f32⟩
  | .hbm, ⟨12, _⟩ => ⟨S2048x1488, .f32⟩
  | .hbm, ⟨13, _⟩ => ⟨S2048x1488, .f32⟩
  | .hbm, ⟨14, _⟩ => ⟨S2048x1488, .f32⟩
  | .hbm, ⟨15, _⟩ => ⟨S_, .f32⟩
  | .hbm, ⟨16, _⟩ => ⟨S2048x1488, .f32⟩
  | .hbm, ⟨17, _⟩ => ⟨S2048x1488, .f32⟩
  | .hbm, ⟨18, _⟩ => ⟨S2048x1488, .f32⟩
  | .hbm, ⟨19, _⟩ => ⟨S_, .f32⟩
  | .hbm, ⟨20, _⟩ => ⟨S2048x1488, .f32⟩
  | .hbm, ⟨21, _⟩ => ⟨S2048x1488, .f32⟩
  | .hbm, ⟨22, _⟩ => ⟨S_, .f32⟩
  | .hbm, ⟨23, _⟩ => ⟨S2048x1488, .f32⟩
  | .hbm, ⟨24, _⟩ => ⟨S2048x1488, .f32⟩
  | .hbm, ⟨25, _⟩ => ⟨S2048x1488, .f32⟩
  | .hbm, ⟨26, _⟩ => ⟨S_, .f32⟩
  | .hbm, ⟨27, _⟩ => ⟨S2048x1488, .f32⟩
  | .hbm, ⟨28, _⟩ => ⟨S2048x1488, .f32⟩
  | .hbm, ⟨29, _⟩ => ⟨S2048x1488, .f32⟩
  | .hbm, ⟨30, _⟩ => ⟨S_, .f32⟩
  | .hbm, ⟨31, _⟩ => ⟨S2048x1488, .f32⟩
  | .hbm, ⟨32, _⟩ => ⟨S2048x1488, .f32⟩
  | .hbm, ⟨33, _⟩ => ⟨S2048x1488, .f32⟩
  | .hbm, ⟨34, _⟩ => ⟨S_, .f32⟩
  | .hbm, ⟨35, _⟩ => ⟨S2048x1488, .f32⟩
  | .hbm, ⟨36, _⟩ => ⟨S2048x1488, .f32⟩
  | _, _ => ⟨S2048x1488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel39.lean ====
abbrev S4400x128 : Shape := ⟨2, ![4400, 128]⟩
abbrev S400x128 : Shape := ⟨2, ![400, 128]⟩

abbrev nBuf : Space → Nat
  | .hbm => 8
  | .vmem => 16
  | .smem => 0
  | _ => 0

abbrev bufTy : (tb : Table) → Fin (tcTables nBuf tb) → BufTy
  | .hbm, ⟨0, _⟩ => ⟨S4400x128, .f32⟩
  | .hbm, ⟨1, _⟩ => ⟨S4400x128, .f32⟩
  | .hbm, ⟨2, _⟩ => ⟨S4400x128, .f32⟩
  | .hbm, ⟨3, _⟩ => ⟨S4400x128, .f32⟩
  | .hbm, ⟨4, _⟩ => ⟨S4400x128, .f32⟩
  | .hbm, ⟨5, _⟩ => ⟨S4400x128, .f32⟩
  | .hbm, ⟨6, _⟩ => ⟨S4400x128, .f32⟩
  | .hbm, ⟨7, _⟩ => ⟨S4400x128, .f32⟩
  | .local _ .vmem, ⟨0, _⟩ => ⟨S400x128, .f32⟩
  | .local _ .vmem, ⟨1, _⟩ => ⟨S400x128, .f32⟩
  | .local _ .vmem, ⟨2, _⟩ => ⟨S400x128, .f32⟩
  | .local _ .vmem, ⟨3, _⟩ => ⟨S400x128, .f32⟩
  | .local _ .vmem, ⟨4, _⟩ => ⟨S400x128, .f32⟩
  | .local _ .vmem, ⟨5, _⟩ => ⟨S400x128, .f32⟩
  | .local _ .vmem, ⟨6, _⟩ => ⟨S400x128, .f32⟩
  | .local _ .vmem, ⟨7, _⟩ => ⟨S400x128, .f32⟩
  | .local _ .vmem, ⟨8, _⟩ => ⟨S400x128, .f32⟩
  | .local _ .vmem, ⟨9, _⟩ => ⟨S400x128, .f32⟩
  | .local _ .vmem, ⟨10, _⟩ => ⟨S400x128, .f32⟩
  | .local _ .vmem, ⟨11, _⟩ => ⟨S400x128, .f32⟩
  | .local _ .vmem, ⟨12, _⟩ => ⟨S400x128, .f32⟩
  | .local _ .vmem, ⟨13, _⟩ => ⟨S400x128, .f32⟩
  | .local _ .vmem, ⟨14, _⟩ => ⟨S400x128, .f32⟩
  | .local _ .vmem, ⟨15, _⟩ => ⟨S400x128, .f32⟩
  | _, _ => ⟨S4400x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference39Ideal.lean ====
abbrev S4400x128 : Shape := ⟨2, ![4400, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4400x128, .f32⟩
  | .hbm, ⟨1, _⟩ => ⟨S4400x128, .f32⟩
  | .hbm, ⟨2, _⟩ => ⟨S4400x128, .f32⟩
  | .hbm, ⟨3, _⟩ => ⟨S4400x128, .f32⟩
  | .hbm, ⟨4, _⟩ => ⟨S_, .f32⟩
  | .hbm, ⟨5, _⟩ => ⟨S4400x128, .f32⟩
  | .hbm, ⟨6, _⟩ => ⟨S4400x128, .f32⟩
  | .hbm, ⟨7, _⟩ => ⟨S_, .f32⟩
  | .hbm, ⟨8, _⟩ => ⟨S4400x128, .f32⟩
  | .hbm, ⟨9, _⟩ => ⟨S4400x128, .f32⟩
  | .hbm, ⟨10, _⟩ => ⟨S4400x128, .f32⟩
  | .hbm, ⟨11, _⟩ => ⟨S_, .f32⟩
  | .hbm, ⟨12, _⟩ => ⟨S4400x128, .f32⟩
  | .hbm, ⟨13, _⟩ => ⟨S4400x128, .f32⟩
  | .hbm, ⟨14, _⟩ => ⟨S4400x128, .f32⟩
  | .hbm, ⟨15, _⟩ => ⟨S_, .f32⟩
  | .hbm, ⟨16, _⟩ => ⟨S4400x128, .f32⟩
  | .hbm, ⟨17, _⟩ => ⟨S4400x128, .f32⟩
  | .hbm, ⟨18, _⟩ => ⟨S4400x128, .f32⟩
  | .hbm, ⟨19, _⟩ => ⟨S_, .f32⟩
  | .hbm, ⟨20, _⟩ => ⟨S4400x128, .f32⟩
  | .hbm, ⟨21, _⟩ => ⟨S4400x128, .f32⟩
  | .hbm, ⟨22, _⟩ => ⟨S_, .f32⟩
  | .hbm, ⟨23, _⟩ => ⟨S4400x128, .f32⟩
  | .hbm, ⟨24, _⟩ => ⟨S4400x128, .f32⟩
  | .hbm, ⟨25, _⟩ => ⟨S4400x128, .f32⟩
  | .hbm, ⟨26, _⟩ => ⟨S_, .f32⟩
  | .hbm, ⟨27, _⟩ => ⟨S4400x128, .f32⟩
  | .hbm, ⟨28, _⟩ => ⟨S4400x128, .f32⟩
  | .hbm, ⟨29, _⟩ => ⟨S4400x128, .f32⟩
  | .hbm, ⟨30, _⟩ => ⟨S_, .f32⟩
  | .hbm, ⟨31, _⟩ => ⟨S4400x128, .f32⟩
  | .hbm, ⟨32, _⟩ => ⟨S4400x128, .f32⟩
  | .hbm, ⟨33, _⟩ => ⟨S4400x128, .f32⟩
  | .hbm, ⟨34, _⟩ => ⟨S_, .f32⟩
  | .hbm, ⟨35, _⟩ => ⟨S4400x128, .f32⟩
  | .hbm, ⟨36, _⟩ => ⟨S4400x128, .f32⟩
  | _, _ => ⟨S4400x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel40.lean ====
abbrev S16x2048 : Shape := ⟨2, ![16, 2048]⟩
abbrev S16x12288 : Shape := ⟨2, ![16, 12288]⟩
abbrev S16x3072 : Shape := ⟨2, ![16, 3072]⟩
abbrev S_ : Shape := ⟨0, ![]⟩
abbrev S12288 : Shape := ⟨1, ![12288]⟩
abbrev S1x12288 : Shape := ⟨2, ![1, 12288]⟩
abbrev S2048x3072 : Shape := ⟨2, ![2048, 3072]⟩
abbrev S16x1024 : Shape := ⟨2, ![16, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16x2048, .f32⟩
  | .hbm, ⟨1, _⟩ => ⟨S16x12288, .f32⟩
  | .hbm, ⟨2, _⟩ => ⟨S16x3072, .f32⟩
  | .hbm, ⟨3, _⟩ => ⟨S_, .f32⟩
  | .hbm, ⟨4, _⟩ => ⟨S12288, .f32⟩
  | .hbm, ⟨5, _⟩ => ⟨S1x12288, .f32⟩
  | .hbm, ⟨6, _⟩ => ⟨S2048x3072, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S1024x1024, .f32⟩
  | .local _ .vmem, ⟨5, _⟩ => ⟨S1024x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference40Ideal.lean ====
abbrev S16x2048 : Shape := ⟨2, ![16, 2048]⟩
abbrev S16x12288 : Shape := ⟨2, ![16, 12288]⟩
abbrev S16x3072 : Shape := ⟨2, ![16, 3072]⟩
abbrev S_ : Shape := ⟨0, ![]⟩
abbrev S2048x3072 : Shape := ⟨2, ![2048, 3072]⟩
abbrev S3072x2048 : Shape := ⟨2, ![3072, 2048]⟩
abbrev S1x12288 : Shape := ⟨2, ![1, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x12288, .f32⟩
  | .hbm, ⟨2, _⟩ => ⟨S16x3072, .f32⟩
  | .hbm, ⟨3, _⟩ => ⟨S_, .f32⟩
  | .hbm, ⟨4, _⟩ => ⟨S2048x3072, .f32⟩
  | .hbm, ⟨5, _⟩ => ⟨S16x3072, .f32⟩
  | .hbm, ⟨6, _⟩ => ⟨S3072x2048, .f32⟩
  | .hbm, ⟨7, _⟩ => ⟨S2048x3072, .f32⟩
  | .hbm, ⟨8, _⟩ => ⟨S16x2048, .f32⟩
  | .hbm, ⟨9, _⟩ => ⟨S_, .f32⟩
  | .hbm, ⟨10, _⟩ => ⟨S1x12288, .f32⟩
  | .hbm, ⟨11, _⟩ => ⟨S_, .f32⟩
  | .hbm, ⟨12, _⟩ => ⟨S16x12288, .f32⟩
  | .hbm, ⟨13, _⟩ => ⟨S16x12288, .f32⟩
  | .hbm, ⟨14, _⟩ => ⟨S16x12288, .f32⟩
  | .hbm, ⟨15, _⟩ => ⟨S_, .f32⟩
  | .hbm, ⟨16, _⟩ => ⟨S12288, .f32⟩
  | .hbm, ⟨17, _⟩ => ⟨S1x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Kernel41.lean ====
abbrev S16x3072 : Shape := ⟨2, ![16, 3072]⟩
abbrev S2048x3072 : Shape := ⟨2, ![2048, 3072]⟩
abbrev S16x2048 : Shape := ⟨2, ![16, 2048]⟩
abbrev S1024x3072 : Shape := ⟨2, ![1024, 3072]⟩
abbrev S16x1024 : Shape := ⟨2, ![16, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16x3072, .f32⟩
  | .hbm, ⟨1, _⟩ => ⟨S2048x3072, .f32⟩
  | .hbm, ⟨2, _⟩ => ⟨S16x2048, .f32⟩
  | .local _ .vmem, ⟨0, _⟩ => ⟨S16x3072, .f32⟩
  | .local _ .vmem, ⟨1, _⟩ => ⟨S1024x3072, .f32⟩
  | .local _ .vmem, ⟨2, _⟩ => ⟨S1024x3072, .f32⟩
  | .local _ .vmem, ⟨3, _⟩ => ⟨S16x1024, .f32⟩
  | .local _ .vmem, ⟨4, _⟩ => ⟨S16x1024, .f32⟩
  | _, _ => ⟨S16x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference41Ideal.lean ====
abbrev S16x3072 : Shape := ⟨2, ![16, 3072]⟩
abbrev S2048x3072 : Shape := ⟨2, ![2048, 3072]⟩
abbrev S_ : Shape := ⟨0, ![]⟩
abbrev S16x2048 : Shape := ⟨2, ![16, 2048]⟩
abbrev S3072x2048 : Shape := ⟨2, ![3072, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16x3072, .f32⟩
  | .hbm, ⟨1, _⟩ => ⟨S2048x3072, .f32⟩
  | .hbm, ⟨2, _⟩ => ⟨S_, .f32⟩
  | .hbm, ⟨3, _⟩ => ⟨S16x2048, .f32⟩
  | .hbm, ⟨4, _⟩ => ⟨S16x3072, .f32⟩
  | .hbm, ⟨5, _⟩ => ⟨S3072x2048, .f32⟩
  | .hbm, ⟨6, _⟩ => ⟨S2048x3072, .f32⟩
  | .hbm, ⟨7, _⟩ => ⟨S16x2048, .f32⟩
  | _, _ => ⟨S16x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel42.lean ====
abbrev S16x2048 : Shape := ⟨2, ![16, 2048]⟩
abbrev S2048x3072 : Shape := ⟨2, ![2048, 3072]⟩
abbrev S16x3072 : Shape := ⟨2, ![16, 3072]⟩
abbrev S2048x1024 : Shape := ⟨2, ![2048, 1024]⟩
abbrev S16x1024 : Shape := ⟨2, ![16, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16x2048, .f32⟩
  | .hbm, ⟨1, _⟩ => ⟨S2048x3072, .f32⟩
  | .hbm, ⟨2, _⟩ => ⟨S16x3072, .f32⟩
  | .local _ .vmem, ⟨0, _⟩ => ⟨S16x2048, .f32⟩
  | .local _ .vmem, ⟨1, _⟩ => ⟨S2048x1024, .f32⟩
  | .local _ .vmem, ⟨2, _⟩ => ⟨S2048x1024, .f32⟩
  | .local _ .vmem, ⟨3, _⟩ => ⟨S16x1024, .f32⟩
  | .local _ .vmem, ⟨4, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference42Ideal.lean ====
abbrev S16x2048 : Shape := ⟨2, ![16, 2048]⟩
abbrev S2048x3072 : Shape := ⟨2, ![2048, 3072]⟩
abbrev S16x3072 : Shape := ⟨2, ![16, 3072]⟩

abbrev nBuf : Space → Nat
  | .hbm => 3
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x3072, .f32⟩
  | .hbm, ⟨2, _⟩ => ⟨S16x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel48.lean ====
abbrev S2048x4096 : Shape := ⟨2, ![2048, 4096]⟩
abbrev S2048x2048 : Shape := ⟨2, ![2048, 2048]⟩
abbrev S128x4096 : Shape := ⟨2, ![128, 4096]⟩
abbrev S128x2048 : Shape := ⟨2, ![128, 2048]⟩

abbrev nBuf : Space → Nat
  | .hbm => 4
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x4096, .f32⟩
  | .hbm, ⟨3, _⟩ => ⟨S2048x2048, .bf16⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S128x4096, .f32⟩
  | .local _ .vmem, ⟨5, _⟩ => ⟨S128x4096, .f32⟩
  | .local _ .vmem, ⟨6, _⟩ => ⟨S128x2048, .bf16⟩
  | .local _ .vmem, ⟨7, _⟩ => ⟨S128x2048, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference48Ideal.lean ====
abbrev S2048x4096 : Shape := ⟨2, ![2048, 4096]⟩
abbrev S2048x2048 : Shape := ⟨2, ![2048, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x4096, .f32⟩
  | .hbm, ⟨3, _⟩ => ⟨S2048x2048, .f32⟩
  | .hbm, ⟨4, _⟩ => ⟨S2048x2048, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel49.lean ====
abbrev S2048x4096 : Shape := ⟨2, ![2048, 4096]⟩
abbrev S2048x2048 : Shape := ⟨2, ![2048, 2048]⟩
abbrev S8x128 : Shape := ⟨2, ![8, 128]⟩
abbrev S64x4096 : Shape := ⟨2, ![64, 4096]⟩
abbrev S64x2048 : Shape := ⟨2, ![64, 2048]⟩

abbrev nBuf : Space → Nat
  | .hbm => 8
  | .vmem => 15
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x4096, .f32⟩
  | .hbm, ⟨3, _⟩ => ⟨S2048x2048, .f32⟩
  | .hbm, ⟨4, _⟩ => ⟨S8x128, .f32⟩
  | .hbm, ⟨5, _⟩ => ⟨S2048x4096, .bf16⟩
  | .hbm, ⟨6, _⟩ => ⟨S2048x2048, .bf16⟩
  | .hbm, ⟨7, _⟩ => ⟨S2048x4096, .bf16⟩
  | .local _ .vmem, ⟨0, _⟩ => ⟨S64x4096, .f32⟩
  | .local _ .vmem, ⟨1, _⟩ => ⟨S64x4096, .f32⟩
  | .local _ .vmem, ⟨2, _⟩ => ⟨S64x2048, .f32⟩
  | .local _ .vmem, ⟨3, _⟩ => ⟨S64x2048, .f32⟩
  | .local _ .vmem, ⟨4, _⟩ => ⟨S64x4096, .f32⟩
  | .local _ .vmem, ⟨5, _⟩ => ⟨S64x4096, .f32⟩
  | .local _ .vmem, ⟨6, _⟩ => ⟨S64x2048, .f32⟩
  | .local _ .vmem, ⟨7, _⟩ => ⟨S64x2048, .f32⟩
  | .local _ .vmem, ⟨8, _⟩ => ⟨S8x128, .f32⟩
  | .local _ .vmem, ⟨9, _⟩ => ⟨S64x4096, .bf16⟩
  | .local _ .vmem, ⟨10, _⟩ => ⟨S64x4096, .bf16⟩
  | .local _ .vmem, ⟨11, _⟩ => ⟨S64x2048, .bf16⟩
  | .local _ .vmem, ⟨12, _⟩ => ⟨S64x2048, .bf16⟩
  | .local _ .vmem, ⟨13, _⟩ => ⟨S64x4096, .bf16⟩
  | .local _ .vmem, ⟨14, _⟩ => ⟨S64x4096, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference49Ideal.lean ====
abbrev S2048x4096 : Shape := ⟨2, ![2048, 4096]⟩
abbrev S2048x2048 : Shape := ⟨2, ![2048, 2048]⟩
abbrev S8x128 : Shape := ⟨2, ![8, 128]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x4096, .f32⟩
  | .hbm, ⟨3, _⟩ => ⟨S2048x2048, .f32⟩
  | .hbm, ⟨4, _⟩ => ⟨S8x128, .f32⟩
  | .hbm, ⟨5, _⟩ => ⟨S2048x2048, .f32⟩
  | .hbm, ⟨6, _⟩ => ⟨S2048x2048, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x4096, .f32⟩
  | .hbm, ⟨47, _⟩ => ⟨S2048x4096, .f32⟩
  | .hbm, ⟨48, _⟩ => ⟨S2048x4096, .f32⟩
  | .hbm, ⟨49, _⟩ => ⟨S2048x4096, .bf16⟩
  | .hbm, ⟨50, _⟩ => ⟨S2048x2048, .bf16⟩
  | .hbm, ⟨51, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel50.lean ====
abbrev S16x2048 : Shape := ⟨2, ![16, 2048]⟩

abbrev nBuf : Space → Nat
  | .hbm => 3
  | .vmem => 3
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x2048, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference50Ideal.lean ====
abbrev S16x2048 : Shape := ⟨2, ![16, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x2048, .f32⟩
  | .hbm, ⟨3, _⟩ => ⟨S16x2048, .f32⟩
  | .hbm, ⟨4, _⟩ => ⟨S_, .f32⟩
  | .hbm, ⟨5, _⟩ => ⟨S16x2048, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S16x2048, .f32⟩
  | .hbm, ⟨14, _⟩ => ⟨S16x2048, .f32⟩
  | .hbm, ⟨15, _⟩ => ⟨S16x2048, .f32⟩
  | .hbm, ⟨16, _⟩ => ⟨S16x2048, .f32⟩
  | .hbm, ⟨17, _⟩ => ⟨S16x2048, .f32⟩
  | .hbm, ⟨18, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_v1 : Ref sig .tc := ⟨.hbm, 18, rfl⟩

abbrev nD : Nat := 1
abbrev τ : Topo := Topo.v7x

variable {F : FTy → Type} [FloatOps F]
-- ==== Kernel55.lean ====
abbrev S16x2048 : Shape := ⟨2, ![16, 2048]⟩

abbrev nBuf : Space → Nat
  | .hbm => 2
  | .vmem => 2
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .local _ .vmem, ⟨0, _⟩ => ⟨S16x2048, .f32⟩
  | .local _ .vmem, ⟨1, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference55Ideal.lean ====
abbrev S16x2048 : Shape := ⟨2, ![16, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x2048, .f32⟩
  | .hbm, ⟨3, _⟩ => ⟨S_, .f32⟩
  | .hbm, ⟨4, _⟩ => ⟨S16x2048, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩

abbrev nD : Nat := 1
abbrev τ : Topo := Topo.v7x

variable {F : FTy → Type} [FloatOps F]
-- ==== Kernel51.lean ====
abbrev S2048x2048 : Shape := ⟨2, ![2048, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 11
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S1x2048, .f32⟩
  | .hbm, ⟨9, _⟩ => ⟨S1x2048, .f32⟩
  | .hbm, ⟨10, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference51Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 67
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x2048, .f32⟩
  | .hbm, ⟨54, _⟩ => ⟨S2048x2048, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Kernel52.lean ====
abbrev S2048x2048 : Shape := ⟨2, ![2048, 2048]⟩
abbrev S1x2048 : Shape := ⟨2, ![1, 2048]⟩
abbrev S_ : Shape := ⟨0, ![]⟩
abbrev S2048x1 : Shape := ⟨2, ![2048, 1]⟩
abbrev S128x2048 : Shape := ⟨2, ![128, 2048]⟩
abbrev S128x1 : Shape := ⟨2, ![128, 1]⟩
abbrev S128 : Shape := ⟨1, ![128]⟩
abbrev S2048 : Shape := ⟨1, ![2048]⟩

abbrev nBuf : Space → Nat
  | .hbm => 11
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S2048x1, .f32⟩
  | .hbm, ⟨7, _⟩ => ⟨S2048x2048, .f32⟩
  | .hbm, ⟨8, _⟩ => ⟨S2048x2048, .bf16⟩
  | .hbm, ⟨9, _⟩ => ⟨S1x2048, .f32⟩
  | .hbm, ⟨10, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x2048, .f32⟩
  | .local _ .vmem, ⟨7, _⟩ => ⟨S1x2048, .f32⟩
  | .local _ .vmem, ⟨8, _⟩ => ⟨S128x1, .f32⟩
  | .local _ .vmem, ⟨9, _⟩ => ⟨S128x1, .f32⟩
  | .local _ .vmem, ⟨10, _⟩ => ⟨S128x2048, .f32⟩
  | .local _ .vmem, ⟨11, _⟩ => ⟨S128x2048, .f32⟩
  | .local _ .vmem, ⟨12, _⟩ => ⟨S128x2048, .bf16⟩
  | .local _ .vmem, ⟨13, _⟩ => ⟨S128x2048, .bf16⟩
  | .local _ .vmem, ⟨14, _⟩ => ⟨S1x2048, .f32⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference52Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 83
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x2048, .f32⟩
  | .hbm, ⟨64, _⟩ => ⟨S2048x2048, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S_, .f32⟩
  | .hbm, ⟨80, _⟩ => ⟨S2048, .f32⟩
  | .hbm, ⟨81, _⟩ => ⟨S1x2048, .f32⟩
  | .hbm, ⟨82, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Kernel53.lean ====
abbrev S2048x2048 : Shape := ⟨2, ![2048, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 14
  | .vmem => 20
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .bf16⟩
  | .local _ .vmem, ⟨15, _⟩ => ⟨S128x2048, .bf16⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference53Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 79
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S2048x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel54.lean ====
abbrev S2048x2048 : Shape := ⟨2, ![2048, 2048]⟩
abbrev S1x2048 : Shape := ⟨2, ![1, 2048]⟩
abbrev S2048x1 : Shape := ⟨2, ![2048, 1]⟩
abbrev S128x2048 : Shape := ⟨2, ![128, 2048]⟩
abbrev S128x1 : Shape := ⟨2, ![128, 1]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x1, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x2048, .f32⟩
  | .local _ .vmem, ⟨7, _⟩ => ⟨S1x2048, .f32⟩
  | .local _ .vmem, ⟨8, _⟩ => ⟨S128x1, .f32⟩
  | .local _ .vmem, ⟨9, _⟩ => ⟨S128x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference54Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Kernel56.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference56Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel57.lean ====
abbrev S2048x2048 : Shape := ⟨2, ![2048, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .bf16⟩
  | .local _ .vmem, ⟨11, _⟩ => ⟨S128x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference57Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Proof.Indices.lean ====
module

public import Idealize.ShloMosaic.Lib.Pipeline.ValueKit
public import Idealize.ShloMosaic.Lib.Pointwise

/-! # Indices as tuples of their coordinates -/

@[expose] public section

namespace Tables

open Idealize.ShloMosaic

/-- An index of a two-axis array is the pair of its coordinates. -/
theorem pair_eq {n k : ℕ} (y : (⟨2, ![n, k]⟩ : Shape).Idx) : y = ix2 (y 0) (y 1) := by
  funext i
  match i with
  | ⟨0, _⟩ => rfl
  | ⟨1, _⟩ => rfl

/-- An index of a three-axis array is the triple of its coordinates. -/
theorem triple_eq {n k l : ℕ} (y : (⟨3, ![n, k, l]⟩ : Shape).Idx) : y = ix3 (y 0) (y 1) (y 2) := by
  funext i
  match i with
  | ⟨0, _⟩ => rfl
  | ⟨1, _⟩ => rfl
  | ⟨2, _⟩ => rfl

/-- An index of a three-axis array of one plane is the pair of its other coordinates. -/
theorem plane_eq {k l : ℕ} (y : (⟨3, ![1, k, l]⟩ : Shape).Idx) : y = ix3 0 (y 1) (y 2) := by
  funext i
  match i with
  | ⟨0, _⟩ => exact Subsingleton.elim (α := Fin 1) _ _
  | ⟨1, _⟩ => rfl
  | ⟨2, _⟩ => rfl

end Tables

end
-- ==== Proof.Products.lean ====
module

public import proofs.«01_k».proof.Proof.Indices
public import Idealize.ShloMosaic.PureOps.Ideal
public import Idealize.ShloMosaic.Lib.Pipeline.ValueKit.Acc

/-! # The three products of a projection and its gradients

Each is a table of sums over the shared axis. A table whose columns lie in blocks of `n` has three axes: the
block, the row, the column in its block. -/

@[expose] public section

noncomputable section

namespace Products

open Idealize.ShloMosaic

/-- A table of extended reals. -/
abbrev Table (M N : ℕ) : Type := (⟨2, ![M, N]⟩ : Shape).Idx → EReal
/-- A table whose columns lie in blocks. -/
abbrev Blocks (S M n : ℕ) : Type := (⟨3, ![S, M, n]⟩ : Shape).Idx → EReal

variable {M K N S n : ℕ}

/-- The product of two tables. -/
def rowsColumns (a : Table M K) (b : Table K N) : Table M N := fun i => ∑ k : Fin K, a (ix2 (i 0) k) * b (ix2 k (i 1))

/-- The product of a table and a transposed one. -/
def rowsRows (a : Table M K) (b : Table N K) : Table M N := fun i => ∑ k : Fin K, a (ix2 (i 0) k) * b (ix2 (i 1) k)

/-- The product of a transposed table and another. -/
def columnsColumns (a : Table K M) (b : Table K N) : Table M N := fun i => ∑ k : Fin K, a (ix2 k (i 0)) * b (ix2 k (i 1))

/-- The place of a block's column among all columns. -/
def column {N : ℕ} (h : N = S * n) (s : Fin S) (j : Fin n) : Fin N :=
  ⟨s.val * n + j.val, h ▸ (Nat.add_lt_add_left j.isLt _).trans_le ((Nat.succ_mul s.val n).symm ▸ Nat.mul_le_mul_right n s.isLt)⟩

/-- The block of a column. -/
def block {N : ℕ} (h : N = S * n) (c : Fin N) : Fin S := ⟨c.val / n, Nat.div_lt_of_lt_mul (Nat.mul_comm S n ▸ h ▸ c.isLt)⟩

/-- The place of a column in its block. -/
def place {N : ℕ} (h : N = S * n) (c : Fin N) : Fin n :=
  ⟨c.val % n, Nat.mod_lt _ (Nat.pos_of_ne_zero fun e => by subst e; subst h; exact absurd c.isLt (by simp))⟩

/-- The product of a table and one whose columns lie in blocks. -/
def rowsBlocks {N : ℕ} (h : N = S * n) (a : Table M K) (b : Blocks S K n) : Table M N := fun i =>
  ∑ k : Fin K, a (ix2 (i 0) k) * b (ix3 (block h (i 1)) k (place h (i 1)))

/-- The product of a table and a transposed one whose columns lie in blocks, summed block by block. -/
def rowsBlockRows {L : ℕ} (h : L = S * n) (a : Table M L) (b : Blocks S K n) : Table M K := fun i =>
  ∑ s : Fin S, ∑ j : Fin n, a (ix2 (i 0) (column h s j)) * b (ix3 s (i 1) j)

/-- The product of a transposed table and another, its columns in blocks. -/
def columnsBlocks {N : ℕ} (h : N = S * n) (a : Table K M) (b : Table K N) : Blocks S M n := fun i =>
  ∑ k : Fin K, a (ix2 k (i 1)) * b (ix2 k (column h (i 0) (i 2)))

/-- A sum over all columns, block by block. -/
theorem sum_columns {L : ℕ} (h : L = S * n) (F : Fin L → EReal) : ∑ x, F x = ∑ s : Fin S, ∑ j : Fin n, F (column h s j) := by
  exact (Fin.sum_mul_add_congr (fun _ _ _ => congrArg F (Fin.ext rfl)) h).symm

/-- Two sums of products with equal factors are equal. -/
theorem sum_congr {a b a' b' : Fin K → EReal} (ha : ∀ k, a k = a' k) (hb : ∀ k, b k = b' k) :
    ∑ k, a k * b k = ∑ k, a' k * b' k := by
  rw [funext ha, funext hb]

/-- The same of two such sums over blocks. -/
theorem sums_congr {a b a' b' : Fin S → Fin n → EReal} (ha : ∀ s k, a s k = a' s k) (hb : ∀ s k, b s k = b' s k) :
    ∑ s, ∑ k, a s k * b s k = ∑ s, ∑ k, a' s k * b' s k :=
  Finset.sum_congr rfl fun s _ => sum_congr (ha s) (hb s)

theorem block_column {N : ℕ} (h : N = S * n) (s : Fin S) (j : Fin n) : block h (column h s j) = s := by
  apply Fin.ext
  show (s.val * n + j.val) / n = s.val
  rw [Nat.mul_comm, Nat.mul_add_div (Nat.zero_lt_of_lt j.isLt), Nat.div_eq_of_lt j.isLt, Nat.add_zero]

theorem place_column {N : ℕ} (h : N = S * n) (s : Fin S) (j : Fin n) : place h (column h s j) = j := by
  apply Fin.ext
  show (s.val * n + j.val) % n = j.val
  rw [Nat.mul_comm, Nat.mul_add_mod, Nat.mod_eq_of_lt j.isLt]

/-- The factors of a sum of products may change places. -/
theorem sum_comm {a b a' b' : Fin K → EReal} (ha : ∀ k, a k = b' k) (hb : ∀ k, b k = a' k) :
    ∑ k, a k * b k = ∑ k, a' k * b' k := by
  rw [funext ha, funext hb]
  exact Finset.sum_congr rfl fun k _ => mul_comm _ _

end Products

end
-- ==== Proof.WeightGrads.lean ====
module

public import proofs.«01_k».proof.Proof.Gen.Kernel7Ideal.Value
public import proofs.«01_k».proof.Proof.Gen.Reference7Ideal.Run
public import proofs.«01_k».proof.Proof.Gen.Kernel9Ideal.Value
public import proofs.«01_k».proof.Proof.Gen.Reference9Ideal.Run
public import proofs.«01_k».proof.Proof.Gen.Kernel11Ideal.Value
public import proofs.«01_k».proof.Proof.Gen.Reference11Ideal.Run
public import proofs.«01_k».proof.Proof.Gen.Kernel17Ideal.Value
public import proofs.«01_k».proof.Proof.Gen.Reference17Ideal.Run
public import proofs.«01_k».proof.Proof.Gen.Kernel13Ideal.Value
public import proofs.«01_k».proof.Proof.Gen.Reference13Ideal.Run
public import proofs.«01_k».proof.Proof.Gen.Kernel15Ideal.Value
public import proofs.«01_k».proof.Proof.Gen.Reference15Ideal.Run
public import proofs.«01_k».proof.Proof.Gen.Kernel19Ideal.Value
public import proofs.«01_k».proof.Proof.Gen.Reference19Ideal.Run
public import proofs.«01_k».proof.Proof.Products
public import Idealize.ShloMosaic.Lib.Pipeline.ValueKit
public import Idealize.ShloMosaic.Lib.Pointwise
public import Idealize.ShloMosaic.Lib.Tactic.CleanTypes

/-! # The gradients of the projections' weights

Each call computes the product of the transposed inputs with the cotangents, block by block; the rows, over
which the product sums, are all in one block. The weights that lie in blocks of columns get a gradient in such blocks. -/

@[expose] public section

set_option maxRecDepth 16384

noncomputable section

/-! ## The merge gates -/

namespace Cert.Kernel7Ideal.Value

open Cert.Kernel7Ideal Cert.Kernel7Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![0, t.val / 4] ∧ win0_1.index t = ![0, t.val % 4] ∧ win0_2.index t = ![t.val / 4, t.val % 4] :=
  (by decide +kernel : ∀ t : Fin grid0.N, _)

/-- The gradient of the gates' weights. -/
theorem array : (dats m 0 c).arrAt 2 cfg0.N
    = Products.columnsColumns (M := 2048) (K := 2048) (N := 4096) (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 1024) (q : Fin 1024), y = ix2 p q := ⟨y 0, y 1, pair_eq y⟩
  blk_simp
  rw [after0_2]
  unfold out0_2 Products.columnsColumns
  frame_out
  pointwise [k0_pay1]
  refine Products.sum_congr (fun k => ?_) (fun k => ?_)
  · blk_ext [iblk, V, idx_val t]
  · blk_ext [iblk, V, idx_val t]

end Cert.Kernel7Ideal.Value

namespace Cert.Reference7Ideal.Value

open Cert.Reference7Ideal Cert.Reference7Ideal.Gen Idealize.ShloMosaic Idealize.ShloMosaic.TcCoe
open Tables (pair_eq)

theorem result (h : FVec Ideal S2048x2048 .bf16) (ct : FVec Ideal S2048x4096 .bf16) :
    truncf .bf16 (transpose S2048x4096 [1, 0] (Host.dotGeneral dot_S2048x4096_S2048x2048_S4096x2048_0_0_1_1_n_n none
        (extf .f32 ct bitsLt_bf16_f32) (extf .f32 h bitsLt_bf16_f32)) transposes_S4096x2048_S2048x4096_1_0) bitsLt_bf16_f32
      = Products.columnsColumns (M := 2048) (K := 2048) (N := 4096) h ct := by
  funext i
  rw [pair_eq i]
  pointwise
  exact Products.sum_comm (fun _ => rfl) (fun _ => rfl)

end Cert.Reference7Ideal.Value

/-! ## The input projection -/

namespace Cert.Kernel9Ideal.Value

open Cert.Kernel9Ideal Cert.Kernel9Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![0, t.val / 2] ∧ win0_1.index t = ![0, t.val % 2] ∧ win0_2.index t = ![t.val / 2, t.val % 2] :=
  (by decide +kernel : ∀ t : Fin grid0.N, _)

/-- The gradient of the input weights. -/
theorem array : (dats m 0 c).arrAt 2 cfg0.N
    = Products.columnsColumns (M := 2048) (K := 2304) (N := 2048) (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 1024) (q : Fin 1024), y = ix2 p q := ⟨y 0, y 1, pair_eq y⟩
  blk_simp
  rw [after0_2]
  unfold out0_2 Products.columnsColumns
  frame_out
  pointwise [k0_pay1]
  refine Products.sum_congr (fun k => ?_) (fun k => ?_)
  · blk_ext [iblk, V, idx_val t]
  · blk_ext [iblk, V, idx_val t]

end Cert.Kernel9Ideal.Value

namespace Cert.Reference9Ideal.Value

open Cert.Reference9Ideal Cert.Reference9Ideal.Gen Idealize.ShloMosaic Idealize.ShloMosaic.TcCoe
open Tables (pair_eq)

theorem result (h : FVec Ideal S2304x2048 .bf16) (ct : FVec Ideal S2304x2048 .bf16) :
    truncf .bf16 (transpose S2048x2048 [1, 0] (Host.dotGeneral dot_S2304x2048_S2304x2048_S2048x2048_0_0_1_1_n_n none
        (extf .f32 ct bitsLt_bf16_f32) (extf .f32 h bitsLt_bf16_f32)) transposes_S2048x2048_S2048x2048_1_0) bitsLt_bf16_f32
      = Products.columnsColumns (M := 2048) (K := 2304) (N := 2048) h ct := by
  funext i
  rw [pair_eq i]
  pointwise
  exact Products.sum_comm (fun _ => rfl) (fun _ => rfl)

end Cert.Reference9Ideal.Value

/-! ## The output projection -/

namespace Cert.Kernel11Ideal.Value

open Cert.Kernel11Ideal Cert.Kernel11Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![0, t.val / 2] ∧ win0_1.index t = ![0, t.val % 2] ∧ win0_2.index t = ![t.val / 2, t.val % 2] :=
  (by decide +kernel : ∀ t : Fin grid0.N, _)

/-- The gradient of the output weights. -/
theorem array : (dats m 0 c).arrAt 2 cfg0.N
    = Products.columnsColumns (M := 2048) (K := 2048) (N := 2048) (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 1024) (q : Fin 1024), y = ix2 p q := ⟨y 0, y 1, pair_eq y⟩
  blk_simp
  rw [after0_2]
  unfold out0_2 Products.columnsColumns
  frame_out
  pointwise [k0_pay1]
  refine Products.sum_congr (fun k => ?_) (fun k => ?_)
  · blk_ext [iblk, V, idx_val t]
  · blk_ext [iblk, V, idx_val t]

end Cert.Kernel11Ideal.Value

namespace Cert.Reference11Ideal.Value

open Cert.Reference11Ideal Cert.Reference11Ideal.Gen Idealize.ShloMosaic Idealize.ShloMosaic.TcCoe
open Tables (pair_eq)

theorem result (h : FVec Ideal S2048x2048 .bf16) (ct : FVec Ideal S2048x2048 .bf16) :
    truncf .bf16 (transpose S2048x2048 [1, 0] (Host.dotGeneral dot_S2048x2048_S2048x2048_S2048x2048_0_0_1_1_n_n none
        (extf .f32 ct bitsLt_bf16_f32) (extf .f32 h bitsLt_bf16_f32)) transposes_S2048x2048_S2048x2048_1_0) bitsLt_bf16_f32
      = Products.columnsColumns (M := 2048) (K := 2048) (N := 2048) h ct := by
  funext i
  rw [pair_eq i]
  pointwise
  exact Products.sum_comm (fun _ => rfl) (fun _ => rfl)

end Cert.Reference11Ideal.Value

/-! ## The queries' projection -/

namespace Cert.Kernel17Ideal.Value

open Cert.Kernel17Ideal Cert.Kernel17Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![0, 0] ∧ win0_1.index t = ![0, t.val] ∧ win0_2.index t = ![0, t.val] :=
  (by decide +kernel : ∀ t : Fin grid0.N, _)

/-- The gradient of the queries' weights. -/
theorem array : (dats m 0 c).arrAt 2 cfg0.N
    = Products.columnsColumns (M := 512) (K := 2048) (N := 2048) (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 512) (q : Fin 1024), y = ix2 p q := ⟨y 0, y 1, pair_eq y⟩
  blk_simp
  rw [after0_2]
  unfold out0_2 Products.columnsColumns
  frame_out
  pointwise [k0_pay1]
  refine Products.sum_congr (fun k => ?_) (fun k => ?_)
  · blk_ext [iblk, V, idx_val t]
  · blk_ext [iblk, V, idx_val t]

end Cert.Kernel17Ideal.Value

namespace Cert.Reference17Ideal.Value

open Cert.Reference17Ideal Cert.Reference17Ideal.Gen Idealize.ShloMosaic Idealize.ShloMosaic.TcCoe
open Tables (pair_eq)

theorem result (h : FVec Ideal S2048x512 .bf16) (ct : FVec Ideal S2048x2048 .bf16) :
    truncf .bf16 (transpose S512x2048 [1, 0] (Host.dotGeneral dot_S2048x2048_S2048x512_S2048x512_0_0_1_1_n_n none
        (extf .f32 ct bitsLt_bf16_f32) (extf .f32 h bitsLt_bf16_f32)) transposes_S2048x512_S512x2048_1_0) bitsLt_bf16_f32
      = Products.columnsColumns (M := 512) (K := 2048) (N := 2048) h ct := by
  funext i
  rw [pair_eq i]
  pointwise
  exact Products.sum_comm (fun _ => rfl) (fun _ => rfl)

end Cert.Reference17Ideal.Value

/-! ## The S5 mixer's gated unit -/

namespace Cert.Kernel13Ideal.Value

open Cert.Kernel13Ideal Cert.Kernel13Ideal.Gen Idealize.ShloMosaic Idealize.ShloMosaic.TcCoe
open Tables (plane_eq)

variable (m : (ℓ : Loc nD τ sig) → Buf (Elt Ideal) ℓ) (c : Dev nD)

theorem idx_val : ∀ t : Fin cfg0.N, win0_0.index t = ![0, 0] ∧ win0_1.index t = ![0, t.val] ∧ win0_2.index t = ![t.val, 0, 0] :=
  (by decide +kernel : ∀ t : Fin grid0.N, _)

/-- The gradient of the gated unit's weights. -/
theorem array : (dats m 0 c).arrAt 2 cfg0.N
    = Products.columnsBlocks (S := 4) (n := 1024) (M := 1024) (K := 2048) (N := 4096) rfl (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 1024) (q : Fin 1024), y = ix3 0 p q := ⟨y 1, y 2, plane_eq y⟩
  blk_simp
  rw [after0_2]
  unfold out0_2 Products.columnsBlocks
  frame_out
  pointwise [k0_pay1]
  refine Products.sum_congr (fun k => ?_) (fun k => ?_)
  · blk_ext [iblk, V, idx_val t, Products.column]
  · blk_ext [iblk, V, idx_val t, Products.column]

end Cert.Kernel13Ideal.Value

namespace Cert.Reference13Ideal.Value

open Cert.Reference13Ideal Cert.Reference13Ideal.Gen Idealize.ShloMosaic Idealize.ShloMosaic.TcCoe
open Tables (triple_eq)

theorem result (h : FVec Ideal S2048x1024 .bf16) (ct : FVec Ideal S2048x4096 .bf16) :
    truncf .bf16 (transpose S4x1024x1024 [1, 0, 2] (shapeCast _ (transpose S1024x4096 [1, 0]
        (Host.dotGeneral dot_S2048x4096_S2048x1024_S4096x1024_0_0_1_1_n_n none (extf .f32 ct bitsLt_bf16_f32) (extf .f32 h bitsLt_bf16_f32))
        transposes_S4096x1024_S1024x4096_1_0) shapeCasts_S1024x4096_S1024x4x1024) transposes_S1024x4x1024_S4x1024x1024_1_0_2) bitsLt_bf16_f32
      = Products.columnsBlocks (S := 4) (n := 1024) (M := 1024) (K := 2048) (N := 4096) rfl h ct := by
  funext i
  rw [triple_eq i]
  pointwise
  exact Products.sum_comm (fun _ => rfl) (fun _ => rfl)

end Cert.Reference13Ideal.Value

/-! ## The attention's output -/

namespace Cert.Kernel15Ideal.Value

open Cert.Kernel15Ideal Cert.Kernel15Ideal.Gen Idealize.ShloMosaic Idealize.ShloMosaic.TcCoe
open Tables (plane_eq)

variable (m : (ℓ : Loc nD τ sig) → Buf (Elt Ideal) ℓ) (c : Dev nD)

theorem idx_val : ∀ t : Fin cfg0.N, win0_0.index t = ![0, 0] ∧ win0_1.index t = ![0, t.val] ∧ win0_2.index t = ![t.val, 0, 0] :=
  (by decide +kernel : ∀ t : Fin grid0.N, _)

/-- The gradient of the attention's output weights. -/
theorem array : (dats m 0 c).arrAt 2 cfg0.N
    = Products.columnsBlocks (S := 4) (n := 512) (M := 1024) (K := 2048) (N := 2048) rfl (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 1024) (q : Fin 512), y = ix3 0 p q := ⟨y 1, y 2, plane_eq y⟩
  blk_simp
  rw [after0_2]
  unfold out0_2 Products.columnsBlocks
  frame_out
  pointwise [k0_pay1]
  refine Products.sum_congr (fun k => ?_) (fun k => ?_)
  · blk_ext [iblk, V, idx_val t, Products.column]
  · blk_ext [iblk, V, idx_val t, Products.column]

end Cert.Kernel15Ideal.Value

namespace Cert.Reference15Ideal.Value

open Cert.Reference15Ideal Cert.Reference15Ideal.Gen Idealize.ShloMosaic Idealize.ShloMosaic.TcCoe
open Tables (triple_eq)

theorem result (h : FVec Ideal S2048x1024 .bf16) (ct : FVec Ideal S2048x2048 .bf16) :
    truncf .bf16 (transpose S4x1024x512 [1, 0, 2] (shapeCast _ (transpose S1024x2048 [1, 0]
        (Host.dotGeneral dot_S2048x2048_S2048x1024_S2048x1024_0_0_1_1_n_n none (extf .f32 ct bitsLt_bf16_f32) (extf .f32 h bitsLt_bf16_f32))
        transposes_S2048x1024_S1024x2048_1_0) shapeCasts_S1024x2048_S1024x4x512) transposes_S1024x4x512_S4x1024x512_1_0_2) bitsLt_bf16_f32
      = Products.columnsBlocks (S := 4) (n := 512) (M := 1024) (K := 2048) (N := 2048) rfl h ct := by
  funext i
  rw [triple_eq i]
  pointwise
  exact Products.sum_comm (fun _ => rfl) (fun _ => rfl)

end Cert.Reference15Ideal.Value

/-! ## The keys' and values' projection -/

namespace Cert.Kernel19Ideal.Value

open Cert.Kernel19Ideal Cert.Kernel19Ideal.Gen Idealize.ShloMosaic Idealize.ShloMosaic.TcCoe
open Tables (plane_eq)

variable (m : (ℓ : Loc nD τ sig) → Buf (Elt Ideal) ℓ) (c : Dev nD)

theorem idx_val : ∀ t : Fin cfg0.N, win0_0.index t = ![0, 0] ∧ win0_1.index t = ![0, t.val] ∧ win0_2.index t = ![t.val, 0, 0] :=
  (by decide +kernel : ∀ t : Fin grid0.N, _)

/-- The gradient of the keys' and values' weights. -/
theorem array : (dats m 0 c).arrAt 2 cfg0.N
    = Products.columnsBlocks (S := 4) (n := 512) (M := 256) (K := 2304) (N := 2048) rfl (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 256) (q : Fin 512), y = ix3 0 p q := ⟨y 1, y 2, plane_eq y⟩
  blk_simp
  rw [after0_2]
  unfold out0_2 Products.columnsBlocks
  frame_out
  pointwise [k0_pay1]
  refine Products.sum_congr (fun k => ?_) (fun k => ?_)
  · blk_ext [iblk, V, idx_val t, Products.column]
  · blk_ext [iblk, V, idx_val t, Products.column]

end Cert.Kernel19Ideal.Value

namespace Cert.Reference19Ideal.Value

open Cert.Reference19Ideal Cert.Reference19Ideal.Gen Idealize.ShloMosaic Idealize.ShloMosaic.TcCoe
open Tables (triple_eq)

theorem result (h : FVec Ideal S2304x256 .bf16) (ct : FVec Ideal S2304x2048 .bf16) :
    truncf .bf16 (transpose S4x256x512 [1, 0, 2] (shapeCast _ (transpose S256x2048 [1, 0]
        (Host.dotGeneral dot_S2304x2048_S2304x256_S2048x256_0_0_1_1_n_n none (extf .f32 ct bitsLt_bf16_f32) (extf .f32 h bitsLt_bf16_f32))
        transposes_S2048x256_S256x2048_1_0) shapeCasts_S256x2048_S256x4x512) transposes_S256x4x512_S4x256x512_1_0_2) bitsLt_bf16_f32
      = Products.columnsBlocks (S := 4) (n := 512) (M := 256) (K := 2304) (N := 2048) rfl h ct := by
  funext i
  rw [triple_eq i]
  pointwise
  exact Products.sum_comm (fun _ => rfl) (fun _ => rfl)

end Cert.Reference19Ideal.Value

end
-- ==== Proof.InputGrads.lean ====
module

public import proofs.«01_k».proof.Proof.Gen.Kernel8Ideal.Value
public import proofs.«01_k».proof.Proof.Gen.Reference8Ideal.Run
public import proofs.«01_k».proof.Proof.Gen.Kernel10Ideal.Value
public import proofs.«01_k».proof.Proof.Gen.Reference10Ideal.Run
public import proofs.«01_k».proof.Proof.Gen.Kernel16Ideal.Value
public import proofs.«01_k».proof.Proof.Gen.Reference16Ideal.Run
public import proofs.«01_k».proof.Proof.Gen.Kernel6Ideal.Value
public import proofs.«01_k».proof.Proof.Gen.Reference6Ideal.Run
public import proofs.«01_k».proof.Proof.Gen.Kernel12Ideal.Value
public import proofs.«01_k».proof.Proof.Gen.Reference12Ideal.Run
public import proofs.«01_k».proof.Proof.Gen.Kernel14Ideal.Value
public import proofs.«01_k».proof.Proof.Gen.Reference14Ideal.Run
public import proofs.«01_k».proof.Proof.Gen.Kernel18Ideal.Value
public import proofs.«01_k».proof.Proof.Gen.Reference18Ideal.Run
public import proofs.«01_k».proof.Proof.Products
public import Idealize.ShloMosaic.Lib.Pipeline.ValueKit
public import Idealize.ShloMosaic.Lib.Pipeline.ValueKit.Acc
public import Idealize.ShloMosaic.Lib.Pipeline.ReadBack
public import Idealize.ShloMosaic.Lib.Pointwise
public import Idealize.ShloMosaic.Lib.Tactic.CleanTypes

/-! # The gradients of the projections' inputs

Each call computes the product of the cotangents with the transposed weights. Where the sum runs over several
points, an accumulator adds their products; the sum is the same, taken block by block. -/

@[expose] public section

set_option maxRecDepth 16384

noncomputable section

/-! ## The input projection -/

namespace Cert.Kernel8Ideal.Value

open Cert.Kernel8Ideal Cert.Kernel8Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val / 2, 0] ∧ win0_1.index t = ![t.val % 2, 0] ∧ win0_2.index t = ![t.val / 2, t.val % 2] :=
  (by decide +kernel : ∀ t : Fin grid0.N, _)

/-- The gradient of the mixer's input. -/
theorem array : (dats m 0 c).arrAt 2 cfg0.N
    = Products.rowsRows (M := 2304) (K := 2048) (N := 2048) (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 768) (q : Fin 1024), y = ix2 p q := ⟨y 0, y 1, pair_eq y⟩
  blk_simp
  rw [after0_2]
  unfold out0_2 Products.rowsRows
  frame_out
  pointwise [k0_pay1]
  refine Products.sum_congr (fun k => ?_) (fun k => ?_)
  · blk_ext [iblk, V, idx_val t]
  · blk_ext [iblk, V, idx_val t]

end Cert.Kernel8Ideal.Value

namespace Cert.Reference8Ideal.Value

open Cert.Reference8Ideal Cert.Reference8Ideal.Gen Idealize.ShloMosaic Idealize.ShloMosaic.TcCoe
open Tables (pair_eq)

theorem result (ct : FVec Ideal S2304x2048 .bf16) (w : FVec Ideal S2048x2048 .bf16) :
    Host.dotGeneral dot_S2304x2048_S2048x2048_S2304x2048_1_1_0_0_n_n none (extf .f32 ct bitsLt_bf16_f32) (extf .f32 w bitsLt_bf16_f32)
      = Products.rowsRows (M := 2304) (K := 2048) (N := 2048) ct w := by
  funext i
  rw [pair_eq i]
  pointwise [Products.rowsRows]

end Cert.Reference8Ideal.Value

/-! ## The output projection -/

namespace Cert.Kernel10Ideal.Value

open Cert.Kernel10Ideal Cert.Kernel10Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val / 2, 0] ∧ win0_1.index t = ![t.val % 2, 0] ∧ win0_2.index t = ![t.val / 2, t.val % 2] :=
  (by decide +kernel : ∀ t : Fin grid0.N, _)

/-- The gradient of the merged mixers. -/
theorem array : (dats m 0 c).arrAt 2 cfg0.N
    = Products.rowsRows (M := 2048) (K := 2048) (N := 2048) (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 1024) (q : Fin 1024), y = ix2 p q := ⟨y 0, y 1, pair_eq y⟩
  blk_simp
  rw [after0_2]
  unfold out0_2 Products.rowsRows
  frame_out
  pointwise [k0_pay1]
  refine Products.sum_congr (fun k => ?_) (fun k => ?_)
  · blk_ext [iblk, V, idx_val t]
  · blk_ext [iblk, V, idx_val t]

end Cert.Kernel10Ideal.Value

namespace Cert.Reference10Ideal.Value

open Cert.Reference10Ideal Cert.Reference10Ideal.Gen Idealize.ShloMosaic Idealize.ShloMosaic.TcCoe
open Tables (pair_eq)

theorem result (ct : FVec Ideal S2048x2048 .bf16) (w : FVec Ideal S2048x2048 .bf16) :
    Host.dotGeneral dot_S2048x2048_S2048x2048_S2048x2048_1_1_0_0_n_n none (extf .f32 ct bitsLt_bf16_f32) (extf .f32 w bitsLt_bf16_f32)
      = Products.rowsRows (M := 2048) (K := 2048) (N := 2048) ct w := by
  funext i
  rw [pair_eq i]
  pointwise [Products.rowsRows]

end Cert.Reference10Ideal.Value

/-! ## The queries' projection -/

namespace Cert.Kernel16Ideal.Value

open Cert.Kernel16Ideal Cert.Kernel16Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val, 0] ∧ win0_1.index t = ![0, 0] ∧ win0_2.index t = ![t.val, 0] :=
  (by decide +kernel : ∀ t : Fin grid0.N, _)

/-- The gradient of the queries' low rank inputs. -/
theorem array : (dats m 0 c).arrAt 2 cfg0.N
    = Products.rowsRows (M := 2048) (K := 2048) (N := 512) (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 1024) (q : Fin 512), y = ix2 p q := ⟨y 0, y 1, pair_eq y⟩
  blk_simp
  rw [after0_2]
  unfold out0_2 Products.rowsRows
  frame_out
  pointwise [k0_pay1]
  refine Products.sum_congr (fun k => ?_) (fun k => ?_)
  · blk_ext [iblk, V, idx_val t]
  · blk_ext [iblk, V, idx_val t]

end Cert.Kernel16Ideal.Value

namespace Cert.Reference16Ideal.Value

open Cert.Reference16Ideal Cert.Reference16Ideal.Gen Idealize.ShloMosaic Idealize.ShloMosaic.TcCoe
open Tables (pair_eq)

theorem result (ct : FVec Ideal S2048x2048 .bf16) (w : FVec Ideal S512x2048 .bf16) :
    Host.dotGeneral dot_S2048x2048_S512x2048_S2048x512_1_1_0_0_n_n none (extf .f32 ct bitsLt_bf16_f32) (extf .f32 w bitsLt_bf16_f32)
      = Products.rowsRows (M := 2048) (K := 2048) (N := 512) ct w := by
  funext i
  rw [pair_eq i]
  pointwise [Products.rowsRows]

end Cert.Reference16Ideal.Value

/-! ## The merge gates -/

namespace Cert.Kernel6Ideal.Value

open Cert.Kernel6Ideal Cert.Kernel6Ideal.Gen Idealize.ShloMosaic Idealize.ShloMosaic.TcCoe
open Tables (pair_eq)

/-- The product of a point's blocks. -/
def product (x0 : Vec Ideal S1024x2048 .bf16) (x1 : Vec Ideal S1024x2048 .bf16) (p : Fin 1024) (q : Fin 1024) : EReal :=
  ∑ k : Fin 2048, x0 (ix2 p k) * x1 (ix2 q k)

theorem product_at (x0 : Vec Ideal S1024x2048 .bf16) (x1 : Vec Ideal S1024x2048 .bf16) (p : Fin 1024) (q : Fin 1024) :
    k0_pay2 (F := Ideal) x0 x1 (ix2 p q) = product x0 x1 p q := by
  unfold product
  pointwise [k0_pay2, k0_pay1]

theorem sum_at (x0 : Vec Ideal S1024x2048 .bf16) (x1 : Vec Ideal S1024x2048 .bf16) (acc : Vec Ideal S1024x1024 .f32) (p : Fin 1024) (q : Fin 1024) :
    k0_pay3 (F := Ideal) x0 x1 acc (ix2 p q) = acc (ix2 p q) + product x0 x1 p q := by
  unfold product
  pointwise [k0_pay3, k0_pay1]

variable (m : (ℓ : Loc nD τ sig) → Buf (Elt Ideal) ℓ) (c : Dev nD)

theorem idx_val : ∀ t : Fin cfg0.N, win0_0.index t = ![t.val / 4, t.val % 2] ∧ win0_1.index t = ![t.val / 2 % 2, t.val % 2] ∧ win0_2.index t = ![t.val / 4, t.val / 2 % 2] :=
  (by decide +kernel : ∀ t : Fin grid0.N, _)

/-- The product of the blocks at a point. -/
def term (t : Fin cfg0.N) (i : Fin 1024 × Fin 1024) : EReal := product (iblk m c 0 t) (iblk m c 1 t) i.1 i.2

theorem first (t : Fin cfg0.N) (h : t.val % 2 = 0) (i : Fin 1024 × Fin 1024) :
    ((outsAt0 m c t.val t.isLt).2 (ix2 i.1 i.2) : EReal) = 0 + term m c t i := by
  rw [outsAt0_A m c t h (by omega) (by omega)]
  dsimp only
  frame_out
  rw [product_at, zero_add]
  rfl

theorem next (t : Fin cfg0.N) (h : ¬t.val % 2 = 0) (i : Fin 1024 × Fin 1024) : ((outsAt0 m c t.val t.isLt).2 (ix2 i.1 i.2) : EReal)
    = (outsAt0 m c (t.val - 1) (Nat.lt_of_le_of_lt (Nat.sub_le _ _) t.isLt)).2 (ix2 i.1 i.2) + term m c t i := by
  have e : t.val % 2 = 1 := by omega
  rw [outsAt0_B m c t h e e]
  dsimp only
  frame_out
  simp only [sum_at, read_unread_whole]
  rfl

theorem last (t : Fin cfg0.N) (h : t.val % 2 = 1) (p : Fin 1024) (q : Fin 1024) :
    ((outsAt0 m c t.val t.isLt).1 (ix2 p q) : EReal)
      = ∑ s : Fin 2, term m c ⟨2 * (t.val / 2) + s.val, Pipeline.run_point_lt_of_flush t h s⟩ (p, q) := by
  have e := Pipeline.eq_sum_fin_of_reset_step_apply_of_flush (N := cfg0.N) (ι := Fin 1024 × Fin 1024) (M := EReal)
    (fun n hn i => (outsAt0 m c n hn).2 (ix2 i.1 i.2)) 2 (fun _ => 0) (term m c) (first m c) (next m c) t h (p, q)
  refine Eq.trans ?_ (e.trans (zero_add _))
  rw [outsAt0_B m c t (by omega) (by omega) (by omega)]
  dsimp only
  frame_out

/-- The gradient of the gates' input. -/
theorem array : (dats m 0 c).arrAt 2 cfg0.N
    = Products.rowsRows (M := 2048) (K := 4096) (N := 2048) (m ((c : Thread nD τ).loc main_arg0)) (m ((c : Thread nD τ).loc main_arg1)) := by
  refine (dats m 0 c).arrAt_eq_of_covers 2 _ (by decide +kernel) fun t hf y => ?_
  have h := (flush0_2 t).1 hf
  obtain ⟨p, q, rfl⟩ : ∃ (p : Fin 1024) (q : Fin 1024), y = ix2 p q := ⟨y 0, y 1, pair_eq y⟩
  blk_simp
  rw [after0_2]
  refine (last m c t h p q).trans ?_
  unfold Products.rowsRows
  refine Eq.trans ?_ (Products.sum_columns (S := 2) (n := 2048) rfl _).symm
  refine Products.sums_congr (fun s k => ?_) (fun s k => ?_)
  · blk_ext [iblk, V, Products.column, idx_val ⟨_, Pipeline.run_point_lt_of_flush t h s⟩, idx_val t]
  · blk_ext [iblk, V, Products.column, idx_val ⟨_, Pipeline.run_point_lt_of_flush t h s⟩, idx_val t]

end Cert.Kernel6Ideal.Value

namespace Cert.Reference6Ideal.Value

open Cert.Reference6Ideal Cert.Reference6Ideal.Gen Idealize.ShloMosaic Idealize.ShloMosaic.TcCoe
open Tables (pair_eq)

theorem result (ct : FVec Ideal S2048x4096 .bf16) (w : FVec Ideal S2048x4096 .bf16) :
    Host.dotGeneral dot_S2048x4096_S2048x4096_S2048x2048_1_1_0_0_n_n none (extf .f32 ct bitsLt_bf16_f32) (extf .f32 w bitsLt_bf16_f32)
      = Products.rowsRows (M := 2048) (K := 4096) (N := 2048) ct w := by
  funext i
  rw [pair_eq i]
  pointwise [Products.rowsRows]

end Cert.Reference6Ideal.Value

/-! ## The S5 mixer's gated unit -/

namespace Cert.Kernel12Ideal.Value

open Cert.Kernel12Ideal Cert.Kernel12Ideal.Gen Idealize.ShloMosaic Idealize.ShloMosaic.TcCoe
open Tables (pair_eq)

/-- The product of a point's blocks. -/
def product (x0 : Vec Ideal S1024x1024 .bf16) (x1 : Vec Ideal S1x1024x1024 .bf16) (p : Fin 1024) (q : Fin 1024) : EReal :=
  ∑ k : Fin 1024, x0 (ix2 p k) * x1 (ix3 0 q k)

theorem product_at (x0 : Vec Ideal S1024x1024 .bf16) (x1 : Vec Ideal S1x1024x1024 .bf16) (p : Fin 1024) (q : Fin 1024) :
    k0_pay2 (F := Ideal) x0 x1 (ix2 p q) = product x0 x1 p q := by
  unfold product
  pointwise [k0_pay2, k0_pay1]

theorem sum_at (x0 : Vec Ideal S1024x1024 .bf16) (x1 : Vec Ideal S1x1024x1024 .bf16) (acc : Vec Ideal S1024x1024 .f32) (p : Fin 1024) (q : Fin 1024) :
    k0_pay3 (F := Ideal) x0 x1 acc (ix2 p q) = acc (ix2 p q) + product x0 x1 p q := by
  unfold product
  pointwise [k0_pay3, k0_pay1]

variable (m : (ℓ : Loc nD τ sig) → Buf (Elt Ideal) ℓ) (c : Dev nD)

theorem idx_val : ∀ t : Fin cfg0.N, win0_0.index t = ![t.val / 4, t.val % 4] ∧ win0_1.index t = ![t.val % 4, 0, 0] ∧ win0_2.index t = ![t.val / 4, 0] :=
  (by decide +kernel : ∀ t : Fin grid0.N, _)

/-- The product of the blocks at a point. -/
def term (t : Fin cfg0.N) (i : Fin 1024 × Fin 1024) : EReal := product (iblk m c 0 t) (iblk m c 1 t) i.1 i.2

theorem first (t : Fin cfg0.N) (h : t.val % 4 = 0) (i : Fin 1024 × Fin 1024) :
    ((outsAt0 m c t.val t.isLt).2 (ix2 i.1 i.2) : EReal) = 0 + term m c t i := by
  rw [outsAt0_A m c t h (by omega) (by omega)]
  dsimp only
  frame_out
  rw [product_at, zero_add]
  rfl

theorem next (t : Fin cfg0.N) (h : ¬t.val % 4 = 0) (i : Fin 1024 × Fin 1024) : ((outsAt0 m c t.val t.isLt).2 (ix2 i.1 i.2) : EReal)
    = (outsAt0 m c (t.val - 1) (Nat.lt_of_le_of_lt (Nat.sub_le _ _) t.isLt)).2 (ix2 i.1 i.2) + term m c t i := by
  by_cases h2 : t.val % 4 = 3
  · rw [outsAt0_C m c t h (by omega) h2]
    dsimp only
    frame_out
    simp only [sum_at, read_unread_whole]
    rfl
  · rw [outsAt0_B m c t h (by omega) h2]
    dsimp only
    frame_out
    simp only [sum_at, read_unread_whole]
    rfl

theorem last (t : Fin cfg0.N) (h : t.val % 4 = 3) (p : Fin 1024) (q : Fin 1024) :
    ((outsAt0 m c t.val t.isLt).1 (ix2 p q) : EReal)
      = ∑ s : Fin 4, term m c ⟨4 * (t.val / 4) + s.val, Pipeline.run_point_lt_of_flush t h s⟩ (p, q) := by
  have e := Pipeline.eq_sum_fin_of_reset_step_apply_of_flush (N := cfg0.N) (ι := Fin 1024 × Fin 1024) (M := EReal)
    (fun n hn i => (outsAt0 m c n hn).2 (ix2 i.1 i.2)) 4 (fun _ => 0) (term m c) (first m c) (next m c) t h (p, q)
  refine Eq.trans ?_ (e.trans (zero_add _))
  rw [outsAt0_C m c t (by omega) (by omega) h]
  dsimp only
  frame_out

/-- The gradient of the gated unit's input. -/
theorem array : (dats m 0 c).arrAt 2 cfg0.N
    = Products.rowsBlockRows (S := 4) (n := 1024) (M := 2048) (K := 1024) (L := 4096) rfl (m ((c : Thread nD τ).loc main_arg0)) (m ((c : Thread nD τ).loc main_arg1)) := by
  refine (dats m 0 c).arrAt_eq_of_covers 2 _ (by decide +kernel) fun t hf y => ?_
  have h := (flush0_2 t).1 hf
  obtain ⟨p, q, rfl⟩ : ∃ (p : Fin 1024) (q : Fin 1024), y = ix2 p q := ⟨y 0, y 1, pair_eq y⟩
  blk_simp
  rw [after0_2]
  refine (last m c t h p q).trans ?_
  unfold Products.rowsBlockRows
  refine Products.sums_congr (fun s k => ?_) (fun s k => ?_)
  · blk_ext [iblk, V, Products.column, idx_val ⟨_, Pipeline.run_point_lt_of_flush t h s⟩, idx_val t]
  · blk_ext [iblk, V, Products.column, idx_val ⟨_, Pipeline.run_point_lt_of_flush t h s⟩, idx_val t]

end Cert.Kernel12Ideal.Value

namespace Cert.Reference12Ideal.Value

open Cert.Reference12Ideal Cert.Reference12Ideal.Gen Idealize.ShloMosaic Idealize.ShloMosaic.TcCoe
open Tables (pair_eq)

theorem result (ct : FVec Ideal S2048x4096 .bf16) (w : FVec Ideal S4x1024x1024 .bf16) :
    Host.dotGeneral dot_S2048x4096_S1024x4096_S2048x1024_1_1_0_0_n_n none (extf .f32 ct bitsLt_bf16_f32)
        (shapeCast _ (transpose S1024x4x1024 [1, 0, 2] (extf .f32 w bitsLt_bf16_f32) transposes_S4x1024x1024_S1024x4x1024_1_0_2)
          shapeCasts_S1024x4x1024_S1024x4096)
      = Products.rowsBlockRows (S := 4) (n := 1024) (M := 2048) (K := 1024) (L := 4096) rfl ct w := by
  funext i
  rw [pair_eq i]
  pointwise
  refine (Products.sum_columns (S := 4) (n := 1024) rfl _).trans (Products.sums_congr (fun s k => rfl) fun s k => ?_)
  exact congrArg₂ (fun x y => w (ix3 x (i 1) y)) (Products.block_column rfl s k) (Products.place_column rfl s k)

end Cert.Reference12Ideal.Value

/-! ## The attention's output -/

namespace Cert.Kernel14Ideal.Value

open Cert.Kernel14Ideal Cert.Kernel14Ideal.Gen Idealize.ShloMosaic Idealize.ShloMosaic.TcCoe
open Tables (pair_eq)

/-- The product of a point's blocks. -/
def product (x0 : Vec Ideal S1024x512 .bf16) (x1 : Vec Ideal S1x1024x512 .bf16) (p : Fin 1024) (q : Fin 1024) : EReal :=
  ∑ k : Fin 512, x0 (ix2 p k) * x1 (ix3 0 q k)

theorem product_at (x0 : Vec Ideal S1024x512 .bf16) (x1 : Vec Ideal S1x1024x512 .bf16) (p : Fin 1024) (q : Fin 1024) :
    k0_pay2 (F := Ideal) x0 x1 (ix2 p q) = product x0 x1 p q := by
  unfold product
  pointwise [k0_pay2, k0_pay1]

theorem sum_at (x0 : Vec Ideal S1024x512 .bf16) (x1 : Vec Ideal S1x1024x512 .bf16) (acc : Vec Ideal S1024x1024 .f32) (p : Fin 1024) (q : Fin 1024) :
    k0_pay3 (F := Ideal) x0 x1 acc (ix2 p q) = acc (ix2 p q) + product x0 x1 p q := by
  unfold product
  pointwise [k0_pay3, k0_pay1]

variable (m : (ℓ : Loc nD τ sig) → Buf (Elt Ideal) ℓ) (c : Dev nD)

theorem idx_val : ∀ t : Fin cfg0.N, win0_0.index t = ![t.val / 4, t.val % 4] ∧ win0_1.index t = ![t.val % 4, 0, 0] ∧ win0_2.index t = ![t.val / 4, 0] :=
  (by decide +kernel : ∀ t : Fin grid0.N, _)

/-- The product of the blocks at a point. -/
def term (t : Fin cfg0.N) (i : Fin 1024 × Fin 1024) : EReal := product (iblk m c 0 t) (iblk m c 1 t) i.1 i.2

theorem first (t : Fin cfg0.N) (h : t.val % 4 = 0) (i : Fin 1024 × Fin 1024) :
    ((outsAt0 m c t.val t.isLt).2 (ix2 i.1 i.2) : EReal) = 0 + term m c t i := by
  rw [outsAt0_A m c t h (by omega) (by omega)]
  dsimp only
  frame_out
  rw [product_at, zero_add]
  rfl

theorem next (t : Fin cfg0.N) (h : ¬t.val % 4 = 0) (i : Fin 1024 × Fin 1024) : ((outsAt0 m c t.val t.isLt).2 (ix2 i.1 i.2) : EReal)
    = (outsAt0 m c (t.val - 1) (Nat.lt_of_le_of_lt (Nat.sub_le _ _) t.isLt)).2 (ix2 i.1 i.2) + term m c t i := by
  by_cases h2 : t.val % 4 = 3
  · rw [outsAt0_C m c t h (by omega) h2]
    dsimp only
    frame_out
    simp only [sum_at, read_unread_whole]
    rfl
  · rw [outsAt0_B m c t h (by omega) h2]
    dsimp only
    frame_out
    simp only [sum_at, read_unread_whole]
    rfl

theorem last (t : Fin cfg0.N) (h : t.val % 4 = 3) (p : Fin 1024) (q : Fin 1024) :
    ((outsAt0 m c t.val t.isLt).1 (ix2 p q) : EReal)
      = ∑ s : Fin 4, term m c ⟨4 * (t.val / 4) + s.val, Pipeline.run_point_lt_of_flush t h s⟩ (p, q) := by
  have e := Pipeline.eq_sum_fin_of_reset_step_apply_of_flush (N := cfg0.N) (ι := Fin 1024 × Fin 1024) (M := EReal)
    (fun n hn i => (outsAt0 m c n hn).2 (ix2 i.1 i.2)) 4 (fun _ => 0) (term m c) (first m c) (next m c) t h (p, q)
  refine Eq.trans ?_ (e.trans (zero_add _))
  rw [outsAt0_C m c t (by omega) (by omega) h]
  dsimp only
  frame_out
  pointwise [k0_pay4]

/-- The gradient of the heads' outputs. -/
theorem array : (dats m 0 c).arrAt 2 cfg0.N
    = Products.rowsBlockRows (S := 4) (n := 512) (M := 2048) (K := 1024) (L := 2048) rfl (m ((c : Thread nD τ).loc main_arg0)) (m ((c : Thread nD τ).loc main_arg1)) := by
  refine (dats m 0 c).arrAt_eq_of_covers 2 _ (by decide +kernel) fun t hf y => ?_
  have h := (flush0_2 t).1 hf
  obtain ⟨p, q, rfl⟩ : ∃ (p : Fin 1024) (q : Fin 1024), y = ix2 p q := ⟨y 0, y 1, pair_eq y⟩
  blk_simp
  rw [after0_2]
  refine (last m c t h p q).trans ?_
  unfold Products.rowsBlockRows
  refine Products.sums_congr (fun s k => ?_) (fun s k => ?_)
  · blk_ext [iblk, V, Products.column, idx_val ⟨_, Pipeline.run_point_lt_of_flush t h s⟩, idx_val t]
  · blk_ext [iblk, V, Products.column, idx_val ⟨_, Pipeline.run_point_lt_of_flush t h s⟩, idx_val t]

end Cert.Kernel14Ideal.Value

namespace Cert.Reference14Ideal.Value

open Cert.Reference14Ideal Cert.Reference14Ideal.Gen Idealize.ShloMosaic Idealize.ShloMosaic.TcCoe
open Tables (pair_eq)

theorem result (ct : FVec Ideal S2048x2048 .bf16) (w : FVec Ideal S4x1024x512 .bf16) :
    truncf .bf16 (Host.dotGeneral dot_S2048x2048_S1024x2048_S2048x1024_1_1_0_0_n_n none (extf .f32 ct bitsLt_bf16_f32)
        (shapeCast _ (transpose S1024x4x512 [1, 0, 2] (extf .f32 w bitsLt_bf16_f32) transposes_S4x1024x512_S1024x4x512_1_0_2)
          shapeCasts_S1024x4x512_S1024x2048)) bitsLt_bf16_f32
      = Products.rowsBlockRows (S := 4) (n := 512) (M := 2048) (K := 1024) (L := 2048) rfl ct w := by
  funext i
  rw [pair_eq i]
  pointwise
  refine (Products.sum_columns (S := 4) (n := 512) rfl _).trans (Products.sums_congr (fun s k => rfl) fun s k => ?_)
  exact congrArg₂ (fun x y => w (ix3 x (i 1) y)) (Products.block_column rfl s k) (Products.place_column rfl s k)

end Cert.Reference14Ideal.Value

/-! ## The keys' and values' projection -/

namespace Cert.Kernel18Ideal.Value

open Cert.Kernel18Ideal Cert.Kernel18Ideal.Gen Idealize.ShloMosaic Idealize.ShloMosaic.TcCoe
open Tables (pair_eq)

/-- The product of a point's blocks. -/
def product (x0 : Vec Ideal S1152x512 .bf16) (x1 : Vec Ideal S1x256x512 .bf16) (p : Fin 1152) (q : Fin 256) : EReal :=
  ∑ k : Fin 512, x0 (ix2 p k) * x1 (ix3 0 q k)

theorem product_at (x0 : Vec Ideal S1152x512 .bf16) (x1 : Vec Ideal S1x256x512 .bf16) (p : Fin 1152) (q : Fin 256) :
    k0_pay2 (F := Ideal) x0 x1 (ix2 p q) = product x0 x1 p q := by
  unfold product
  pointwise [k0_pay2, k0_pay1]

theorem sum_at (x0 : Vec Ideal S1152x512 .bf16) (x1 : Vec Ideal S1x256x512 .bf16) (acc : Vec Ideal S1152x256 .f32) (p : Fin 1152) (q : Fin 256) :
    k0_pay3 (F := Ideal) x0 x1 acc (ix2 p q) = acc (ix2 p q) + product x0 x1 p q := by
  unfold product
  pointwise [k0_pay3, k0_pay1]

variable (m : (ℓ : Loc nD τ sig) → Buf (Elt Ideal) ℓ) (c : Dev nD)

theorem idx_val : ∀ t : Fin cfg0.N, win0_0.index t = ![t.val / 4, t.val % 4] ∧ win0_1.index t = ![t.val % 4, 0, 0] ∧ win0_2.index t = ![t.val / 4, 0] :=
  (by decide +kernel : ∀ t : Fin grid0.N, _)

/-- The product of the blocks at a point. -/
def term (t : Fin cfg0.N) (i : Fin 1152 × Fin 256) : EReal := product (iblk m c 0 t) (iblk m c 1 t) i.1 i.2

theorem first (t : Fin cfg0.N) (h : t.val % 4 = 0) (i : Fin 1152 × Fin 256) :
    ((outsAt0 m c t.val t.isLt).2 (ix2 i.1 i.2) : EReal) = 0 + term m c t i := by
  rw [outsAt0_A m c t h (by omega) (by omega)]
  dsimp only
  frame_out
  rw [product_at, zero_add]
  rfl

theorem next (t : Fin cfg0.N) (h : ¬t.val % 4 = 0) (i : Fin 1152 × Fin 256) : ((outsAt0 m c t.val t.isLt).2 (ix2 i.1 i.2) : EReal)
    = (outsAt0 m c (t.val - 1) (Nat.lt_of_le_of_lt (Nat.sub_le _ _) t.isLt)).2 (ix2 i.1 i.2) + term m c t i := by
  by_cases h2 : t.val % 4 = 3
  · rw [outsAt0_C m c t h (by omega) h2]
    dsimp only
    frame_out
    simp only [sum_at, read_unread_whole]
    rfl
  · rw [outsAt0_B m c t h (by omega) h2]
    dsimp only
    frame_out
    simp only [sum_at, read_unread_whole]
    rfl

theorem last (t : Fin cfg0.N) (h : t.val % 4 = 3) (p : Fin 1152) (q : Fin 256) :
    ((outsAt0 m c t.val t.isLt).1 (ix2 p q) : EReal)
      = ∑ s : Fin 4, term m c ⟨4 * (t.val / 4) + s.val, Pipeline.run_point_lt_of_flush t h s⟩ (p, q) := by
  have e := Pipeline.eq_sum_fin_of_reset_step_apply_of_flush (N := cfg0.N) (ι := Fin 1152 × Fin 256) (M := EReal)
    (fun n hn i => (outsAt0 m c n hn).2 (ix2 i.1 i.2)) 4 (fun _ => 0) (term m c) (first m c) (next m c) t h (p, q)
  refine Eq.trans ?_ (e.trans (zero_add _))
  rw [outsAt0_C m c t (by omega) (by omega) h]
  dsimp only
  frame_out

/-- The gradient of the keys' and values' low rank inputs. -/
theorem array : (dats m 0 c).arrAt 2 cfg0.N
    = Products.rowsBlockRows (S := 4) (n := 512) (M := 2304) (K := 256) (L := 2048) rfl (m ((c : Thread nD τ).loc main_arg0)) (m ((c : Thread nD τ).loc main_arg1)) := by
  refine (dats m 0 c).arrAt_eq_of_covers 2 _ (by decide +kernel) fun t hf y => ?_
  have h := (flush0_2 t).1 hf
  obtain ⟨p, q, rfl⟩ : ∃ (p : Fin 1152) (q : Fin 256), y = ix2 p q := ⟨y 0, y 1, pair_eq y⟩
  blk_simp
  rw [after0_2]
  refine (last m c t h p q).trans ?_
  unfold Products.rowsBlockRows
  refine Products.sums_congr (fun s k => ?_) (fun s k => ?_)
  · blk_ext [iblk, V, Products.column, idx_val ⟨_, Pipeline.run_point_lt_of_flush t h s⟩, idx_val t]
  · blk_ext [iblk, V, Products.column, idx_val ⟨_, Pipeline.run_point_lt_of_flush t h s⟩, idx_val t]

end Cert.Kernel18Ideal.Value

namespace Cert.Reference18Ideal.Value

open Cert.Reference18Ideal Cert.Reference18Ideal.Gen Idealize.ShloMosaic Idealize.ShloMosaic.TcCoe
open Tables (pair_eq)

theorem result (ct : FVec Ideal S2304x2048 .bf16) (w : FVec Ideal S4x256x512 .bf16) :
    Host.dotGeneral dot_S2304x2048_S256x2048_S2304x256_1_1_0_0_n_n none (extf .f32 ct bitsLt_bf16_f32)
        (shapeCast _ (transpose S256x4x512 [1, 0, 2] (extf .f32 w bitsLt_bf16_f32) transposes_S4x256x512_S256x4x512_1_0_2)
          shapeCasts_S256x4x512_S256x2048)
      = Products.rowsBlockRows (S := 4) (n := 512) (M := 2304) (K := 256) (L := 2048) rfl ct w := by
  funext i
  rw [pair_eq i]
  pointwise
  refine (Products.sum_columns (S := 4) (n := 512) rfl _).trans (Products.sums_congr (fun s k => rfl) fun s k => ?_)
  exact congrArg₂ (fun x y => w (ix3 x (i 1) y)) (Products.block_column rfl s k) (Products.place_column rfl s k)

end Cert.Reference18Ideal.Value

end
-- ==== Proof.Forward.lean ====
module

public import proofs.«01_k».proof.Proof.Gen.Kernel22Ideal.Value
public import proofs.«01_k».proof.Proof.Gen.Reference22Ideal.Run
public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import proofs.«01_k».proof.Proof.Gen.Kernel27Ideal.Value
public import proofs.«01_k».proof.Proof.Gen.Reference27Ideal.Run
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import proofs.«01_k».proof.Proof.Gen.Kernel28Ideal.Value
public import proofs.«01_k».proof.Proof.Gen.Reference28Ideal.Run
public import proofs.«01_k».proof.Proof.Gen.Kernel21Ideal.Value
public import proofs.«01_k».proof.Proof.Gen.Reference21Ideal.Run
public import proofs.«01_k».proof.Proof.Products
public import Idealize.ShloMosaic.Lib.Pipeline.ValueKit
public import Idealize.ShloMosaic.Lib.Pipeline.ValueKit.Acc
public import Idealize.ShloMosaic.Lib.Pipeline.ReadBack
public import Idealize.ShloMosaic.Lib.Pointwise
public import Idealize.ShloMosaic.Lib.Tactic.CleanTypes

/-! # The projections

Each call computes the product of the inputs with the weights, block by block. The weights that lie in blocks of
columns are read one block at a time; the last projection sums over two points in an accumulator. -/

@[expose] public section

set_option maxRecDepth 16384

noncomputable section

/-! ## The merge gates -/

namespace Cert.Kernel22Ideal.Value

open Cert.Kernel22Ideal Cert.Kernel22Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val / 4, 0] ∧ win0_1.index t = ![0, t.val % 4] ∧ win0_2.index t = ![t.val / 4, t.val % 4] :=
  (by decide +kernel : ∀ t : Fin grid0.N, _)

/-- The gates of the merge. -/
theorem array : (dats m 0 c).arrAt 2 cfg0.N
    = Products.rowsColumns (M := 2048) (K := 2048) (N := 4096) (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 1024) (q : Fin 1024), y = ix2 p q := ⟨y 0, y 1, pair_eq y⟩
  blk_simp
  rw [after0_2]
  unfold out0_2 Products.rowsColumns
  frame_out
  pointwise [k0_pay1]
  refine Products.sum_congr (fun k => ?_) (fun k => ?_)
  · blk_ext [iblk, V, idx_val t]
  · blk_ext [iblk, V, idx_val t]

end Cert.Kernel22Ideal.Value

namespace Cert.Reference22Ideal.Value

open Cert.Reference22Ideal Cert.Reference22Ideal.Gen Idealize.ShloMosaic Idealize.ShloMosaic.TcCoe
open Tables (pair_eq)

theorem result (h : FVec Ideal S2048x2048 .bf16) (w : FVec Ideal S2048x4096 .bf16) :
    Host.dotGeneral dot_S2048x2048_S2048x4096_S2048x4096_1_0_0_1_n_n none (extf .f32 h bitsLt_bf16_f32) (extf .f32 w bitsLt_bf16_f32)
      = Products.rowsColumns (M := 2048) (K := 2048) (N := 4096) h w := by
  funext i
  rw [pair_eq i]
  pointwise [Products.rowsColumns]

end Cert.Reference22Ideal.Value

/-! ## The input projection -/

namespace Cert.Kernel23Ideal.Value

open Cert.Kernel23Ideal Cert.Kernel23Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val / 2, 0] ∧ win0_1.index t = ![0, t.val % 2] ∧ win0_2.index t = ![t.val / 2, t.val % 2] :=
  (by decide +kernel : ∀ t : Fin grid0.N, _)

/-- The mixers' inputs. -/
theorem array : (dats m 0 c).arrAt 2 cfg0.N
    = Products.rowsColumns (M := 2304) (K := 2048) (N := 2048) (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 768) (q : Fin 1024), y = ix2 p q := ⟨y 0, y 1, pair_eq y⟩
  blk_simp
  rw [after0_2]
  unfold out0_2 Products.rowsColumns
  frame_out
  pointwise [k0_pay1]
  refine Products.sum_congr (fun k => ?_) (fun k => ?_)
  · blk_ext [iblk, V, idx_val t]
  · blk_ext [iblk, V, idx_val t]

end Cert.Kernel23Ideal.Value

namespace Cert.Reference23Ideal.Value

open Cert.Reference23Ideal Cert.Reference23Ideal.Gen Idealize.ShloMosaic Idealize.ShloMosaic.TcCoe
open Tables (pair_eq)

theorem result (h : FVec Ideal S2304x2048 .bf16) (w : FVec Ideal S2048x2048 .bf16) :
    Host.dotGeneral dot_S2304x2048_S2048x2048_S2304x2048_1_0_0_1_n_n none (extf .f32 h bitsLt_bf16_f32) (extf .f32 w bitsLt_bf16_f32)
      = Products.rowsColumns (M := 2304) (K := 2048) (N := 2048) h w := by
  funext i
  rw [pair_eq i]
  pointwise [Products.rowsColumns]

end Cert.Reference23Ideal.Value

/-! ## The output projection -/

namespace Cert.Kernel24Ideal.Value

open Cert.Kernel24Ideal Cert.Kernel24Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val / 2, 0] ∧ win0_1.index t = ![0, t.val % 2] ∧ win0_2.index t = ![t.val / 2, t.val % 2] :=
  (by decide +kernel : ∀ t : Fin grid0.N, _)

/-- The merged mixers' output. -/
theorem array : (dats m 0 c).arrAt 2 cfg0.N
    = Products.rowsColumns (M := 2048) (K := 2048) (N := 2048) (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 1024) (q : Fin 1024), y = ix2 p q := ⟨y 0, y 1, pair_eq y⟩
  blk_simp
  rw [after0_2]
  unfold out0_2 Products.rowsColumns
  frame_out
  pointwise [k0_pay1]
  refine Products.sum_congr (fun k => ?_) (fun k => ?_)
  · blk_ext [iblk, V, idx_val t]
  · blk_ext [iblk, V, idx_val t]

end Cert.Kernel24Ideal.Value

namespace Cert.Reference24Ideal.Value

open Cert.Reference24Ideal Cert.Reference24Ideal.Gen Idealize.ShloMosaic Idealize.ShloMosaic.TcCoe
open Tables (pair_eq)

theorem result (h : FVec Ideal S2048x2048 .bf16) (w : FVec Ideal S2048x2048 .bf16) :
    Host.dotGeneral dot_S2048x2048_S2048x2048_S2048x2048_1_0_0_1_n_n none (extf .f32 h bitsLt_bf16_f32) (extf .f32 w bitsLt_bf16_f32)
      = Products.rowsColumns (M := 2048) (K := 2048) (N := 2048) h w := by
  funext i
  rw [pair_eq i]
  pointwise [Products.rowsColumns]

end Cert.Reference24Ideal.Value

/-! ## The queries' projection -/

namespace Cert.Kernel27Ideal.Value

open Cert.Kernel27Ideal Cert.Kernel27Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val / 2, 0] ∧ win0_1.index t = ![0, t.val % 2] ∧ win0_2.index t = ![t.val / 2, t.val % 2] :=
  (by decide +kernel : ∀ t : Fin grid0.N, _)

/-- The queries. -/
theorem array : (dats m 0 c).arrAt 2 cfg0.N
    = Products.rowsColumns (M := 2048) (K := 512) (N := 2048) (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 1024) (q : Fin 1024), y = ix2 p q := ⟨y 0, y 1, pair_eq y⟩
  blk_simp
  rw [after0_2]
  unfold out0_2 Products.rowsColumns
  frame_out
  pointwise [k0_pay1]
  refine Products.sum_congr (fun k => ?_) (fun k => ?_)
  · blk_ext [iblk, V, idx_val t]
  · blk_ext [iblk, V, idx_val t]

end Cert.Kernel27Ideal.Value

namespace Cert.Reference27Ideal.Value

open Cert.Reference27Ideal Cert.Reference27Ideal.Gen Idealize.ShloMosaic Idealize.ShloMosaic.TcCoe
open Tables (pair_eq)

theorem result (h : FVec Ideal S2048x512 .bf16) (w : FVec Ideal S512x2048 .bf16) :
    Host.dotGeneral dot_S2048x512_S512x2048_S2048x2048_1_0_0_1_n_n none (extf .f32 h bitsLt_bf16_f32) (extf .f32 w bitsLt_bf16_f32)
      = Products.rowsColumns (M := 2048) (K := 512) (N := 2048) h w := by
  funext i
  rw [pair_eq i]
  pointwise [Products.rowsColumns]

end Cert.Reference27Ideal.Value

/-! ## The S5 mixer's gated unit -/

namespace Cert.Kernel25Ideal.Value

open Cert.Kernel25Ideal Cert.Kernel25Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The gated unit's halves. -/
theorem array : (dats m 0 c).arrAt 2 cfg0.N
    = Products.rowsBlocks (S := 4) (n := 1024) (M := 2048) (K := 1024) (N := 4096) rfl (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 1024) (q : Fin 1024), y = ix2 p q := ⟨y 0, y 1, pair_eq y⟩
  blk_simp
  rw [after0_2]
  unfold out0_2 Products.rowsBlocks
  frame_out
  pointwise [k0_pay1]
  refine Products.sum_congr (fun k => ?_) (fun k => ?_)
  · blk_ext [iblk, V, idx_val t, Products.block, Products.place]
  · blk_ext [iblk, V, idx_val t, Products.block, Products.place]

end Cert.Kernel25Ideal.Value

namespace Cert.Reference25Ideal.Value

open Cert.Reference25Ideal Cert.Reference25Ideal.Gen Idealize.ShloMosaic Idealize.ShloMosaic.TcCoe
open Tables (pair_eq)

theorem result (h : FVec Ideal S2048x1024 .bf16) (w : FVec Ideal S4x1024x1024 .bf16) :
    Host.dotGeneral dot_S2048x1024_S1024x4096_S2048x4096_1_0_0_1_n_n none (extf .f32 h bitsLt_bf16_f32)
        (shapeCast _ (transpose S1024x4x1024 [1, 0, 2] (extf .f32 w bitsLt_bf16_f32) transposes_S4x1024x1024_S1024x4x1024_1_0_2)
          shapeCasts_S1024x4x1024_S1024x4096)
      = Products.rowsBlocks (S := 4) (n := 1024) (M := 2048) (K := 1024) (N := 4096) rfl h w := by
  funext i
  rw [pair_eq i]
  pointwise
  exact Products.sum_congr (fun _ => rfl) (fun _ => rfl)

end Cert.Reference25Ideal.Value

/-! ## The attention's output -/

namespace Cert.Kernel26Ideal.Value

open Cert.Kernel26Ideal Cert.Kernel26Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The attention's output. -/
theorem array : (dats m 0 c).arrAt 2 cfg0.N
    = Products.rowsBlocks (S := 4) (n := 512) (M := 2048) (K := 1024) (N := 2048) rfl (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 1024) (q : Fin 512), y = ix2 p q := ⟨y 0, y 1, pair_eq y⟩
  blk_simp
  rw [after0_2]
  unfold out0_2 Products.rowsBlocks
  frame_out
  pointwise [k0_pay1]
  refine Products.sum_congr (fun k => ?_) (fun k => ?_)
  · blk_ext [iblk, V, idx_val t, Products.block, Products.place]
  · blk_ext [iblk, V, idx_val t, Products.block, Products.place]

end Cert.Kernel26Ideal.Value

namespace Cert.Reference26Ideal.Value

open Cert.Reference26Ideal Cert.Reference26Ideal.Gen Idealize.ShloMosaic Idealize.ShloMosaic.TcCoe
open Tables (pair_eq)

theorem result (h : FVec Ideal S2048x1024 .bf16) (w : FVec Ideal S4x1024x512 .bf16) :
    Host.dotGeneral dot_S2048x1024_S1024x2048_S2048x2048_1_0_0_1_n_n none (extf .f32 h bitsLt_bf16_f32)
        (shapeCast _ (transpose S1024x4x512 [1, 0, 2] (extf .f32 w bitsLt_bf16_f32) transposes_S4x1024x512_S1024x4x512_1_0_2)
          shapeCasts_S1024x4x512_S1024x2048)
      = Products.rowsBlocks (S := 4) (n := 512) (M := 2048) (K := 1024) (N := 2048) rfl h w := by
  funext i
  rw [pair_eq i]
  pointwise
  exact Products.sum_congr (fun _ => rfl) (fun _ => rfl)

end Cert.Reference26Ideal.Value

/-! ## The keys' and values' projection -/

namespace Cert.Kernel28Ideal.Value

open Cert.Kernel28Ideal Cert.Kernel28Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The keys and values. -/
theorem array : (dats m 0 c).arrAt 2 cfg0.N
    = Products.rowsBlocks (S := 4) (n := 512) (M := 2304) (K := 256) (N := 2048) rfl (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 768) (q : Fin 512), y = ix2 p q := ⟨y 0, y 1, pair_eq y⟩
  blk_simp
  rw [after0_2]
  unfold out0_2 Products.rowsBlocks
  frame_out
  pointwise [k0_pay1]
  refine Products.sum_congr (fun k => ?_) (fun k => ?_)
  · blk_ext [iblk, V, idx_val t, Products.block, Products.place]
  · blk_ext [iblk, V, idx_val t, Products.block, Products.place]

end Cert.Kernel28Ideal.Value

namespace Cert.Reference28Ideal.Value

open Cert.Reference28Ideal Cert.Reference28Ideal.Gen Idealize.ShloMosaic Idealize.ShloMosaic.TcCoe
open Tables (pair_eq)

theorem result (h : FVec Ideal S2304x256 .bf16) (w : FVec Ideal S4x256x512 .bf16) :
    truncf .bf16 (Host.dotGeneral dot_S2304x256_S256x2048_S2304x2048_1_0_0_1_n_n none (extf .f32 h bitsLt_bf16_f32)
        (shapeCast _ (transpose S256x4x512 [1, 0, 2] (extf .f32 w bitsLt_bf16_f32) transposes_S4x256x512_S256x4x512_1_0_2)
          shapeCasts_S256x4x512_S256x2048)) bitsLt_bf16_f32
      = Products.rowsBlocks (S := 4) (n := 512) (M := 2304) (K := 256) (N := 2048) rfl h w := by
  funext i
  rw [pair_eq i]
  pointwise
  exact Products.sum_congr (fun _ => rfl) (fun _ => rfl)

end Cert.Reference28Ideal.Value

/-! ## The feed-forward mixer's output -/

namespace Cert.Kernel21Ideal.Value

open Cert.Kernel21Ideal Cert.Kernel21Ideal.Gen Idealize.ShloMosaic Idealize.ShloMosaic.TcCoe
open Tables (pair_eq)

/-- The product of a point's blocks. -/
def product (x0 : Vec Ideal S1024x2816 .bf16) (x1 : Vec Ideal S2816x1024 .bf16) (p : Fin 1024) (q : Fin 1024) : EReal :=
  ∑ k : Fin 2816, x0 (ix2 p k) * x1 (ix2 k q)

theorem product_at (x0 : Vec Ideal S1024x2816 .bf16) (x1 : Vec Ideal S2816x1024 .bf16) (p : Fin 1024) (q : Fin 1024) :
    k0_pay2 (F := Ideal) x0 x1 (ix2 p q) = product x0 x1 p q := by
  unfold product
  pointwise [k0_pay2, k0_pay1]

theorem sum_at (x0 : Vec Ideal S1024x2816 .bf16) (x1 : Vec Ideal S2816x1024 .bf16) (acc : Vec Ideal S1024x1024 .f32) (p : Fin 1024) (q : Fin 1024) :
    k0_pay3 (F := Ideal) x0 x1 acc (ix2 p q) = acc (ix2 p q) + product x0 x1 p q := by
  unfold product
  pointwise [k0_pay3, k0_pay1]

variable (m : (ℓ : Loc nD τ sig) → Buf (Elt Ideal) ℓ) (c : Dev nD)

theorem idx_val : ∀ t : Fin cfg0.N, win0_0.index t = ![t.val / 4, t.val % 2] ∧ win0_1.index t = ![t.val % 2, t.val / 2 % 2] ∧ win0_2.index t = ![t.val / 4, t.val / 2 % 2] :=
  (by decide +kernel : ∀ t : Fin grid0.N, _)

/-- The product of the blocks at a point. -/
def term (t : Fin cfg0.N) (i : Fin 1024 × Fin 1024) : EReal := product (iblk m c 0 t) (iblk m c 1 t) i.1 i.2

theorem first (t : Fin cfg0.N) (h : t.val % 2 = 0) (i : Fin 1024 × Fin 1024) :
    ((outsAt0 m c t.val t.isLt).2 (ix2 i.1 i.2) : EReal) = 0 + term m c t i := by
  rw [outsAt0_A m c t h (by omega) (by omega)]
  dsimp only
  frame_out
  rw [product_at, zero_add]
  rfl

theorem next (t : Fin cfg0.N) (h : ¬t.val % 2 = 0) (i : Fin 1024 × Fin 1024) : ((outsAt0 m c t.val t.isLt).2 (ix2 i.1 i.2) : EReal)
    = (outsAt0 m c (t.val - 1) (Nat.lt_of_le_of_lt (Nat.sub_le _ _) t.isLt)).2 (ix2 i.1 i.2) + term m c t i := by
  have e : t.val % 2 = 1 := by omega
  rw [outsAt0_B m c t h e e]
  dsimp only
  frame_out
  simp only [sum_at, read_unread_whole]
  rfl

theorem last (t : Fin cfg0.N) (h : t.val % 2 = 1) (p : Fin 1024) (q : Fin 1024) :
    ((outsAt0 m c t.val t.isLt).1 (ix2 p q) : EReal)
      = ∑ s : Fin 2, term m c ⟨2 * (t.val / 2) + s.val, Pipeline.run_point_lt_of_flush t h s⟩ (p, q) := by
  have e := Pipeline.eq_sum_fin_of_reset_step_apply_of_flush (N := cfg0.N) (ι := Fin 1024 × Fin 1024) (M := EReal)
    (fun n hn i => (outsAt0 m c n hn).2 (ix2 i.1 i.2)) 2 (fun _ => 0) (term m c) (first m c) (next m c) t h (p, q)
  refine Eq.trans ?_ (e.trans (zero_add _))
  rw [outsAt0_B m c t (by omega) (by omega) (by omega)]
  dsimp only
  frame_out

/-- The feed-forward mixer's output. -/
theorem array : (dats m 0 c).arrAt 2 cfg0.N
    = Products.rowsColumns (M := 2048) (K := 5632) (N := 2048) (m ((c : Thread nD τ).loc main_arg0)) (m ((c : Thread nD τ).loc main_arg1)) := by
  refine (dats m 0 c).arrAt_eq_of_covers 2 _ (by decide +kernel) fun t hf y => ?_
  have h := (flush0_2 t).1 hf
  obtain ⟨p, q, rfl⟩ : ∃ (p : Fin 1024) (q : Fin 1024), y = ix2 p q := ⟨y 0, y 1, pair_eq y⟩
  blk_simp
  rw [after0_2]
  refine (last m c t h p q).trans ?_
  unfold Products.rowsColumns
  refine Eq.trans ?_ (Products.sum_columns (S := 2) (n := 2816) rfl _).symm
  refine Products.sums_congr (fun s k => ?_) (fun s k => ?_)
  · blk_ext [iblk, V, Products.column, idx_val ⟨_, Pipeline.run_point_lt_of_flush t h s⟩, idx_val t]
  · blk_ext [iblk, V, Products.column, idx_val ⟨_, Pipeline.run_point_lt_of_flush t h s⟩, idx_val t]

end Cert.Kernel21Ideal.Value

namespace Cert.Reference21Ideal.Value

open Cert.Reference21Ideal Cert.Reference21Ideal.Gen Idealize.ShloMosaic Idealize.ShloMosaic.TcCoe
open Tables (pair_eq)

theorem result (h : FVec Ideal S2048x5632 .bf16) (w : FVec Ideal S5632x2048 .bf16) :
    Host.dotGeneral dot_S2048x5632_S5632x2048_S2048x2048_1_0_0_1_n_n none (extf .f32 h bitsLt_bf16_f32) (extf .f32 w bitsLt_bf16_f32)
      = Products.rowsColumns (M := 2048) (K := 5632) (N := 2048) h w := by
  funext i
  rw [pair_eq i]
  pointwise [Products.rowsColumns]

end Cert.Reference21Ideal.Value

end
-- ==== Proof.FfnIn.lean ====
module

public import proofs.«01_k».proof.Proof.Gen.Kernel20Ideal.Value
public import proofs.«01_k».proof.Proof.Gen.Reference20Ideal.Run
public import proofs.«01_k».proof.Proof.Products
public import proofs.«01_k».proof.Proof.Indices
public import Idealize.ShloMosaic.Lib.Pipeline.ValueKit
public import Idealize.ShloMosaic.Lib.Pointwise
public import Idealize.ShloMosaic.Lib.Tactic.CleanTypes

/-! # The feed-forward mixer's gated activations

The inputs times the input weights, whose columns lie in four blocks: the first two give the gate's arguments, the
last two the gated factors. The call stores their gated product and both halves. -/

@[expose] public section

set_option maxRecDepth 16384

noncomputable section

namespace Gated

open Idealize.ShloMosaic

/-- The column of all the weights of a half's column. -/
def column (s : Fin 2) (k : Fin 5632) : Fin 11264 := ⟨s.val * 5632 + k.val, by omega⟩

/-- An entry of a half. -/
def half (h : Products.Table 2048 2048) (w : Products.Blocks 4 2048 2816) (s : Fin 2) (r : Fin 2048) (k : Fin 5632) : EReal :=
  Products.rowsBlocks (S := 4) (n := 2816) (M := 2048) (K := 2048) (N := 11264) rfl h w (ix2 r (column s k))

/-- Both halves. -/
def halves (h : Products.Table 2048 2048) (w : Products.Blocks 4 2048 2816) : Products.Blocks 2 2048 5632 := fun i =>
  half h w (i 0) (i 1) (i 2)

/-- The gated activations. -/
def activations (h : Products.Table 2048 2048) (w : Products.Blocks 4 2048 2816) : Products.Table 2048 5632 := fun i =>
  half h w 0 (i 0) (i 1) * Ideal.logistic (half h w 0 (i 0) (i 1)) * half h w 1 (i 0) (i 1)

end Gated

namespace Cert.Kernel20Ideal.Value

open Cert.Kernel20Ideal Cert.Kernel20Ideal.Gen Idealize.ShloMosaic Idealize.ShloMosaic.TcCoe
open Tables (pair_eq triple_eq)
open Gated (half halves activations)

/-- The product of a point's blocks. -/
def product (x0 : Vec Ideal S2048x2048 .bf16) (x1 : Vec Ideal S1x2048x256 .bf16) (p : Fin 2048) (q : Fin 256) : EReal :=
  ∑ k : Fin 2048, x0 (ix2 p k) * x1 (ix3 0 k q)

theorem pay1_at (x0 : Vec Ideal S2048x2048 .bf16) (x1 : Vec Ideal S1x2048x256 .bf16) (p : Fin 2048) (q : Fin 256) :
    k0_pay1 (F := Ideal) x0 x1 (ix2 p q) = product x0 x1 p q := by
  unfold product
  pointwise [k0_pay1]

theorem pay2_at (x0 : Vec Ideal S2048x2048 .bf16) (x1 : Vec Ideal S1x2048x256 .bf16) (p : Fin 2048) (q : Fin 256) :
    k0_pay2 (F := Ideal) x0 x1 (ix2 p q) = product x0 x1 p q := by
  unfold product
  pointwise [k0_pay2]

theorem pay3_at (x0 : Vec Ideal S2048x2048 .bf16) (x1 x2 : Vec Ideal S1x2048x256 .bf16) (p : Fin 2048) (q : Fin 256) :
    k0_pay3 (F := Ideal) x0 x1 x2 (ix2 p q) = product x0 x1 p q * Ideal.logistic (product x0 x1 p q) * product x0 x2 p q := by
  pointwise [k0_pay3]
  rw [pay1_at, pay2_at]

theorem pay4_at (x0 : Vec Ideal S2048x2048 .bf16) (x1 : Vec Ideal S1x2048x256 .bf16) (p : Fin 2048) (q : Fin 256) :
    k0_pay4 (F := Ideal) x0 x1 (ix3 0 p q) = product x0 x1 p q := by
  pointwise [k0_pay4]
  rw [pay1_at]

theorem pay5_at (x0 : Vec Ideal S2048x2048 .bf16) (x1 : Vec Ideal S1x2048x256 .bf16) (p : Fin 2048) (q : Fin 256) :
    k0_pay5 (F := Ideal) x0 x1 (ix3 0 p q) = product x0 x1 p q := by
  pointwise [k0_pay5]
  rw [pay2_at]

theorem out3_at (x0 : Vec Ideal S2048x2048 .bf16) (x1 x2 : Vec Ideal S1x2048x256 .bf16) (p : Fin 2048) (q : Fin 256) :
    out0_3 (F := Ideal) x0 x1 x2 (ix2 p q) = product x0 x1 p q * Ideal.logistic (product x0 x1 p q) * product x0 x2 p q := by
  unfold out0_3
  frame_out
  rw [pay3_at]

theorem out4_at (x0 : Vec Ideal S2048x2048 .bf16) (x1 x2 : Vec Ideal S1x2048x256 .bf16) (s : Fin 2) (p : Fin 2048) (q : Fin 256) :
    out0_4 (F := Ideal) x0 x1 x2 (ix3 s p q) = if s.val = 0 then product x0 x1 p q else product x0 x2 p q := by
  unfold out0_4
  have hs := s.isLt
  have l0 : View.ld x0 r0_0 = x0 := View.ld_unit_lit _ x0 (by decide)
  have l1 : View.ld x1 r0_1 = x1 := View.ld_unit_lit _ x1 (by decide)
  have l2 : View.ld x2 r0_1 = x2 := View.ld_unit_lit _ x2 (by decide)
  rw [l0, l1, l2]
  canon_tiles y e
  · have e0' : s.val = 1 + (y 0).val := e0
    have ey : y = ix3 0 p q := (Tables.plane_eq y).trans
      (congrArg₂ (fun a b => ix3 0 a b) (Fin.ext e1.symm : (y 1 : Fin 2048) = p) (Fin.ext e2.symm : (y 2 : Fin 256) = q))
    rw [ey, pay5_at, if_neg (by omega)]
  · have e0' : s.val = (y 0).val := e0
    have ey : y = ix3 0 p q := (Tables.plane_eq y).trans
      (congrArg₂ (fun a b => ix3 0 a b) (Fin.ext e1.symm : (y 1 : Fin 2048) = p) (Fin.ext e2.symm : (y 2 : Fin 256) = q))
    rw [ey, pay4_at, if_pos (by omega)]

variable (m : (ℓ : Loc nD τ sig) → Buf (Elt Ideal) ℓ) (c : Dev nD)

theorem points : cfg0.N = 22 := rfl

theorem idx_val : ∀ t : Fin cfg0.N, win0_0.index t = ![0, 0] ∧ win0_1.index t = ![t.val / 11, 0, t.val % 11]
    ∧ win0_2.index t = ![2 + t.val / 11, 0, t.val % 11] ∧ win0_3.index t = ![0, t.val] ∧ win0_4.index t = ![0, 0, t.val] :=
  (by decide +kernel : ∀ t : Fin grid0.N, _)

/-- The column of a half of a block's column. -/
def col (t : Fin cfg0.N) (q : Fin 256) : Fin 5632 := ⟨t.val * 256 + q.val, by have := t.isLt; have := points; omega⟩

theorem arguments (t : Fin cfg0.N) (p : Fin 2048) (q : Fin 256) : product (iblk m c 0 t) (iblk m c 1 t) p q
    = half (m ((c : Thread nD τ).loc main_arg0)) (m ((c : Thread nD τ).loc main_arg1)) 0 p (col t q) := by
  unfold product half Products.rowsBlocks
  refine Products.sum_congr (fun k => ?_) (fun k => ?_)
  · blk_ext [iblk, V, idx_val t]
  · blk_ext [iblk, V, idx_val t, Products.block, Products.place, Gated.column, col]

theorem factors (t : Fin cfg0.N) (p : Fin 2048) (q : Fin 256) : product (iblk m c 0 t) (iblk m c 2 t) p q
    = half (m ((c : Thread nD τ).loc main_arg0)) (m ((c : Thread nD τ).loc main_arg1)) 1 p (col t q) := by
  unfold product half Products.rowsBlocks
  refine Products.sum_congr (fun k => ?_) (fun k => ?_)
  · blk_ext [iblk, V, idx_val t]
  · blk_ext [iblk, V, idx_val t, Products.block, Products.place, Gated.column, col]

theorem block3 (t : Fin cfg0.N) (p : Fin 2048) (q : Fin 256) :
    out0_3 (F := Ideal) (iblk m c 0 t) (iblk m c 1 t) (iblk m c 2 t) (ix2 p q)
      = activations (m ((c : Thread nD τ).loc main_arg0)) (m ((c : Thread nD τ).loc main_arg1)) (ix2 p (col t q)) := by
  refine (out3_at _ _ _ p q).trans ?_
  rw [arguments, factors]
  rfl

theorem block4 (t : Fin cfg0.N) (s : Fin 2) (p : Fin 2048) (q : Fin 256) :
    out0_4 (F := Ideal) (iblk m c 0 t) (iblk m c 1 t) (iblk m c 2 t) (ix3 s p q)
      = halves (m ((c : Thread nD τ).loc main_arg0)) (m ((c : Thread nD τ).loc main_arg1)) (ix3 s p (col t q)) := by
  refine (out4_at _ _ _ s p q).trans ?_
  rw [arguments, factors]
  match s with
  | ⟨0, _⟩ => rfl
  | ⟨1, _⟩ => rfl

/-- The gated activations. -/
theorem array : (dats m 0 c).arrAt 3 cfg0.N
    = activations (m ((c : Thread nD τ).loc main_arg0)) (m ((c : Thread nD τ).loc main_arg1)) := by
  refine (dats m 0 c).arrAt_eq_of_covers 3 _ (by decide +kernel) fun t hf y => ?_
  blk_simp
  rw [after0_3]
  have e0 : (win0_3.blk t).view.emb y 0 = y 0 := Fin.ext (by blk_simp [idx_val t])
  have e1 : (win0_3.blk t).view.emb y 1 = col t (y 1) := Fin.ext (by blk_simp [idx_val t, col])
  refine (congrArg (out0_3 (F := Ideal) (iblk m c 0 t) (iblk m c 1 t) (iblk m c 2 t)) (pair_eq y)).trans
    ((block3 m c t (y 0) (y 1)).trans ?_)
  unfold activations
  rw [e0, e1]
  rfl

/-- Both halves. -/
theorem array4 : (dats m 0 c).arrAt 4 cfg0.N
    = halves (m ((c : Thread nD τ).loc main_arg0)) (m ((c : Thread nD τ).loc main_arg1)) := by
  refine (dats m 0 c).arrAt_eq_of_covers 4 _ (by decide +kernel) fun t hf y => ?_
  blk_simp
  rw [after0_4]
  have e0 : (win0_4.blk t).view.emb y 0 = y 0 := Fin.ext (by blk_simp [idx_val t])
  have e1 : (win0_4.blk t).view.emb y 1 = y 1 := Fin.ext (by blk_simp [idx_val t])
  have e2 : (win0_4.blk t).view.emb y 2 = col t (y 2) := Fin.ext (by blk_simp [idx_val t, col])
  refine (congrArg (out0_4 (F := Ideal) (iblk m c 0 t) (iblk m c 1 t) (iblk m c 2 t)) (triple_eq y)).trans
    ((block4 m c t (y 0) (y 1) (y 2)).trans ?_)
  unfold halves
  rw [e0, e1, e2]
  rfl

end Cert.Kernel20Ideal.Value

namespace Cert.Reference20Ideal.Value

open Cert.Reference20Ideal Cert.Reference20Ideal.Gen Idealize.ShloMosaic Idealize.ShloMosaic.TcCoe
open Tables (pair_eq triple_eq)
open Gated (half halves activations)

variable (h : FVec Ideal S2048x2048 .bf16) (w : FVec Ideal S4x2048x2816 .bf16)

/-- The inputs times all the weights. -/
def products : FVec Ideal S2048x11264 .f32 :=
  Host.dotGeneral dot_S2048x2048_S2048x11264_S2048x11264_1_0_0_1_n_n none (extf .f32 h bitsLt_bf16_f32)
    (shapeCast _ (transpose S2048x4x2816 [1, 0, 2] (extf .f32 w bitsLt_bf16_f32) transposes_S4x2048x2816_S2048x4x2816_1_0_2)
      shapeCasts_S2048x4x2816_S2048x11264)

theorem products_at (r : Fin 2048) (k : Fin 11264) : products h w (ix2 r k)
    = Products.rowsBlocks (S := 4) (n := 2816) (M := 2048) (K := 2048) (N := 11264) rfl h w (ix2 r k) := by
  pointwise [products]
  exact Products.sum_congr (fun _ => rfl) (fun _ => rfl)

/-- The gate's arguments. -/
def arguments : FVec Ideal S2048x5632 .f32 := extractStridedSlice S2048x5632 ![0, 0] (products h w) slices_S2048x11264_S2048x5632_0_0
/-- The gated factors. -/
def factors : FVec Ideal S2048x5632 .f32 := extractStridedSlice S2048x5632 ![0, 5632] (products h w) slices_S2048x11264_S2048x5632_0_5632

theorem arguments_at (r : Fin 2048) (k : Fin 5632) : arguments h w (ix2 r k) = half h w 0 r k := by
  pointwise [arguments]
  rw [products_at]
  exact congrArg (fun x => Products.rowsBlocks (S := 4) (n := 2816) (M := 2048) (K := 2048) (N := 11264) rfl h w (ix2 r x))
    (Fin.ext (by simp [Gated.column]))

theorem factors_at (r : Fin 2048) (k : Fin 5632) : factors h w (ix2 r k) = half h w 1 r k := by
  pointwise [factors]
  rw [products_at]
  exact congrArg (fun x => Products.rowsBlocks (S := 4) (n := 2816) (M := 2048) (K := 2048) (N := 11264) rfl h w (ix2 r x))
    (Fin.ext (by simp [Gated.column]))

/-- The ones. -/
def ones : FVec Ideal S2048x5632 .f32 := broadcastInDim S2048x5632 ![] bcast_S_S2048x5632 (constant S_ .f32 0x3F800000#32)

/-- The gated activations. -/
def gated : FVec Ideal S2048x5632 .bf16 :=
  truncf .bf16 (mulf (mulf (arguments h w) (Host.divf ones (addf ones (Host.exp (Host.negf (arguments h w)))))) (factors h w)) bitsLt_bf16_f32

theorem result : gated h w = activations h w := by
  funext i
  obtain ⟨r, k, ei⟩ : ∃ (r : Fin 2048) (k : Fin 5632), i = ix2 r k := ⟨i 0, i 1, pair_eq i⟩
  subst ei
  pointwise [gated, ones]
  rw [arguments_at, factors_at]
  rfl

/-- Both halves as planes of one array. -/
def stacked : FVec Ideal S2x2048x5632 .bf16 :=
  truncf .bf16 (concatenate S2x2048x5632 0
    [⟨S1x2048x5632, broadcastInDim S1x2048x5632 ![1, 2] bcast_S2048x5632_S1x2048x5632_1_2 (arguments h w)⟩,
     ⟨S1x2048x5632, broadcastInDim S1x2048x5632 ![1, 2] bcast_S2048x5632_S1x2048x5632_1_2 (factors h w)⟩]
    concatenates_S1x2048x5632_S1x2048x5632_S2x2048x5632_d0) bitsLt_bf16_f32

theorem result4 : stacked h w = halves h w := by
  funext i
  obtain ⟨s, r, k, ei⟩ : ∃ (s : Fin 2) (r : Fin 2048) (k : Fin 5632), i = ix3 s r k := ⟨i 0, i 1, i 2, triple_eq i⟩
  subst ei
  pointwise [stacked]
  match s with
  | ⟨0, _⟩ =>
    simp
    exact arguments_at h w r k
  | ⟨1, _⟩ =>
    simp
    exact factors_at h w r k

end Cert.Reference20Ideal.Value

end
-- ==== Proof.RowMath.lean ====
module

public import Idealize.ShloMosaic.PureOps.Ideal

/-! # One row of the attention's backward pass, over the extended reals

A query row has one score per key and one cotangent per key. The kernel and the reference both turn
them into the row of the scores' gradient. The kernel subtracts the greatest raw score, multiplies
by the scale and takes powers of two, and divides by the row's sum through one reciprocal. The
reference scales first, takes exponentials, and divides. For finite scores the two agree; the
cotangents may be infinite. -/

@[expose] public section

noncomputable section

namespace AttnBwd

open Idealize.ShloMosaic

variable {ι : Type} [Fintype ι]

/-- The square root of the head size, 192. -/
def root : ℝ := Real.sqrt 192

theorem root_pos : 0 < root := Real.sqrt_pos.mpr (by norm_num)

/-- The greatest entry of a row. -/
def rowMax (s : ι → EReal) : EReal := Finset.univ.fold max ⊥ s

/-- The kernel's exponential of key `k`. -/
def expK (s : ι → EReal) (k : ι) : EReal :=
  Ideal.exp2 ((s k - rowMax s) * ((root⁻¹ * (Real.log 2)⁻¹ : ℝ) : EReal))

/-- The kernel's reciprocal of the row's sum. -/
def invK (s : ι → EReal) : EReal := Ideal.div 1 (∑ k, expK s k)

/-- The kernel's weight of key `k`, the scale inside. -/
def wK (s : ι → EReal) (k : ι) : EReal := expK s k * (invK s * ((root⁻¹ : ℝ) : EReal))

/-- The kernel's gradient of score `k`, for the cotangents `d` of the row's weights. -/
def dsK (s d : ι → EReal) (k : ι) : EReal :=
  d k * wK s k - wK s k * ((∑ j, d j * wK s j) * ((root : ℝ) : EReal))

/-- The reference's scaled scores. -/
def scaled (s : ι → EReal) (k : ι) : EReal := Ideal.div (s k) ((root : ℝ) : EReal)

/-- The reference's exponential of key `k`. -/
def expR (s : ι → EReal) (k : ι) : EReal := Ideal.exp (scaled s k - max ⊥ (rowMax (scaled s)))

/-- The reference's sum of a row. -/
def sumR (s : ι → EReal) : EReal := ∑ k, expR s k

/-- The reference's gradient of score `k`. -/
def dsR (s d : ι → EReal) (k : ι) : EReal :=
  Ideal.div ((Ideal.div (d k) (sumR s) + -(∑ j, d j * Ideal.div 1 (sumR s * sumR s) * expR s j)) * expR s k)
    ((root : ℝ) : EReal)

section Reals

variable [Nonempty ι] (σ : ι → ℝ)

/-- A finite row's greatest entry is finite, and scaling the row by a nonnegative number scales it. -/
theorem rowMax_coe (c : ℝ) (hc : 0 ≤ c) :
    rowMax (fun k => ((σ k * c : ℝ) : EReal)) = ((Finset.univ.sup' Finset.univ_nonempty σ * c : ℝ) : EReal) := by
  have e : rowMax (fun k => ((σ k * c : ℝ) : EReal)) = Finset.univ.sup (fun k => ((σ k * c : ℝ) : EReal)) := rfl
  rw [e]
  apply le_antisymm
  · refine Finset.sup_le fun k _ => ?_
    exact EReal.coe_le_coe_iff.mpr (mul_le_mul_of_nonneg_right (Finset.le_sup' σ (Finset.mem_univ k)) hc)
  · obtain ⟨k, hk, h⟩ := Finset.exists_mem_eq_sup' Finset.univ_nonempty σ
    rw [h]
    exact Finset.le_sup (f := fun k => ((σ k * c : ℝ) : EReal)) hk

/-- The exponentials of a finite row, as real numbers. -/
def ex (k : ι) : ℝ := Real.exp ((σ k - Finset.univ.sup' Finset.univ_nonempty σ) * root⁻¹)

theorem ex_pos (k : ι) : 0 < ex σ k := Real.exp_pos _

theorem sum_ex_pos : 0 < ∑ k, ex σ k := Finset.sum_pos (fun k _ => ex_pos σ k) Finset.univ_nonempty

theorem expK_coe (k : ι) : expK (fun k => ((σ k : ℝ) : EReal)) k = ((ex σ k : ℝ) : EReal) := by
  have h := rowMax_coe σ 1 zero_le_one
  simp only [mul_one] at h
  unfold expK ex
  rw [h, ← EReal.coe_sub, ← EReal.coe_mul, Ideal.exp2_coe, Real.rpow_eq_pow, Real.rpow_def_of_pos two_pos]
  congr 2
  have : Real.log 2 ≠ 0 := (Real.log_pos one_lt_two).ne'
  field_simp

theorem scaled_coe : scaled (fun k => ((σ k : ℝ) : EReal)) = fun k => ((σ k * root⁻¹ : ℝ) : EReal) := by
  funext k
  unfold scaled
  rw [Ideal.div_coe root_pos.ne', ← EReal.coe_mul, one_div]

theorem expR_coe (k : ι) : expR (fun k => ((σ k : ℝ) : EReal)) k = ((ex σ k : ℝ) : EReal) := by
  unfold expR ex
  rw [scaled_coe, rowMax_coe σ root⁻¹ (inv_nonneg.mpr root_pos.le), max_eq_right bot_le, ← EReal.coe_sub,
    Ideal.exp_coe, ← sub_mul]

theorem coe_sum (f : ι → ℝ) : ((∑ k, f k : ℝ) : EReal) = ∑ k, ((f k : ℝ) : EReal) :=
  map_sum (⟨⟨fun x : ℝ => (x : EReal), EReal.coe_zero⟩, EReal.coe_add⟩ : ℝ →+ EReal) f Finset.univ

/-- A sum of extended reals times a nonnegative real is the sum of the products. -/
theorem sum_mul_coe {κ : Type} (t : Finset κ) (f : κ → EReal) (c : ℝ) (hc : 0 ≤ c) :
    (∑ k ∈ t, f k) * (c : EReal) = ∑ k ∈ t, f k * (c : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

/-- The row's sum, as a real number. -/
def tot : ℝ := ∑ k, ex σ k

theorem tot_pos : 0 < tot σ := sum_ex_pos σ

theorem invK_coe : invK (fun k => ((σ k : ℝ) : EReal)) = (((tot σ)⁻¹ : ℝ) : EReal) := by
  unfold invK tot
  simp only [expK_coe]
  rw [← coe_sum, Ideal.div_coe (sum_ex_pos σ).ne', one_mul, one_div]

theorem sumR_coe : sumR (fun k => ((σ k : ℝ) : EReal)) = ((tot σ : ℝ) : EReal) := by
  unfold sumR tot
  simp only [expR_coe]
  rw [← coe_sum]

theorem wK_coe (k : ι) :
    wK (fun k => ((σ k : ℝ) : EReal)) k = ((ex σ k * ((tot σ)⁻¹ * root⁻¹) : ℝ) : EReal) := by
  unfold wK
  rw [expK_coe, invK_coe, ← EReal.coe_mul, ← EReal.coe_mul]

/-- On a finite row of scores the two gradients agree, whatever the cotangents. -/
theorem dsK_eq_dsR (d : ι → EReal) (k : ι) :
    dsK (fun k => ((σ k : ℝ) : EReal)) d k = dsR (fun k => ((σ k : ℝ) : EReal)) d k := by
  have hl := tot_pos σ
  have hr := root_pos
  have he := ex_pos σ k
  -- the two sums over the row are one sum, up to a positive factor
  set T : EReal := ∑ j, d j * ((ex σ j : ℝ) : EReal) with hT
  have hK : ∑ j, d j * wK (fun k => ((σ k : ℝ) : EReal)) j = T * (((tot σ)⁻¹ * root⁻¹ : ℝ) : EReal) := by
    rw [hT, sum_mul_coe _ _ _ (by positivity)]
    refine Finset.sum_congr rfl fun j _ => ?_
    rw [wK_coe, mul_assoc, ← EReal.coe_mul]
  have hR : ∑ j, d j * Ideal.div 1 (((tot σ : ℝ) : EReal) * ((tot σ : ℝ) : EReal)) * ((ex σ j : ℝ) : EReal)
      = T * (((tot σ * tot σ)⁻¹ : ℝ) : EReal) := by
    rw [hT, sum_mul_coe _ _ _ (by positivity)]
    refine Finset.sum_congr rfl fun j _ => ?_
    rw [← EReal.coe_mul, Ideal.div_coe (mul_pos hl hl).ne', one_mul, one_div, mul_assoc, mul_assoc, mul_comm (((_ : ℝ) : EReal))]
  unfold dsK dsR
  rw [hK, wK_coe, sumR_coe]
  simp only [expR_coe]
  rw [hR, Ideal.div_coe hl.ne', Ideal.div_coe hr.ne']
  rw [EReal.right_distrib_of_nonneg_of_ne_top (EReal.coe_nonneg.mpr he.le) (EReal.coe_ne_top _),
    EReal.right_distrib_of_nonneg_of_ne_top (EReal.coe_nonneg.mpr (one_div_nonneg.mpr hr.le)) (EReal.coe_ne_top _),
    sub_eq_add_neg]
  congr 1
  · rw [mul_assoc, mul_assoc, ← EReal.coe_mul, ← EReal.coe_mul]
    congr 2
    field_simp
  · rw [EReal.neg_mul, EReal.neg_mul]
    congr 1
    rw [mul_comm, mul_assoc, mul_assoc, mul_assoc, mul_assoc, ← EReal.coe_mul, ← EReal.coe_mul, ← EReal.coe_mul, ← EReal.coe_mul]
    congr 2
    field_simp

/-- The kernel's unscaled weight times a value is the reference's. -/
theorem expK_mul_inv (x : EReal) (k : ι) :
    expK (fun k => ((σ k : ℝ) : EReal)) k * (x * invK (fun k => ((σ k : ℝ) : EReal)))
      = x * Ideal.div (expR (fun k => ((σ k : ℝ) : EReal)) k) (sumR (fun k => ((σ k : ℝ) : EReal))) := by
  rw [expK_coe, invK_coe, expR_coe, sumR_coe, Ideal.div_coe (tot_pos σ).ne', one_div, ← mul_assoc,
    mul_comm ((ex σ k : ℝ) : EReal) x, mul_assoc]

end Reals

end AttnBwd

end
-- ==== Proof.Spec.lean ====
module

public import proofs.«01_k».proof.Proof.RowMath

/-! # The attention's backward pass, written out

Queries, keys with values, the shared rotary key and the cotangents as plain tables; the score and
the cotangent of one query row and key in one head; the three gradients as sums. -/

@[expose] public section

noncomputable section

namespace AttnBwd

/-- The column of lane `a` of head `h`'s query. -/
def colQ (h : Fin 8) (a : Fin 192) : Fin 1536 := ⟨h * 192 + a, by omega⟩
/-- The column of lane `a` of head `h`'s key and value. -/
def colK (h : Fin 8) (a : Fin 256) : Fin 2048 := ⟨h * 256 + a, by omega⟩
/-- The column of lane `a` of head `h`'s cotangent. -/
def colV (h : Fin 8) (a : Fin 128) : Fin 1024 := ⟨h * 128 + a, by omega⟩

variable (q : Fin 2048 → Fin 1536 → EReal) (kv : Fin 2304 → Fin 2048 → EReal) (kr : Fin 2304 → Fin 64 → EReal)
  (d : Fin 2048 → Fin 1024 → EReal)

/-- The unscaled score. -/
def score (h : Fin 8) (r : Fin 2048) (k : Fin 2304) : EReal :=
  ∑ a : Fin 128, q r (colQ h ⟨a, by omega⟩) * kv k (colK h ⟨a, by omega⟩)
    + ∑ b : Fin 64, q r (colQ h ⟨128 + b, by omega⟩) * kr k b

/-- The cotangent of the weight. -/
def cot (h : Fin 8) (r : Fin 2048) (k : Fin 2304) : EReal :=
  ∑ a : Fin 128, d r (colV h a) * kv k (colK h ⟨128 + a, by omega⟩)

/-- The gradient of lane `a` of head `h`'s query, the lanes past the head's 192 zero. -/
def gradQ (ds : Fin 8 → Fin 2048 → Fin 2304 → EReal) (h : Fin 8) (r : Fin 2048) (a : Fin 256) : EReal :=
  if h' : a.val < 128 then ∑ k, ds h r k * kv k (colK h a)
  else if h'' : a.val < 192 then ∑ k, ds h r k * kr k ⟨a - 128, by omega⟩ else 0

theorem gradQ_pad (ds : Fin 8 → Fin 2048 → Fin 2304 → EReal) (h : Fin 8) (r : Fin 2048) (a : Fin 256)
    (h' : ¬ a.val < 192) : gradQ kv kr ds h r a = 0 := by
  rw [gradQ, dif_neg (by omega), dif_neg h']

/-- The gradient of lane `a` of head `h`'s key (the first 128) and value (the others), from the
scores' gradient and the softmax's weights. -/
def gradKV (ds w : Fin 8 → Fin 2048 → Fin 2304 → EReal) (h : Fin 8) (k : Fin 2304) (a : Fin 256) : EReal :=
  if h' : a.val < 128 then ∑ r, ds h r k * q r (colQ h ⟨a, by omega⟩)
  else ∑ r, d r (colV h ⟨a - 128, by omega⟩) * w h r k

theorem gradKV_key (ds w : Fin 8 → Fin 2048 → Fin 2304 → EReal) (h : Fin 8) (k : Fin 2304) (a : Fin 256)
    (h' : a.val < 128) : gradKV q d ds w h k a = ∑ r, ds h r k * q r (colQ h ⟨a, by omega⟩) := by
  rw [gradKV, dif_pos h']

theorem gradKV_val (ds w : Fin 8 → Fin 2048 → Fin 2304 → EReal) (h : Fin 8) (k : Fin 2304) (a : Fin 256)
    (h' : ¬ a.val < 128) : gradKV q d ds w h k a = ∑ r, d r (colV h ⟨a - 128, by omega⟩) * w h r k := by
  rw [gradKV, dif_neg h']

/-- The gradient of lane `a` of the shared rotary key: the sum over the heads, the lanes past 64 zero. -/
def gradKR (ds : Fin 8 → Fin 2048 → Fin 2304 → EReal) (k : Fin 2304) (a : Fin 128) : EReal :=
  if h' : a.val < 64 then ∑ h : Fin 8, ∑ r, ds h r k * q r (colQ h ⟨128 + a, by omega⟩) else 0

/-- The head of a column of the keys and values. -/
def headOf (c : Fin 2048) : Fin 8 := ⟨c / 256, by omega⟩
/-- The lane of a column of the keys and values. -/
def laneOf (c : Fin 2048) : Fin 256 := ⟨c % 256, by omega⟩

theorem headOf_colK (h : Fin 8) (a : Fin 256) : headOf (colK h a) = h := Fin.ext (by simp [headOf, colK]; omega)
theorem laneOf_colK (h : Fin 8) (a : Fin 256) : laneOf (colK h a) = a := Fin.ext (by simp [laneOf, colK])

/-- The scores' gradient, as the reference computes it. -/
def dScore (h : Fin 8) (r : Fin 2048) (k : Fin 2304) : EReal := dsR (score q kv kr h r) (cot kv d h r) k

/-- The softmax's weight, as the reference computes it. -/
def weight (h : Fin 8) (r : Fin 2048) (k : Fin 2304) : EReal :=
  Idealize.ShloMosaic.Ideal.div (expR (score q kv kr h r) k) (sumR (score q kv kr h r))

end AttnBwd

end
-- ==== Proof.Consts.lean ====
module

public import Idealize.ShloMosaic.PureOps.Ideal

/-! # The float words that the two programs hold, as extended reals -/

@[expose] public section

namespace AttnBwd

open Idealize.ShloMosaic

theorem word_192 : Ideal.ofBits .f32 0x43400000#32 = ((192 : ℝ) : EReal) := by
  simp [Ideal.ofBits, Ideal.ieee, -EReal.coe_mul]
  norm_num

theorem word_bot : Ideal.ofBits .f32 0xFF800000#32 = ⊥ := by
  simp [Ideal.ofBits, Ideal.ieee, -EReal.coe_mul]

theorem word_top : Ideal.ofBits .f32 0x7F800000#32 = ⊤ := by
  simp [Ideal.ofBits, Ideal.ieee, -EReal.coe_mul]

end AttnBwd

end
-- ==== Proof.Finite.lean ====
module

public import proofs.«01_k».proof.Pre_finite
public import proofs.«01_k».proof.Proof.Spec
public import proofs.«01_k».proof.Proof.Consts
public import Idealize.ShloMosaic.Lib.ReduceAll
public import Idealize.ShloMosaic.Lib.Pipeline.ValueKit
public import Idealize.ShloMosaic.Lib.Pointwise
public import Idealize.ShloMosaic.Lib.Tactic.CleanTypes

/-! # What the precondition says

The queries, the keys and the rotary key are finite, so every score is a real number. -/

@[expose] public section

set_option maxRecDepth 16384

noncomputable section

namespace Cert.Pre_finite

open Idealize.ShloMosaic AttnBwd

/-- The side conditions of the predicate's operations. -/
theorem facts : Facts := ⟨by decide, by decide, by decide, by decide, by decide, by decide, by decide, by decide, by decide, by decide⟩

/-- An extended real whose absolute value is below infinity is a real number. -/
theorem real_of_absf {x : EReal} (h : Ideal.cmp .olt (max x (-x)) (Ideal.ofBits .f32 0x7F800000#32) = 1#1) :
    ∃ r : ℝ, x = r := by
  rw [word_top] at h
  have h' : max x (-x) < ⊤ := by
    by_contra hn
    have : Ideal.cmp .olt (max x (-x)) ⊤ = 0#1 := by
      unfold Ideal.cmp
      simp [hn]
    rw [this] at h
    exact absurd h (by decide)
  induction x with
  | bot => simp at h'
  | top => simp at h'
  | coe r => exact ⟨r, rfl⟩

variable [Facts]

variable {q : FVec Ideal S2048x1536 .bf16} {kv : FVec Ideal S2304x2048 .bf16} {kr : FVec Ideal S2304x64 .bf16}
  {d : FVec Ideal S2048x1024 .bf16} (h : fn (F := Ideal) q kv kr d = fun _ => 1#1)

include h

/-- The three conjuncts. -/
theorem finite_all : (∀ i, ∃ r : ℝ, (q i : EReal) = r) ∧ (∀ k hh (a : Fin 128), ∃ r : ℝ, (kv (ix2 k (colK hh ⟨a, by omega⟩)) : EReal) = r)
    ∧ (∀ i, ∃ r : ℝ, (kr i : EReal) = r) := by
  have h0 := congrFun h (fun i => i.elim0)
  dsimp only [fn, fn_part1] at h0
  obtain ⟨h1, h2⟩ := IntOp.andi_eq_one.1 h0
  obtain ⟨h3, h4⟩ := IntOp.andi_eq_one.1 h1
  haveI : Subsingleton S_.Idx := ⟨fun a b => funext fun i => i.elim0⟩
  refine ⟨fun i => real_of_absf ?_, fun k hh a => real_of_absf ?_, fun i => real_of_absf ?_⟩
  · exact Host.reduce_andi_all _ _ _ _ _ h3 i
  · refine Eq.trans ?_ (Host.reduce_andi_all _ _ _ _ _ h4 (ix3 k hh a))
    refine congrArg (fun x : EReal => Ideal.cmp .olt (max x (-x)) (Ideal.ofBits .f32 0x7F800000#32)) (?_ : (kv _ : EReal) =
      (extractStridedSlice S2304x8x128 ![0, 0, 0] (shapeCast S2304x8x256 kv Facts.shapeCasts_S2304x2048_S2304x8x256)
        Facts.slices_S2304x8x256_S2304x8x128_0_0_0 (ix3 k hh a) : EReal))
    pointwise
    rfl
  · exact Host.reduce_andi_all _ _ _ _ _ h2 i

/-- Every score is a real number. -/
theorem score_real : ∃ σ : Fin 8 → Fin 2048 → Fin 2304 → ℝ, ∀ hh r,
    score (fun r j => q (ix2 r j)) (fun r j => kv (ix2 r j)) (fun r j => kr (ix2 r j)) hh r = fun k => ((σ hh r k : ℝ) : EReal) := by
  obtain ⟨hq, hk, hr⟩ := finite_all h
  choose fq hfq using hq
  choose fk hfk using hk
  choose fr hfr using hr
  refine ⟨fun hh r k => ∑ a : Fin 128, fq (ix2 r (colQ hh ⟨a, by omega⟩)) * fk k hh a
    + ∑ b : Fin 64, fq (ix2 r (colQ hh ⟨128 + b, by omega⟩)) * fr (ix2 k b), fun hh r => funext fun k => ?_⟩
  unfold score
  simp only [hfq, hfk, hfr, EReal.coe_add, coe_sum, EReal.coe_mul]

end Cert.Pre_finite

end
-- ==== Proof.RefStages.lean ====
module

public import proofs.«01_k».proof.Proof.Gen.ReferenceIdeal.Run
public import Idealize.ShloMosaic.PureOps.Ideal

/-! # The reference in stages

The reference's composed terms, cut where a later step reads a value more than once: the scaled
scores, the exponentials, their sums, the softmax's weights, the weights' cotangents, and the
scores' gradient. The three results are the printed terms over these stages, by unfolding. -/

@[expose] public section

set_option maxRecDepth 16384

noncomputable section

namespace Cert.ReferenceIdeal.Stages

open Cert.ReferenceIdeal Cert.ReferenceIdeal.Gen Idealize.ShloMosaic Idealize.ShloMosaic.TcCoe

variable (q : FVec Ideal S2048x1536 .bf16) (kv : FVec Ideal S2304x2048 .bf16) (kr : FVec Ideal S2304x64 .bf16)
  (d : FVec Ideal S2048x1024 .bf16)

/-- The queries by head. -/
def queries : FVec Ideal S1x2048x8x192 .f32 :=
  shapeCast _ (extf .f32 q bitsLt_bf16_f32) shapeCasts_S2048x1536_S1x2048x8x192

/-- Keys and values by head. -/
def keysVals : FVec Ideal S1x2304x8x256 .f32 :=
  shapeCast _ (extf .f32 kv bitsLt_bf16_f32) shapeCasts_S2304x2048_S1x2304x8x256

/-- The values. -/
def vals : FVec Ideal S1x2304x8x128 .f32 :=
  extractStridedSlice S1x2304x8x128 ![0, 0, 0, 128] (keysVals kv) slices_S1x2304x8x256_S1x2304x8x128_0_0_0_128

/-- The keys, the shared rotary part appended to each head's own. -/
def keys : FVec Ideal S1x2304x8x192 .f32 :=
  concatenate S1x2304x8x192 3 [⟨S1x2304x8x128, extractStridedSlice S1x2304x8x128 ![0, 0, 0, 0] (keysVals kv) slices_S1x2304x8x256_S1x2304x8x128_0_0_0_0⟩,
    ⟨S1x2304x8x64, broadcastInDim S1x2304x8x64 ![0, 1, 2, 3] bcast_S1x2304x1x64_S1x2304x8x64_0_1_2_3
      (broadcastInDim S1x2304x1x64 ![1, 3] bcast_S2304x64_S1x2304x1x64_1_3 (extf .f32 kr bitsLt_bf16_f32))⟩]
    concatenates_S1x2304x8x128_S1x2304x8x64_S1x2304x8x192_d3

/-- The divisor of the scores. -/
def divisor : FVec Ideal S1x8x2048x2304 .f32 :=
  broadcastInDim S1x8x2048x2304 ![] bcast_S_S1x8x2048x2304 (Host.sqrt (constant S_ .f32 0x43400000#32))

/-- The scaled scores. -/
def scores : FVec Ideal S1x8x2048x2304 .f32 :=
  Host.divf (Host.dotGeneral dot_S1x2048x8x192_S1x2304x8x192_S1x8x2048x2304_3_3_1_1_02_02 none (queries q) (keys kv kr))
    divisor

/-- Each row's greatest score. -/
def tops : FVec Ideal S1x8x2048 .f32 :=
  Host.reduce FloatOps.maximumf (scores q kv kr) (constant S_ .f32 0xFF800000#32) reducesTo_S1x8x2048x2304_S1x8x2048_d3 h_S_

/-- The greatest scores, from minus infinity. -/
def floored : FVec Ideal S1x8x2048 .f32 :=
  maximumf (broadcastInDim S1x8x2048 ![] bcast_S_S1x8x2048 (constant S_ .f32 0xFF800000#32)) (tops q kv kr)

/-- What each row's scores are lessened by, as a column. -/
def shifts : FVec Ideal S1x8x2048x1 .f32 :=
  broadcastInDim S1x8x2048x1 ![0, 1, 2] bcast_S1x8x2048_S1x8x2048x1_0_1_2 (floored q kv kr)

/-- The exponentials of the scores less their row's greatest. -/
def expos : FVec Ideal S1x8x2048x2304 .f32 :=
  Host.exp (subf (scores q kv kr)
    (broadcastInDim S1x8x2048x2304 ![0, 1, 2, 3] bcast_S1x8x2048x1_S1x8x2048x2304_0_1_2_3 (shifts q kv kr)))

/-- The rows' sums. -/
def sums : FVec Ideal S1x8x2048x1 .f32 :=
  broadcastInDim S1x8x2048x1 ![0, 1, 2] bcast_S1x8x2048_S1x8x2048x1_0_1_2
    (Host.reduceAdd (expos q kv kr) (constant S_ .f32 0x00000000#32) reducesTo_S1x8x2048x2304_S1x8x2048_d3 h_S_)

/-- The rows' sums, at every key. -/
def sumsAt : FVec Ideal S1x8x2048x2304 .f32 :=
  broadcastInDim S1x8x2048x2304 ![0, 1, 2, 3] bcast_S1x8x2048x1_S1x8x2048x2304_0_1_2_3 (sums q kv kr)

/-- The softmax's weights. -/
def weights : FVec Ideal S1x8x2048x2304 .f32 := Host.divf (expos q kv kr) (sumsAt q kv kr)

/-- The cotangents of the attention's result, by head. -/
def cots : FVec Ideal S1x8x128x2048 .f32 :=
  transpose S1x8x128x2048 [0, 2, 3, 1]
    (shapeCast S1x2048x8x128 (extf .f32 d bitsLt_bf16_f32 : FVec Ideal S2048x1024 .f32) shapeCasts_S2048x1024_S1x2048x8x128)
    transposes_S1x2048x8x128_S1x8x128x2048_0_2_3_1

/-- The weights' cotangents. -/
def dWeights : FVec Ideal S1x8x2048x2304 .f32 :=
  Host.dotGeneral dot_S1x8x128x2048_S1x2304x8x128_S1x8x2048x2304_2_3_3_1_01_02 none (cots d) (vals kv)

/-- Each row's negated sum, the part of the gradient that the division's denominator gives. -/
def negSums : FVec Ideal S1x8x2048x1 .f32 :=
  Host.negf (shapeCast S1x8x2048x1 (Host.reduceAdd
    (mulf (mulf (dWeights kv d) (broadcastInDim S1x8x2048x2304 ![0, 1, 2, 3] bcast_S1x8x2048x1_S1x8x2048x2304_0_1_2_3
      (Host.divf (broadcastInDim S1x8x2048x1 ![] bcast_S_S1x8x2048x1 (constant S_ .f32 0x3F800000#32))
        (mulf (sums q kv kr) (sums q kv kr))))) (expos q kv kr))
    (constant S_ .f32 0x00000000#32) reducesTo_S1x8x2048x2304_S1x8x2048_d3 h_S_) shapeCasts_S1x8x2048_S1x8x2048x1)

/-- The gradient of the unscaled scores. -/
def dScores : FVec Ideal S1x8x2048x2304 .f32 :=
  Host.divf (mulf (addf (Host.divf (dWeights kv d) (sumsAt q kv kr))
    (broadcastInDim S1x8x2048x2304 ![0, 1, 2] bcast_S1x8x2048_S1x8x2048x2304_0_1_2
      (broadcastInDim S1x8x2048 ![1, 2] bcast_S8x2048_S1x8x2048_1_2
        (Host.reduceAdd (negSums q kv kr d) (constant S_ .f32 0x00000000#32) reducesTo_S1x8x2048x1_S8x2048_d0_3 h_S_))))
    (expos q kv kr)) divisor

/-- The gradient of the keys, the rotary part per head. -/
def dKeys : FVec Ideal S1x2304x8x192 .f32 :=
  transpose S1x2304x8x192 [0, 2, 1, 3]
    (Host.dotGeneral dot_S1x8x2048x2304_S1x2048x8x192_S1x8x2304x192_2_1_3_3_01_02 none (dScores q kv kr d) (queries q))
    transposes_S1x8x2304x192_S1x2304x8x192_0_2_1_3

/-- The gradient of the values. -/
def dVals : FVec Ideal S1x2304x8x128 .f32 :=
  transpose S1x2304x8x128 [0, 3, 1, 2]
    (Host.dotGeneral dot_S1x8x128x2048_S1x8x2048x2304_S1x8x128x2304_3_2_2_3_01_01 none (cots d) (weights q kv kr))
    transposes_S1x8x128x2304_S1x2304x8x128_0_3_1_2

/-- The gradient of the queries. -/
def dQueries : FVec Ideal S1x2048x8x192 .f32 :=
  transpose S1x2048x8x192 [0, 2, 1, 3]
    (Host.dotGeneral dot_S1x8x2048x2304_S1x2304x8x192_S1x8x2048x192_3_1_2_3_01_02 none (dScores q kv kr d) (keys kv kr))
    transposes_S1x8x2048x192_S1x2048x8x192_0_2_1_3

/-- The first result: the queries' gradient, zero lanes after each head. -/
def out0 : FVec Ideal S2048x2048 .f32 :=
  shapeCast _ (concatenate S2048x8x256 2
    [⟨S2048x8x192, shapeCast S2048x8x192 (shapeCast S2048x1536 (dQueries q kv kr d) shapeCasts_S1x2048x8x192_S2048x1536)
      shapeCasts_S2048x1536_S2048x8x192⟩,
    ⟨S2048x8x64, broadcastInDim S2048x8x64 ![] bcast_S_S2048x8x64 (constant S_ .f32 0x00000000#32)⟩]
    concatenates_S2048x8x192_S2048x8x64_S2048x8x256_d2) shapeCasts_S2048x8x256_S2048x2048

/-- The second result: the gradients of the heads' own keys and of the values, side by side. -/
def out1 : FVec Ideal S2304x2048 .bf16 :=
  truncf .bf16 (shapeCast S2304x2048 (addf
    (pad S1x2304x8x256 ![0, 0, 0, 128] ![0, 0, 0, 0] ![0, 0, 0, 0] (dVals q kv kr d) (constant S_ .f32 0x00000000#32)
      pads_S1x2304x8x128_S1x2304x8x256_000_000_000_12800 h_S_)
    (pad S1x2304x8x256 ![0, 0, 0, 0] ![0, 0, 0, 128] ![0, 0, 0, 0]
      (extractStridedSlice S1x2304x8x128 ![0, 0, 0, 0] (dKeys q kv kr d) slices_S1x2304x8x192_S1x2304x8x128_0_0_0_0)
      (constant S_ .f32 0x00000000#32) pads_S1x2304x8x128_S1x2304x8x256_000_000_000_01280 h_S_))
    shapeCasts_S1x2304x8x256_S2304x2048) bitsLt_bf16_f32

/-- The third result: the shared rotary key's gradient, summed over the heads, zero lanes after it. -/
def out2 : FVec Ideal S2304x128 .f32 :=
  concatenate S2304x128 1
    [⟨S2304x64, Host.reduceAdd (broadcastInDim S1x2304x1x64 ![1, 3] bcast_S2304x64_S1x2304x1x64_1_3
      (Host.reduceAdd (extractStridedSlice S1x2304x8x64 ![0, 0, 0, 128] (dKeys q kv kr d) slices_S1x2304x8x192_S1x2304x8x64_0_0_0_128)
        (constant S_ .f32 0x00000000#32) reducesTo_S1x2304x8x64_S2304x64_d0_2 h_S_))
      (constant S_ .f32 0x00000000#32) reducesTo_S1x2304x1x64_S2304x64_d0_2 h_S_⟩,
    ⟨S2304x64, broadcastInDim S2304x64 ![] bcast_S_S2304x64 (constant S_ .f32 0x00000000#32)⟩]
    concatenates_S2304x64_S2304x64_S2304x128_d1

variable (m : (ℓ : Loc nD τ sig) → Buf (Elt Ideal) ℓ) (c : Dev nD)

theorem res0 : Value.res_out0 m c = out0 (m ((c.tc : Thread nD τ).loc main_arg0)) (m ((c.tc : Thread nD τ).loc main_arg1))
    (m ((c.tc : Thread nD τ).loc main_arg2)) (m ((c.tc : Thread nD τ).loc main_arg3)) := rfl

theorem res1 : Value.res_out1 m c = out1 (m ((c.tc : Thread nD τ).loc main_arg0)) (m ((c.tc : Thread nD τ).loc main_arg1))
    (m ((c.tc : Thread nD τ).loc main_arg2)) (m ((c.tc : Thread nD τ).loc main_arg3)) := rfl

theorem res2 : Value.res_out2 m c = out2 (m ((c.tc : Thread nD τ).loc main_arg0)) (m ((c.tc : Thread nD τ).loc main_arg1))
    (m ((c.tc : Thread nD τ).loc main_arg2)) (m ((c.tc : Thread nD τ).loc main_arg3)) := rfl

end Cert.ReferenceIdeal.Stages

end
-- ==== Proof.TwoAxes.lean ====
module

public import Idealize.ShloMosaic.Lib.Pointwise

/-! # Sums over the first and a later axis of a rank-four array whose first axis has one entry -/

@[expose] public section

namespace AttnBwd

open Idealize.ShloMosaic

variable {a b c : Nat}

/-- Axes 0 and 3, both of one entry: the sum is the entry. -/
theorem sum_axes_0_3 (h : (⟨4, ![1, a, b, 1]⟩ : Shape).ReducesTo [0, 3] ⟨2, ![a, b]⟩)
    (v : (⟨4, ![1, a, b, 1]⟩ : Shape).Idx → EReal) (x : EReal) (i : Fin a) (j : Fin b) :
    Ideal.hostReduceAdd h v x (ix2 i j) = x + v (ix4 0 i j 0) := by
  have key : ∀ u : (⟨4, ![1, a, b, 1]⟩ : Shape).Idx, h.drop u = ix2 i j ↔ u = ix4 0 i j 0 := by
    intro u
    constructor
    · intro e
      funext t
      apply Fin.ext
      match t with
      | ⟨0, _⟩ => have := (u 0).isLt; change (u 0).val < 1 at this; change (u 0).val = 0; omega
      | ⟨1, _⟩ => exact congrArg Fin.val (congrFun e 0)
      | ⟨2, _⟩ => exact congrArg Fin.val (congrFun e 1)
      | ⟨3, _⟩ => have := (u 3).isLt; change (u 3).val < 1 at this; change (u 3).val = 0; omega
    · rintro rfl
      funext t
      match t with
      | ⟨0, _⟩ => rfl
      | ⟨1, _⟩ => rfl
  unfold Ideal.hostReduceAdd
  simp only [key, Finset.filter_eq', Finset.mem_univ, if_true, Finset.sum_singleton]

/-- Axes 0 and 2, the first of one entry: the sum along axis 2. -/
theorem sum_axes_0_2 (h : (⟨4, ![1, a, b, c]⟩ : Shape).ReducesTo [0, 2] ⟨2, ![a, c]⟩)
    (v : (⟨4, ![1, a, b, c]⟩ : Shape).Idx → EReal) (x : EReal) (i : Fin a) (j : Fin c) :
    Ideal.hostReduceAdd h v x (ix2 i j) = x + ∑ k : Fin b, v (ix4 0 i k j) := by
  refine congrArg (x + ·) (Finset.sum_filter_eq_sum_of_fiber _ (fun k : Fin b => (ix4 0 i k j : (⟨4, ![1, a, b, c]⟩ : Shape).Idx))
    (fun k l e => show k = l from congrFun e 2) (fun u => ?_) v)
  constructor
  · intro e
    refine ⟨u 2, ?_⟩
    funext t
    apply Fin.ext
    match t with
    | ⟨0, _⟩ => have := (u 0).isLt; change (u 0).val < 1 at this; change 0 = (u 0).val; omega
    | ⟨1, _⟩ => exact (congrArg Fin.val (congrFun e 0)).symm
    | ⟨2, _⟩ => rfl
    | ⟨3, _⟩ => exact (congrArg Fin.val (congrFun e 1)).symm
  · rintro ⟨k, rfl⟩
    funext t
    match t with
    | ⟨0, _⟩ => rfl
    | ⟨1, _⟩ => rfl

end AttnBwd

end
-- ==== Proof.RefRead.lean ====
module

public import proofs.«01_k».proof.Proof.RefStages
public import proofs.«01_k».proof.Proof.Consts
public import proofs.«01_k».proof.Proof.Spec
public import proofs.«01_k».proof.Proof.TwoAxes

/-! # The reference's results, entry by entry

Each stage of the reference at one index is the written-out formula of the scores, their
exponentials, their gradient; each result is one of the three gradients. -/

@[expose] public section

set_option maxRecDepth 16384

noncomputable section

namespace Cert.ReferenceIdeal.Stages

open Cert.ReferenceIdeal Cert.ReferenceIdeal.Gen Idealize.ShloMosaic Idealize.ShloMosaic.TcCoe
open AttnBwd

variable (q : FVec Ideal S2048x1536 .bf16) (kv : FVec Ideal S2304x2048 .bf16) (kr : FVec Ideal S2304x64 .bf16)
  (d : FVec Ideal S2048x1024 .bf16)

/-- The queries as a table. -/
abbrev tabQ : Fin 2048 → Fin 1536 → EReal := fun r j => q (ix2 r j)
/-- The keys and values as a table. -/
abbrev tabKV : Fin 2304 → Fin 2048 → EReal := fun r j => kv (ix2 r j)
/-- The rotary key as a table. -/
abbrev tabKR : Fin 2304 → Fin 64 → EReal := fun r j => kr (ix2 r j)
/-- The cotangents as a table. -/
abbrev tabD : Fin 2048 → Fin 1024 → EReal := fun r j => d (ix2 r j)

theorem root_word : Ideal.sqrt (Ideal.ofBits .f32 0x43400000#32) = ((root : ℝ) : EReal) := by
  rw [word_192, Ideal.sqrt_coe, if_neg (by norm_num)]
  rfl

theorem scores_at (h : Fin 8) (r : Fin 2048) (k : Fin 2304) :
    scores q kv kr (ix4 0 h r k) = scaled (score (tabQ q) (tabKV kv) (tabKR kr) h r) k := by
  pointwise [scores, queries, keys, keysVals, divisor]
  rw [root_word]
  rfl

theorem tops_at (h : Fin 8) (r : Fin 2048) :
    tops q kv kr (ix3 0 h r) = rowMax (scaled (score (tabQ q) (tabKV kv) (tabKR kr) h r)) := by
  unfold tops
  rw [Host.reduce_eq_fold, Shape.ReducesTo.fold_fiber_r4_a3]
  simp only [pointwise, word_bot, constant_apply, scores_at]
  rfl

theorem max_floor (y : FVec Ideal S1x8x2048 .f32) (j : S1x8x2048.Idx) :
    maximumf (broadcastInDim S1x8x2048 ![] bcast_S_S1x8x2048 (constant S_ .f32 0xFF800000#32)) y j = max ⊥ (y j) :=
  congrArg (max · (y j)) word_bot

theorem floored_at (h : Fin 8) (r : Fin 2048) :
    floored q kv kr (ix3 0 h r) = max ⊥ (rowMax (scaled (score (tabQ q) (tabKV kv) (tabKR kr) h r))) := by
  rw [← tops_at]
  exact max_floor _ _

theorem shifts_at (h : Fin 8) (r : Fin 2048) : shifts q kv kr (ix4 0 h r 0) = floored q kv kr (ix3 0 h r) := by
  pointwise [shifts]

theorem expos_at (h : Fin 8) (r : Fin 2048) (k : Fin 2304) :
    expos q kv kr (ix4 0 h r k) = expR (score (tabQ q) (tabKV kv) (tabKR kr) h r) k := by
  pointwise [expos]
  rw [shifts_at, floored_at, scores_at]
  rfl

theorem sums_at (h : Fin 8) (r : Fin 2048) :
    sums q kv kr (ix4 0 h r 0) = sumR (score (tabQ q) (tabKV kv) (tabKR kr) h r) := by
  pointwise [sums]
  simp only [expos_at]
  rfl

theorem dWeights_at (h : Fin 8) (r : Fin 2048) (k : Fin 2304) :
    dWeights kv d (ix4 0 h r k) = cot (tabKV kv) (tabD d) h r k := by
  pointwise [dWeights, cots, vals, keysVals]
  rfl

theorem negSums_at (h : Fin 8) (r : Fin 2048) :
    negSums q kv kr d (ix4 0 h r 0) = -(∑ j, cot (tabKV kv) (tabD d) h r j
      * Ideal.div 1 (sumR (score (tabQ q) (tabKV kv) (tabKR kr) h r) * sumR (score (tabQ q) (tabKV kv) (tabKR kr) h r))
      * expR (score (tabQ q) (tabKV kv) (tabKR kr) h r) j) := by
  pointwise [negSums]
  simp only [expos_at, sums_at, dWeights_at]

theorem dScores_at (h : Fin 8) (r : Fin 2048) (k : Fin 2304) :
    dScores q kv kr d (ix4 0 h r k) = dScore (tabQ q) (tabKV kv) (tabKR kr) (tabD d) h r k := by
  pointwise [dScores, divisor, sumsAt]
  rw [root_word, dWeights_at, sums_at, expos_at, sum_axes_0_3, negSums_at, zero_add]
  rfl

theorem dKeys_at (h : Fin 8) (k : Fin 2304) (a : Fin 192) :
    dKeys q kv kr d (ix4 0 k h a) = ∑ r, dScore (tabQ q) (tabKV kv) (tabKR kr) (tabD d) h r k * tabQ q r (colQ h a) := by
  pointwise [dKeys, queries]
  simp only [dScores_at]
  rfl

theorem dVals_at (h : Fin 8) (k : Fin 2304) (a : Fin 128) :
    dVals q kv kr d (ix4 0 k h a) = ∑ r, tabD d r (colV h a) * weight (tabQ q) (tabKV kv) (tabKR kr) h r k := by
  pointwise [dVals, weights, cots, sumsAt]
  simp only [expos_at, sums_at]
  rfl

theorem dQueries_at (h : Fin 8) (r : Fin 2048) (a : Fin 192) :
    dQueries q kv kr d (ix4 0 r h a) = gradQ (tabKV kv) (tabKR kr) (dScore (tabQ q) (tabKV kv) (tabKR kr) (tabD d)) h r ⟨a, by omega⟩ := by
  pointwise [dQueries, keys, keysVals]
  simp only [dScores_at]
  unfold gradQ
  by_cases h' : a.val < 128
  · simp only [h', dite_true]
    rfl
  · simp only [h', dite_false, a.isLt, dite_true]

/-- The first result. -/
theorem out0_at (r : Fin 2048) (c : Fin 2048) :
    out0 q kv kr d (ix2 r c)
      = gradQ (tabKV kv) (tabKR kr) (dScore (tabQ q) (tabKV kv) (tabKR kr) (tabD d)) (headOf c) r (laneOf c) := by
  pointwise [out0]
  simp only [dQueries_at]
  split
  · rfl
  · next h' => exact (gradQ_pad _ _ _ _ _ _ h').symm

/-- The second result. -/
theorem out1_at (k : Fin 2304) (c : Fin 2048) :
    out1 q kv kr d (ix2 k c)
      = gradKV (tabQ q) (tabD d) (dScore (tabQ q) (tabKV kv) (tabKR kr) (tabD d)) (weight (tabQ q) (tabKV kv) (tabKR kr))
          (headOf c) k (laneOf c) := by
  pointwise [out1]
  simp only [dVals_at, dKeys_at]
  have hc := c.isLt
  split
  · next n =>
    split
    · next p => omega
    · exact (add_zero _).trans (gradKV_val (tabQ q) (tabD d) _ _ (headOf c) k (laneOf c) (by simp only [laneOf]; omega)).symm
  · next n =>
    split
    · next p => exact (zero_add _).trans (gradKV_key (tabQ q) (tabD d) _ _ (headOf c) k (laneOf c) (by simp only [laneOf]; omega)).symm
    · next p => omega

/-- The rotary key's gradient in one head. -/
def dRope : FVec Ideal S1x2304x8x64 .f32 :=
  extractStridedSlice S1x2304x8x64 ![0, 0, 0, 128] (dKeys q kv kr d) slices_S1x2304x8x192_S1x2304x8x64_0_0_0_128

theorem dRope_at (h : Fin 8) (k : Fin 2304) (a : Fin 64) :
    dRope q kv kr d (ix4 0 k h a)
      = ∑ r, dScore (tabQ q) (tabKV kv) (tabKR kr) (tabD d) h r k * tabQ q r (colQ h ⟨128 + a, by omega⟩) := by
  pointwise [dRope]
  exact dKeys_at q kv kr d h k ⟨128 + a, by omega⟩

/-- The heads' sum, as a row of one head. -/
def ropeSum : FVec Ideal S1x2304x1x64 .f32 :=
  broadcastInDim S1x2304x1x64 ![1, 3] bcast_S2304x64_S1x2304x1x64_1_3
      (Host.reduceAdd (dRope q kv kr d) (constant S_ .f32 0x00000000#32) reducesTo_S1x2304x8x64_S2304x64_d0_2 h_S_)

theorem ropeSum_at (k : Fin 2304) (a : Fin 64) :
    ropeSum q kv kr d (ix4 0 k 0 a)
      = ∑ h : Fin 8, ∑ r, dScore (tabQ q) (tabKV kv) (tabKR kr) (tabD d) h r k * tabQ q r (colQ h ⟨128 + a, by omega⟩) := by
  pointwise [ropeSum]
  rw [sum_axes_0_2, zero_add]
  simp only [dRope_at]

theorem out2_eq : out2 q kv kr d = concatenate S2304x128 1
    [⟨S2304x64, Host.reduceAdd (ropeSum q kv kr d) (constant S_ .f32 0x00000000#32) reducesTo_S1x2304x1x64_S2304x64_d0_2 h_S_⟩,
    ⟨S2304x64, broadcastInDim S2304x64 ![] bcast_S_S2304x64 (constant S_ .f32 0x00000000#32)⟩]
    concatenates_S2304x64_S2304x64_S2304x128_d1 := rfl

/-- The third result. -/
theorem out2_at (k : Fin 2304) (a : Fin 128) :
    out2 q kv kr d (ix2 k a) = gradKR (tabQ q) (dScore (tabQ q) (tabKV kv) (tabKR kr) (tabD d)) k a := by
  rw [out2_eq]
  pointwise []
  unfold gradKR
  split
  · rw [sum_axes_0_2, zero_add, Fin.sum_univ_one, ropeSum_at]
  · rfl

end Cert.ReferenceIdeal.Stages

end
-- ==== Proof.AttnFwd.lean ====
module

public import proofs.«01_k».proof.Proof.Gen.Kernel29Ideal.Value
public import proofs.«01_k».proof.Proof.Gen.Reference29Ideal.Run
public import proofs.«01_k».proof.Pre_finite29
public import proofs.«01_k».proof.Proof.Finite
public import proofs.«01_k».proof.Proof.RefRead
public import proofs.«01_k».proof.Proof.Products

/-! # The attention

Each point multiplies a block of a head's unnormalised weights with the head's values, and the product with the
reciprocal of the weights' sums. The reference divides first. The rows of scores, their exponentials and sums are
those of the backward pass. -/

@[expose] public section

set_option maxRecDepth 16384

noncomputable section

namespace AttnBwd

open Idealize.ShloMosaic

/-- The attention's entry of row `r` and lane `a` of head `h`. -/
def attended (q : Fin 2048 → Fin 1536 → EReal) (kv : Fin 2304 → Fin 2048 → EReal) (kr : Fin 2304 → Fin 64 → EReal)
    (h : Fin 8) (r : Fin 2048) (a : Fin 128) : EReal :=
  ∑ k, kv k (colK h ⟨128 + a, by omega⟩) * weight q kv kr h r k

/-- The head of a column of the attention's result. -/
def headV (c : Fin 1024) : Fin 8 := ⟨c / 128, by omega⟩
/-- The lane of a column of the attention's result. -/
def laneV (c : Fin 1024) : Fin 128 := ⟨c % 128, by omega⟩

/-- The attention's result. -/
def attention (q : Products.Table 2048 1536) (kv : Products.Table 2304 2048) (kr : Products.Table 2304 64) : Products.Table 2048 1024 :=
  fun i => attended (fun r j => q (ix2 r j)) (fun r j => kv (ix2 r j)) (fun r j => kr (ix2 r j)) (headV (i 1)) (i 0) (laneV (i 1))

/-- Multiplying a row's sum with the reciprocal of its weights' sum divides every weight, on finite scores. -/
theorem sum_mul_inv {ι : Type} [Fintype ι] [Nonempty ι] (σ : ι → ℝ) (v : ι → EReal) :
    (∑ k, expK (fun k => ((σ k : ℝ) : EReal)) k * v k) * invK (fun k => ((σ k : ℝ) : EReal))
      = ∑ k, v k * Ideal.div (expR (fun k => ((σ k : ℝ) : EReal)) k) (sumR (fun k => ((σ k : ℝ) : EReal))) := by
  rw [invK_coe, sum_mul_coe _ _ _ (inv_nonneg.mpr (tot_pos σ).le), ← invK_coe]
  refine Finset.sum_congr rfl fun k _ => ?_
  rw [mul_assoc]
  exact expK_mul_inv σ (v k) k

end AttnBwd

/-! ## The kernel -/

namespace Cert.Kernel29Ideal.Value

open Cert.Kernel29Ideal Cert.Kernel29Ideal.Gen Idealize.ShloMosaic Idealize.ShloMosaic.TcCoe
open AttnBwd
open Tables (pair_eq)

variable (m : (ℓ : Loc nD τ sig) → Buf (Elt Ideal) ℓ) (c : Dev nD)

/-- The scores of a block. -/
def blockScore (x0 : Vec Ideal S256x256 .bf16) (x1 : Vec Ideal S2304x256 .bf16) (x2 : Vec Ideal S2304x128 .bf16)
    (r : Fin 256) (k : Fin 2304) : EReal :=
  ∑ a : Fin 128, x0 (ix2 r ⟨a, by omega⟩) * x1 (ix2 k ⟨a, by omega⟩) + ∑ a : Fin 128, x0 (ix2 r ⟨128 + a, by omega⟩) * x2 (ix2 k a)

theorem name_scale_log2e : Named.named (F := Ideal) Cert.Kernel29Ideal.κ "scale_log2e" (φ := .f32) 0x3DD53B95#32
    = ((root⁻¹ * (Real.log 2)⁻¹ : ℝ) : EReal) :=
  IdealRules.named_const.ideal_named_scalar _ _ _ _ rfl

theorem pay1_at (x0 : Vec Ideal S256x256 .bf16) (x1 : Vec Ideal S2304x256 .bf16) (x2 : Vec Ideal S2304x128 .bf16)
    (r : Fin 256) (a : Fin 128) :
    k0_pay1 (F := Ideal) x1 x0 x2 (ix2 r a)
      = (∑ k, expK (blockScore x0 x1 x2 r) k * x1 (ix2 k ⟨128 + a, by omega⟩)) * invK (blockScore x0 x1 x2 r) := by
  pointwise [k0_pay1]
  rw [name_scale_log2e, word_bot]
  rfl

theorem points : cfg0.N = 64 := rfl

/-- The head of a point. -/
def hd (t : Fin cfg0.N) : Fin 8 := ⟨t.val / 8, by have := t.isLt; have := points; omega⟩
/-- The query row of a point's block row. -/
def row (t : Fin cfg0.N) (r : Fin 256) : Fin 2048 := ⟨t.val % 8 * 256 + r.val, by omega⟩

theorem idx_val : ∀ t : Fin cfg0.N, win0_0.index t = ![t.val % 8, t.val / 8] ∧ win0_1.index t = ![0, t.val / 8]
    ∧ win0_2.index t = ![0, 0] ∧ win0_3.index t = ![t.val % 8, t.val / 8] :=
  (by decide +kernel : ∀ t : Fin grid0.N, _)

/-- The queries as a table. -/
def argQ : Fin 2048 → Fin 1536 → EReal := fun r j => m ((c : Thread nD τ).loc main_arg0) (ix2 r j)
/-- The keys and values as a table. -/
def argKV : Fin 2304 → Fin 2048 → EReal := fun r j => m ((c : Thread nD τ).loc main_arg1) (ix2 r j)
/-- The rotary key as a table. -/
def argKR : Fin 2304 → Fin 64 → EReal := fun r j => m ((c : Thread nD τ).loc main_arg2) (ix2 r j)

theorem read1 (t : Fin cfg0.N) (k : Fin 2304) (a : Fin 256) :
    iblk m c 1 t (ix2 k a) = m ((c : Thread nD τ).loc main_arg1) (ix2 k (colK (hd t) a)) := by
  blk_ext [iblk, V, idx_val t, colK, hd]

theorem read0 (t : Fin cfg0.N) (r : Fin 256) (a : Fin 256) :
    (iblk m c 0 t (ix2 r a) : EReal) = if h : a.val < 192 then argQ m c (row t r) (colQ (hd t) ⟨a, h⟩) else (0 : EReal) := by
  have e0 : ((((View.whole main_v3).slice (win0_0.rect t)).emb (ix2 r a) 0 : Fin 2048) : ℕ) = t.val % 8 * 256 + r.val := by
    blk_simp [idx_val t]
  have e1 : ((((View.whole main_v3).slice (win0_0.rect t)).emb (ix2 r a) 1 : Fin 2048) : ℕ) = t.val / 8 * 256 + a.val := by
    blk_simp [idx_val t]
  have ha := a.isLt
  blk_simp [iblk, idx_val t]
  entry_read
  pointwise
  split
  · next h =>
    refine Eq.trans ?_ (dif_pos (show a.val < 192 by omega)).symm
    refine congrArg (m ((c : Thread nD τ).loc main_arg0)) ?_
    funext x
    apply Fin.ext
    match x with
    | ⟨0, _⟩ => exact e0
    | ⟨1, _⟩ =>
      change ((((View.whole main_v3).slice (win0_0.rect t)).emb (ix2 r a) 1 : Fin 2048) : ℕ) / 256 * 192
        + ((((View.whole main_v3).slice (win0_0.rect t)).emb (ix2 r a) 1 : Fin 2048) : ℕ) % 256 = t.val / 8 * 192 + a.val
      omega
  · next h =>
    have h' : ¬ a.val < 192 := by omega
    simp only [h', dite_false]

theorem read2 (t : Fin cfg0.N) (k : Fin 2304) (a : Fin 128) :
    (iblk m c 2 t (ix2 k a) : EReal) = if h : a.val < 64 then argKR m c k ⟨a, h⟩ else (0 : EReal) := by
  have e0 : ((((View.whole main_v5).slice (win0_2.rect t)).emb (ix2 k a) 0 : Fin 2304) : ℕ) = k.val := by
    blk_simp [idx_val t]
  have e1 : ((((View.whole main_v5).slice (win0_2.rect t)).emb (ix2 k a) 1 : Fin 128) : ℕ) = a.val := by
    blk_simp [idx_val t]
  blk_simp [iblk, idx_val t]
  entry_read
  pointwise
  split
  · next h =>
    refine Eq.trans ?_ (dif_pos (show a.val < 64 by omega)).symm
    refine congrArg (m ((c : Thread nD τ).loc main_arg2)) ?_
    funext x
    apply Fin.ext
    match x with
    | ⟨0, _⟩ => exact e0
    | ⟨1, _⟩ => exact e1
  · next h =>
    have h' : ¬ a.val < 64 := by omega
    simp only [h', dite_false]

/-- A block's scores are its head's. -/
theorem blockScore_eq (t : Fin cfg0.N) (r : Fin 256) :
    blockScore (iblk m c 0 t) (iblk m c 1 t) (iblk m c 2 t) r = score (argQ m c) (argKV m c) (argKR m c) (hd t) (row t r) := by
  funext k
  unfold blockScore score
  congr 1
  · refine Finset.sum_congr rfl fun a _ => ?_
    rw [read0, read1, dif_pos (show (⟨a, by omega⟩ : Fin 256).val < 192 by have := a.isLt; simp only; omega)]
    rfl
  · rw [Fin.sum_univ_two_halves 64 64 rfl]
    refine (congrArg₂ (· + ·) (Finset.sum_congr rfl fun b _ => ?_) (Finset.sum_eq_zero fun b _ => ?_)).trans (add_zero _)
    · rw [read0, read2, dif_pos (by have := b.isLt; simp only; omega), dif_pos (by have := b.isLt; simp only; omega)]
    · rw [read2, dif_neg (by simp only; omega), mul_zero]

theorem block (hσ : ∃ σ : Fin 8 → Fin 2048 → Fin 2304 → ℝ, ∀ h r, score (argQ m c) (argKV m c) (argKR m c) h r = fun k => ((σ h r k : ℝ) : EReal))
    (t : Fin cfg0.N) (p : Fin 256) (q : Fin 128) :
    out0_3 (F := Ideal) (iblk m c 0 t) (iblk m c 1 t) (iblk m c 2 t) (ix2 p q)
      = attended (argQ m c) (argKV m c) (argKR m c) (hd t) (row t p) q := by
  obtain ⟨σ, hσ⟩ := hσ
  have e : out0_3 (F := Ideal) (iblk m c 0 t) (iblk m c 1 t) (iblk m c 2 t) (ix2 p q)
      = k0_pay1 (iblk m c 1 t) (iblk m c 0 t) (iblk m c 2 t) (ix2 p q) := by
    unfold out0_3
    frame_out
  rw [e, pay1_at, blockScore_eq, hσ, sum_mul_inv]
  unfold attended weight
  rw [hσ]
  refine Finset.sum_congr rfl fun k _ => ?_
  rw [read1]
  rfl

/-- The attention's result. -/
theorem array (hσ : ∃ σ : Fin 8 → Fin 2048 → Fin 2304 → ℝ, ∀ h r, score (argQ m c) (argKV m c) (argKR m c) h r = fun k => ((σ h r k : ℝ) : EReal)) :
    (dats m 0 c).arrAt 3 cfg0.N
      = attention (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨p, q, rfl⟩ : ∃ (p : Fin 256) (q : Fin 128), y = ix2 p q := ⟨y 0, y 1, pair_eq y⟩
  have e0 : ((((View.whole main_v6).slice (win0_3.rect t)).emb (ix2 p q) 0 : Fin 2048) : ℕ) = t.val % 8 * 256 + p.val := by
    blk_simp [idx_val t]
  have e1 : ((((View.whole main_v6).slice (win0_3.rect t)).emb (ix2 p q) 1 : Fin 1024) : ℕ) = t.val / 8 * 128 + q.val := by
    blk_simp [idx_val t]
  blk_simp
  rw [after0_3]
  refine (block m c hσ t p q).trans ?_
  have hq := q.isLt
  have h0 : headV (((View.whole main_v6).slice (win0_3.rect t)).emb (ix2 p q) 1) = hd t :=
    Fin.ext (by show (((View.whole main_v6).slice (win0_3.rect t)).emb (ix2 p q) 1 : Fin 1024).val / 128 = t.val / 8; omega)
  have h1 : (((View.whole main_v6).slice (win0_3.rect t)).emb (ix2 p q) 0 : Fin 2048) = row t p := Fin.ext e0
  have h2 : laneV (((View.whole main_v6).slice (win0_3.rect t)).emb (ix2 p q) 1) = q :=
    Fin.ext (by show (((View.whole main_v6).slice (win0_3.rect t)).emb (ix2 p q) 1 : Fin 1024).val % 128 = q.val; omega)
  unfold attention
  rw [h0, h1, h2]
  rfl

end Cert.Kernel29Ideal.Value

/-! ## The reference -/

namespace Cert.Reference29Ideal.Value

open Cert.Reference29Ideal Cert.Reference29Ideal.Gen Idealize.ShloMosaic Idealize.ShloMosaic.TcCoe
open AttnBwd
open Tables (pair_eq)
open Cert.ReferenceIdeal.Stages (weights vals expos sums expos_at sums_at sumsAt keysVals)

/-- The printed term over the stages of the backward pass. -/
def attend (q : FVec Ideal S2048x1536 .bf16) (kv : FVec Ideal S2304x2048 .bf16) (kr : FVec Ideal S2304x64 .bf16) : FVec Ideal S2048x1024 .bf16 :=
  truncf .bf16 (shapeCast S2048x1024 (transpose S1x2048x8x128 [0, 3, 1, 2]
    (Host.dotGeneral dot_S1x2304x8x128_S1x8x2048x2304_S1x8x128x2048_1_3_3_2_02_01 none (vals kv) (weights q kv kr))
    transposes_S1x8x128x2048_S1x2048x8x128_0_3_1_2) shapeCasts_S1x2048x8x128_S2048x1024) bitsLt_bf16_f32

theorem attend_eq (q : FVec Ideal S2048x1536 .bf16) (kv : FVec Ideal S2304x2048 .bf16) (kr : FVec Ideal S2304x64 .bf16) :
    attend q kv kr = attention q kv kr := by
  funext i
  obtain ⟨r, k, ei⟩ : ∃ r k, i = ix2 r k := ⟨i 0, i 1, pair_eq i⟩
  subst ei
  pointwise [attend, weights, vals, sumsAt, keysVals]
  simp only [expos_at, sums_at]
  rfl

theorem result (m : (ℓ : Loc nD τ sig) → Buf (Elt Ideal) ℓ) (c : Dev nD) : res_main_v28 m c
    = attention (m ((c.tc : Thread nD τ).loc main_arg0)) (m ((c.tc : Thread nD τ).loc main_arg1)) (m ((c.tc : Thread nD τ).loc main_arg2)) :=
  (show res_main_v28 m c = attend _ _ _ from rfl).trans (attend_eq _ _ _)

end Cert.Reference29Ideal.Value

/-! ## The precondition -/

namespace Cert.Pre_finite29

open Idealize.ShloMosaic AttnBwd
open Cert.Pre_finite (real_of_absf)

/-- The side conditions of the predicate's operations. -/
theorem facts : Facts := ⟨by decide, by decide, by decide, by decide, by decide, by decide, by decide, by decide, by decide, by decide⟩

variable [Facts]

variable {q : FVec Ideal S2048x1536 .bf16} {kv : FVec Ideal S2304x2048 .bf16} {kr : FVec Ideal S2304x64 .bf16} (h : fn (F := Ideal) q kv kr = fun _ => 1#1)

include h

/-- The three conjuncts. -/
theorem finite_all : (∀ i, ∃ r : ℝ, (q i : EReal) = r) ∧ (∀ k hh (a : Fin 128), ∃ r : ℝ, (kv (ix2 k (colK hh ⟨a, by omega⟩)) : EReal) = r)
    ∧ (∀ i, ∃ r : ℝ, (kr i : EReal) = r) := by
  have h0 := congrFun h (fun i => i.elim0)
  dsimp only [fn, fn_part1] at h0
  obtain ⟨h1, h2⟩ := IntOp.andi_eq_one.1 h0
  obtain ⟨h3, h4⟩ := IntOp.andi_eq_one.1 h1
  haveI : Subsingleton S_.Idx := ⟨fun a b => funext fun i => i.elim0⟩
  refine ⟨fun i => real_of_absf ?_, fun k hh a => real_of_absf ?_, fun i => real_of_absf ?_⟩
  · exact Host.reduce_andi_all _ _ _ _ _ h3 i
  · refine Eq.trans ?_ (Host.reduce_andi_all _ _ _ _ _ h4 (ix3 k hh a))
    refine congrArg (fun x : EReal => Ideal.cmp .olt (max x (-x)) (Ideal.ofBits .f32 0x7F800000#32)) (?_ : (kv _ : EReal) =
      (extractStridedSlice S2304x8x128 ![0, 0, 0] (shapeCast S2304x8x256 kv Facts.shapeCasts_S2304x2048_S2304x8x256)
        Facts.slices_S2304x8x256_S2304x8x128_0_0_0 (ix3 k hh a) : EReal))
    pointwise
    rfl
  · exact Host.reduce_andi_all _ _ _ _ _ h2 i

/-- Every score is a real number. -/
theorem score_real : ∃ σ : Fin 8 → Fin 2048 → Fin 2304 → ℝ, ∀ hh r,
    score (fun r j => q (ix2 r j)) (fun r j => kv (ix2 r j)) (fun r j => kr (ix2 r j)) hh r = fun k => ((σ hh r k : ℝ) : EReal) := by
  obtain ⟨hq, hk, hr⟩ := finite_all h
  choose fq hfq using hq
  choose fk hfk using hk
  choose fr hfr using hr
  refine ⟨fun hh r k => ∑ a : Fin 128, fq (ix2 r (colQ hh ⟨a, by omega⟩)) * fk k hh a
    + ∑ b : Fin 64, fq (ix2 r (colQ hh ⟨128 + b, by omega⟩)) * fr (ix2 k b), fun hh r => funext fun k => ?_⟩
  unfold score
  simp only [hfq, hfk, hfr, EReal.coe_add, coe_sum, EReal.coe_mul]

end Cert.Pre_finite29

end
-- ==== Proof.Blocks.lean ====
module

public import proofs.«01_k».proof.Proof.Gen.KernelIdeal.Value
public import proofs.«01_k».proof.Proof.Spec
public import Idealize.ShloMosaic.Lib.Pipeline.ValueKit
public import Idealize.ShloMosaic.Lib.Pointwise
public import Idealize.ShloMosaic.Lib.Tactic.CleanTypes

/-! # The blocks a grid point reads, as entries of the program's arguments

Point `t` works on head `t / 4` and on the query rows `512 * (t % 4)` to the next 512. The queries'
and the rotary key's blocks hold zero lanes that the host adds. -/

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open AttnBwd

variable (m : (ℓ : Loc nD τ sig) → Buf (Elt Ideal) ℓ)

/-- The queries as a table. -/
def argQ (c : Dev nD) : Fin 2048 → Fin 1536 → EReal := fun r j => m ((c : Thread nD τ).loc main_arg0) (ix2 r j)
/-- The keys and values as a table. -/
def argKV (c : Dev nD) : Fin 2304 → Fin 2048 → EReal := fun r j => m ((c : Thread nD τ).loc main_arg1) (ix2 r j)
/-- The rotary key as a table. -/
def argKR (c : Dev nD) : Fin 2304 → Fin 64 → EReal := fun r j => m ((c : Thread nD τ).loc main_arg2) (ix2 r j)
/-- The cotangents as a table. -/
def argD (c : Dev nD) : Fin 2048 → Fin 1024 → EReal := fun r j => m ((c : Thread nD τ).loc main_arg3) (ix2 r j)

theorem points : cfg0.N = 32 := rfl

/-- The head of a point. -/
def hd (t : Fin cfg0.N) : Fin 8 := ⟨t.val / 4, by have := t.isLt; have := points; omega⟩
/-- The query row of a point's block row. -/
def row (t : Fin cfg0.N) (r : Fin 512) : Fin 2048 := ⟨t.val % 4 * 512 + r.val, by omega⟩

theorem idx_val : ∀ t : Fin cfg0.N, win0_0.index t = ![t.val % 4, t.val / 4] ∧ win0_1.index t = ![0, t.val / 4]
    ∧ win0_2.index t = ![0, 0] ∧ win0_3.index t = ![t.val % 4, t.val / 4] ∧ win0_4.index t = ![t.val % 4, t.val / 4]
    ∧ win0_5.index t = ![0, t.val / 4] ∧ win0_6.index t = ![0, 0] :=
  (by decide +kernel : ∀ t : Fin grid0.N, _)

theorem read1 (c : Dev nD) (t : Fin cfg0.N) (k : Fin 2304) (a : Fin 256) :
    iblk m c 1 t (ix2 k a) = m ((c : Thread nD τ).loc main_arg1) (ix2 k (colK (hd t) a)) := by
  blk_ext [iblk, V, idx_val t, colK, hd]

theorem read3 (c : Dev nD) (t : Fin cfg0.N) (r : Fin 512) (a : Fin 128) :
    iblk m c 3 t (ix2 r a) = m ((c : Thread nD τ).loc main_arg3) (ix2 (row t r) (colV (hd t) a)) := by
  blk_ext [iblk, V, idx_val t, colV, hd, row]

theorem read0 (c : Dev nD) (t : Fin cfg0.N) (r : Fin 512) (a : Fin 256) :
    (iblk m c 0 t (ix2 r a) : EReal) = if h : a.val < 192 then argQ m c (row t r) (colQ (hd t) ⟨a, h⟩) else (0 : EReal) := by
  have e0 : ((((View.whole main_v3).slice (win0_0.rect t)).emb (ix2 r a) 0 : Fin 2048) : ℕ) = t.val % 4 * 512 + r.val := by
    blk_simp [idx_val t]
  have e1 : ((((View.whole main_v3).slice (win0_0.rect t)).emb (ix2 r a) 1 : Fin 2048) : ℕ) = t.val / 4 * 256 + a.val := by
    blk_simp [idx_val t]
  have ha := a.isLt
  blk_simp [iblk, idx_val t]
  entry_read
  pointwise
  split
  · next h =>
    refine Eq.trans ?_ (dif_pos (show a.val < 192 by omega)).symm
    refine congrArg (m ((c : Thread nD τ).loc main_arg0)) ?_
    funext x
    apply Fin.ext
    match x with
    | ⟨0, _⟩ => exact e0
    | ⟨1, _⟩ =>
      change ((((View.whole main_v3).slice (win0_0.rect t)).emb (ix2 r a) 1 : Fin 2048) : ℕ) / 256 * 192
        + ((((View.whole main_v3).slice (win0_0.rect t)).emb (ix2 r a) 1 : Fin 2048) : ℕ) % 256 = t.val / 4 * 192 + a.val
      omega
  · next h =>
    have h' : ¬ a.val < 192 := by omega
    simp only [h', dite_false]

theorem read2 (c : Dev nD) (t : Fin cfg0.N) (k : Fin 2304) (a : Fin 128) :
    (iblk m c 2 t (ix2 k a) : EReal) = if h : a.val < 64 then argKR m c k ⟨a, h⟩ else (0 : EReal) := by
  have e0 : ((((View.whole main_v5).slice (win0_2.rect t)).emb (ix2 k a) 0 : Fin 2304) : ℕ) = k.val := by
    blk_simp [idx_val t]
  have e1 : ((((View.whole main_v5).slice (win0_2.rect t)).emb (ix2 k a) 1 : Fin 128) : ℕ) = a.val := by
    blk_simp [idx_val t]
  blk_simp [iblk, idx_val t]
  entry_read
  pointwise
  split
  · next h =>
    refine Eq.trans ?_ (dif_pos (show a.val < 64 by omega)).symm
    refine congrArg (m ((c : Thread nD τ).loc main_arg2)) ?_
    funext x
    apply Fin.ext
    match x with
    | ⟨0, _⟩ => exact e0
    | ⟨1, _⟩ => exact e1
  · next h =>
    have h' : ¬ a.val < 64 := by omega
    simp only [h', dite_false]

end Cert.KernelIdeal.Value

end
-- ==== Proof.Payloads.lean ====
module

public import proofs.«01_k».proof.Proof.Gen.KernelIdeal.Value
public import proofs.«01_k».proof.Proof.Spec
public import proofs.«01_k».proof.Proof.Consts
public import Idealize.ShloMosaic.Lib.Pointwise

/-! # What the kernel's body computes from its blocks

From blocks of queries, keys with values, the padded rotary key and cotangents: the rows of scores
and of weights' cotangents, and the kernel's arithmetic over them, which is that of one row. -/

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open AttnBwd

/-- The scores of a block. -/
def blockScore (x0 : Vec Ideal S512x256 .bf16) (x1 : Vec Ideal S2304x256 .bf16) (x2 : Vec Ideal S2304x128 .bf16)
    (r : Fin 512) (k : Fin 2304) : EReal :=
  ∑ a : Fin 128, x0 (ix2 r ⟨a, by omega⟩) * x1 (ix2 k ⟨a, by omega⟩) + ∑ a : Fin 128, x0 (ix2 r ⟨128 + a, by omega⟩) * x2 (ix2 k a)

/-- The weights' cotangents of a block. -/
def blockCot (x1 : Vec Ideal S2304x256 .bf16) (x3 : Vec Ideal S512x128 .bf16) (r : Fin 512) (k : Fin 2304) : EReal :=
  ∑ a : Fin 128, x3 (ix2 r a) * x1 (ix2 k ⟨128 + a, by omega⟩)

variable (x0 : Vec Ideal S512x256 .bf16) (x1 : Vec Ideal S2304x256 .bf16) (x2 : Vec Ideal S2304x128 .bf16)
  (x3 : Vec Ideal S512x128 .bf16)

theorem name_scale : Named.named (F := Ideal) Cert.KernelIdeal.κ "scale" (φ := .f32) 0x3D93CD3A#32 = ((root⁻¹ : ℝ) : EReal) :=
  IdealRules.named_const.ideal_named_scalar _ _ _ _ rfl

theorem name_inv_scale : Named.named (F := Ideal) Cert.KernelIdeal.κ "inv_scale" (φ := .f32) 0x415DB3D7#32 = ((root : ℝ) : EReal) :=
  IdealRules.named_const.ideal_named_scalar _ _ _ _ rfl

theorem name_scale_log2e : Named.named (F := Ideal) Cert.KernelIdeal.κ "scale_log2e" (φ := .f32) 0x3DD53B95#32
    = ((root⁻¹ * (Real.log 2)⁻¹ : ℝ) : EReal) :=
  IdealRules.named_const.ideal_named_scalar _ _ _ _ rfl

theorem pay6_at (r : Fin 512) (k : Fin 2304) :
    k0_pay6 (F := Ideal) x0 x1 x2 (ix2 r k) = expK (blockScore x0 x1 x2 r) k := by
  pointwise [k0_pay6, k0_pay4, k0_pay5]
  rw [name_scale_log2e, word_bot]
  rfl

theorem pay7_at (r : Fin 512) : k0_pay7 (F := Ideal) x0 x1 x2 (ix2 r 0) = invK (blockScore x0 x1 x2 r) := by
  pointwise [k0_pay7]
  simp only [pay6_at]
  rfl

theorem pay8_at (r : Fin 512) (k : Fin 2304) :
    k0_pay8 (F := Ideal) x0 x1 x2 x3 (ix2 r k) = dsK (blockScore x0 x1 x2 r) (blockCot x1 x3 r) k := by
  pointwise [k0_pay8]
  simp only [pay6_at, pay7_at, name_scale, name_inv_scale]
  rfl

theorem pay15_at (v5 : Vec Ideal S512x128 .bf16) (v18 : FVec Ideal S512x2304 .f32) (v22 : FVec Ideal S512x1 .f32)
    (v51 : Vec Ideal S2304x128 .f32) (k : Fin 2304) (a : Fin 128) :
    k0_pay15 v5 v18 v22 v51 (ix2 k a) = v51 (ix2 k a) + ∑ r, v18 (ix2 r k) * (v5 (ix2 r a) * v22 (ix2 r 0)) := by
  pointwise [k0_pay15]

theorem pay16_at (w1 : FVec Ideal S512x256 .bf16) (ds : FVec Ideal S512x2304 .bf16) (acc : FVec Ideal S2304x128 .f32)
    (k : Fin 2304) (a : Fin 128) :
    k0_pay16 w1 ds acc (ix2 k a) = acc (ix2 k a) + ∑ r, ds (ix2 r k) * w1 (ix2 r ⟨a, by omega⟩) := by
  pointwise [k0_pay16]

theorem pay1_at (w1 : FVec Ideal S512x256 .bf16) (ds : FVec Ideal S512x2304 .bf16) (acc : FVec Ideal S2304x128 .f32)
    (k : Fin 2304) (a : Fin 128) :
    k0_pay1 w1 ds acc (ix2 k a) = acc (ix2 k a) + ∑ r, ds (ix2 r k) * w1 (ix2 r ⟨128 + a, by omega⟩) := by
  pointwise [k0_pay1]

end Cert.KernelIdeal.Value

end
-- ==== Proof.Cases.lean ====
module

public import proofs.«01_k».proof.Proof.Gen.KernelIdeal.Value
public import proofs.«01_k».proof.Proof.Payloads
public import Idealize.ShloMosaic.Lib.Pipeline.ValueKit
public import Idealize.ShloMosaic.Lib.Pipeline.ReadBack
public import Idealize.ShloMosaic.Lib.Pointwise

/-! # What each buffer holds after a grid point, from the point before

The queries' gradient is stored whole at every point. The three sums over query rows start from zero
at a head's first point (the rotary key's at the grid's first point) and take one block's part at
each point. The keys' and values' gradients leave their sums at a head's last point. -/

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open AttnBwd

variable (m : (ℓ : Loc nD τ sig) → Buf (Elt Ideal) ℓ) (c : Dev nD)

/-- A point is the grid's first, a later head's first, a head's last, or another. -/
theorem point_cases (t : Fin cfg0.N) :
    (t.val % 4 = 0 ∧ t.val % 32 = 0 ∧ ¬t.val % 4 = 3) ∨ (¬t.val % 4 = 0 ∧ ¬t.val % 32 = 0 ∧ ¬t.val % 4 = 3)
      ∨ (¬t.val % 4 = 0 ∧ ¬t.val % 32 = 0 ∧ t.val % 4 = 3) ∨ (t.val % 4 = 0 ∧ ¬t.val % 32 = 0 ∧ ¬t.val % 4 = 3) := by
  omega

/-- The scores' gradient of a point's block. -/
abbrev dsAt (t : Fin cfg0.N) : FVec Ideal S512x2304 .bf16 :=
  k0_pay8 (F := Ideal) (iblk m c 0 t) (iblk m c 1 t) (iblk m c 2 t) (iblk m c 3 t)

theorem zeros12 (j : S2304x128.Idx) : k0_pay12 (F := Ideal) j = 0 := by
  pointwise [k0_pay12]

theorem zeros13 (j : S2304x128.Idx) : k0_pay13 (F := Ideal) j = 0 := by
  pointwise [k0_pay13]

theorem zeros14 (j : S2304x128.Idx) : k0_pay17 (F := Ideal) (k0_pay14 (F := Ideal)) j = 0 := by
  pointwise [k0_pay17, k0_pay14]

theorem pay4_at (v : Vec Ideal S512x256 .bf16) (j : S512x256.Idx) : k0_pay4 v j = v j := by
  pointwise [k0_pay4]

theorem pay5_at (v : Vec Ideal S2304x128 .bf16) (j : S2304x128.Idx) : k0_pay5 v j = v j := by
  pointwise [k0_pay5]

theorem pay17_at (v : Vec Ideal S2304x128 .f32) (k : Fin 2304) (a : Fin 128) : k0_pay17 v (ix2 k a) = v (ix2 k a) := by
  pointwise [k0_pay17]

/-- The rotary key's sum after the grid's first point. -/
theorem rope_first (t : Fin cfg0.N) (h : t.val % 32 = 0) (k : Fin 2304) (a : Fin 128) :
    (outsAt0 m c t.val t.isLt).2.2.1 (ix2 k a)
      = 0 + ∑ r, dsAt m c t (ix2 r k) * iblk m c 0 t (ix2 r (⟨128 + a, by omega⟩ : Fin 256)) := by
  rw [outsAt0_A m c t (by omega) h (by omega)]
  dsimp only
  frame_out
  simp only [pay1_at, zeros14, pay4_at]

/-- The rotary key's sum after a later point. -/
theorem rope_next (t : Fin cfg0.N) (h : ¬t.val % 32 = 0) (k : Fin 2304) (a : Fin 128) :
    (outsAt0 m c t.val t.isLt).2.2.1 (ix2 k a)
      = (outsAt0 m c (t.val - 1) (Nat.lt_of_le_of_lt (Nat.sub_le _ _) t.isLt)).2.2.1 (ix2 k a)
        + ∑ r, dsAt m c t (ix2 r k) * iblk m c 0 t (ix2 r (⟨128 + a, by omega⟩ : Fin 256)) := by
  rcases point_cases t with ⟨h0, h1, h2⟩ | ⟨h0, h1, h2⟩ | ⟨h0, h1, h2⟩ | ⟨h0, h1, h2⟩
  · exact absurd h1 h
  · rw [outsAt0_B m c t h0 h1 h2]
    dsimp only
    frame_out
    simp only [pay1_at, pay17_at, pay4_at]
  · rw [outsAt0_C m c t h0 h1 h2]
    dsimp only
    frame_out
    simp only [pay1_at, pay17_at, pay4_at]
  · rw [outsAt0_D m c t h0 h1 h2]
    dsimp only
    frame_out
    simp only [pay1_at, pay17_at, pay4_at]

/-- The keys' sum after a head's first point. -/
theorem key_first (t : Fin cfg0.N) (h : t.val % 4 = 0) (k : Fin 2304) (a : Fin 128) :
    (outsAt0 m c t.val t.isLt).2.2.2.1 (ix2 k a)
      = 0 + ∑ r, dsAt m c t (ix2 r k) * iblk m c 0 t (ix2 r (⟨a, by omega⟩ : Fin 256)) := by
  by_cases h1 : t.val % 32 = 0
  · rw [outsAt0_A m c t h h1 (by omega)]
    dsimp only
    frame_out
    simp only [pay16_at, zeros12, zeros13, pay4_at]
  · rw [outsAt0_D m c t h h1 (by omega)]
    dsimp only
    frame_out
    simp only [pay16_at, zeros12, zeros13, pay4_at]

/-- The keys' sum after a later point of a head. -/
theorem key_next (t : Fin cfg0.N) (h : ¬t.val % 4 = 0) (k : Fin 2304) (a : Fin 128) :
    (outsAt0 m c t.val t.isLt).2.2.2.1 (ix2 k a)
      = (outsAt0 m c (t.val - 1) (Nat.lt_of_le_of_lt (Nat.sub_le _ _) t.isLt)).2.2.2.1 (ix2 k a)
        + ∑ r, dsAt m c t (ix2 r k) * iblk m c 0 t (ix2 r (⟨a, by omega⟩ : Fin 256)) := by
  by_cases h2 : t.val % 4 = 3
  · rw [outsAt0_C m c t h (by omega) h2]
    dsimp only
    frame_out
    simp only [pay16_at, pay4_at, read_unread_whole]
  · rw [outsAt0_B m c t h (by omega) h2]
    dsimp only
    frame_out
    simp only [pay16_at, pay4_at, read_unread_whole]

/-- One block's part of the values' sum, from the exponentials, the cotangents and the reciprocals. -/
def valSum (e : FVec Ideal S512x2304 .f32) (x3 : Vec Ideal S512x128 .bf16) (inv : FVec Ideal S512x1 .f32)
    (k : Fin 2304) (a : Fin 128) : EReal :=
  ∑ r, e (ix2 r k) * (x3 (ix2 r a) * inv (ix2 r 0))

/-- The values' sum's part of a point. -/
def valTerm (t : Fin cfg0.N) (k : Fin 2304) (a : Fin 128) : EReal :=
  valSum (k0_pay6 (F := Ideal) (iblk m c 0 t) (iblk m c 1 t) (iblk m c 2 t)) (iblk m c 3 t)
    (k0_pay7 (F := Ideal) (iblk m c 0 t) (iblk m c 1 t) (iblk m c 2 t)) k a

/-- The values' sum after a head's first point. -/
theorem val_first (t : Fin cfg0.N) (h : t.val % 4 = 0) (k : Fin 2304) (a : Fin 128) :
    (outsAt0 m c t.val t.isLt).2.2.2.2 (ix2 k a) = 0 + valTerm m c t k a := by
  by_cases h1 : t.val % 32 = 0
  · rw [outsAt0_A m c t h h1 (by omega)]
    dsimp only
    frame_out
    simp only [pay15_at, zeros12, zeros13, valTerm, valSum]
  · rw [outsAt0_D m c t h h1 (by omega)]
    dsimp only
    frame_out
    simp only [pay15_at, zeros12, zeros13, valTerm, valSum]

/-- The values' sum after a later point of a head. -/
theorem val_next (t : Fin cfg0.N) (h : ¬t.val % 4 = 0) (k : Fin 2304) (a : Fin 128) :
    (outsAt0 m c t.val t.isLt).2.2.2.2 (ix2 k a)
      = (outsAt0 m c (t.val - 1) (Nat.lt_of_le_of_lt (Nat.sub_le _ _) t.isLt)).2.2.2.2 (ix2 k a) + valTerm m c t k a := by
  by_cases h2 : t.val % 4 = 3
  · rw [outsAt0_C m c t h (by omega) h2]
    dsimp only
    frame_out
    simp only [pay15_at, read_unread_whole, valTerm, valSum]
  · rw [outsAt0_B m c t h (by omega) h2]
    dsimp only
    frame_out
    simp only [pay15_at, read_unread_whole, valTerm, valSum]

theorem pay2_at (v : Vec Ideal S2304x128 .f32) (k : Fin 2304) (a : Fin 128) : k0_pay2 v (ix2 k a) = v (ix2 k a) := by
  pointwise [k0_pay2]

theorem pay3_at (v : Vec Ideal S2304x128 .f32) (k : Fin 2304) (a : Fin 128) : k0_pay3 v (ix2 k a) = v (ix2 k a) := by
  pointwise [k0_pay3]

/-- At a head's last point the keys' and values' gradients are the two sums, side by side. -/
theorem kv_last (t : Fin cfg0.N) (h : t.val % 4 = 3) (k : Fin 2304) (a : Fin 256) :
    (outsAt0 m c t.val t.isLt).2.1 (ix2 k a)
      = if h' : a.val < 128 then (outsAt0 m c t.val t.isLt).2.2.2.1 (ix2 k (⟨a, h'⟩ : Fin 128))
        else (outsAt0 m c t.val t.isLt).2.2.2.2 (ix2 k (⟨a - 128, by omega⟩ : Fin 128)) := by
  rw [outsAt0_C m c t (by omega) (by omega) h]
  dsimp only
  frame_out
  have ha := a.isLt
  canon_tiles y e
  · have e1' : (a : ℕ) = 128 + (y 1 : ℕ) := e1
    have ey : y = ix2 k (⟨a - 128, by omega⟩ : Fin 128) := by
      funext x
      apply Fin.ext
      match x with
      | ⟨0, _⟩ => exact e0.symm
      | ⟨1, _⟩ => exact (show (y 1 : ℕ) = a - 128 by omega)
    have h' : ¬ (a : ℕ) < 128 := by omega
    simp only [h', dite_false, ey, pay3_at]
  · have e1' : (a : ℕ) = (y 1 : ℕ) := e1
    have h' : (a : ℕ) < 128 := by omega
    have ey : y = ix2 k (⟨a, h'⟩ : Fin 128) := by
      funext x
      apply Fin.ext
      match x with
      | ⟨0, _⟩ => exact e0.symm
      | ⟨1, _⟩ => exact e1.symm
    simp only [h', dite_true, ey, pay2_at]

/-- The store of the rotary lanes' part, entry by entry. -/
theorem pay11_at (w : FVec Ideal S2304x128 .bf16) (ds : FVec Ideal S512x2304 .bf16) (r : Fin 512) (a : Fin 128) :
    k0_pay11 w ds (ix2 r a) = ∑ k, ds (ix2 r k) * w (ix2 k a) := by
  pointwise [k0_pay11]

/-- The store of the other lanes' part, entry by entry. -/
theorem pay10_at (x1 : Vec Ideal S2304x256 .bf16) (ds : FVec Ideal S512x2304 .bf16) (r : Fin 512) (a : Fin 128) :
    k0_pay10 ds (k0_pay9 x1) (constant S512x128 .f32 0x00000000#32) (ix2 r a)
      = ∑ k, ds (ix2 r k) * x1 (ix2 k ⟨a, by omega⟩) := by
  pointwise [k0_pay10, k0_pay9]

/-- The queries' gradient of a block. -/
def queryBlock (x1 : Vec Ideal S2304x256 .bf16) (x2 : Vec Ideal S2304x128 .bf16) (ds : FVec Ideal S512x2304 .bf16)
    (r : Fin 512) (a : Fin 256) : EReal :=
  if h' : a.val < 128 then ∑ k, ds (ix2 r k) * x1 (ix2 k a)
  else ∑ k, ds (ix2 r k) * x2 (ix2 k (⟨a - 128, by omega⟩ : Fin 128))

variable (x1 : Vec Ideal S2304x256 .bf16) (x2 : Vec Ideal S2304x128 .bf16) (ds : FVec Ideal S512x2304 .bf16)

/-- The store of the upper lanes is the block's. -/
theorem query_hi (r : Fin 512) (a : Fin 256) (y : S512x128.Idx) (e0 : (r : ℕ) = (y 0 : ℕ)) (e1 : (a : ℕ) = 128 + (y 1 : ℕ)) :
    k0_pay11 (F := Ideal) (k0_pay5 x2) ds y = queryBlock x1 x2 ds r a := by
  have ha := a.isLt
  have ey : y = ix2 r (⟨a - 128, by omega⟩ : Fin 128) := by
    funext x
    apply Fin.ext
    match x with
    | ⟨0, _⟩ => exact e0.symm
    | ⟨1, _⟩ => exact (show (y 1 : ℕ) = a - 128 by omega)
  have h' : ¬ (a : ℕ) < 128 := by omega
  simp only [queryBlock, h', dite_false, ey, pay11_at, pay5_at]

/-- The store of the lower lanes is the block's. -/
theorem query_lo (r : Fin 512) (a : Fin 256) (y : S512x128.Idx) (y1 : (y 1 : ℕ) < 128) (e0 : (r : ℕ) = (y 0 : ℕ))
    (e1 : (a : ℕ) = (y 1 : ℕ)) :
    k0_pay10 (F := Ideal) ds (k0_pay9 x1) (constant S512x128 .f32 0x00000000#32) y = queryBlock x1 x2 ds r a := by
  have h' : (a : ℕ) < 128 := by omega
  have ey : y = ix2 r (⟨a, h'⟩ : Fin 128) := by
    funext x
    apply Fin.ext
    match x with
    | ⟨0, _⟩ => exact e0.symm
    | ⟨1, _⟩ => exact e1.symm
  simp only [queryBlock, h', dite_true, ey, pay10_at]

/-- The queries' gradient of a point. -/
theorem query_out (t : Fin cfg0.N) (r : Fin 512) (a : Fin 256) :
    (outsAt0 m c t.val t.isLt).1 (ix2 r a) = queryBlock (iblk m c 1 t) (iblk m c 2 t) (dsAt m c t) r a := by
  rcases point_cases t with ⟨h0, h1, h2⟩ | ⟨h0, h1, h2⟩ | ⟨h0, h1, h2⟩ | ⟨h0, h1, h2⟩
  · rw [outsAt0_A m c t h0 h1 h2]
    dsimp only
    frame_out
    canon_tiles y e
    · exact query_hi _ _ _ r a y e0 e1
    · exact query_lo _ _ _ r a y y1_lt e0 e1
  · rw [outsAt0_B m c t h0 h1 h2]
    dsimp only
    frame_out
    canon_tiles y e
    · exact query_hi _ _ _ r a y e0 e1
    · exact query_lo _ _ _ r a y y1_lt e0 e1
  · rw [outsAt0_C m c t h0 h1 h2]
    dsimp only
    frame_out
    canon_tiles y e
    · exact query_hi _ _ _ r a y e0 e1
    · exact query_lo _ _ _ r a y y1_lt e0 e1
  · rw [outsAt0_D m c t h0 h1 h2]
    dsimp only
    frame_out
    canon_tiles y e
    · exact query_hi _ _ _ r a y e0 e1
    · exact query_lo _ _ _ r a y y1_lt e0 e1

end Cert.KernelIdeal.Value

end
-- ==== Proof.Terms.lean ====
module

public import proofs.«01_k».proof.Proof.Blocks
public import proofs.«01_k».proof.Proof.Cases

/-! # A grid point's terms, in the program's arguments

The scores and cotangents of a point's block are those of its head and query rows, so for finite
scores the block's scores' gradient is the reference's; the zero lanes add nothing. -/

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open AttnBwd

variable (m : (ℓ : Loc nD τ sig) → Buf (Elt Ideal) ℓ) (c : Dev nD)

/-- The scores of the arguments. -/
abbrev scoreOf : Fin 8 → Fin 2048 → Fin 2304 → EReal := score (argQ m c) (argKV m c) (argKR m c)
/-- The scores' gradient of the arguments. -/
abbrev dScoreOf : Fin 8 → Fin 2048 → Fin 2304 → EReal := dScore (argQ m c) (argKV m c) (argKR m c) (argD m c)
/-- The weights of the arguments. -/
abbrev weightOf : Fin 8 → Fin 2048 → Fin 2304 → EReal := weight (argQ m c) (argKV m c) (argKR m c)

/-- A block's scores are its head's. -/
theorem blockScore_eq (t : Fin cfg0.N) (r : Fin 512) :
    blockScore (iblk m c 0 t) (iblk m c 1 t) (iblk m c 2 t) r = scoreOf m c (hd t) (row t r) := by
  funext k
  unfold blockScore scoreOf score
  congr 1
  · refine Finset.sum_congr rfl fun a _ => ?_
    rw [read0, read1, dif_pos (show (⟨a, by omega⟩ : Fin 256).val < 192 by have := a.isLt; simp only; omega)]
    rfl
  · rw [Fin.sum_univ_two_halves 64 64 rfl]
    refine (congrArg₂ (· + ·) (Finset.sum_congr rfl fun b _ => ?_) (Finset.sum_eq_zero fun b _ => ?_)).trans (add_zero _)
    · rw [read0, read2, dif_pos (by have := b.isLt; simp only; omega), dif_pos (by have := b.isLt; simp only; omega)]
    · rw [read2, dif_neg (by simp only; omega), mul_zero]

/-- A block's cotangents of the weights are its head's. -/
theorem blockCot_eq (t : Fin cfg0.N) (r : Fin 512) :
    blockCot (iblk m c 1 t) (iblk m c 3 t) r = cot (argKV m c) (argD m c) (hd t) (row t r) := by
  funext k
  unfold blockCot cot
  refine Finset.sum_congr rfl fun a _ => ?_
  rw [read3, read1]
  rfl

variable {m c}
variable {σ : Fin 8 → Fin 2048 → Fin 2304 → ℝ} (hσ : ∀ h r, scoreOf m c h r = fun k => ((σ h r k : ℝ) : EReal))

include hσ

/-- A block's scores' gradient. -/
theorem dsAt_eq (t : Fin cfg0.N) (r : Fin 512) (k : Fin 2304) :
    dsAt m c t (ix2 r k) = dScoreOf m c (hd t) (row t r) k := by
  rw [dsAt, pay8_at, blockScore_eq, blockCot_eq, hσ, dsK_eq_dsR, ← hσ]
  rfl

/-- A block's part of the keys' gradient. -/
theorem keyTerm_eq (t : Fin cfg0.N) (k : Fin 2304) (a : Fin 128) :
    ∑ r, dsAt m c t (ix2 r k) * iblk m c 0 t (ix2 r (⟨a, by omega⟩ : Fin 256))
      = ∑ r, dScoreOf m c (hd t) (row t r) k * argQ m c (row t r) (colQ (hd t) ⟨a, by omega⟩) := by
  refine Finset.sum_congr rfl fun r _ => ?_
  rw [dsAt_eq hσ, read0, dif_pos (by have := a.isLt; simp only; omega)]

/-- A block's part of the rotary key's gradient, in the 64 lanes of the rotary part. -/
theorem ropeTerm_eq (t : Fin cfg0.N) (k : Fin 2304) (a : Fin 128) (h : a.val < 64) :
    ∑ r, dsAt m c t (ix2 r k) * iblk m c 0 t (ix2 r (⟨128 + a, by omega⟩ : Fin 256))
      = ∑ r, dScoreOf m c (hd t) (row t r) k * argQ m c (row t r) (colQ (hd t) ⟨128 + a, by omega⟩) := by
  refine Finset.sum_congr rfl fun r _ => ?_
  rw [dsAt_eq hσ, read0, dif_pos (by simp only; omega)]

/-- A block's part of the values' gradient. -/
theorem valTerm_eq (t : Fin cfg0.N) (k : Fin 2304) (a : Fin 128) :
    valTerm m c t k a = ∑ r, argD m c (row t r) (colV (hd t) a) * weightOf m c (hd t) (row t r) k := by
  unfold valTerm valSum
  refine Finset.sum_congr rfl fun r _ => ?_
  rw [pay6_at, pay7_at, blockScore_eq, hσ, expK_mul_inv, ← hσ, read3]
  rfl

/-- A block's queries' gradient. -/
theorem queryBlock_eq (t : Fin cfg0.N) (r : Fin 512) (a : Fin 256) :
    queryBlock (iblk m c 1 t) (iblk m c 2 t) (dsAt m c t) r a
      = gradQ (argKV m c) (argKR m c) (dScoreOf m c) (hd t) (row t r) a := by
  unfold queryBlock gradQ
  by_cases h : a.val < 128
  · simp only [h, dite_true]
    refine Finset.sum_congr rfl fun k _ => ?_
    rw [dsAt_eq hσ, read1]
    rfl
  · simp only [h, dite_false]
    by_cases h' : a.val < 192
    · simp only [h', dite_true]
      refine Finset.sum_congr rfl fun k _ => ?_
      rw [dsAt_eq hσ, read2, dif_pos (by simp only; omega)]
    · simp only [h', dite_false]
      refine Finset.sum_eq_zero fun k _ => ?_
      rw [read2, dif_neg (by simp only; omega), mul_zero]

omit hσ in
/-- A block's part of the rotary key's gradient in the zero lanes. -/
theorem ropeTerm_pad (t : Fin cfg0.N) (k : Fin 2304) (a : Fin 128) (h : ¬a.val < 64) :
    ∑ r, dsAt m c t (ix2 r k) * iblk m c 0 t (ix2 r (⟨128 + a, by omega⟩ : Fin 256)) = (0 : EReal) := by
  refine Finset.sum_eq_zero fun r _ => ?_
  rw [read0, dif_neg (by simp only; omega), mul_zero]

end Cert.KernelIdeal.Value

end
-- ==== Proof.Runs.lean ====
module

public import proofs.«01_k».proof.Proof.Terms
public import Idealize.ShloMosaic.Lib.Pipeline.ValueKit.Acc

/-! # The accumulators at the last point of their run

The keys' and values' accumulators sum a head's four row blocks, the rotary key's sums all points. -/

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open AttnBwd

/-- The four row blocks of a head are all its rows. -/
theorem sum_head_rows (F : Fin 2048 → EReal) (t : Fin cfg0.N) (ht : t.val % 4 = 3) :
    ∑ s : Fin 4, ∑ r, F (row ⟨4 * (t.val / 4) + s.val, Pipeline.run_point_lt_of_flush t ht s⟩ r) = ∑ R, F R := by
  refine Fin.sum_mul_add_congr (S := 4) (n := 512) (L := 2048) fun s r hl => ?_
  refine congrArg F (Fin.ext ?_)
  have := s.isLt
  simp only [row]
  omega

/-- The head of a point of a head's run. -/
theorem hd_run (t : Fin cfg0.N) (ht : t.val % 4 = 3) (s : Fin 4) :
    hd ⟨4 * (t.val / 4) + s.val, Pipeline.run_point_lt_of_flush t ht s⟩ = hd t := by
  have := s.isLt
  apply Fin.ext
  simp only [hd]
  omega

/-- All points' row blocks are all heads' rows. -/
theorem sum_all_rows (F : Fin 8 → Fin 2048 → EReal) : ∑ t : Fin cfg0.N, ∑ r, F (hd t) (row t r) = ∑ h, ∑ R, F h R :=
  Fin.sum_points_lanes_congr (N := cfg0.N) (n := 512) (A := 8) (L := 2048) 4 fun t r ha hl => rfl

variable {m : (ℓ : Loc nD τ sig) → Buf (Elt Ideal) ℓ} {c : Dev nD}
variable {σ : Fin 8 → Fin 2048 → Fin 2304 → ℝ} (hσ : ∀ h r, scoreOf m c h r = fun k => ((σ h r k : ℝ) : EReal))

include hσ

/-- The keys' accumulator after a head's last point. -/
theorem keyAcc (t : Fin cfg0.N) (ht : t.val % 4 = 3) (k : Fin 2304) (a : Fin 128) :
    ((outsAt0 m c t.val t.isLt).2.2.2.1 (ix2 k a) : EReal)
      = ∑ R, dScoreOf m c (hd t) R k * argQ m c R (colQ (hd t) ⟨a, by omega⟩) := by
  have h := Pipeline.eq_sum_fin_of_reset_step_apply_of_flush (N := cfg0.N) (ι := Fin 2304 × Fin 128) (M := EReal)
    (fun n hn p => (outsAt0 m c n hn).2.2.2.1 (ix2 p.1 p.2)) 4 (fun _ => 0)
    (fun t p => ∑ r, dScoreOf m c (hd t) (row t r) p.1 * argQ m c (row t r) (colQ (hd t) ⟨p.2, by omega⟩))
    (fun t h p => (key_first m c t h p.1 p.2).trans (congrArg (fun x : EReal => 0 + x) (keyTerm_eq hσ t p.1 p.2)))
    (fun t h p => (key_next m c t h p.1 p.2).trans (congrArg (fun x : EReal => _ + x) (keyTerm_eq hσ t p.1 p.2)))
    t ht (k, a)
  refine h.trans ?_
  simp only [hd_run t ht, zero_add]
  exact sum_head_rows (fun R => dScoreOf m c (hd t) R k * argQ m c R (colQ (hd t) ⟨a, by omega⟩)) t ht

/-- The values' accumulator after a head's last point. -/
theorem valAcc (t : Fin cfg0.N) (ht : t.val % 4 = 3) (k : Fin 2304) (a : Fin 128) :
    ((outsAt0 m c t.val t.isLt).2.2.2.2 (ix2 k a) : EReal)
      = ∑ R, argD m c R (colV (hd t) a) * weightOf m c (hd t) R k := by
  have h := Pipeline.eq_sum_fin_of_reset_step_apply_of_flush (N := cfg0.N) (ι := Fin 2304 × Fin 128) (M := EReal)
    (fun n hn p => (outsAt0 m c n hn).2.2.2.2 (ix2 p.1 p.2)) 4 (fun _ => 0)
    (fun t p => ∑ r, argD m c (row t r) (colV (hd t) p.2) * weightOf m c (hd t) (row t r) p.1)
    (fun t h p => (val_first m c t h p.1 p.2).trans (congrArg (fun x : EReal => 0 + x) (valTerm_eq hσ t p.1 p.2)))
    (fun t h p => (val_next m c t h p.1 p.2).trans (congrArg (fun x : EReal => _ + x) (valTerm_eq hσ t p.1 p.2)))
    t ht (k, a)
  refine h.trans ?_
  simp only [hd_run t ht, zero_add]
  exact sum_head_rows (fun R => argD m c R (colV (hd t) a) * weightOf m c (hd t) R k) t ht

/-- A point's part of the rotary key's gradient. -/
def ropePart (m : (ℓ : Loc nD τ sig) → Buf (Elt Ideal) ℓ) (c : Dev nD) (t : Fin cfg0.N) (k : Fin 2304) (a : Fin 128) : EReal :=
  if h : a.val < 64 then ∑ r, dScoreOf m c (hd t) (row t r) k * argQ m c (row t r) (colQ (hd t) ⟨128 + a, by omega⟩) else 0

theorem ropePart_eq (t : Fin cfg0.N) (k : Fin 2304) (a : Fin 128) :
    ∑ r, dsAt m c t (ix2 r k) * iblk m c 0 t (ix2 r (⟨128 + a, by omega⟩ : Fin 256)) = ropePart m c t k a := by
  unfold ropePart
  by_cases h : a.val < 64
  · simp only [h, dite_true]
    exact ropeTerm_eq hσ t k a h
  · simp only [h, dite_false]
    exact ropeTerm_pad t k a h

/-- The rotary key's gradient after the last point. -/
theorem ropeAcc (t : Fin cfg0.N) (ht : t.val + 1 = cfg0.N) (k : Fin 2304) (a : Fin 128) :
    ((outsAt0 m c t.val t.isLt).2.2.1 (ix2 k a) : EReal) = gradKR (argQ m c) (dScoreOf m c) k a := by
  have h := Pipeline.eq_sum_fin_of_reset_step_apply_last (N := cfg0.N) (ι := Fin 2304 × Fin 128) (M := EReal)
    (fun n hn p => (outsAt0 m c n hn).2.2.1 (ix2 p.1 p.2)) 32 (fun _ => 0)
    (fun t p => ropePart m c t p.1 p.2)
    (fun t h p => (rope_first m c t h p.1 p.2).trans (congrArg (fun x : EReal => 0 + x) (ropePart_eq hσ t p.1 p.2)))
    (fun t h p => (rope_next m c t h p.1 p.2).trans (congrArg (fun x : EReal => _ + x) (ropePart_eq hσ t p.1 p.2)))
    (le_of_eq points) t ht (k, a)
  refine h.trans ?_
  rw [zero_add]
  unfold ropePart gradKR
  by_cases ha : a.val < 64
  · simp only [ha, dite_true]
    exact sum_all_rows (fun h R => dScoreOf m c h R k * argQ m c R (colQ h ⟨128 + a, by omega⟩))
  · simp only [ha, dite_false, Finset.sum_const_zero]

/-- The keys' and values' block after a head's last point. -/
theorem kvBlock (t : Fin cfg0.N) (ht : t.val % 4 = 3) (k : Fin 2304) (a : Fin 256) :
    ((outsAt0 m c t.val t.isLt).2.1 (ix2 k a) : EReal)
      = gradKV (argQ m c) (argD m c) (dScoreOf m c) (weightOf m c) (hd t) k a := by
  refine (kv_last m c t ht k a).trans ?_
  unfold gradKV
  by_cases ha : a.val < 128
  · simp only [ha, dite_true]
    exact keyAcc hσ t ht k ⟨a, ha⟩
  · simp only [ha, dite_false]
    exact valAcc hσ t ht k ⟨a - 128, by omega⟩

end Cert.KernelIdeal.Value

end
-- ==== Proof.Outputs.lean ====
module

public import proofs.«01_k».proof.Proof.Runs
public import proofs.«01_k».proof.Proof.Indices

/-! # The three result arrays of the launch

Each result array, entry by entry, is the gradient the specification names. -/

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open AttnBwd
open Tables (pair_eq)

variable (m : (ℓ : Loc nD τ sig) → Buf (Elt Ideal) ℓ) (c : Dev nD)

/-- The queries' gradient as an array. -/
def resQ : FVec Ideal S2048x2048 .f32 := fun i =>
  gradQ (argKV m c) (argKR m c) (dScoreOf m c) (headOf (i 1)) (i 0) (laneOf (i 1))
/-- The keys' and values' gradient as an array. -/
def resKV : FVec Ideal S2304x2048 .bf16 := fun i =>
  gradKV (argQ m c) (argD m c) (dScoreOf m c) (weightOf m c) (headOf (i 1)) (i 0) (laneOf (i 1))
/-- The rotary key's gradient as an array. -/
def resKR : FVec Ideal S2304x128 .f32 := fun i => gradKR (argQ m c) (dScoreOf m c) (i 0) (i 1)

variable {m c}
variable {σ : Fin 8 → Fin 2048 → Fin 2304 → ℝ} (hσ : ∀ h r, scoreOf m c h r = fun k => ((σ h r k : ℝ) : EReal))

include hσ

/-- A point's block of the queries' gradient. -/
theorem block4 (t : Fin cfg0.N) (y : S512x256.Idx) :
    ((outsAt0 m c t.val t.isLt).1 y : EReal)
      = gradQ (argKV m c) (argKR m c) (dScoreOf m c) (hd t) (row t (y 0)) (y 1) := by
  have ey := pair_eq y
  rw [ey]
  exact (query_out m c t (y 0) (y 1)).trans (queryBlock_eq hσ t (y 0) (y 1))

/-- A head's block of the keys' and values' gradient. -/
theorem block5 (t : Fin cfg0.N) (ht : t.val % 4 = 3) (y : S2304x256.Idx) :
    ((outsAt0 m c t.val t.isLt).2.1 y : EReal)
      = gradKV (argQ m c) (argD m c) (dScoreOf m c) (weightOf m c) (hd t) (y 0) (y 1) := by
  have ey := pair_eq y
  rw [ey]
  exact kvBlock hσ t ht (y 0) (y 1)

/-- The rotary key's gradient at the last point. -/
theorem block6 (t : Fin cfg0.N) (ht : t.val + 1 = cfg0.N) (y : S2304x128.Idx) :
    ((outsAt0 m c t.val t.isLt).2.2.1 y : EReal) = gradKR (argQ m c) (dScoreOf m c) (y 0) (y 1) := by
  have ey := pair_eq y
  rw [ey]
  exact ropeAcc hσ t ht (y 0) (y 1)

/-- The queries' gradient. -/
theorem array4 : (dats m 0 c).arrAt 4 cfg0.N = resQ m c := by
  refine (dats m 0 c).arrAt_eq_of_covers 4 _ (by decide +kernel) fun t hf y => ?_
  blk_simp
  rw [after0_4]
  refine (block4 hσ t y).trans ?_
  have e0 : (win0_4.blk t).view.emb y 0 = row t (y 0) := Fin.ext (by blk_simp [idx_val t, row])
  have e1 : headOf ((win0_4.blk t).view.emb y 1) = hd t := Fin.ext ((by blk_simp [idx_val t, headOf] : _ = (t.val / 4 * 256 + (y 1).val) / 256).trans (by have hy : (y 1).val < 256 := (y 1 : Fin 256).isLt; simp only [hd]; omega))
  have e2 : laneOf ((win0_4.blk t).view.emb y 1) = y 1 := Fin.ext ((by blk_simp [idx_val t, laneOf] : _ = (t.val / 4 * 256 + (y 1).val) % 256).trans (by have hy : (y 1).val < 256 := (y 1 : Fin 256).isLt; omega))
  unfold resQ
  rw [e0, e1, e2]

/-- The keys' and values' gradient. -/
theorem array5 : (dats m 0 c).arrAt 5 cfg0.N = resKV m c := by
  refine (dats m 0 c).arrAt_eq_of_covers 5 _ (by decide +kernel) fun t hf y => ?_
  blk_simp
  rw [after0_5]
  refine (block5 hσ t ((flush0_5 t).1 hf) y).trans ?_
  have e0 : (win0_5.blk t).view.emb y 0 = y 0 := Fin.ext (by blk_simp [idx_val t])
  have e1 : headOf ((win0_5.blk t).view.emb y 1) = hd t := Fin.ext ((by blk_simp [idx_val t, headOf] : _ = (t.val / 4 * 256 + (y 1).val) / 256).trans (by have hy : (y 1).val < 256 := (y 1 : Fin 256).isLt; simp only [hd]; omega))
  have e2 : laneOf ((win0_5.blk t).view.emb y 1) = y 1 := Fin.ext ((by blk_simp [idx_val t, laneOf] : _ = (t.val / 4 * 256 + (y 1).val) % 256).trans (by have hy : (y 1).val < 256 := (y 1 : Fin 256).isLt; omega))
  unfold resKV
  rw [e0, e1, e2]

/-- The rotary key's gradient. -/
theorem array6 : (dats m 0 c).arrAt 6 cfg0.N = resKR m c := by
  refine (dats m 0 c).arrAt_eq_of_covers 6 _ (by decide +kernel) fun t hf y => ?_
  blk_simp
  rw [after0_6]
  refine (block6 hσ t (by have := (flush0_6 t).1 hf; have := t.isLt; have := points; omega) y).trans ?_
  have e0 : (win0_6.blk t).view.emb y 0 = y 0 := Fin.ext (by blk_simp [idx_val t])
  have e1 : (win0_6.blk t).view.emb y 1 = y 1 := Fin.ext (by blk_simp [idx_val t])
  unfold resKR
  rw [e0, e1]

end Cert.KernelIdeal.Value

end
-- ==== Proof.Agree.lean ====
module

public import proofs.«01_k».proof.Proof.Outputs
public import proofs.«01_k».proof.Proof.RefRead
public import proofs.«01_k».proof.Proof.Finite

/-! # The two programs' results agree

From memories that hold the same arguments, the launch's three result arrays are the reference's. -/

@[expose] public section

set_option maxRecDepth 16384

noncomputable section

namespace AttnBwd

open Idealize.ShloMosaic Idealize.ShloMosaic.TcCoe

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD}

theorem agree0 (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v85 m' c = Cert.KernelIdeal.Value.resQ m c
      ∧ Cert.ReferenceIdeal.Value.res_main_v86 m' c = Cert.KernelIdeal.Value.resKV m c
      ∧ Cert.ReferenceIdeal.Value.res_main_v84 m' c = Cert.KernelIdeal.Value.resKR m c := by
  refine ⟨?_, ?_, ?_⟩
  · refine (Cert.ReferenceIdeal.Stages.res0 m' c).trans ?_
    rw [h0, h1, h2, h3]
    funext i
    have ei := Tables.pair_eq i
    rw [ei]
    exact Cert.ReferenceIdeal.Stages.out0_at _ _ _ _ (i 0) (i 1)
  · refine (Cert.ReferenceIdeal.Stages.res1 m' c).trans ?_
    rw [h0, h1, h2, h3]
    funext i
    have ei := Tables.pair_eq i
    rw [ei]
    exact Cert.ReferenceIdeal.Stages.out1_at _ _ _ _ (i 0) (i 1)
  · refine (Cert.ReferenceIdeal.Stages.res2 m' c).trans ?_
    rw [h0, h1, h2, h3]
    funext i
    have ei := Tables.pair_eq i
    rw [ei]
    exact Cert.ReferenceIdeal.Stages.out2_at _ _ _ _ (i 0) (i 1)

end AttnBwd

end
-- ==== Proof.FfnOutDx.lean ====
module

public import proofs.«01_k».proof.Proof.Gen.Kernel2Ideal.Value
public import proofs.«01_k».proof.Proof.Gen.Reference2Ideal.Run
public import proofs.«01_k».proof.Pre_finite2
public import proofs.«01_k».proof.Proof.Indices
public import proofs.«01_k».proof.Proof.Finite
public import Idealize.ShloMosaic.Lib.Pipeline.ValueKit
public import Idealize.ShloMosaic.Lib.Pipeline.ReadBack
public import Idealize.ShloMosaic.Lib.Pointwise
public import Idealize.ShloMosaic.Lib.Tactic.CleanTypes

/-! # The gradient of the gated activations

The cotangents go back through the output weights; the product's entry then goes back through the
gate, whose two factors lie in the two planes of the activations. -/

@[expose] public section

set_option maxRecDepth 16384

noncomputable section

namespace Gate

open Idealize.ShloMosaic

theorem word_one : Ideal.ofBits .f32 0x3F800000#32 = 1 := by
  simp [Ideal.ofBits, Ideal.ieee, -EReal.coe_mul]
  norm_num

/-- The gradient of the gate's argument as the kernel has it: one factor over the whole derivative. -/
def gateArg (x b a : EReal) : EReal := x * b * (Ideal.logistic a * (1 + a * (1 - Ideal.logistic a)))
/-- The gradient of the gated factor. -/
def gated (x a : EReal) : EReal := x * (a * Ideal.logistic a)

/-- The derivative of `a * logistic a` by the product rule, at any `a`, for a real cotangent. -/
theorem gateArg_eq (x a : EReal) (b : EReal) (h : ∃ r : ℝ, x * b = r) :
    gateArg x b a = x * b * Ideal.logistic a + a * (x * b) * (Ideal.logistic a * (1 - Ideal.logistic a)) := by
  obtain ⟨r, hr⟩ := h
  unfold gateArg
  rw [hr]
  induction a with
  | bot =>
    rw [Ideal.logistic_bot]
    simp
  | top =>
    have h0 : (1 : EReal) - 1 = 0 := by rw [← EReal.coe_one, ← EReal.coe_sub, sub_self, EReal.coe_zero]
    rw [Ideal.logistic_top, h0]
    simp
  | coe a =>
    rw [Ideal.logistic_coe]
    norm_cast
    ring_nf

end Gate

namespace Cert.Kernel2Ideal.Value

open Cert.Kernel2Ideal Cert.Kernel2Ideal.Gen Idealize.ShloMosaic Idealize.ShloMosaic.TcCoe Idealize.SL.Sem
open Idealize.ShloMosaic.Pipeline (Dat)
open Tables (triple_eq)
open Gate

/-- The cotangents through the output weights. -/
def through (dy : FVec Ideal S2048x2048 .bf16) (w : FVec Ideal S5632x2048 .bf16) (r : Fin 2048) (k : Fin 5632) : EReal :=
  ∑ j : Fin 2048, dy (ix2 r j) * w (ix2 k j)

/-- The gradients of both planes of the activations. -/
def activationGrad (dy : FVec Ideal S2048x2048 .bf16) (w : FVec Ideal S5632x2048 .bf16) (ab : FVec Ideal S2x2048x5632 .bf16) :
    FVec Ideal S2x2048x5632 .bf16 := fun i =>
  (if (i 0).val = 0 then gateArg (through dy w (i 1) (i 2)) (ab (ix3 1 (i 1) (i 2))) (ab (ix3 0 (i 1) (i 2)))
    else gated (through dy w (i 1) (i 2)) (ab (ix3 0 (i 1) (i 2))) : EReal)

/-- The product of a point's blocks. -/
def blockThrough (x0 : Vec Ideal S1024x2048 .bf16) (x1 : Vec Ideal S512x2048 .bf16) (p : Fin 1024) (q : Fin 512) : EReal :=
  ∑ j, x0 (ix2 p j) * x1 (ix2 q j)

theorem pay4_at (x0 : Vec Ideal S1024x2048 .bf16) (x1 : Vec Ideal S512x2048 .bf16) (a b : Vec Ideal S1x1024x512 .bf16)
    (p : Fin 1024) (q : Fin 512) :
    k0_pay4 (F := Ideal) x0 x1 a b (ix3 0 p q) = gateArg (blockThrough x0 x1 p q) (b (ix3 0 p q)) (a (ix3 0 p q)) := by
  unfold blockThrough gateArg
  pointwise [k0_pay4, k0_pay1, k0_pay2, k0_pay3]

theorem pay5_at (x0 : Vec Ideal S1024x2048 .bf16) (x1 : Vec Ideal S512x2048 .bf16) (a : Vec Ideal S1x1024x512 .bf16)
    (p : Fin 1024) (q : Fin 512) :
    k0_pay5 (F := Ideal) x0 x1 a (ix3 0 p q) = gated (blockThrough x0 x1 p q) (a (ix3 0 p q)) := by
  unfold blockThrough gated
  pointwise [k0_pay5, k0_pay1, k0_pay2, k0_pay3]

variable (m : (ℓ : Loc nD τ sig) → Buf (Elt Ideal) ℓ) (c : Dev nD)

theorem points : cfg0.N = 22 := rfl

theorem idx_val : ∀ t : Fin cfg0.N, win0_0.index t = ![t.val / 11, 0] ∧ win0_1.index t = ![t.val % 11, 0]
    ∧ win0_2.index t = ![0, t.val / 11, t.val % 11] ∧ win0_3.index t = ![0, t.val / 11, t.val % 11] :=
  (by decide +kernel : ∀ t : Fin grid0.N, _)

/-- The row of the activations of a block's row. -/
def row (t : Fin cfg0.N) (p : Fin 1024) : Fin 2048 := ⟨t.val / 11 * 1024 + p.val, by have := t.isLt; have := points; omega⟩
/-- The column of the activations of a block's column. -/
def col (t : Fin cfg0.N) (q : Fin 512) : Fin 5632 := ⟨t.val % 11 * 512 + q.val, by omega⟩

theorem read0 (t : Fin cfg0.N) (p : Fin 1024) (j : Fin 2048) :
    iblk m c 0 t (ix2 p j) = m ((c : Thread nD τ).loc main_arg0) (ix2 (row t p) j) := by
  blk_ext [iblk, V, idx_val t, row]

theorem read1 (t : Fin cfg0.N) (q : Fin 512) (j : Fin 2048) :
    iblk m c 1 t (ix2 q j) = m ((c : Thread nD τ).loc main_arg1) (ix2 (col t q) j) := by
  blk_ext [iblk, V, idx_val t, col]

theorem read2 (t : Fin cfg0.N) (k : Fin 2) (p : Fin 1024) (q : Fin 512) :
    iblk m c 2 t (ix3 k p q) = m ((c : Thread nD τ).loc main_arg2) (ix3 k (row t p) (col t q)) := by
  blk_ext [iblk, V, idx_val t, row, col]

theorem blockThrough_eq (t : Fin cfg0.N) (p : Fin 1024) (q : Fin 512) : blockThrough (iblk m c 0 t) (iblk m c 1 t) p q
    = through (m ((c : Thread nD τ).loc main_arg0)) (m ((c : Thread nD τ).loc main_arg1)) (row t p) (col t q) := by
  unfold blockThrough
  simp only [read0, read1]
  rfl

theorem out_at (x0 : Vec Ideal S1024x2048 .bf16) (x1 : Vec Ideal S512x2048 .bf16) (x2 : Vec Ideal S2x1024x512 .bf16)
    (k : Fin 2) (p : Fin 1024) (q : Fin 512) :
    out0_3 (F := Ideal) x0 x1 x2 (ix3 k p q) = if k.val = 0 then gateArg (blockThrough x0 x1 p q) (x2 (ix3 1 p q)) (x2 (ix3 0 p q))
      else gated (blockThrough x0 x1 p q) (x2 (ix3 0 p q)) := by
  unfold out0_3
  have hk := k.isLt
  have l0 : View.ld x0 r0_0 = x0 := View.ld_unit_lit _ x0 (by decide)
  have l1 : View.ld x1 r0_1 = x1 := View.ld_unit_lit _ x1 (by decide)
  have l2 : View.ld x2 r0_2 (ix3 0 p q) = x2 (ix3 0 p q) :=
    View.ld_unit_apply_of x2 _ _ _ _ _ fun a => by match a with | ⟨0, _⟩ => rfl | ⟨1, _⟩ => simp | ⟨2, _⟩ => simp
  have l3 : View.ld x2 r0_3 (ix3 0 p q) = x2 (ix3 1 p q) :=
    View.ld_unit_apply_of x2 _ _ _ _ _ fun a => by match a with | ⟨0, _⟩ => rfl | ⟨1, _⟩ => simp | ⟨2, _⟩ => simp
  canon_tiles y e
  · have e0' : k.val = 1 + (y 0).val := e0
    have ey : y = ix3 0 p q := (Tables.plane_eq y).trans
      (congrArg₂ (fun a b => ix3 0 a b) (Fin.ext e1.symm : (y 1 : Fin 1024) = p) (Fin.ext e2.symm : (y 2 : Fin 512) = q))
    rw [ey, l0, l1, pay5_at, l2, if_neg (by omega)]
  · have e0' : k.val = (y 0).val := e0
    have ey : y = ix3 0 p q := (Tables.plane_eq y).trans
      (congrArg₂ (fun a b => ix3 0 a b) (Fin.ext e1.symm : (y 1 : Fin 1024) = p) (Fin.ext e2.symm : (y 2 : Fin 512) = q))
    rw [ey, l0, l1, pay4_at, l2, l3, if_pos (by omega)]

theorem block (t : Fin cfg0.N) (k : Fin 2) (p : Fin 1024) (q : Fin 512) :
    out0_3 (F := Ideal) (iblk m c 0 t) (iblk m c 1 t) (iblk m c 2 t) (ix3 k p q)
      = activationGrad (m ((c : Thread nD τ).loc main_arg0)) (m ((c : Thread nD τ).loc main_arg1))
          (m ((c : Thread nD τ).loc main_arg2)) (ix3 k (row t p) (col t q)) := by
  refine (out_at _ _ _ k p q).trans ?_
  rw [blockThrough_eq, read2, read2]
  rfl

theorem array : (dats m 0 c).arrAt 3 cfg0.N = activationGrad (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  have ey := triple_eq y
  have e0 : (win0_3.blk t).view.emb y 0 = y 0 := Fin.ext (by blk_simp [idx_val t])
  have e1 : (win0_3.blk t).view.emb y 1 = row t (y 1) := Fin.ext (by blk_simp [idx_val t, row])
  have e2 : (win0_3.blk t).view.emb y 2 = col t (y 2) := Fin.ext (by blk_simp [idx_val t, col])
  refine (congrArg (out0_3 (F := Ideal) (iblk m c 0 t) (iblk m c 1 t) (iblk m c 2 t)) ey).trans ((block m c t (y 0) (y 1) (y 2)).trans ?_)
  unfold activationGrad
  rw [e0, e1, e2]
  rfl

end Cert.Kernel2Ideal.Value

namespace Cert.Pre_finite2

open Idealize.ShloMosaic
open Cert.Pre_finite (real_of_absf)
open Cert.Kernel2Ideal.Value (through)

/-- The side conditions of the predicate's operations. -/
theorem facts : Facts := ⟨by decide, by decide, by decide, by decide, by decide, by decide, by decide, by decide, by decide, by decide⟩

variable [Facts]

variable {dy : FVec Ideal S2048x2048 .bf16} {w : FVec Ideal S5632x2048 .bf16} {ab : FVec Ideal S2x2048x5632 .bf16}
  (h : fn (F := Ideal) dy w ab = fun _ => 1#1)

include h

/-- The three conjuncts. -/
theorem finite_all : (∀ i, ∃ r : ℝ, (dy i : EReal) = r) ∧ (∀ i, ∃ r : ℝ, (w i : EReal) = r)
    ∧ (∀ r k, ∃ x : ℝ, (ab (ix3 1 r k) : EReal) = x) := by
  have h0 := congrFun h (fun i => i.elim0)
  dsimp only [fn, fn_part1] at h0
  obtain ⟨h1, h2⟩ := IntOp.andi_eq_one.1 h0
  obtain ⟨h3, h4⟩ := IntOp.andi_eq_one.1 h1
  haveI : Subsingleton S_.Idx := ⟨fun a b => funext fun i => i.elim0⟩
  refine ⟨fun i => real_of_absf ?_, fun i => real_of_absf ?_, fun r k => real_of_absf ?_⟩
  · exact Host.reduce_andi_all _ _ _ _ _ h3 i
  · exact Host.reduce_andi_all _ _ _ _ _ h4 i
  · refine Eq.trans ?_ (Host.reduce_andi_all _ _ _ _ _ h2 (ix2 r k))
    refine congrArg (fun x : EReal => Ideal.cmp .olt (max x (-x)) (Ideal.ofBits .f32 0x7F800000#32)) (?_ : (ab _ : EReal) =
      (shapeCast S2048x5632 (extractStridedSlice S1x2048x5632 ![1, 0, 0] ab Facts.slices_S2x2048x5632_S1x2048x5632_1_0_0)
        Facts.shapeCasts_S1x2048x5632_S2048x5632 (ix2 r k) : EReal))
    pointwise

/-- The cotangents of the gated factor are real numbers. -/
theorem through_real (r : Fin 2048) (k : Fin 5632) : ∃ x : ℝ, through dy w r k * (ab (ix3 1 r k) : EReal) = x := by
  obtain ⟨hd, hw, hb⟩ := finite_all h
  choose fd hfd using hd
  choose fw hfw using hw
  choose fb hfb using hb
  refine ⟨(∑ j : Fin 2048, fd (ix2 r j) * fw (ix2 k j)) * fb r k, ?_⟩
  unfold through
  simp only [hfd, hfw, hfb, AttnBwd.coe_sum, EReal.coe_mul]

end Cert.Pre_finite2

namespace Cert.Reference2Ideal.Value

open Cert.Reference2Ideal Cert.Reference2Ideal.Gen Idealize.ShloMosaic Idealize.ShloMosaic.TcCoe
open Tables (triple_eq)
open Gate
open Cert.Kernel2Ideal.Value (through activationGrad)

variable (dy : FVec Ideal S2048x2048 .bf16) (w : FVec Ideal S5632x2048 .bf16) (ab : FVec Ideal S2x2048x5632 .bf16)

/-- The gate's arguments. -/
def gateArgs : FVec Ideal S2048x5632 .f32 :=
  shapeCast _ (extractStridedSlice S1x2048x5632 ![0, 0, 0] (extf .f32 ab bitsLt_bf16_f32) slices_S2x2048x5632_S1x2048x5632_0_0_0) shapeCasts_S1x2048x5632_S2048x5632
/-- The gated factors. -/
def factors : FVec Ideal S2048x5632 .f32 :=
  shapeCast _ (extractStridedSlice S1x2048x5632 ![1, 0, 0] (extf .f32 ab bitsLt_bf16_f32) slices_S2x2048x5632_S1x2048x5632_1_0_0) shapeCasts_S1x2048x5632_S2048x5632
/-- The ones. -/
def ones : FVec Ideal S2048x5632 .f32 := broadcastInDim S2048x5632 ![] bcast_S_S2048x5632 (constant S_ .f32 0x3F800000#32)
/-- The logistic function of the gate's arguments. -/
def logistics : FVec Ideal S2048x5632 .f32 := Host.divf ones (addf ones (Host.exp (Host.negf (gateArgs ab))))
/-- The cotangents through the weights. -/
def products : FVec Ideal S2048x5632 .f32 :=
  Host.dotGeneral dot_S2048x2048_S5632x2048_S2048x5632_1_1_0_0_n_n none (extf .f32 dy bitsLt_bf16_f32) (extf .f32 w bitsLt_bf16_f32)

theorem gateArgs_at (r : Fin 2048) (k : Fin 5632) : gateArgs ab (ix2 r k) = ab (ix3 0 r k) := by
  pointwise [gateArgs]

theorem factors_at (r : Fin 2048) (k : Fin 5632) : factors ab (ix2 r k) = ab (ix3 1 r k) := by
  pointwise [factors]

theorem logistics_at (r : Fin 2048) (k : Fin 5632) : logistics ab (ix2 r k) = Ideal.logistic (ab (ix3 0 r k)) := by
  pointwise [logistics, ones]
  rw [gateArgs_at]
  rfl

theorem products_at (r : Fin 2048) (k : Fin 5632) : products dy w (ix2 r k) = through dy w r k := by
  pointwise [products]
  rfl

/-- The gradient of the gated factors. -/
def dFactors : FVec Ideal S2048x5632 .f32 := mulf (mulf (gateArgs ab) (logistics ab)) (products dy w)
/-- The gradient of the gate's arguments. -/
def dArgs : FVec Ideal S2048x5632 .f32 :=
  addf (mulf (mulf (products dy w) (factors ab)) (logistics ab))
    (mulf (mulf (gateArgs ab) (mulf (products dy w) (factors ab))) (mulf (logistics ab) (subf ones (logistics ab))))

theorem dFactors_at (r : Fin 2048) (k : Fin 5632) :
    dFactors dy w ab (ix2 r k) = gated (through dy w r k) (ab (ix3 0 r k)) := by
  pointwise [dFactors]
  rw [gateArgs_at, logistics_at, products_at, mul_comm]
  rfl

theorem dArgs_at (hr : ∀ r k, ∃ x : ℝ, through dy w r k * (ab (ix3 1 r k) : EReal) = x) (r : Fin 2048) (k : Fin 5632) :
    dArgs dy w ab (ix2 r k) = gateArg (through dy w r k) (ab (ix3 1 r k)) (ab (ix3 0 r k)) := by
  rw [gateArg_eq _ _ _ (hr r k)]
  pointwise [dArgs, ones]
  rw [gateArgs_at, logistics_at, products_at, factors_at]

/-- The two gradients as planes of one array. -/
def stacked : FVec Ideal S2x2048x5632 .bf16 :=
  truncf .bf16 (addf (pad S2x2048x5632 ![1, 0, 0] ![0, 0, 0] ![0, 0, 0]
      (broadcastInDim S1x2048x5632 ![1, 2] bcast_S2048x5632_S1x2048x5632_1_2 (dFactors dy w ab)) (constant S_ .f32 0x00000000#32)
      pads_S1x2048x5632_S2x2048x5632_100_000_000 h_S_)
    (pad S2x2048x5632 ![0, 0, 0] ![1, 0, 0] ![0, 0, 0]
      (broadcastInDim S1x2048x5632 ![1, 2] bcast_S2048x5632_S1x2048x5632_1_2 (dArgs dy w ab)) (constant S_ .f32 0x00000000#32)
      pads_S1x2048x5632_S2x2048x5632_010_000_000 h_S_)) bitsLt_bf16_f32

theorem result (hr : ∀ r k, ∃ x : ℝ, through dy w r k * (ab (ix3 1 r k) : EReal) = x) :
    stacked dy w ab = activationGrad dy w ab := by
  funext i
  obtain ⟨s, r, k, ei⟩ : ∃ (s : Fin 2) (r : Fin 2048) (k : Fin 5632), i = ix3 s r k := ⟨i 0, i 1, i 2, triple_eq i⟩
  subst ei
  pointwise [stacked]
  rw [dFactors_at, dArgs_at dy w ab hr]
  unfold activationGrad
  match s with
  | ⟨0, _⟩ => simp
  | ⟨1, _⟩ => simp

end Cert.Reference2Ideal.Value

end
-- ==== Proof.FfnInDw.lean ====
module

public import proofs.«01_k».proof.Proof.Gen.Kernel4Ideal.Value
public import proofs.«01_k».proof.Proof.Gen.Reference4Ideal.Run
public import proofs.«01_k».proof.Proof.Indices
public import Idealize.ShloMosaic.Lib.Pipeline.ValueKit
public import Idealize.ShloMosaic.Lib.Pointwise
public import Idealize.ShloMosaic.Lib.Tactic.CleanTypes

/-! # The gradient of the mixer's input weights

The weights lie in four blocks of columns, the cotangents in two halves. A point computes 256 columns
of the product of the transposed inputs with the cotangents. -/

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)
open Tables (triple_eq plane_eq)

/-- The half of the cotangents that belongs to a block of the weights. -/
def half (s : Fin 4) : Fin 2 := ⟨s.val / 2, by omega⟩
/-- The column in that half of a block's column. -/
def lane (s : Fin 4) (j : Fin 2816) : Fin 5632 := ⟨s.val % 2 * 2816 + j.val, by omega⟩

/-- The gradient of the input weights. -/
def weightGrad (h : FVec Ideal S2048x2048 .bf16) (dab : FVec Ideal S2x2048x5632 .bf16) : FVec Ideal S4x2048x2816 .bf16 := fun i =>
  (∑ r : Fin 2048, h (ix2 r (i 1)) * dab (ix3 (half (i 0)) r (lane (i 0) (i 2))) : EReal)

theorem pay1_at (x0 : Vec Ideal S2048x2048 .bf16) (x1 : Vec Ideal S1x2048x256 .bf16) (p : Fin 2048) (q : Fin 256) :
    k0_pay1 (F := Ideal) x0 x1 (ix3 0 p q) = ∑ r, x0 (ix2 r p) * x1 (ix3 0 r q) := by
  pointwise [k0_pay1]

variable (m : (ℓ : Loc nD τ sig) → Buf (Elt Ideal) ℓ) (c : Dev nD)

theorem points : cfg0.N = 44 := rfl

theorem idx_val : ∀ t : Fin cfg0.N, win0_0.index t = ![0, 0] ∧ win0_1.index t = ![t.val / 22, 0, t.val % 22]
    ∧ win0_2.index t = ![t.val / 11, 0, t.val % 11] :=
  (by decide +kernel : ∀ t : Fin grid0.N, _)

/-- The weights' block of a point. -/
def shard (t : Fin cfg0.N) : Fin 4 := ⟨t.val / 11, by have := t.isLt; have := points; omega⟩
/-- The column of a point's column in the weights' block. -/
def col (t : Fin cfg0.N) (q : Fin 256) : Fin 2816 := ⟨t.val % 11 * 256 + q.val, by omega⟩

theorem read0 (t : Fin cfg0.N) (r : Fin 2048) (p : Fin 2048) :
    iblk m c 0 t (ix2 r p) = m ((c : Thread nD τ).loc main_arg0) (ix2 r p) := by
  blk_ext [iblk, V, idx_val t]

theorem read1 (t : Fin cfg0.N) (r : Fin 2048) (q : Fin 256) :
    iblk m c 1 t (ix3 0 r q) = m ((c : Thread nD τ).loc main_arg1) (ix3 (half (shard t)) r (lane (shard t) (col t q))) := by
  blk_ext [iblk, V, idx_val t, half, lane, shard, col]

theorem block (t : Fin cfg0.N) (p : Fin 2048) (q : Fin 256) :
    out0_2 (F := Ideal) (iblk m c 0 t) (iblk m c 1 t) (ix3 0 p q)
      = weightGrad (m ((c : Thread nD τ).loc main_arg0)) (m ((c : Thread nD τ).loc main_arg1)) (ix3 (shard t) p (col t q)) := by
  unfold out0_2
  frame_out
  rw [pay1_at]
  simp only [read0, read1]
  rfl

theorem array : (dats m 0 c).arrAt 2 cfg0.N
    = weightGrad (m ((c : Thread nD τ).loc main_arg0)) (m ((c : Thread nD τ).loc main_arg1)) := by
  refine (dats m 0 c).arrAt_eq_of_covers 2 _ (by decide +kernel) fun t hf y => ?_
  blk_simp
  rw [after0_2]
  have ey := plane_eq y
  have e0 : (win0_2.blk t).view.emb y 0 = shard t := Fin.ext (by blk_simp [idx_val t, shard])
  have e1 : (win0_2.blk t).view.emb y 1 = y 1 := Fin.ext (by blk_simp [idx_val t])
  have e2 : (win0_2.blk t).view.emb y 2 = col t (y 2) := Fin.ext (by blk_simp [idx_val t, col])
  refine (congrArg (out0_2 (F := Ideal) (iblk m c 0 t) (iblk m c 1 t)) ey).trans ((block m c t (y 1) (y 2)).trans ?_)
  unfold weightGrad
  rw [e0, e1, e2]
  rfl

end Cert.Kernel4Ideal.Value

namespace Cert.Reference4Ideal.Value

open Cert.Reference4Ideal Cert.Reference4Ideal.Gen Idealize.ShloMosaic Idealize.ShloMosaic.TcCoe
open Tables (triple_eq plane_eq)

variable (h : FVec Ideal S2048x2048 .bf16) (dab : FVec Ideal S2x2048x5632 .bf16)

/-- The two halves of the cotangents, side by side. -/
def cotangents : FVec Ideal S2048x11264 .f32 :=
  concatenate S2048x11264 1 [⟨S2048x5632, shapeCast _ (extractStridedSlice S1x2048x5632 ![0, 0, 0] (extf .f32 dab bitsLt_bf16_f32) slices_S2x2048x5632_S1x2048x5632_0_0_0) shapeCasts_S1x2048x5632_S2048x5632⟩,
    ⟨S2048x5632, shapeCast _ (extractStridedSlice S1x2048x5632 ![1, 0, 0] (extf .f32 dab bitsLt_bf16_f32) slices_S2x2048x5632_S1x2048x5632_1_0_0) shapeCasts_S1x2048x5632_S2048x5632⟩]
    concatenates_S2048x5632_S2048x5632_S2048x11264_d1

theorem cotangents_at (r : Fin 2048) (j : Fin 11264) :
    cotangents dab (ix2 r j) = dab (ix3 (⟨j.val / 5632, by omega⟩ : Fin 2) r (⟨j.val % 5632, by omega⟩ : Fin 5632)) := by
  have hj := j.isLt
  pointwise [cotangents]
  split
  all_goals
    refine congrArg dab ?_
    funext x
    apply Fin.ext
    match x with
    | ⟨0, _⟩ => simp; try omega
    | ⟨1, _⟩ => simp; try omega
    | ⟨2, _⟩ => simp; try omega

theorem result :
    truncf .bf16 (transpose S4x2048x2816 [1, 0, 2] (shapeCast _ (transpose S2048x11264 [1, 0]
        (Host.dotGeneral dot_S2048x11264_S2048x2048_S11264x2048_0_0_1_1_n_n none (cotangents dab) (extf .f32 h bitsLt_bf16_f32))
        transposes_S11264x2048_S2048x11264_1_0) shapeCasts_S2048x11264_S2048x4x2816) transposes_S2048x4x2816_S4x2048x2816_1_0_2) bitsLt_bf16_f32
      = Cert.Kernel4Ideal.Value.weightGrad h dab := by
  funext i
  have ei := triple_eq i
  rw [ei]
  pointwise
  unfold Cert.Kernel4Ideal.Value.weightGrad
  refine Finset.sum_congr rfl fun r _ => (mul_comm _ _).trans ?_
  have h0 : (i 0).val < 4 := (i 0 : Fin 4).isLt
  have h2 : (i 2).val < 2816 := (i 2 : Fin 2816).isLt
  rw [cotangents_at]
  refine congrArg (fun x => (h (ix2 r (i 1)) * dab x : EReal)) ?_
  have e0 : (⟨((i 0).val * 2816 + (i 2).val) / 5632, by omega⟩ : Fin 2) = Cert.Kernel4Ideal.Value.half (i 0) :=
    Fin.ext (show ((i 0).val * 2816 + (i 2).val) / 5632 = (i 0).val / 2 by omega)
  have e2 : (⟨((i 0).val * 2816 + (i 2).val) % 5632, by omega⟩ : Fin 5632) = Cert.Kernel4Ideal.Value.lane (i 0) (i 2) :=
    Fin.ext (show ((i 0).val * 2816 + (i 2).val) % 5632 = (i 0).val % 2 * 2816 + (i 2).val by omega)
  exact congrArg₂ (fun a b => ix3 a r b) e0 e2

end Cert.Reference4Ideal.Value

end
-- ==== Proof.FfnInDx.lean ====
module

public import proofs.«01_k».proof.Proof.Gen.Kernel3Ideal.Value
public import proofs.«01_k».proof.Proof.Gen.Reference3Ideal.Run
public import proofs.«01_k».proof.Proof.FfnInDw
public import Idealize.ShloMosaic.Lib.Pipeline.ValueKit.Acc
public import Idealize.ShloMosaic.Lib.Pipeline.ReadBack

/-! # The gradient of the mixer's input

The product of the cotangents with the transposed input weights. Its sum runs over the weights' four
blocks of columns, one at each of four points, in an accumulator. -/

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)
open Tables (pair_eq)
open Cert.Kernel4Ideal.Value (half lane)

/-- The part of an entry that one block of the weights' columns gives. -/
def part (dab : FVec Ideal S2x2048x5632 .bf16) (w : FVec Ideal S4x2048x2816 .bf16) (r k : Fin 2048) (s : Fin 4) : EReal :=
  ∑ j : Fin 2816, dab (ix3 (half s) r (lane s j)) * w (ix3 s k j)

/-- The gradient of the input. -/
def inputGrad (dab : FVec Ideal S2x2048x5632 .bf16) (w : FVec Ideal S4x2048x2816 .bf16) : FVec Ideal S2048x2048 .f32 := fun i =>
  (∑ s : Fin 4, part dab w (i 0) (i 1) s : EReal)

/-- The product of a point's blocks. -/
def blockPart (x0 : Vec Ideal S1x1024x2816 .bf16) (x1 : Vec Ideal S1x1024x2816 .bf16) (p q : Fin 1024) : EReal :=
  ∑ j, x0 (ix3 0 p j) * x1 (ix3 0 q j)

theorem pay1_at (x0 : Vec Ideal S1x1024x2816 .bf16) (x1 : Vec Ideal S1x1024x2816 .bf16) (p q : Fin 1024) :
    k0_pay1 (F := Ideal) x0 x1 (ix2 p q) = blockPart x0 x1 p q := by
  unfold blockPart
  pointwise [k0_pay1]

theorem pay2_at (x0 : Vec Ideal S1x1024x2816 .bf16) (x1 : Vec Ideal S1x1024x2816 .bf16) (p q : Fin 1024) :
    k0_pay2 (F := Ideal) x0 x1 (ix2 p q) = blockPart x0 x1 p q := by
  unfold blockPart
  pointwise [k0_pay2, k0_pay1]

theorem pay3_at (x0 : Vec Ideal S1x1024x2816 .bf16) (x1 : Vec Ideal S1x1024x2816 .bf16) (acc : Vec Ideal S1024x1024 .f32) (p q : Fin 1024) :
    k0_pay3 (F := Ideal) x0 x1 acc (ix2 p q) = acc (ix2 p q) + blockPart x0 x1 p q := by
  unfold blockPart
  pointwise [k0_pay3, k0_pay1]

variable (m : (ℓ : Loc nD τ sig) → Buf (Elt Ideal) ℓ) (c : Dev nD)

theorem points : cfg0.N = 16 := rfl

theorem idx_val : ∀ t : Fin cfg0.N, win0_0.index t = ![t.val % 4 / 2, t.val / 8, t.val % 2]
    ∧ win0_1.index t = ![t.val % 4, t.val / 4 % 2, 0] ∧ win0_2.index t = ![t.val / 8, t.val / 4 % 2] :=
  (by decide +kernel : ∀ t : Fin grid0.N, _)

/-- The weights' block of a point. -/
def shard (t : Fin cfg0.N) : Fin 4 := ⟨t.val % 4, by omega⟩
/-- The row of the gradient of a block's row. -/
def row (t : Fin cfg0.N) (p : Fin 1024) : Fin 2048 := ⟨t.val / 8 * 1024 + p.val, by have := t.isLt; have := points; omega⟩
/-- The column of the gradient of a block's column. -/
def col (t : Fin cfg0.N) (q : Fin 1024) : Fin 2048 := ⟨t.val / 4 % 2 * 1024 + q.val, by omega⟩

theorem read0 (t : Fin cfg0.N) (p : Fin 1024) (j : Fin 2816) :
    iblk m c 0 t (ix3 0 p j) = m ((c : Thread nD τ).loc main_arg0) (ix3 (half (shard t)) (row t p) (lane (shard t) j)) := by
  blk_ext [iblk, V, idx_val t, half, lane, shard, row]

theorem read1 (t : Fin cfg0.N) (q : Fin 1024) (j : Fin 2816) :
    iblk m c 1 t (ix3 0 q j) = m ((c : Thread nD τ).loc main_arg1) (ix3 (shard t) (col t q) j) := by
  blk_ext [iblk, V, idx_val t, shard, col]

theorem blockPart_eq (t : Fin cfg0.N) (p q : Fin 1024) : blockPart (iblk m c 0 t) (iblk m c 1 t) p q
    = part (m ((c : Thread nD τ).loc main_arg0)) (m ((c : Thread nD τ).loc main_arg1)) (row t p) (col t q) (shard t) := by
  unfold blockPart
  simp only [read0, read1]
  rfl

theorem acc_first (t : Fin cfg0.N) (h : t.val % 4 = 0) (p q : Fin 1024) :
    ((outsAt0 m c t.val t.isLt).2 (ix2 p q) : EReal) = 0 + part (m ((c : Thread nD τ).loc main_arg0)) (m ((c : Thread nD τ).loc main_arg1)) (row t p) (col t q) (shard t) := by
  rw [outsAt0_A m c t h (by omega) (by omega)]
  dsimp only
  frame_out
  rw [pay2_at, zero_add]
  exact blockPart_eq m c t p q

theorem acc_next (t : Fin cfg0.N) (h : ¬t.val % 4 = 0) (p q : Fin 1024) :
    ((outsAt0 m c t.val t.isLt).2 (ix2 p q) : EReal)
      = (outsAt0 m c (t.val - 1) (Nat.lt_of_le_of_lt (Nat.sub_le _ _) t.isLt)).2 (ix2 p q) + part (m ((c : Thread nD τ).loc main_arg0)) (m ((c : Thread nD τ).loc main_arg1)) (row t p) (col t q) (shard t) := by
  rw [← blockPart_eq m c t p q]
  by_cases h2 : t.val % 4 = 3
  · rw [outsAt0_C m c t h (by omega) h2]
    dsimp only
    frame_out
    simp only [pay3_at, read_unread_whole]
  · rw [outsAt0_B m c t h (by omega) h2]
    dsimp only
    frame_out
    simp only [pay3_at, read_unread_whole]

theorem out_last (t : Fin cfg0.N) (h : t.val % 4 = 3) (p q : Fin 1024) :
    ((outsAt0 m c t.val t.isLt).1 (ix2 p q) : EReal) = (outsAt0 m c t.val t.isLt).2 (ix2 p q) := by
  rw [outsAt0_C m c t (by omega) (by omega) h]
  dsimp only
  frame_out

theorem block (t : Fin cfg0.N) (h : t.val % 4 = 3) (p q : Fin 1024) :
    ((outsAt0 m c t.val t.isLt).1 (ix2 p q) : EReal)
      = inputGrad (m ((c : Thread nD τ).loc main_arg0)) (m ((c : Thread nD τ).loc main_arg1)) (ix2 (row t p) (col t q)) := by
  refine (out_last m c t h p q).trans ?_
  have e := Pipeline.eq_sum_fin_of_reset_step_apply_of_flush (N := cfg0.N) (ι := Fin 1024 × Fin 1024) (M := EReal)
    (fun n hn i => (outsAt0 m c n hn).2 (ix2 i.1 i.2)) 4 (fun _ => 0)
    (fun t i => part (m ((c : Thread nD τ).loc main_arg0)) (m ((c : Thread nD τ).loc main_arg1)) (row t i.1) (col t i.2) (shard t))
    (fun t h i => acc_first m c t h i.1 i.2) (fun t h i => acc_next m c t h i.1 i.2) t h (p, q)
  refine e.trans ?_
  rw [zero_add]
  refine Finset.sum_congr rfl fun s _ => ?_
  have hs := s.isLt
  have es : shard ⟨4 * (t.val / 4) + s.val, Pipeline.run_point_lt_of_flush t h s⟩ = s := Fin.ext (by simp only [shard]; omega)
  have er : row ⟨4 * (t.val / 4) + s.val, Pipeline.run_point_lt_of_flush t h s⟩ p = row t p := Fin.ext (by simp only [row]; omega)
  have ec : col ⟨4 * (t.val / 4) + s.val, Pipeline.run_point_lt_of_flush t h s⟩ q = col t q := Fin.ext (by simp only [col]; omega)
  dsimp only
  rw [es, er, ec]
  rfl

theorem array : (dats m 0 c).arrAt 2 cfg0.N
    = inputGrad (m ((c : Thread nD τ).loc main_arg0)) (m ((c : Thread nD τ).loc main_arg1)) := by
  refine (dats m 0 c).arrAt_eq_of_covers 2 _ (by decide +kernel) fun t hf y => ?_
  blk_simp
  rw [after0_2]
  have ey := pair_eq y
  have e0 : (win0_2.blk t).view.emb y 0 = row t (y 0) := Fin.ext (by blk_simp [idx_val t, row])
  have e1 : (win0_2.blk t).view.emb y 1 = col t (y 1) := Fin.ext (by blk_simp [idx_val t, col])
  refine (congrArg (outsAt0 m c t.val t.isLt).1 ey).trans ((block m c t ((flush0_2 t).1 hf) (y 0) (y 1)).trans ?_)
  unfold inputGrad
  rw [e0, e1]
  rfl

end Cert.Kernel3Ideal.Value

namespace Cert.Reference3Ideal.Value

open Cert.Reference3Ideal Cert.Reference3Ideal.Gen Idealize.ShloMosaic Idealize.ShloMosaic.TcCoe
open Tables (pair_eq)
open Cert.Kernel4Ideal.Value (half lane)
open Cert.Reference4Ideal.Value (cotangents cotangents_at)

variable (dab : FVec Ideal S2x2048x5632 .bf16) (w : FVec Ideal S4x2048x2816 .bf16)

/-- A column of all the weights, from its block and its place there. -/
def column (s : Fin 4) (j : Fin 2816) : Fin 11264 := ⟨s.val * 2816 + j.val, by omega⟩

/-- The columns of all the weights are the blocks' columns. -/
theorem sum_columns (F : Fin 11264 → EReal) : ∑ x, F x = ∑ s : Fin 4, ∑ j : Fin 2816, F (column s j) := by
  symm
  refine Fin.sum_mul_add_congr (S := 4) (n := 2816) (L := 11264) fun s j hl => ?_
  exact congrArg F (Fin.ext rfl)

theorem result :
    Host.dotGeneral dot_S2048x11264_S2048x11264_S2048x2048_1_1_0_0_n_n none (cotangents dab)
        (shapeCast _ (transpose S2048x4x2816 [1, 0, 2] (extf .f32 w bitsLt_bf16_f32) transposes_S4x2048x2816_S2048x4x2816_1_0_2)
          shapeCasts_S2048x4x2816_S2048x11264)
      = Cert.Kernel3Ideal.Value.inputGrad dab w := by
  funext i
  obtain ⟨r, k, ei⟩ : ∃ r k : Fin 2048, i = ix2 r k := ⟨i 0, i 1, pair_eq i⟩
  subst ei
  pointwise
  refine (sum_columns _).trans (Finset.sum_congr rfl fun s _ => Finset.sum_congr rfl fun j _ => ?_)
  have hs := s.isLt
  have hj := j.isLt
  rw [cotangents_at]
  refine congrArg₂ (fun x y => (dab x * w y : EReal)) ?_ ?_
  · have e0 : (⟨(column s j).val / 5632, by omega⟩ : Fin 2) = half s :=
      Fin.ext (show (s.val * 2816 + j.val) / 5632 = s.val / 2 by omega)
    have e2 : (⟨(column s j).val % 5632, by omega⟩ : Fin 5632) = lane s j :=
      Fin.ext (show (s.val * 2816 + j.val) % 5632 = s.val % 2 * 2816 + j.val by omega)
    exact congrArg₂ (fun a b => ix3 a r b) e0 e2
  · have e0 : (⟨(column s j).val / 2816, by omega⟩ : Fin 4) = s :=
      Fin.ext (show (s.val * 2816 + j.val) / 2816 = s.val by omega)
    have e2 : (⟨(column s j).val % 2816, by omega⟩ : Fin 2816) = j :=
      Fin.ext (show (s.val * 2816 + j.val) % 2816 = j.val by omega)
    exact congrArg₂ (fun a b => ix3 a k b) e0 e2

end Cert.Reference3Ideal.Value

end
-- ==== Proof.FfnOutDw.lean ====
module

public import proofs.«01_k».proof.Proof.Gen.Kernel5Ideal.Value
public import proofs.«01_k».proof.Proof.Gen.Reference5Ideal.Run
public import proofs.«01_k».proof.Proof.Indices
public import Idealize.ShloMosaic.Lib.Pipeline.ValueKit
public import Idealize.ShloMosaic.Lib.Pointwise
public import Idealize.ShloMosaic.Lib.Tactic.CleanTypes

/-! # The gradient of the mixer's output weights

A point computes one block of the product of the transposed activations with the cotangents; the
rows, over which the product sums, are all in one block. -/

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)
open Tables (pair_eq)

/-- The gradient of the output weights. -/
def weightGrad (g : FVec Ideal S2048x5632 .bf16) (dy : FVec Ideal S2048x2048 .bf16) : FVec Ideal S5632x2048 .bf16 := fun i =>
  (∑ r : Fin 2048, g (ix2 r (i 0)) * dy (ix2 r (i 1)) : EReal)

theorem pay1_at (x0 : Vec Ideal S2048x512 .bf16) (x1 : Vec Ideal S2048x1024 .bf16) (p : Fin 512) (q : Fin 1024) :
    k0_pay1 (F := Ideal) x0 x1 (ix2 p q) = ∑ r, x0 (ix2 r p) * x1 (ix2 r q) := by
  pointwise [k0_pay1]

variable (m : (ℓ : Loc nD τ sig) → Buf (Elt Ideal) ℓ) (c : Dev nD)

theorem points : cfg0.N = 22 := rfl

theorem idx_val : ∀ t : Fin cfg0.N, win0_0.index t = ![0, t.val / 2] ∧ win0_1.index t = ![0, t.val % 2]
    ∧ win0_2.index t = ![t.val / 2, t.val % 2] :=
  (by decide +kernel : ∀ t : Fin grid0.N, _)

/-- The row of the weights of a block's row. -/
def row (t : Fin cfg0.N) (p : Fin 512) : Fin 5632 := ⟨t.val / 2 * 512 + p.val, by have := t.isLt; have := points; omega⟩
/-- The column of the weights of a block's column. -/
def col (t : Fin cfg0.N) (q : Fin 1024) : Fin 2048 := ⟨t.val % 2 * 1024 + q.val, by omega⟩

theorem read0 (t : Fin cfg0.N) (r : Fin 2048) (p : Fin 512) :
    iblk m c 0 t (ix2 r p) = m ((c : Thread nD τ).loc main_arg0) (ix2 r (row t p)) := by
  blk_ext [iblk, V, idx_val t, row]

theorem read1 (t : Fin cfg0.N) (r : Fin 2048) (q : Fin 1024) :
    iblk m c 1 t (ix2 r q) = m ((c : Thread nD τ).loc main_arg1) (ix2 r (col t q)) := by
  blk_ext [iblk, V, idx_val t, col]

theorem block (t : Fin cfg0.N) (p : Fin 512) (q : Fin 1024) :
    out0_2 (F := Ideal) (iblk m c 0 t) (iblk m c 1 t) (ix2 p q)
      = weightGrad (m ((c : Thread nD τ).loc main_arg0)) (m ((c : Thread nD τ).loc main_arg1)) (ix2 (row t p) (col t q)) := by
  unfold out0_2
  frame_out
  rw [pay1_at]
  simp only [read0, read1]
  rfl

theorem array : (dats m 0 c).arrAt 2 cfg0.N
    = weightGrad (m ((c : Thread nD τ).loc main_arg0)) (m ((c : Thread nD τ).loc main_arg1)) := by
  refine (dats m 0 c).arrAt_eq_of_covers 2 _ (by decide +kernel) fun t hf y => ?_
  blk_simp
  rw [after0_2]
  have ey := pair_eq y
  have e0 : (win0_2.blk t).view.emb y 0 = row t (y 0) := Fin.ext (by blk_simp [idx_val t, row])
  have e1 : (win0_2.blk t).view.emb y 1 = col t (y 1) := Fin.ext (by blk_simp [idx_val t, col])
  refine (congrArg (out0_2 (F := Ideal) (iblk m c 0 t) (iblk m c 1 t)) ey).trans ((block m c t (y 0) (y 1)).trans ?_)
  unfold weightGrad
  rw [e0, e1]
  rfl

end Cert.Kernel5Ideal.Value

namespace Cert.Reference5Ideal.Value

open Cert.Reference5Ideal Cert.Reference5Ideal.Gen Idealize.ShloMosaic Idealize.ShloMosaic.TcCoe
open Tables (pair_eq)

theorem result (g : FVec Ideal S2048x5632 .bf16) (dy : FVec Ideal S2048x2048 .bf16) :
    truncf .bf16 (transpose S5632x2048 [1, 0] (Host.dotGeneral dot_S2048x2048_S2048x5632_S2048x5632_0_0_1_1_n_n none
        (extf .f32 dy bitsLt_bf16_f32) (extf .f32 g bitsLt_bf16_f32)) transposes_S2048x5632_S5632x2048_1_0) bitsLt_bf16_f32
      = Cert.Kernel5Ideal.Value.weightGrad g dy := by
  funext i
  have ei := pair_eq i
  rw [ei]
  pointwise
  unfold Cert.Kernel5Ideal.Value.weightGrad
  exact Finset.sum_congr rfl fun r _ => mul_comm _ _

end Cert.Reference5Ideal.Value

end
-- ==== Proof.AdamW.lean ====
module

public import Idealize.ShloMosaic.PureOps.Ideal
public import Idealize.ShloMosaic.Lib.Pointwise

/-! # One step of AdamW

The two moments and the change of a weight, entry by entry, from a weight's value, its gradient and its moments before the
step. The constants are the float words of the optimiser's settings. -/

@[expose] public section

noncomputable section

namespace AdamW

open Idealize.ShloMosaic

/-- A setting, from its float word. -/
abbrev setting (b : BitVec 32) : Ideal .f32 := Scalar.ofBits .f32 b

/-- The first moment after the step: 0.9 of the old one and 0.1 of the gradient. -/
def mean1 (g m : Ideal .f32) : Ideal .f32 := setting 0x3F666666#32 * m + setting 0x3DCCCCCD#32 * g

/-- The second moment after the step: 0.999 of the old one and 0.001 of the gradient's square. -/
def mean2 (g v : Ideal .f32) : Ideal .f32 := setting 0x3F7FBE77#32 * v + setting 0x3A83126F#32 * (g * g)

/-- The change of the weight: both moments corrected for the step's number, the quotient, the weight's decay, the rate. -/
def change (w g m v : Ideal .f32) : Ideal .f32 :=
  setting 0xBA83126F#32 * (Ideal.div (Ideal.div (mean1 g m) (setting 0x3F26BD02#32))
      (Ideal.sqrt (Ideal.div (mean2 g v) (setting 0x3C231ACC#32)) + setting 0x322BCC77#32)
    + setting 0x3C23D70A#32 * w)

/-- Equal arguments, equal changes. -/
theorem change_congr {w w' g g' m m' v v' : Ideal .f32} (hw : w = w') (hg : g = g') (hm : m = m') (hv : v = v') :
    change w g m v = change w' g' m' v' := by rw [hw, hg, hm, hv]

end AdamW
-- ==== Proof.OptimiserLarge.lean ====
module

public import proofs.«01_k».proof.Proof.Gen.Kernel30Ideal.Value
public import proofs.«01_k».proof.Proof.Gen.Reference30Ideal.Run
public import proofs.«01_k».proof.Proof.Gen.Kernel31Ideal.Value
public import proofs.«01_k».proof.Proof.Gen.Reference31Ideal.Run
public import proofs.«01_k».proof.Proof.Gen.Kernel32Ideal.Value
public import proofs.«01_k».proof.Proof.Gen.Reference32Ideal.Run
public import proofs.«01_k».proof.Proof.Gen.Kernel33Ideal.Value
public import proofs.«01_k».proof.Proof.Gen.Reference33Ideal.Run
public import proofs.«01_k».proof.Proof.Gen.Kernel34Ideal.Value
public import proofs.«01_k».proof.Proof.Gen.Reference34Ideal.Run
public import proofs.«01_k».proof.Proof.Indices
public import proofs.«01_k».proof.Proof.AdamW
public import Idealize.ShloMosaic.Lib.Pipeline.ValueKit
public import Idealize.ShloMosaic.Lib.Pipeline.ReadBack
public import Idealize.ShloMosaic.Lib.Pointwise
public import Idealize.ShloMosaic.Lib.Tactic.CleanTypes

/-! # The optimiser, I

Each call updates one weight, or the small weights side by side, in blocks of rows: block `t` of every result is the step
of the blocks `t` of the weight, its gradient and its moments. The gradient is also handed on. -/

@[expose] public section

set_option maxRecDepth 16384

noncomputable section

/-! ## The weights of the modulation -/

namespace Cert.Kernel30Ideal.Value

open Cert.Kernel30Ideal Cert.Kernel30Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val, 0] ∧ win0_1.index t = ![t.val, 0] ∧ win0_2.index t = ![t.val, 0] ∧ win0_3.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The gradient, handed on. -/
theorem gradient : (dats m 0 c).arrAt 5 cfg0.N = m ((c : Thread nD τ).loc main_arg1) := by
  refine (dats m 0 c).arrAt_eq_of_covers 5 _ (by decide +kernel) fun t hf y => ?_
  obtain ⟨p, q, rfl⟩ : ∃ (p : Fin 128) (q : Fin 3072), y = ix2 p q := ⟨y 0, y 1, pair_eq y⟩
  blk_simp
  rw [after0_5]
  unfold out0_5
  frame_out
  blk_ext [iblk, V, idx_val t]

/-- The weight's change. -/
theorem change : (dats m 0 c).arrAt 6 cfg0.N
    = fun i => AdamW.change (m ((c : Thread nD τ).loc main_arg0) i) (m ((c : Thread nD τ).loc main_arg1) i) (m ((c : Thread nD τ).loc main_arg2) i) (m ((c : Thread nD τ).loc main_arg3) i) := by
  refine (dats m 0 c).arrAt_eq_of_covers 6 _ (by decide +kernel) fun t hf y => ?_
  obtain ⟨p, q, rfl⟩ : ∃ (p : Fin 128) (q : Fin 3072), y = ix2 p q := ⟨y 0, y 1, pair_eq y⟩
  blk_simp
  rw [after0_6]
  unfold out0_6
  frame_out
  refine Eq.trans (rfl : k0_pay3 _ _ _ _ _ = AdamW.change _ _ _ _) (AdamW.change_congr ?_ ?_ ?_ ?_) <;> blk_ext [iblk, V, idx_val t]

/-- The first moment after the step. -/
theorem mean1 : (dats m 0 c).arrAt 7 cfg0.N = fun i => AdamW.mean1 (m ((c : Thread nD τ).loc main_arg1) i) (m ((c : Thread nD τ).loc main_arg2) i) := by
  refine (dats m 0 c).arrAt_eq_of_covers 7 _ (by decide +kernel) fun t hf y => ?_
  obtain ⟨p, q, rfl⟩ : ∃ (p : Fin 128) (q : Fin 3072), y = ix2 p q := ⟨y 0, y 1, pair_eq y⟩
  blk_simp
  rw [after0_7]
  unfold out0_7
  frame_out
  refine Eq.trans (rfl : k0_pay1 _ _ _ = AdamW.mean1 _ _) (congrArg₂ AdamW.mean1 ?_ ?_) <;> blk_ext [iblk, V, idx_val t]

/-- The second moment after the step. -/
theorem mean2 : (dats m 0 c).arrAt 8 cfg0.N = fun i => AdamW.mean2 (m ((c : Thread nD τ).loc main_arg1) i) (m ((c : Thread nD τ).loc main_arg3) i) := by
  refine (dats m 0 c).arrAt_eq_of_covers 8 _ (by decide +kernel) fun t hf y => ?_
  obtain ⟨p, q, rfl⟩ : ∃ (p : Fin 128) (q : Fin 3072), y = ix2 p q := ⟨y 0, y 1, pair_eq y⟩
  blk_simp
  rw [after0_8]
  unfold out0_8
  frame_out
  refine Eq.trans (rfl : k0_pay2 _ _ _ = AdamW.mean2 _ _) (congrArg₂ AdamW.mean2 ?_ ?_) <;> blk_ext [iblk, V, idx_val t]

end Cert.Kernel30Ideal.Value

/-! ## The weights of the output weights of the feed-forward mixer -/

namespace Cert.Kernel31Ideal.Value

open Cert.Kernel31Ideal Cert.Kernel31Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val, 0] ∧ win0_1.index t = ![t.val, 0] ∧ win0_2.index t = ![t.val, 0] ∧ win0_3.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The gradient, handed on. -/
theorem gradient : (dats m 0 c).arrAt 5 cfg0.N = m ((c : Thread nD τ).loc main_arg1) := by
  refine (dats m 0 c).arrAt_eq_of_covers 5 _ (by decide +kernel) fun t hf y => ?_
  obtain ⟨p, q, rfl⟩ : ∃ (p : Fin 176) (q : Fin 2048), y = ix2 p q := ⟨y 0, y 1, pair_eq y⟩
  blk_simp
  rw [after0_5]
  unfold out0_5
  frame_out
  blk_ext [iblk, V, idx_val t]

/-- The weight's change. -/
theorem change : (dats m 0 c).arrAt 6 cfg0.N
    = fun i => AdamW.change (m ((c : Thread nD τ).loc main_arg0) i) (m ((c : Thread nD τ).loc main_arg1) i) (m ((c : Thread nD τ).loc main_arg2) i) (m ((c : Thread nD τ).loc main_arg3) i) := by
  refine (dats m 0 c).arrAt_eq_of_covers 6 _ (by decide +kernel) fun t hf y => ?_
  obtain ⟨p, q, rfl⟩ : ∃ (p : Fin 176) (q : Fin 2048), y = ix2 p q := ⟨y 0, y 1, pair_eq y⟩
  blk_simp
  rw [after0_6]
  unfold out0_6
  frame_out
  refine Eq.trans (rfl : k0_pay3 _ _ _ _ _ = AdamW.change _ _ _ _) (AdamW.change_congr ?_ ?_ ?_ ?_) <;> blk_ext [iblk, V, idx_val t]

/-- The first moment after the step. -/
theorem mean1 : (dats m 0 c).arrAt 7 cfg0.N = fun i => AdamW.mean1 (m ((c : Thread nD τ).loc main_arg1) i) (m ((c : Thread nD τ).loc main_arg2) i) := by
  refine (dats m 0 c).arrAt_eq_of_covers 7 _ (by decide +kernel) fun t hf y => ?_
  obtain ⟨p, q, rfl⟩ : ∃ (p : Fin 176) (q : Fin 2048), y = ix2 p q := ⟨y 0, y 1, pair_eq y⟩
  blk_simp
  rw [after0_7]
  unfold out0_7
  frame_out
  refine Eq.trans (rfl : k0_pay1 _ _ _ = AdamW.mean1 _ _) (congrArg₂ AdamW.mean1 ?_ ?_) <;> blk_ext [iblk, V, idx_val t]

/-- The second moment after the step. -/
theorem mean2 : (dats m 0 c).arrAt 8 cfg0.N = fun i => AdamW.mean2 (m ((c : Thread nD τ).loc main_arg1) i) (m ((c : Thread nD τ).loc main_arg3) i) := by
  refine (dats m 0 c).arrAt_eq_of_covers 8 _ (by decide +kernel) fun t hf y => ?_
  obtain ⟨p, q, rfl⟩ : ∃ (p : Fin 176) (q : Fin 2048), y = ix2 p q := ⟨y 0, y 1, pair_eq y⟩
  blk_simp
  rw [after0_8]
  unfold out0_8
  frame_out
  refine Eq.trans (rfl : k0_pay2 _ _ _ = AdamW.mean2 _ _) (congrArg₂ AdamW.mean2 ?_ ?_) <;> blk_ext [iblk, V, idx_val t]

end Cert.Kernel31Ideal.Value

/-! ## The weights of the input weights of the feed-forward mixer -/

namespace Cert.Kernel32Ideal.Value

open Cert.Kernel32Ideal Cert.Kernel32Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The gradient, handed on. -/
theorem gradient : (dats m 0 c).arrAt 4 cfg0.N = m ((c : Thread nD τ).loc main_arg1) := by
  refine (dats m 0 c).arrAt_eq_of_covers 4 _ (by decide +kernel) fun t hf y => ?_
  obtain ⟨p, q, rfl⟩ : ∃ (p : Fin 128) (q : Fin 2816), y = ix2 p q := ⟨y 0, y 1, pair_eq y⟩
  blk_simp
  rw [after0_4]
  unfold out0_4
  frame_out
  blk_ext [iblk, V, idx_val t]

/-- The weight's change. -/
theorem change : (dats m 0 c).arrAt 5 cfg0.N
    = fun i => AdamW.change (m ((c : Thread nD τ).loc main_arg0) i) (m ((c : Thread nD τ).loc main_arg1) i) (m ((c : Thread nD τ).loc main_arg2) i) (m ((c : Thread nD τ).loc main_arg3) i) := by
  refine (dats m 0 c).arrAt_eq_of_covers 5 _ (by decide +kernel) fun t hf y => ?_
  obtain ⟨p, q, rfl⟩ : ∃ (p : Fin 128) (q : Fin 2816), y = ix2 p q := ⟨y 0, y 1, pair_eq y⟩
  blk_simp
  rw [after0_5]
  unfold out0_5
  frame_out
  refine Eq.trans (rfl : k0_pay3 _ _ _ _ _ = AdamW.change _ _ _ _) (AdamW.change_congr ?_ ?_ ?_ ?_) <;> blk_ext [iblk, V, idx_val t]

/-- The first moment after the step. -/
theorem mean1 : (dats m 0 c).arrAt 6 cfg0.N = fun i => AdamW.mean1 (m ((c : Thread nD τ).loc main_arg1) i) (m ((c : Thread nD τ).loc main_arg2) i) := by
  refine (dats m 0 c).arrAt_eq_of_covers 6 _ (by decide +kernel) fun t hf y => ?_
  obtain ⟨p, q, rfl⟩ : ∃ (p : Fin 128) (q : Fin 2816), y = ix2 p q := ⟨y 0, y 1, pair_eq y⟩
  blk_simp
  rw [after0_6]
  unfold out0_6
  frame_out
  refine Eq.trans (rfl : k0_pay1 _ _ _ = AdamW.mean1 _ _) (congrArg₂ AdamW.mean1 ?_ ?_) <;> blk_ext [iblk, V, idx_val t]

/-- The second moment after the step. -/
theorem mean2 : (dats m 0 c).arrAt 7 cfg0.N = fun i => AdamW.mean2 (m ((c : Thread nD τ).loc main_arg1) i) (m ((c : Thread nD τ).loc main_arg3) i) := by
  refine (dats m 0 c).arrAt_eq_of_covers 7 _ (by decide +kernel) fun t hf y => ?_
  obtain ⟨p, q, rfl⟩ : ∃ (p : Fin 128) (q : Fin 2816), y = ix2 p q := ⟨y 0, y 1, pair_eq y⟩
  blk_simp
  rw [after0_7]
  unfold out0_7
  frame_out
  refine Eq.trans (rfl : k0_pay2 _ _ _ = AdamW.mean2 _ _) (congrArg₂ AdamW.mean2 ?_ ?_) <;> blk_ext [iblk, V, idx_val t]

end Cert.Kernel32Ideal.Value

/-! ## The weights of the output projection -/

namespace Cert.Kernel33Ideal.Value

open Cert.Kernel33Ideal Cert.Kernel33Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val, 0] ∧ win0_1.index t = ![t.val, 0] ∧ win0_2.index t = ![t.val, 0] ∧ win0_3.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The gradient, handed on. -/
theorem gradient : (dats m 0 c).arrAt 5 cfg0.N = m ((c : Thread nD τ).loc main_arg1) := by
  refine (dats m 0 c).arrAt_eq_of_covers 5 _ (by decide +kernel) fun t hf y => ?_
  obtain ⟨p, q, rfl⟩ : ∃ (p : Fin 128) (q : Fin 2048), y = ix2 p q := ⟨y 0, y 1, pair_eq y⟩
  blk_simp
  rw [after0_5]
  unfold out0_5
  frame_out
  blk_ext [iblk, V, idx_val t]

/-- The weight's change. -/
theorem change : (dats m 0 c).arrAt 6 cfg0.N
    = fun i => AdamW.change (m ((c : Thread nD τ).loc main_arg0) i) (m ((c : Thread nD τ).loc main_arg1) i) (m ((c : Thread nD τ).loc main_arg2) i) (m ((c : Thread nD τ).loc main_arg3) i) := by
  refine (dats m 0 c).arrAt_eq_of_covers 6 _ (by decide +kernel) fun t hf y => ?_
  obtain ⟨p, q, rfl⟩ : ∃ (p : Fin 128) (q : Fin 2048), y = ix2 p q := ⟨y 0, y 1, pair_eq y⟩
  blk_simp
  rw [after0_6]
  unfold out0_6
  frame_out
  refine Eq.trans (rfl : k0_pay3 _ _ _ _ _ = AdamW.change _ _ _ _) (AdamW.change_congr ?_ ?_ ?_ ?_) <;> blk_ext [iblk, V, idx_val t]

/-- The first moment after the step. -/
theorem mean1 : (dats m 0 c).arrAt 7 cfg0.N = fun i => AdamW.mean1 (m ((c : Thread nD τ).loc main_arg1) i) (m ((c : Thread nD τ).loc main_arg2) i) := by
  refine (dats m 0 c).arrAt_eq_of_covers 7 _ (by decide +kernel) fun t hf y => ?_
  obtain ⟨p, q, rfl⟩ : ∃ (p : Fin 128) (q : Fin 2048), y = ix2 p q := ⟨y 0, y 1, pair_eq y⟩
  blk_simp
  rw [after0_7]
  unfold out0_7
  frame_out
  refine Eq.trans (rfl : k0_pay1 _ _ _ = AdamW.mean1 _ _) (congrArg₂ AdamW.mean1 ?_ ?_) <;> blk_ext [iblk, V, idx_val t]

/-- The second moment after the step. -/
theorem mean2 : (dats m 0 c).arrAt 8 cfg0.N = fun i => AdamW.mean2 (m ((c : Thread nD τ).loc main_arg1) i) (m ((c : Thread nD τ).loc main_arg3) i) := by
  refine (dats m 0 c).arrAt_eq_of_covers 8 _ (by decide +kernel) fun t hf y => ?_
  obtain ⟨p, q, rfl⟩ : ∃ (p : Fin 128) (q : Fin 2048), y = ix2 p q := ⟨y 0, y 1, pair_eq y⟩
  blk_simp
  rw [after0_8]
  unfold out0_8
  frame_out
  refine Eq.trans (rfl : k0_pay2 _ _ _ = AdamW.mean2 _ _) (congrArg₂ AdamW.mean2 ?_ ?_) <;> blk_ext [iblk, V, idx_val t]

end Cert.Kernel33Ideal.Value

/-! ## The weights of the gated unit -/

namespace Cert.Kernel34Ideal.Value

open Cert.Kernel34Ideal Cert.Kernel34Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The gradient, handed on. -/
theorem gradient : (dats m 0 c).arrAt 4 cfg0.N = m ((c : Thread nD τ).loc main_arg1) := by
  refine (dats m 0 c).arrAt_eq_of_covers 4 _ (by decide +kernel) fun t hf y => ?_
  obtain ⟨p, q, rfl⟩ : ∃ (p : Fin 256) (q : Fin 1024), y = ix2 p q := ⟨y 0, y 1, pair_eq y⟩
  blk_simp
  rw [after0_4]
  unfold out0_4
  frame_out
  blk_ext [iblk, V, idx_val t]

/-- The weight's change. -/
theorem change : (dats m 0 c).arrAt 5 cfg0.N
    = fun i => AdamW.change (m ((c : Thread nD τ).loc main_arg0) i) (m ((c : Thread nD τ).loc main_arg1) i) (m ((c : Thread nD τ).loc main_arg2) i) (m ((c : Thread nD τ).loc main_arg3) i) := by
  refine (dats m 0 c).arrAt_eq_of_covers 5 _ (by decide +kernel) fun t hf y => ?_
  obtain ⟨p, q, rfl⟩ : ∃ (p : Fin 256) (q : Fin 1024), y = ix2 p q := ⟨y 0, y 1, pair_eq y⟩
  blk_simp
  rw [after0_5]
  unfold out0_5
  frame_out
  refine Eq.trans (rfl : k0_pay3 _ _ _ _ _ = AdamW.change _ _ _ _) (AdamW.change_congr ?_ ?_ ?_ ?_) <;> blk_ext [iblk, V, idx_val t]

/-- The first moment after the step. -/
theorem mean1 : (dats m 0 c).arrAt 6 cfg0.N = fun i => AdamW.mean1 (m ((c : Thread nD τ).loc main_arg1) i) (m ((c : Thread nD τ).loc main_arg2) i) := by
  refine (dats m 0 c).arrAt_eq_of_covers 6 _ (by decide +kernel) fun t hf y => ?_
  obtain ⟨p, q, rfl⟩ : ∃ (p : Fin 256) (q : Fin 1024), y = ix2 p q := ⟨y 0, y 1, pair_eq y⟩
  blk_simp
  rw [after0_6]
  unfold out0_6
  frame_out
  refine Eq.trans (rfl : k0_pay1 _ _ _ = AdamW.mean1 _ _) (congrArg₂ AdamW.mean1 ?_ ?_) <;> blk_ext [iblk, V, idx_val t]

/-- The second moment after the step. -/
theorem mean2 : (dats m 0 c).arrAt 7 cfg0.N = fun i => AdamW.mean2 (m ((c : Thread nD τ).loc main_arg1) i) (m ((c : Thread nD τ).loc main_arg3) i) := by
  refine (dats m 0 c).arrAt_eq_of_covers 7 _ (by decide +kernel) fun t hf y => ?_
  obtain ⟨p, q, rfl⟩ : ∃ (p : Fin 256) (q : Fin 1024), y = ix2 p q := ⟨y 0, y 1, pair_eq y⟩
  blk_simp
  rw [after0_7]
  unfold out0_7
  frame_out
  refine Eq.trans (rfl : k0_pay2 _ _ _ = AdamW.mean2 _ _) (congrArg₂ AdamW.mean2 ?_ ?_) <;> blk_ext [iblk, V, idx_val t]

end Cert.Kernel34Ideal.Value

end
-- ==== Proof.OptimiserSmall.lean ====
module

public import proofs.«01_k».proof.Proof.Gen.Kernel35Ideal.Value
public import proofs.«01_k».proof.Proof.Gen.Reference35Ideal.Run
public import proofs.«01_k».proof.Proof.Gen.Kernel36Ideal.Value
public import proofs.«01_k».proof.Proof.Gen.Reference36Ideal.Run
public import proofs.«01_k».proof.Proof.Gen.Kernel37Ideal.Value
public import proofs.«01_k».proof.Proof.Gen.Reference37Ideal.Run
public import proofs.«01_k».proof.Proof.Gen.Kernel38Ideal.Value
public import proofs.«01_k».proof.Proof.Gen.Reference38Ideal.Run
public import proofs.«01_k».proof.Proof.Gen.Kernel39Ideal.Value
public import proofs.«01_k».proof.Proof.Gen.Reference39Ideal.Run
public import proofs.«01_k».proof.Proof.Indices
public import proofs.«01_k».proof.Proof.AdamW
public import Idealize.ShloMosaic.Lib.Pipeline.ValueKit
public import Idealize.ShloMosaic.Lib.Pipeline.ReadBack
public import Idealize.ShloMosaic.Lib.Pointwise
public import Idealize.ShloMosaic.Lib.Tactic.CleanTypes

/-! # The optimiser, II

Each call updates one weight, or the small weights side by side, in blocks of rows: block `t` of every result is the step
of the blocks `t` of the weight, its gradient and its moments. The gradient is also handed on. -/

@[expose] public section

set_option maxRecDepth 16384

noncomputable section

/-! ## The weights of the attention output -/

namespace Cert.Kernel35Ideal.Value

open Cert.Kernel35Ideal Cert.Kernel35Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The gradient, handed on. -/
theorem gradient : (dats m 0 c).arrAt 4 cfg0.N = m ((c : Thread nD τ).loc main_arg1) := by
  refine (dats m 0 c).arrAt_eq_of_covers 4 _ (by decide +kernel) fun t hf y => ?_
  obtain ⟨p, q, rfl⟩ : ∃ (p : Fin 512) (q : Fin 512), y = ix2 p q := ⟨y 0, y 1, pair_eq y⟩
  blk_simp
  rw [after0_4]
  unfold out0_4
  frame_out
  blk_ext [iblk, V, idx_val t]

/-- The weight's change. -/
theorem change : (dats m 0 c).arrAt 5 cfg0.N
    = fun i => AdamW.change (m ((c : Thread nD τ).loc main_arg0) i) (m ((c : Thread nD τ).loc main_arg1) i) (m ((c : Thread nD τ).loc main_arg2) i) (m ((c : Thread nD τ).loc main_arg3) i) := by
  refine (dats m 0 c).arrAt_eq_of_covers 5 _ (by decide +kernel) fun t hf y => ?_
  obtain ⟨p, q, rfl⟩ : ∃ (p : Fin 512) (q : Fin 512), y = ix2 p q := ⟨y 0, y 1, pair_eq y⟩
  blk_simp
  rw [after0_5]
  unfold out0_5
  frame_out
  refine Eq.trans (rfl : k0_pay3 _ _ _ _ _ = AdamW.change _ _ _ _) (AdamW.change_congr ?_ ?_ ?_ ?_) <;> blk_ext [iblk, V, idx_val t]

/-- The first moment after the step. -/
theorem mean1 : (dats m 0 c).arrAt 6 cfg0.N = fun i => AdamW.mean1 (m ((c : Thread nD τ).loc main_arg1) i) (m ((c : Thread nD τ).loc main_arg2) i) := by
  refine (dats m 0 c).arrAt_eq_of_covers 6 _ (by decide +kernel) fun t hf y => ?_
  obtain ⟨p, q, rfl⟩ : ∃ (p : Fin 512) (q : Fin 512), y = ix2 p q := ⟨y 0, y 1, pair_eq y⟩
  blk_simp
  rw [after0_6]
  unfold out0_6
  frame_out
  refine Eq.trans (rfl : k0_pay1 _ _ _ = AdamW.mean1 _ _) (congrArg₂ AdamW.mean1 ?_ ?_) <;> blk_ext [iblk, V, idx_val t]

/-- The second moment after the step. -/
theorem mean2 : (dats m 0 c).arrAt 7 cfg0.N = fun i => AdamW.mean2 (m ((c : Thread nD τ).loc main_arg1) i) (m ((c : Thread nD τ).loc main_arg3) i) := by
  refine (dats m 0 c).arrAt_eq_of_covers 7 _ (by decide +kernel) fun t hf y => ?_
  obtain ⟨p, q, rfl⟩ : ∃ (p : Fin 512) (q : Fin 512), y = ix2 p q := ⟨y 0, y 1, pair_eq y⟩
  blk_simp
  rw [after0_7]
  unfold out0_7
  frame_out
  refine Eq.trans (rfl : k0_pay2 _ _ _ = AdamW.mean2 _ _) (congrArg₂ AdamW.mean2 ?_ ?_) <;> blk_ext [iblk, V, idx_val t]

end Cert.Kernel35Ideal.Value

/-! ## The weights of the queries -/

namespace Cert.Kernel36Ideal.Value

open Cert.Kernel36Ideal Cert.Kernel36Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val, 0] ∧ win0_1.index t = ![t.val, 0] ∧ win0_2.index t = ![t.val, 0] ∧ win0_3.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The gradient, handed on. -/
theorem gradient : (dats m 0 c).arrAt 5 cfg0.N = m ((c : Thread nD τ).loc main_arg1) := by
  refine (dats m 0 c).arrAt_eq_of_covers 5 _ (by decide +kernel) fun t hf y => ?_
  obtain ⟨p, q, rfl⟩ : ∃ (p : Fin 512) (q : Fin 384), y = ix2 p q := ⟨y 0, y 1, pair_eq y⟩
  blk_simp
  rw [after0_5]
  unfold out0_5
  frame_out
  blk_ext [iblk, V, idx_val t]

/-- The weight's change. -/
theorem change : (dats m 0 c).arrAt 6 cfg0.N
    = fun i => AdamW.change (m ((c : Thread nD τ).loc main_arg0) i) (m ((c : Thread nD τ).loc main_arg1) i) (m ((c : Thread nD τ).loc main_arg2) i) (m ((c : Thread nD τ).loc main_arg3) i) := by
  refine (dats m 0 c).arrAt_eq_of_covers 6 _ (by decide +kernel) fun t hf y => ?_
  obtain ⟨p, q, rfl⟩ : ∃ (p : Fin 512) (q : Fin 384), y = ix2 p q := ⟨y 0, y 1, pair_eq y⟩
  blk_simp
  rw [after0_6]
  unfold out0_6
  frame_out
  refine Eq.trans (rfl : k0_pay3 _ _ _ _ _ = AdamW.change _ _ _ _) (AdamW.change_congr ?_ ?_ ?_ ?_) <;> blk_ext [iblk, V, idx_val t]

/-- The first moment after the step. -/
theorem mean1 : (dats m 0 c).arrAt 7 cfg0.N = fun i => AdamW.mean1 (m ((c : Thread nD τ).loc main_arg1) i) (m ((c : Thread nD τ).loc main_arg2) i) := by
  refine (dats m 0 c).arrAt_eq_of_covers 7 _ (by decide +kernel) fun t hf y => ?_
  obtain ⟨p, q, rfl⟩ : ∃ (p : Fin 512) (q : Fin 384), y = ix2 p q := ⟨y 0, y 1, pair_eq y⟩
  blk_simp
  rw [after0_7]
  unfold out0_7
  frame_out
  refine Eq.trans (rfl : k0_pay1 _ _ _ = AdamW.mean1 _ _) (congrArg₂ AdamW.mean1 ?_ ?_) <;> blk_ext [iblk, V, idx_val t]

/-- The second moment after the step. -/
theorem mean2 : (dats m 0 c).arrAt 8 cfg0.N = fun i => AdamW.mean2 (m ((c : Thread nD τ).loc main_arg1) i) (m ((c : Thread nD τ).loc main_arg3) i) := by
  refine (dats m 0 c).arrAt_eq_of_covers 8 _ (by decide +kernel) fun t hf y => ?_
  obtain ⟨p, q, rfl⟩ : ∃ (p : Fin 512) (q : Fin 384), y = ix2 p q := ⟨y 0, y 1, pair_eq y⟩
  blk_simp
  rw [after0_8]
  unfold out0_8
  frame_out
  refine Eq.trans (rfl : k0_pay2 _ _ _ = AdamW.mean2 _ _) (congrArg₂ AdamW.mean2 ?_ ?_) <;> blk_ext [iblk, V, idx_val t]

end Cert.Kernel36Ideal.Value

/-! ## The weights of the keys and values -/

namespace Cert.Kernel37Ideal.Value

open Cert.Kernel37Ideal Cert.Kernel37Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The gradient, handed on. -/
theorem gradient : (dats m 0 c).arrAt 4 cfg0.N = m ((c : Thread nD τ).loc main_arg1) := by
  refine (dats m 0 c).arrAt_eq_of_covers 4 _ (by decide +kernel) fun t hf y => ?_
  obtain ⟨p, q, rfl⟩ : ∃ (p : Fin 256) (q : Fin 512), y = ix2 p q := ⟨y 0, y 1, pair_eq y⟩
  blk_simp
  rw [after0_4]
  unfold out0_4
  frame_out
  blk_ext [iblk, V, idx_val t]

/-- The weight's change. -/
theorem change : (dats m 0 c).arrAt 5 cfg0.N
    = fun i => AdamW.change (m ((c : Thread nD τ).loc main_arg0) i) (m ((c : Thread nD τ).loc main_arg1) i) (m ((c : Thread nD τ).loc main_arg2) i) (m ((c : Thread nD τ).loc main_arg3) i) := by
  refine (dats m 0 c).arrAt_eq_of_covers 5 _ (by decide +kernel) fun t hf y => ?_
  obtain ⟨p, q, rfl⟩ : ∃ (p : Fin 256) (q : Fin 512), y = ix2 p q := ⟨y 0, y 1, pair_eq y⟩
  blk_simp
  rw [after0_5]
  unfold out0_5
  frame_out
  refine Eq.trans (rfl : k0_pay3 _ _ _ _ _ = AdamW.change _ _ _ _) (AdamW.change_congr ?_ ?_ ?_ ?_) <;> blk_ext [iblk, V, idx_val t]

/-- The first moment after the step. -/
theorem mean1 : (dats m 0 c).arrAt 6 cfg0.N = fun i => AdamW.mean1 (m ((c : Thread nD τ).loc main_arg1) i) (m ((c : Thread nD τ).loc main_arg2) i) := by
  refine (dats m 0 c).arrAt_eq_of_covers 6 _ (by decide +kernel) fun t hf y => ?_
  obtain ⟨p, q, rfl⟩ : ∃ (p : Fin 256) (q : Fin 512), y = ix2 p q := ⟨y 0, y 1, pair_eq y⟩
  blk_simp
  rw [after0_6]
  unfold out0_6
  frame_out
  refine Eq.trans (rfl : k0_pay1 _ _ _ = AdamW.mean1 _ _) (congrArg₂ AdamW.mean1 ?_ ?_) <;> blk_ext [iblk, V, idx_val t]

/-- The second moment after the step. -/
theorem mean2 : (dats m 0 c).arrAt 7 cfg0.N = fun i => AdamW.mean2 (m ((c : Thread nD τ).loc main_arg1) i) (m ((c : Thread nD τ).loc main_arg3) i) := by
  refine (dats m 0 c).arrAt_eq_of_covers 7 _ (by decide +kernel) fun t hf y => ?_
  obtain ⟨p, q, rfl⟩ : ∃ (p : Fin 256) (q : Fin 512), y = ix2 p q := ⟨y 0, y 1, pair_eq y⟩
  blk_simp
  rw [after0_7]
  unfold out0_7
  frame_out
  refine Eq.trans (rfl : k0_pay2 _ _ _ = AdamW.mean2 _ _) (congrArg₂ AdamW.mean2 ?_ ?_) <;> blk_ext [iblk, V, idx_val t]

end Cert.Kernel37Ideal.Value

/-! ## The weights of the input projection -/

namespace Cert.Kernel38Ideal.Value

open Cert.Kernel38Ideal Cert.Kernel38Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The gradient, handed on. -/
theorem gradient : (dats m 0 c).arrAt 4 cfg0.N = m ((c : Thread nD τ).loc main_arg1) := by
  refine (dats m 0 c).arrAt_eq_of_covers 4 _ (by decide +kernel) fun t hf y => ?_
  obtain ⟨p, q, rfl⟩ : ∃ (p : Fin 256) (q : Fin 1488), y = ix2 p q := ⟨y 0, y 1, pair_eq y⟩
  blk_simp
  rw [after0_4]
  unfold out0_4
  frame_out
  blk_ext [iblk, V, idx_val t]

/-- The weight's change. -/
theorem change : (dats m 0 c).arrAt 5 cfg0.N
    = fun i => AdamW.change (m ((c : Thread nD τ).loc main_arg0) i) (m ((c : Thread nD τ).loc main_arg1) i) (m ((c : Thread nD τ).loc main_arg2) i) (m ((c : Thread nD τ).loc main_arg3) i) := by
  refine (dats m 0 c).arrAt_eq_of_covers 5 _ (by decide +kernel) fun t hf y => ?_
  obtain ⟨p, q, rfl⟩ : ∃ (p : Fin 256) (q : Fin 1488), y = ix2 p q := ⟨y 0, y 1, pair_eq y⟩
  blk_simp
  rw [after0_5]
  unfold out0_5
  frame_out
  refine Eq.trans (rfl : k0_pay3 _ _ _ _ _ = AdamW.change _ _ _ _) (AdamW.change_congr ?_ ?_ ?_ ?_) <;> blk_ext [iblk, V, idx_val t]

/-- The first moment after the step. -/
theorem mean1 : (dats m 0 c).arrAt 6 cfg0.N = fun i => AdamW.mean1 (m ((c : Thread nD τ).loc main_arg1) i) (m ((c : Thread nD τ).loc main_arg2) i) := by
  refine (dats m 0 c).arrAt_eq_of_covers 6 _ (by decide +kernel) fun t hf y => ?_
  obtain ⟨p, q, rfl⟩ : ∃ (p : Fin 256) (q : Fin 1488), y = ix2 p q := ⟨y 0, y 1, pair_eq y⟩
  blk_simp
  rw [after0_6]
  unfold out0_6
  frame_out
  refine Eq.trans (rfl : k0_pay1 _ _ _ = AdamW.mean1 _ _) (congrArg₂ AdamW.mean1 ?_ ?_) <;> blk_ext [iblk, V, idx_val t]

/-- The second moment after the step. -/
theorem mean2 : (dats m 0 c).arrAt 7 cfg0.N = fun i => AdamW.mean2 (m ((c : Thread nD τ).loc main_arg1) i) (m ((c : Thread nD τ).loc main_arg3) i) := by
  refine (dats m 0 c).arrAt_eq_of_covers 7 _ (by decide +kernel) fun t hf y => ?_
  obtain ⟨p, q, rfl⟩ : ∃ (p : Fin 256) (q : Fin 1488), y = ix2 p q := ⟨y 0, y 1, pair_eq y⟩
  blk_simp
  rw [after0_7]
  unfold out0_7
  frame_out
  refine Eq.trans (rfl : k0_pay2 _ _ _ = AdamW.mean2 _ _) (congrArg₂ AdamW.mean2 ?_ ?_) <;> blk_ext [iblk, V, idx_val t]

end Cert.Kernel38Ideal.Value

/-! ## The weights of the small weights -/

namespace Cert.Kernel39Ideal.Value

open Cert.Kernel39Ideal Cert.Kernel39Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The gradient, handed on. -/
theorem gradient : (dats m 0 c).arrAt 4 cfg0.N = m ((c : Thread nD τ).loc main_arg1) := by
  refine (dats m 0 c).arrAt_eq_of_covers 4 _ (by decide +kernel) fun t hf y => ?_
  obtain ⟨p, q, rfl⟩ : ∃ (p : Fin 400) (q : Fin 128), y = ix2 p q := ⟨y 0, y 1, pair_eq y⟩
  blk_simp
  rw [after0_4]
  unfold out0_4
  frame_out
  blk_ext [iblk, V, idx_val t]

/-- The weight's change. -/
theorem change : (dats m 0 c).arrAt 5 cfg0.N
    = fun i => AdamW.change (m ((c : Thread nD τ).loc main_arg0) i) (m ((c : Thread nD τ).loc main_arg1) i) (m ((c : Thread nD τ).loc main_arg2) i) (m ((c : Thread nD τ).loc main_arg3) i) := by
  refine (dats m 0 c).arrAt_eq_of_covers 5 _ (by decide +kernel) fun t hf y => ?_
  obtain ⟨p, q, rfl⟩ : ∃ (p : Fin 400) (q : Fin 128), y = ix2 p q := ⟨y 0, y 1, pair_eq y⟩
  blk_simp
  rw [after0_5]
  unfold out0_5
  frame_out
  refine Eq.trans (rfl : k0_pay3 _ _ _ _ _ = AdamW.change _ _ _ _) (AdamW.change_congr ?_ ?_ ?_ ?_) <;> blk_ext [iblk, V, idx_val t]

/-- The first moment after the step. -/
theorem mean1 : (dats m 0 c).arrAt 6 cfg0.N = fun i => AdamW.mean1 (m ((c : Thread nD τ).loc main_arg1) i) (m ((c : Thread nD τ).loc main_arg2) i) := by
  refine (dats m 0 c).arrAt_eq_of_covers 6 _ (by decide +kernel) fun t hf y => ?_
  obtain ⟨p, q, rfl⟩ : ∃ (p : Fin 400) (q : Fin 128), y = ix2 p q := ⟨y 0, y 1, pair_eq y⟩
  blk_simp
  rw [after0_6]
  unfold out0_6
  frame_out
  refine Eq.trans (rfl : k0_pay1 _ _ _ = AdamW.mean1 _ _) (congrArg₂ AdamW.mean1 ?_ ?_) <;> blk_ext [iblk, V, idx_val t]

/-- The second moment after the step. -/
theorem mean2 : (dats m 0 c).arrAt 7 cfg0.N = fun i => AdamW.mean2 (m ((c : Thread nD τ).loc main_arg1) i) (m ((c : Thread nD τ).loc main_arg3) i) := by
  refine (dats m 0 c).arrAt_eq_of_covers 7 _ (by decide +kernel) fun t hf y => ?_
  obtain ⟨p, q, rfl⟩ : ∃ (p : Fin 400) (q : Fin 128), y = ix2 p q := ⟨y 0, y 1, pair_eq y⟩
  blk_simp
  rw [after0_7]
  unfold out0_7
  frame_out
  refine Eq.trans (rfl : k0_pay2 _ _ _ = AdamW.mean2 _ _) (congrArg₂ AdamW.mean2 ?_ ?_) <;> blk_ext [iblk, V, idx_val t]

end Cert.Kernel39Ideal.Value

end
-- ==== Proof.Modulation.lean ====
module

public import proofs.«01_k».proof.Proof.Gen.Kernel40Ideal.Value
public import proofs.«01_k».proof.Proof.Gen.Reference40Ideal.Run
public import proofs.«01_k».proof.Proof.Gen.Kernel41Ideal.Value
public import proofs.«01_k».proof.Proof.Gen.Reference41Ideal.Run
public import proofs.«01_k».proof.Proof.Gen.Kernel42Ideal.Value
public import proofs.«01_k».proof.Proof.Gen.Reference42Ideal.Run
public import proofs.«01_k».proof.Proof.Products
public import Idealize.ShloMosaic.Lib.Pipeline.ValueKit
public import Idealize.ShloMosaic.Lib.Pipeline.ReadBack
public import Idealize.ShloMosaic.Lib.Pointwise
public import Idealize.ShloMosaic.Lib.Tactic.CleanTypes

/-! # The modulation: the product of the conditions with a device's columns of weights, and its two gradients -/

@[expose] public section

set_option maxRecDepth 16384

noncomputable section

/-! ## The weights' gradient -/

namespace Cert.Kernel40Ideal.Value

open Cert.Kernel40Ideal Cert.Kernel40Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![0, t.val / 3] ∧ win0_1.index t = ![0, t.val % 3] ∧ win0_2.index t = ![t.val / 3, t.val % 3] :=
  (by decide +kernel : ∀ t : Fin grid0.N, _)

/-- The gradient of the modulation's weights. -/
theorem array : (dats m 0 c).arrAt 2 cfg0.N
    = Products.columnsColumns (M := 2048) (K := 16) (N := 3072) (m ((c : Thread nD τ).loc main_arg0)) (m ((c : Thread nD τ).loc main_arg2)) := by
  refine (dats m 0 c).arrAt_eq_of_covers 2 _ (by decide +kernel) fun t hf y => ?_
  obtain ⟨p, q, rfl⟩ : ∃ (p : Fin 1024) (q : Fin 1024), y = ix2 p q := ⟨y 0, y 1, pair_eq y⟩
  blk_simp
  rw [after0_2]
  unfold out0_2 Products.columnsColumns
  frame_out
  pointwise [k0_pay1]
  refine Products.sum_congr (fun k => ?_) (fun k => ?_)
  · refine Eq.trans (b := V m c main_arg0 (ix2 k _)) ?_ (congrFun (V_main_arg0 m c) _)
    blk_ext [iblk, idx_val t]
  · refine Eq.trans (b := V m c main_arg2 (ix2 k _)) ?_ (congrFun (V_main_arg2 m c) _)
    blk_ext [iblk, idx_val t]

/-- The sums over the conditions. -/
def sums (d : Products.Table 16 12288) : Products.Table 1 12288 := fun i => ∑ k, d (ix2 k (i 1))

/-- The sums, taken before the region, end as computed. -/
theorem bias (r : PUnit × MemSt nD τ sig (Elt Ideal)) (h : Pipeline.FramePost cfgs (dats m) 0 (V m) r) :
    r.2.mem ((c : Thread nD τ).loc main_v1) = sums (m ((c : Thread nD τ).loc main_arg1)) := by
  refine ((h c).2 main_v1 (Pipeline.mem_restRefs_of main_v1 (by decide) (by decide))).trans ?_
  have e : V m c main_v1 = (broadcastInDim S1x12288 ![1] bcast_S12288_S1x12288_1
      (Host.reduceAdd (m ((c : Thread nD τ).loc main_arg1) : FVec Ideal S16x12288 .f32) (constant S_ .f32 0x00000000#32)
        reducesTo_S16x12288_S12288_d0 h_S_) : FVec Ideal S1x12288 .f32) := by
    after_results <;> rfl
  rw [e]
  funext i
  rw [pair_eq i]
  pointwise
  rfl

/-- The run, with both results. -/
theorem run_both (ρ : Dev nD → PrngReg) : θ_run defs (onTc (τ := τ) (main (F := Ideal))) ⟨m, fun _ => 0, ρ⟩ fun r => ∀ c : Dev nD,
      r.2.mem ((c : Thread nD τ).loc main_v2) = (dats m 0 c).arrAt 2 cfg0.N
      ∧ r.2.mem ((c : Thread nD τ).loc main_v1) = sums (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post2 m r h c, bias m c r h, kept_main_arg0 m r h c, kept_main_arg1 m r h c, kept_main_arg2 m r h c⟩)
    (run_main m ρ)

end Cert.Kernel40Ideal.Value

namespace Cert.Reference40Ideal.Value

open Cert.Reference40Ideal Cert.Reference40Ideal.Gen Idealize.ShloMosaic Idealize.ShloMosaic.TcCoe
open Tables (pair_eq)

theorem result (act : FVec Ideal S16x2048 .f32) (ct : FVec Ideal S16x3072 .f32) :
    transpose S2048x3072 [1, 0] (Host.dotGeneral dot_S16x3072_S16x2048_S3072x2048_0_0_1_1_n_n none ct act) transposes_S3072x2048_S2048x3072_1_0
      = Products.columnsColumns (M := 2048) (K := 16) (N := 3072) act ct := by
  funext i
  rw [pair_eq i]
  pointwise
  exact Products.sum_comm (fun _ => rfl) (fun _ => rfl)

theorem bias (d : FVec Ideal S16x12288 .f32) :
    shapeCast _ (Host.reduceAdd d (constant S_ .f32 0x00000000#32) reducesTo_S16x12288_S12288_d0 h_S_) shapeCasts_S12288_S1x12288
      = Cert.Kernel40Ideal.Value.sums d := by
  funext i
  rw [pair_eq i]
  pointwise
  rfl

end Cert.Reference40Ideal.Value

/-! ## The conditions' gradient -/

namespace Cert.Kernel41Ideal.Value

open Cert.Kernel41Ideal Cert.Kernel41Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![0, 0] ∧ win0_1.index t = ![t.val, 0] ∧ win0_2.index t = ![0, t.val] :=
  (by decide +kernel : ∀ t : Fin grid0.N, _)

/-- A device's part of the gradient of the activated conditions. -/
theorem array : (dats m 0 c).arrAt 2 cfg0.N
    = Products.rowsRows (M := 16) (K := 3072) (N := 2048) (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 16) (q : Fin 1024), y = ix2 p q := ⟨y 0, y 1, pair_eq y⟩
  blk_simp
  rw [after0_2]
  unfold out0_2 Products.rowsRows
  frame_out
  pointwise [k0_pay1]
  refine Products.sum_congr (fun k => ?_) (fun k => ?_)
  · blk_ext [iblk, V, idx_val t]
  · blk_ext [iblk, V, idx_val t]

end Cert.Kernel41Ideal.Value

namespace Cert.Reference41Ideal.Value

open Cert.Reference41Ideal Cert.Reference41Ideal.Gen Idealize.ShloMosaic Idealize.ShloMosaic.TcCoe
open Tables (pair_eq)

theorem result (ct : FVec Ideal S16x3072 .f32) (w : FVec Ideal S2048x3072 .f32) :
    Host.dotGeneral dot_S16x3072_S2048x3072_S16x2048_1_1_0_0_n_n none ct w = Products.rowsRows (M := 16) (K := 3072) (N := 2048) ct w := by
  funext i
  rw [pair_eq i]
  pointwise [Products.rowsRows]

end Cert.Reference41Ideal.Value

/-! ## The product -/

namespace Cert.Kernel42Ideal.Value

open Cert.Kernel42Ideal Cert.Kernel42Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![0, 0] ∧ win0_1.index t = ![0, t.val] ∧ win0_2.index t = ![0, t.val] :=
  (by decide +kernel : ∀ t : Fin grid0.N, _)

/-- A device's columns of the modulation. -/
theorem array : (dats m 0 c).arrAt 2 cfg0.N
    = Products.rowsColumns (M := 16) (K := 2048) (N := 3072) (m ((c : Thread nD τ).loc main_arg0)) (m ((c : Thread nD τ).loc main_arg1)) := by
  refine (dats m 0 c).arrAt_eq_of_covers 2 _ (by decide +kernel) fun t hf y => ?_
  obtain ⟨p, q, rfl⟩ : ∃ (p : Fin 16) (q : Fin 1024), y = ix2 p q := ⟨y 0, y 1, pair_eq y⟩
  blk_simp
  rw [after0_2]
  unfold out0_2 Products.rowsColumns
  frame_out
  pointwise [k0_pay1]
  refine Products.sum_congr (fun k => ?_) (fun k => ?_)
  · blk_ext [iblk, V, idx_val t]
  · blk_ext [iblk, V, idx_val t]

end Cert.Kernel42Ideal.Value

namespace Cert.Reference42Ideal.Value

open Cert.Reference42Ideal Cert.Reference42Ideal.Gen Idealize.ShloMosaic Idealize.ShloMosaic.TcCoe
open Tables (pair_eq)

theorem result (act : FVec Ideal S16x2048 .f32) (w : FVec Ideal S2048x3072 .f32) :
    Host.dotGeneral dot_S16x2048_S2048x3072_S16x3072_1_0_0_1_n_n none act w = Products.rowsColumns (M := 16) (K := 2048) (N := 3072) act w := by
  funext i
  rw [pair_eq i]
  pointwise [Products.rowsColumns]

end Cert.Reference42Ideal.Value

end
-- ==== Proof.Conditions.lean ====
module

public import proofs.«01_k».proof.Proof.Gen.Kernel50Ideal.Value
public import proofs.«01_k».proof.Proof.Gen.Reference50Ideal.Run
public import proofs.«01_k».proof.Proof.Gen.Kernel55Ideal.Value
public import proofs.«01_k».proof.Proof.Gen.Reference55Ideal.Run
public import proofs.«01_k».proof.Proof.FfnOutDx
public import Idealize.ShloMosaic.Lib.Pipeline.ValueKit
public import Idealize.ShloMosaic.Lib.Pipeline.ReadBack
public import Idealize.ShloMosaic.Lib.Pointwise
public import Idealize.ShloMosaic.Lib.Tactic.CleanTypes

/-! # The conditions: `x * logistic x` and its gradient -/

@[expose] public section

set_option maxRecDepth 16384

noncomputable section

namespace Silu

/-- `x * logistic x`. -/
def value (x : EReal) : EReal := x * Idealize.ShloMosaic.Ideal.logistic x

/-- The gradient of `x * logistic x` by the product rule, of a cotangent. -/
def gradient (x ct : EReal) : EReal :=
  ct * Idealize.ShloMosaic.Ideal.logistic x
    + x * ct * (Idealize.ShloMosaic.Ideal.logistic x
      * (1 - Idealize.ShloMosaic.Ideal.logistic x))

end Silu

/-! ## The gradient -/

namespace Cert.Kernel50Ideal.Value

open Cert.Kernel50Ideal Cert.Kernel50Ideal.Gen Idealize.ShloMosaic Idealize.ShloMosaic.TcCoe

variable (m : (ℓ : Loc nD τ sig) → Buf (Elt Ideal) ℓ) (c : Dev nD)

/-- The gradient of the conditions. -/
theorem array : (dats m 0 c).arrAt 2 cfg0.N
    = fun i => Silu.gradient (m ((c : Thread nD τ).loc main_arg0) i) (m ((c : Thread nD τ).loc main_arg1) i) := by
  rw [final2]
  funext i
  pointwise [G2]
  rfl

end Cert.Kernel50Ideal.Value

namespace Cert.Reference50Ideal.Value

open Cert.Reference50Ideal Cert.Reference50Ideal.Gen Idealize.ShloMosaic Idealize.ShloMosaic.TcCoe

/-- The logistic function of every entry. -/
def logistics (x : FVec Ideal S16x2048 .f32) : FVec Ideal S16x2048 .f32 :=
  Host.divf (broadcastInDim S16x2048 ![] bcast_S_S16x2048 (constant S_ .f32 0x3F800000#32))
    (addf (broadcastInDim S16x2048 ![] bcast_S_S16x2048 (constant S_ .f32 0x3F800000#32)) (Host.exp (Host.negf x)))

theorem logistics_at (x : FVec Ideal S16x2048 .f32) (i : S16x2048.Idx) : logistics x i = Ideal.logistic (x i) := by
  pointwise [logistics]
  rfl

theorem result (x ct : FVec Ideal S16x2048 .f32) :
    addf (mulf ct (logistics x)) (mulf (mulf x ct)
        (mulf (logistics x) (subf (broadcastInDim S16x2048 ![] bcast_S_S16x2048 (constant S_ .f32 0x3F800000#32)) (logistics x))))
      = fun i => Silu.gradient (x i) (ct i) := by
  funext i
  pointwise
  rw [logistics_at]
  rfl

end Cert.Reference50Ideal.Value

/-! ## The value -/

namespace Cert.Kernel55Ideal.Value

open Cert.Kernel55Ideal Cert.Kernel55Ideal.Gen Idealize.ShloMosaic Idealize.ShloMosaic.TcCoe

variable (m : (ℓ : Loc nD τ sig) → Buf (Elt Ideal) ℓ) (c : Dev nD)

theorem array : (dats m 0 c).arrAt 1 cfg0.N = fun i => Silu.value (m ((c : Thread nD τ).loc main_arg0) i) := by
  rw [final1]
  rfl

end Cert.Kernel55Ideal.Value

namespace Cert.Reference55Ideal.Value

open Cert.Reference55Ideal Cert.Reference55Ideal.Gen Idealize.ShloMosaic Idealize.ShloMosaic.TcCoe

theorem result (x : FVec Ideal S16x2048 .f32) :
    mulf x (Host.divf (broadcastInDim S16x2048 ![] bcast_S_S16x2048 (constant S_ .f32 0x3F800000#32))
        (addf (broadcastInDim S16x2048 ![] bcast_S_S16x2048 (constant S_ .f32 0x3F800000#32)) (Host.exp (Host.negf x))))
      = fun i => Silu.value (x i) := by
  funext i
  pointwise
  rfl

end Cert.Reference55Ideal.Value

end
-- ==== Proof.Merge.lean ====
module

public import proofs.«01_k».proof.Proof.Gen.Kernel48Ideal.Value
public import proofs.«01_k».proof.Proof.Gen.Reference48Ideal.Run
public import proofs.«01_k».proof.Proof.Gen.Kernel49Ideal.Value
public import proofs.«01_k».proof.Proof.Gen.Reference49Ideal.Run
public import proofs.«01_k».proof.Proof.Conditions
public import proofs.«01_k».proof.Proof.Products
public import Idealize.ShloMosaic.Lib.Pipeline.ValueKit
public import Idealize.ShloMosaic.Lib.Pipeline.ReadBack
public import Idealize.ShloMosaic.Lib.Pointwise
public import Idealize.ShloMosaic.Lib.Tactic.CleanTypes

/-! # The gated merge of the two branches, and its gradients -/

@[expose] public section

set_option maxRecDepth 16384

noncomputable section

namespace Merge

open Idealize.ShloMosaic Products

/-- A column of the first half. -/
def lower (q : Fin 2048) : Fin 4096 := ⟨q.val, by omega⟩
/-- A column of the second half. -/
def upper (q : Fin 2048) : Fin 4096 := ⟨2048 + q.val, by omega⟩

variable {M M' : ℕ}

/-- The gated unit of the first branch. -/
def gated (ab : Table M 4096) (r : Fin M) (q : Fin 2048) : EReal := ab (ix2 r (lower q)) * Ideal.logistic (ab (ix2 r (upper q)))

/-- The merged branches. -/
def merged (ab : Table M 4096) (bm : Table M 2048) (gt : Table M 4096) : Table M 2048 := fun i =>
  Ideal.logistic (gt (ix2 (i 0) (lower (i 1)))) * gated ab (i 0) (i 1) + Ideal.logistic (gt (ix2 (i 0) (upper (i 1)))) * bm i

/-- The cotangent of the gated unit. -/
def ctGated (gt : Table M 4096) (ct : Table M 2048) (r : Fin M) (q : Fin 2048) : EReal :=
  Ideal.logistic (gt (ix2 r (lower q))) * ct (ix2 r q)

/-- The derivative of the logistic function. -/
def slope (x : EReal) : EReal := Ideal.logistic x * (1 - Ideal.logistic x)

/-- The gradient of the first branch: that of the unit's factor, then that of its gate. -/
def gradBranch (ab gt : Table M 4096) (ct : Table M 2048) (r : Fin M) (k : Fin 4096) : EReal :=
  if h : k.val < 2048 then ctGated gt ct r ⟨k.val, h⟩ * Ideal.logistic (ab (ix2 r (upper ⟨k.val, h⟩)))
  else ab (ix2 r (lower ⟨k.val - 2048, by omega⟩)) * ctGated gt ct r ⟨k.val - 2048, by omega⟩ * slope (ab (ix2 r k))

/-- The gradient of the gates. -/
def gradGates (ab : Table M 4096) (bm : Table M 2048) (gt : Table M 4096) (ct : Table M 2048) (r : Fin M) (k : Fin 4096) : EReal :=
  (if h : k.val < 2048 then ct (ix2 r ⟨k.val, h⟩) * gated ab r ⟨k.val, h⟩
    else ct (ix2 r ⟨k.val - 2048, by omega⟩) * bm (ix2 r ⟨k.val - 2048, by omega⟩)) * slope (gt (ix2 r k))

theorem gradBranch_congr {ab gt : Table M 4096} {ct : Table M 2048} {ab' gt' : Table M' 4096} {ct' : Table M' 2048} (r : Fin M) (r' : Fin M')
    (ha : ∀ k, ab (ix2 r k) = ab' (ix2 r' k)) (hg : ∀ k, gt (ix2 r k) = gt' (ix2 r' k)) (hc : ∀ k, ct (ix2 r k) = ct' (ix2 r' k)) (k : Fin 4096) :
    gradBranch ab gt ct r k = gradBranch ab' gt' ct' r' k := by
  unfold gradBranch ctGated
  simp only [ha, hg, hc]

theorem gradGates_congr {ab gt : Table M 4096} {bm ct : Table M 2048} {ab' gt' : Table M' 4096} {bm' ct' : Table M' 2048} (r : Fin M) (r' : Fin M')
    (ha : ∀ k, ab (ix2 r k) = ab' (ix2 r' k)) (hb : ∀ k, bm (ix2 r k) = bm' (ix2 r' k)) (hg : ∀ k, gt (ix2 r k) = gt' (ix2 r' k))
    (hc : ∀ k, ct (ix2 r k) = ct' (ix2 r' k)) (k : Fin 4096) :
    gradGates ab bm gt ct r k = gradGates ab' bm' gt' ct' r' k := by
  unfold gradGates gated
  simp only [ha, hb, hg, hc]

/-- The second half's column of a place past the first half. -/
theorem upper_sub (k : Fin 4096) (h : ¬k.val < 2048) : upper ⟨k.val - 2048, by omega⟩ = k := Fin.ext (by simp only [upper]; omega)

end Merge

namespace Cert.Kernel48Ideal.Value

open Cert.Kernel48Ideal Cert.Kernel48Ideal.Gen Idealize.ShloMosaic Idealize.ShloMosaic.TcCoe
open Tables (pair_eq)

variable (m : (ℓ : Loc nD τ sig) → Buf (Elt Ideal) ℓ) (c : Dev nD)

theorem idx_val : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

theorem array : (dats m 0 c).arrAt 3 cfg0.N
    = Merge.merged (M := 2048) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨p, q, rfl⟩ : ∃ (p : Fin 128) (q : Fin 2048), y = ix2 p q := ⟨y 0, y 1, pair_eq y⟩
  blk_simp
  rw [after0_3]
  unfold out0_3
  frame_out
  pointwise [k0_pay1]
  unfold Merge.merged Merge.gated Merge.lower Merge.upper
  refine congrArg₂ (fun x y : EReal => x + y) (congrArg₂ (fun x y : EReal => x * y) (congrArg Ideal.logistic ?_)
    (congrArg₂ (fun x y : EReal => x * y) ?_ (congrArg Ideal.logistic ?_)))
    (congrArg₂ (fun x y : EReal => x * y) (congrArg Ideal.logistic ?_) ?_)
  · blk_ext [iblk, V, idx_val t]
  · blk_ext [iblk, V, idx_val t]
  · blk_ext [iblk, V, idx_val t]
  · blk_ext [iblk, V, idx_val t]
  · blk_ext [iblk, V, idx_val t]

end Cert.Kernel48Ideal.Value

namespace Cert.Reference48Ideal.Value

open Cert.Reference48Ideal Cert.Reference48Ideal.Gen Idealize.ShloMosaic Idealize.ShloMosaic.TcCoe
open Tables (pair_eq)

/-- The logistic function of every gate. -/
def gates (x : FVec Ideal S2048x4096 .f32) : FVec Ideal S2048x4096 .f32 :=
  Host.divf (broadcastInDim S2048x4096 ![] bcast_S_S2048x4096 (constant S_ .f32 0x3F800000#32))
    (addf (broadcastInDim S2048x4096 ![] bcast_S_S2048x4096 (constant S_ .f32 0x3F800000#32)) (Host.exp (Host.negf x)))

theorem gates_at (x : FVec Ideal S2048x4096 .f32) (i : S2048x4096.Idx) : gates x i = Ideal.logistic (x i) := by
  pointwise [gates]
  rfl

/-- The first branch's gated unit. -/
def unit (ab : FVec Ideal S2048x4096 .f32) : FVec Ideal S2048x2048 .f32 :=
  mulf (extractStridedSlice S2048x2048 ![0, 0] ab slices_S2048x4096_S2048x2048_0_0)
    (Host.divf (broadcastInDim S2048x2048 ![] bcast_S_S2048x2048 (constant S_ .f32 0x3F800000#32))
      (addf (broadcastInDim S2048x2048 ![] bcast_S_S2048x2048 (constant S_ .f32 0x3F800000#32))
        (Host.exp (Host.negf (extractStridedSlice S2048x2048 ![0, 2048] ab slices_S2048x4096_S2048x2048_0_2048)))))

theorem unit_at (ab : FVec Ideal S2048x4096 .f32) (r q : Fin 2048) : unit ab (ix2 r q) = Merge.gated ab r q := by
  pointwise [unit]
  rfl

theorem result (ab : FVec Ideal S2048x4096 .f32) (bm : FVec Ideal S2048x2048 .f32) (gt : FVec Ideal S2048x4096 .f32) :
    truncf .bf16 (addf (mulf (extractStridedSlice S2048x2048 ![0, 0] (gates gt) slices_S2048x4096_S2048x2048_0_0) (unit ab))
        (mulf (extractStridedSlice S2048x2048 ![0, 2048] (gates gt) slices_S2048x4096_S2048x2048_0_2048) bm)) bitsLt_bf16_f32
      = Merge.merged (M := 2048) ab bm gt := by
  funext i
  obtain ⟨r, q, rfl⟩ : ∃ (r : Fin 2048) (q : Fin 2048), i = ix2 r q := ⟨i 0, i 1, pair_eq i⟩
  pointwise
  rw [unit_at, gates_at, gates_at]
  rfl

end Cert.Reference48Ideal.Value

namespace Cert.Kernel49Ideal.Value

open Cert.Kernel49Ideal Cert.Kernel49Ideal.Gen Idealize.ShloMosaic Idealize.ShloMosaic.TcCoe
open Tables (pair_eq)

theorem branch_at (x0 x2 : Vec Ideal S64x4096 .f32) (x3 : Vec Ideal S64x2048 .f32) (p : Fin 64) (k : Fin 4096) :
    k0_pay7 (F := Ideal) x0 x2 x3 (ix2 p k) = Merge.gradBranch x0 x2 x3 p k := by
  pointwise [k0_pay7, k0_pay2, k0_pay3, k0_pay4, k0_pay5]
  unfold Merge.gradBranch
  split_ifs with h h'
  · rw [zero_add]
    rfl
  · rw [add_zero, ← congrArg (fun k => Merge.slope (x0 (ix2 p k))) (Merge.upper_sub k h)]
    rfl
  · exact absurd rfl h'

theorem gates_at (x0 x2 : Vec Ideal S64x4096 .f32) (x1 x3 : Vec Ideal S64x2048 .f32) (p : Fin 64) (k : Fin 4096) :
    k0_pay1 (k0_pay6 (F := Ideal) x0 x1 x2 x3) (ix2 p k) = Merge.gradGates x0 x1 x2 x3 p k := by
  pointwise [k0_pay1, k0_pay6, k0_pay2, k0_pay3, k0_pay4, k0_pay5]
  unfold Merge.gradGates
  split_ifs with h h'
  · rw [zero_add]
    rfl
  · rw [add_zero]
    rfl
  · exact absurd rfl h'

variable (m : (ℓ : Loc nD τ sig) → Buf (Elt Ideal) ℓ) (c : Dev nD)

theorem idx_val : ∀ t : Fin cfg0.N, win0_0.index t = ![t.val, 0] ∧ win0_1.index t = ![t.val, 0] ∧ win0_2.index t = ![t.val, 0] ∧ win0_3.index t = ![t.val, 0]
    ∧ win0_5.index t = ![t.val, 0] ∧ win0_6.index t = ![t.val, 0] ∧ win0_7.index t = ![t.val, 0] :=
  (by decide +kernel : ∀ t : Fin grid0.N, _)

/-- A block's row among all rows. -/
def place (t : Fin cfg0.N) (p : Fin 64) : Fin 2048 := Products.column (S := 32) (n := 64) rfl t p

theorem ab_at (t : Fin cfg0.N) (p : Fin 64) (k : Fin 4096) : (iblk m c 0 t (ix2 p k) : EReal) = m ((c : Thread nD τ).loc main_arg0) (ix2 (place t p) k) := by
  blk_ext [iblk, V, place, Products.column, idx_val t]

theorem bm_at (t : Fin cfg0.N) (p : Fin 64) (k : Fin 2048) : (iblk m c 1 t (ix2 p k) : EReal) = m ((c : Thread nD τ).loc main_arg1) (ix2 (place t p) k) := by
  blk_ext [iblk, V, place, Products.column, idx_val t]

theorem gt_at (t : Fin cfg0.N) (p : Fin 64) (k : Fin 4096) : (iblk m c 2 t (ix2 p k) : EReal) = m ((c : Thread nD τ).loc main_arg2) (ix2 (place t p) k) := by
  blk_ext [iblk, V, place, Products.column, idx_val t]

theorem ct_at (t : Fin cfg0.N) (p : Fin 64) (k : Fin 2048) : (iblk m c 3 t (ix2 p k) : EReal) = m ((c : Thread nD τ).loc main_arg3) (ix2 (place t p) k) := by
  blk_ext [iblk, V, place, Products.column, idx_val t]

theorem spot5 (t : Fin cfg0.N) (p : Fin 64) (q : Fin 4096) (f : Products.Table 2048 4096) :
    f ((win0_5.blk t).view.emb (ix2 p q)) = f (ix2 (place t p) q) := by
  blk_ext [place, Products.column, idx_val t]

theorem spot7 (t : Fin cfg0.N) (p : Fin 64) (q : Fin 4096) (f : Products.Table 2048 4096) :
    f ((win0_7.blk t).view.emb (ix2 p q)) = f (ix2 (place t p) q) := by
  blk_ext [place, Products.column, idx_val t]

/-- The gradient of the first branch. -/
theorem arrayA : (dats m 0 c).arrAt 5 cfg0.N
    = fun i => Merge.gradBranch (M := 2048) (m ((c : Thread nD τ).loc main_arg0)) (m ((c : Thread nD τ).loc main_arg2)) (m ((c : Thread nD τ).loc main_arg3)) (i 0) (i 1) := by
  refine (dats m 0 c).arrAt_eq_of_covers 5 _ (by decide +kernel) fun t hf y => ?_
  obtain ⟨p, q, rfl⟩ : ∃ (p : Fin 64) (q : Fin 4096), y = ix2 p q := ⟨y 0, y 1, pair_eq y⟩
  blk_simp
  rw [after0_5]
  unfold out0_5
  frame_out
  rw [branch_at]
  refine Eq.trans ?_ (spot5 t p q (fun i => Merge.gradBranch _ _ _ (i 0) (i 1))).symm
  exact Merge.gradBranch_congr p (place t p) (ab_at m c t p) (gt_at m c t p) (ct_at m c t p) q

/-- The gradient of the second branch. -/
theorem arrayB : (dats m 0 c).arrAt 6 cfg0.N
    = fun i : S2048x2048.Idx => (Ideal.logistic (m ((c : Thread nD τ).loc main_arg2) (ix2 (i 0) (Merge.upper (i 1)))) * m ((c : Thread nD τ).loc main_arg3) i : EReal) := by
  refine (dats m 0 c).arrAt_eq_of_covers 6 _ (by decide +kernel) fun t hf y => ?_
  obtain ⟨p, q, rfl⟩ : ∃ (p : Fin 64) (q : Fin 2048), y = ix2 p q := ⟨y 0, y 1, pair_eq y⟩
  blk_simp
  rw [after0_6]
  unfold out0_6
  frame_out
  pointwise [k0_pay8, k0_pay4, k0_pay5]
  unfold Merge.upper
  refine congrArg₂ (fun x y : EReal => x * y) (congrArg Ideal.logistic ?_) ?_
  · blk_ext [iblk, V, idx_val t]
  · blk_ext [iblk, V, idx_val t]

/-- The gradient of the gates. -/
theorem arrayG : (dats m 0 c).arrAt 7 cfg0.N
    = fun i => Merge.gradGates (M := 2048) (m ((c : Thread nD τ).loc main_arg0)) (m ((c : Thread nD τ).loc main_arg1)) (m ((c : Thread nD τ).loc main_arg2))
        (m ((c : Thread nD τ).loc main_arg3)) (i 0) (i 1) := by
  refine (dats m 0 c).arrAt_eq_of_covers 7 _ (by decide +kernel) fun t hf y => ?_
  obtain ⟨p, q, rfl⟩ : ∃ (p : Fin 64) (q : Fin 4096), y = ix2 p q := ⟨y 0, y 1, pair_eq y⟩
  blk_simp
  rw [after0_7]
  unfold out0_7
  frame_out
  rw [gates_at]
  refine Eq.trans ?_ (spot7 t p q (fun i => Merge.gradGates _ _ _ _ (i 0) (i 1))).symm
  exact Merge.gradGates_congr p (place t p) (ab_at m c t p) (bm_at m c t p) (gt_at m c t p) (ct_at m c t p) q

end Cert.Kernel49Ideal.Value

namespace Cert.Reference49Ideal.Value

open Cert.Reference49Ideal Cert.Reference49Ideal.Gen Idealize.ShloMosaic Idealize.ShloMosaic.TcCoe
open Tables (pair_eq)

variable (ab : FVec Ideal S2048x4096 .f32) (bm : FVec Ideal S2048x2048 .f32) (gt : FVec Ideal S2048x4096 .f32) (ct : FVec Ideal S2048x2048 .f32)

/-- The logistic function of every gate. -/
def gates (x : FVec Ideal S2048x4096 .f32) : FVec Ideal S2048x4096 .f32 :=
  Host.divf (broadcastInDim S2048x4096 ![] bcast_S_S2048x4096 (constant S_ .f32 0x3F800000#32))
    (addf (broadcastInDim S2048x4096 ![] bcast_S_S2048x4096 (constant S_ .f32 0x3F800000#32)) (Host.exp (Host.negf x)))

theorem gates_at (x : FVec Ideal S2048x4096 .f32) (i : S2048x4096.Idx) : gates x i = Ideal.logistic (x i) := by
  pointwise [gates]
  rfl

/-- The factor of the first branch's gated unit. -/
def factor : FVec Ideal S2048x2048 .f32 := extractStridedSlice S2048x2048 ![0, 0] ab slices_S2048x4096_S2048x2048_0_0
/-- The gate of that unit. -/
def gate : FVec Ideal S2048x2048 .f32 :=
  Host.divf (broadcastInDim S2048x2048 ![] bcast_S_S2048x2048 (constant S_ .f32 0x3F800000#32))
    (addf (broadcastInDim S2048x2048 ![] bcast_S_S2048x2048 (constant S_ .f32 0x3F800000#32))
      (Host.exp (Host.negf (extractStridedSlice S2048x2048 ![0, 2048] ab slices_S2048x4096_S2048x2048_0_2048))))
/-- The cotangent of that unit. -/
def ctUnit : FVec Ideal S2048x2048 .f32 :=
  mulf (extractStridedSlice S2048x2048 ![0, 0] (gates gt) slices_S2048x4096_S2048x2048_0_0) (shapeCast _ ct shapeCasts_S2048x2048_S2048x2048)

theorem factor_at (r q : Fin 2048) : factor ab (ix2 r q) = ab (ix2 r (Merge.lower q)) := by
  pointwise [factor]
  rfl

theorem gate_at (r q : Fin 2048) : gate ab (ix2 r q) = Ideal.logistic (ab (ix2 r (Merge.upper q))) := by
  pointwise [gate]
  rfl

theorem ctUnit_at (r q : Fin 2048) : ctUnit gt ct (ix2 r q) = Merge.ctGated gt ct r q := by
  pointwise [ctUnit]
  rw [gates_at]
  rfl

theorem resultA : truncf .bf16 (concatenate S2048x4096 1
      [⟨S2048x2048, mulf (ctUnit gt ct) (gate ab)⟩,
       ⟨S2048x2048, mulf (mulf (factor ab) (ctUnit gt ct)) (mulf (gate ab)
         (subf (broadcastInDim S2048x2048 ![] bcast_S_S2048x2048 (constant S_ .f32 0x3F800000#32)) (gate ab)))⟩]
      concatenates_S2048x2048_S2048x2048_S2048x4096_d1) bitsLt_bf16_f32
    = fun i => Merge.gradBranch (M := 2048) ab gt ct (i 0) (i 1) := by
  funext i
  obtain ⟨r, k, rfl⟩ : ∃ (r : Fin 2048) (k : Fin 4096), i = ix2 r k := ⟨i 0, i 1, pair_eq i⟩
  pointwise
  show _ = Merge.gradBranch (M := 2048) ab gt ct r k
  unfold Merge.gradBranch
  simp only [factor_at, gate_at, ctUnit_at]
  split_ifs with h h'
  · rfl
  · rw [← congrArg (fun k => Merge.slope (ab (ix2 r k))) (Merge.upper_sub k h)]
    rfl
  · exact absurd rfl h'

theorem resultB : truncf .bf16 (mulf (extractStridedSlice S2048x2048 ![0, 2048] (gates gt) slices_S2048x4096_S2048x2048_0_2048)
      (shapeCast _ ct shapeCasts_S2048x2048_S2048x2048)) bitsLt_bf16_f32
    = fun i : S2048x2048.Idx => (Ideal.logistic (gt (ix2 (i 0) (Merge.upper (i 1)))) * ct i : EReal) := by
  funext i
  rw [pair_eq i]
  pointwise
  rw [gates_at]
  rfl

theorem resultG : truncf .bf16 (mulf (concatenate S2048x4096 1
      [⟨S2048x2048, mulf (shapeCast _ ct shapeCasts_S2048x2048_S2048x2048) (mulf (factor ab) (gate ab))⟩,
       ⟨S2048x2048, mulf (shapeCast _ ct shapeCasts_S2048x2048_S2048x2048) bm⟩]
      concatenates_S2048x2048_S2048x2048_S2048x4096_d1)
      (mulf (gates gt) (subf (broadcastInDim S2048x4096 ![] bcast_S_S2048x4096 (constant S_ .f32 0x3F800000#32)) (gates gt)))) bitsLt_bf16_f32
    = fun i => Merge.gradGates (M := 2048) ab bm gt ct (i 0) (i 1) := by
  funext i
  obtain ⟨r, k, rfl⟩ : ∃ (r : Fin 2048) (k : Fin 4096), i = ix2 r k := ⟨i 0, i 1, pair_eq i⟩
  pointwise
  show _ = Merge.gradGates (M := 2048) ab bm gt ct r k
  unfold Merge.gradGates
  simp only [factor_at, gate_at, gates_at]
  rfl

end Cert.Reference49Ideal.Value

end
-- ==== Proof.Norms.lean ====
module

public import proofs.«01_k».proof.Proof.Products
public import proofs.«01_k».proof.Proof.FfnOutDx
public import Idealize.ShloMosaic.Lib.Pointwise

/-! # Normalised rows, and the gradients through them -/

@[expose] public section

noncomputable section

namespace Norms

open Idealize.ShloMosaic Products

/-- A row's entries. -/
abbrev Row := Fin 2048 → EReal

/-- A row of a table. -/
def row {M : ℕ} (x : Table M 2048) (r : Fin M) : Row := fun k => x (ix2 r k)

/-- The mean of a row's squares, and the small constant. -/
def spread (x : Row) : EReal := Ideal.div (∑ k, x k * x k) (Ideal.ofBits .f32 0x45000000#32) + Ideal.ofBits .f32 0x358637BD#32

/-- The factor that normalises a row. -/
def scale (x : Row) : EReal := Ideal.rsqrt (spread x)

/-- The derivative of the factor by the mean. -/
def slope (x : Row) : EReal := Ideal.ofBits .f32 0xBF000000#32 * Ideal.div (scale x) (spread x)

/-- The cotangent that reaches each square of a row through the factor. -/
def through (x d : Row) : EReal := Ideal.div ((∑ k, x k * d k) * slope x) (Ideal.ofBits .f32 0x45000000#32)

/-- The gradient of a row's entry, of the cotangents of the normalised row. -/
def back (x d : Row) (xq dq : EReal) : EReal := dq * scale x + xq * through x d + through x d * xq

variable {M M' : ℕ}

/-- The cotangents through the modulation and the weights. -/
def modulated (a : Table M 2048) (sc g : Table 1 2048) : Table M 2048 :=
  fun i => a i * (1 + sc (ix2 0 (i 1))) * g (ix2 0 (i 1))

/-- The gradient of the rows, of the cotangents of the modulated normalised rows. -/
def rows (x : Table M 2048) (g sc : Table 1 2048) (a : Table M 2048) : Table M 2048 := fun i =>
  back (row x (i 0)) (row (modulated a sc g) (i 0)) (x i) (modulated a sc g i)

/-- A row's part of the gradient of the weights. -/
def weightTerm (x : Table M 2048) (sc : Table 1 2048) (a : Table M 2048) (r : Fin M) (q : Fin 2048) : EReal :=
  x (ix2 r q) * scale (row x r) * (a (ix2 r q) * (1 + sc (ix2 0 q)))

/-- A row's part of the gradient of the modulation's factors. -/
def scaleTerm (x : Table M 2048) (g : Table 1 2048) (a : Table M 2048) (r : Fin M) (q : Fin 2048) : EReal :=
  x (ix2 r q) * scale (row x r) * g (ix2 0 q) * a (ix2 r q)

/-- A row's part of the gradient of the modulation's shifts. -/
def shiftTerm (a : Table M 2048) (r : Fin M) (q : Fin 2048) : EReal := a (ix2 r q)

/-- The sum of the rows' parts. -/
def total (f : Fin M → Fin 2048 → EReal) : Table 1 2048 := fun i => ∑ r, f r (i 1)

theorem rows_congr {x a : Table M 2048} {x' a' : Table M' 2048} {g sc g' sc' : Table 1 2048} (r : Fin M) (r' : Fin M') (q : Fin 2048)
    (hx : ∀ k, x (ix2 r k) = x' (ix2 r' k)) (ha : ∀ k, a (ix2 r k) = a' (ix2 r' k))
    (hg : ∀ k, g (ix2 0 k) = g' (ix2 0 k)) (hs : ∀ k, sc (ix2 0 k) = sc' (ix2 0 k)) :
    rows x g sc a (ix2 r q) = rows x' g' sc' a' (ix2 r' q) := by
  have hm : ∀ k, modulated a sc g (ix2 r k) = modulated a' sc' g' (ix2 r' k) := fun k => by
    show a (ix2 r k) * (1 + sc (ix2 0 k)) * g (ix2 0 k) = a' (ix2 r' k) * (1 + sc' (ix2 0 k)) * g' (ix2 0 k)
    rw [ha, hg, hs]
  show back (row x r) (row (modulated a sc g) r) _ _ = back (row x' r') (row (modulated a' sc' g') r') _ _
  rw [show row x r = row x' r' from funext hx, show row (modulated a sc g) r = row (modulated a' sc' g') r' from funext hm, hx, hm]

theorem weightTerm_congr {x a : Table M 2048} {x' a' : Table M' 2048} {sc sc' : Table 1 2048} (r : Fin M) (r' : Fin M') (q : Fin 2048)
    (hx : ∀ k, x (ix2 r k) = x' (ix2 r' k)) (ha : ∀ k, a (ix2 r k) = a' (ix2 r' k)) (hs : ∀ k, sc (ix2 0 k) = sc' (ix2 0 k)) :
    weightTerm x sc a r q = weightTerm x' sc' a' r' q := by
  unfold weightTerm
  rw [show row x r = row x' r' from funext hx, hx, ha, hs]

theorem scaleTerm_congr {x a : Table M 2048} {x' a' : Table M' 2048} {g g' : Table 1 2048} (r : Fin M) (r' : Fin M') (q : Fin 2048)
    (hx : ∀ k, x (ix2 r k) = x' (ix2 r' k)) (ha : ∀ k, a (ix2 r k) = a' (ix2 r' k)) (hg : ∀ k, g (ix2 0 k) = g' (ix2 0 k)) :
    scaleTerm x g a r q = scaleTerm x' g' a' r' q := by
  unfold scaleTerm
  rw [show row x r = row x' r' from funext hx, hx, ha, hg]

end Norms

end
-- ==== Proof.NormGrads.lean ====
module

public import proofs.«01_k».proof.Proof.Gen.Kernel51Ideal.Value
public import proofs.«01_k».proof.Proof.Gen.Reference51Ideal.Run
public import proofs.«01_k».proof.Proof.Norms
public import Idealize.ShloMosaic.Lib.Pipeline.ValueKit
public import Idealize.ShloMosaic.Lib.Pipeline.ReadBack
public import Idealize.ShloMosaic.Lib.Pointwise
public import Idealize.ShloMosaic.Lib.Tactic.CleanTypes

/-! # The gradients through the first norm -/

@[expose] public section

set_option maxRecDepth 16384

noncomputable section

namespace Cert.Kernel51Ideal.Value

open Cert.Kernel51Ideal Cert.Kernel51Ideal.Gen Idealize.ShloMosaic Idealize.ShloMosaic.TcCoe
open Tables (pair_eq)

/-- The sum of two tables' entries. -/
def both {M : ℕ} (a b : Products.Table M 2048) : Products.Table M 2048 := fun i => a i + b i

section Blocks

variable (x0 : Vec Ideal S128x2048 .f32) (x1 x2 : Vec Ideal S1x2048 .f32) (x4 x5 x6 : Vec Ideal S128x2048 .f32)

theorem spread_at (p : Fin 128) (o : Fin 1) : k0_pay3 (F := Ideal) x0 (ix2 p o) = Norms.spread (Norms.row x0 p) := by
  pointwise [k0_pay3]
  rfl

theorem scale_at (p : Fin 128) (o : Fin 1) : k0_pay4 (F := Ideal) x0 (ix2 p o) = Norms.scale (Norms.row x0 p) := by
  pointwise [k0_pay4]
  rw [spread_at]
  rfl

theorem slope_at (p : Fin 128) (o : Fin 1) : k0_pay5 (F := Ideal) x0 (ix2 p o) = Norms.slope (Norms.row x0 p) := by
  pointwise [k0_pay5]
  rw [spread_at, scale_at]
  rfl

theorem modulated_at (p : Fin 128) (q : Fin 2048) :
    k0_pay11 (F := Ideal) x2 x4 x5 (ix2 p q) = (x4 (ix2 p q) + x5 (ix2 p q) : EReal) * (1 + x2 (ix2 0 q)) := by
  pointwise [k0_pay11, k0_pay7]

theorem rows_at (p : Fin 128) (q : Fin 2048) :
    k0_pay13 (F := Ideal) x0 x1 (k0_pay4 x0) (k0_pay5 x0) (k0_pay8 x6) (k0_pay11 x2 x4 x5) (ix2 p q)
      = Norms.rows x0 x1 x2 (both x4 x5) (ix2 p q) + x6 (ix2 p q) := by
  pointwise [k0_pay13, k0_pay8]
  simp only [scale_at, slope_at, modulated_at]
  rw [add_assoc, add_assoc, add_comm]
  rw [← add_assoc]
  simp only [Fin.sum_univ_one]
  rfl

theorem weightTerm_at (p : Fin 1) (q : Fin 2048) (acc : Vec Ideal S1x2048 .f32) :
    k0_pay15 (F := Ideal) (k0_pay12 x0 x2 x4 x5) acc (ix2 p q) = acc (ix2 p q) + ∑ r, Norms.weightTerm x0 x2 (both x4 x5) r q := by
  pointwise [k0_pay15, k0_pay12, k0_pay6]
  simp only [scale_at, modulated_at]
  rfl

theorem scaleTerm_at (p : Fin 1) (q : Fin 2048) (acc : Vec Ideal S1x2048 .f32) :
    k0_pay17 (F := Ideal) (k0_pay10 x0 x1 x4 x5) acc (ix2 p q) = acc (ix2 p q) + ∑ r, Norms.scaleTerm x0 x1 (both x4 x5) r q := by
  pointwise [k0_pay17, k0_pay10, k0_pay6, k0_pay7]
  simp only [scale_at]
  rfl

theorem shiftTerm_at (p : Fin 1) (q : Fin 2048) (acc : Vec Ideal S1x2048 .f32) :
    k0_pay2 (F := Ideal) (k0_pay9 x4 x5) acc (ix2 p q) = acc (ix2 p q) + ∑ r, Norms.shiftTerm (both x4 x5) r q := by
  pointwise [k0_pay2, k0_pay9, k0_pay7]
  rfl

end Blocks

variable (m : (ℓ : Loc nD τ sig) → Buf (Elt Ideal) ℓ) (c : Dev nD)

theorem idx_val : ∀ t : Fin cfg0.N, win0_0.index t = ![t.val, 0] ∧ win0_1.index t = ![0, 0] ∧ win0_2.index t = ![0, 0]
    ∧ win0_4.index t = ![t.val, 0] ∧ win0_5.index t = ![t.val, 0] ∧ win0_6.index t = ![t.val, 0] ∧ win0_7.index t = ![t.val, 0]
    ∧ win0_8.index t = ![0, 0] ∧ win0_9.index t = ![0, 0] ∧ win0_10.index t = ![0, 0] :=
  (by decide +kernel : ∀ t : Fin grid0.N, _)

/-- The rows' gradient at a point. -/
theorem point (t : Fin cfg0.N) (p : Fin 128) (q : Fin 2048) : ((outsAt0 m c t.val t.isLt).1 (ix2 p q) : EReal)
    = Norms.rows (iblk m c 0 t) (iblk m c 1 t) (iblk m c 2 t) (both (iblk m c 4 t) (iblk m c 5 t)) (ix2 p q) + iblk m c 6 t (ix2 p q) := by
  by_cases h : t.val % 16 = 0
  · rw [outsAt0_A m c t h h h]
    dsimp only
    frame_out
    exact rows_at _ _ _ _ _ _ p q
  · rw [outsAt0_B m c t h h h]
    dsimp only
    frame_out
    exact rows_at _ _ _ _ _ _ p q

/-- A block's row among all rows. -/
def place (t : Fin cfg0.N) (p : Fin 128) : Fin 2048 := Products.column (S := 16) (n := 128) rfl t p

theorem x_at (t : Fin cfg0.N) (p : Fin 128) (k : Fin 2048) : (iblk m c 0 t (ix2 p k) : EReal) = m ((c : Thread nD τ).loc main_arg0) (ix2 (place t p) k) := by
  blk_ext [iblk, V, place, Products.column, idx_val t]

theorem g_at (t : Fin cfg0.N) (k : Fin 2048) : (iblk m c 1 t (ix2 0 k) : EReal) = m ((c : Thread nD τ).loc main_arg1) (ix2 0 k) := by
  blk_ext [iblk, V, idx_val t]

theorem s_at (t : Fin cfg0.N) (k : Fin 2048) : (iblk m c 2 t (ix2 0 k) : EReal) = m ((c : Thread nD τ).loc main_arg2) (ix2 0 k) := by
  blk_ext [iblk, V, idx_val t]

theorem ct_at (t : Fin cfg0.N) (p : Fin 128) (k : Fin 2048) : both (iblk m c 4 t) (iblk m c 5 t) (ix2 p k)
    = both (m ((c : Thread nD τ).loc main_arg4)) (m ((c : Thread nD τ).loc main_arg5)) (ix2 (place t p) k) := by
  unfold both
  refine congrArg₂ (fun x y : EReal => x + y) ?_ ?_
  · blk_ext [iblk, V, place, Products.column, idx_val t]
  · blk_ext [iblk, V, place, Products.column, idx_val t]

theorem spot (t : Fin cfg0.N) (p : Fin 128) (q : Fin 2048) (f : Products.Table 2048 2048) :
    f ((win0_7.blk t).view.emb (ix2 p q)) = f (ix2 (place t p) q) := by
  blk_ext [place, Products.column, idx_val t]

/-- The gradient of the rows. -/
theorem arrayX : (dats m 0 c).arrAt 7 cfg0.N
    = fun i => Norms.rows (m ((c : Thread nD τ).loc main_arg0)) (m ((c : Thread nD τ).loc main_arg1)) (m ((c : Thread nD τ).loc main_arg2))
        (both (m ((c : Thread nD τ).loc main_arg4)) (m ((c : Thread nD τ).loc main_arg5))) i + m ((c : Thread nD τ).loc main_arg6) i := by
  refine (dats m 0 c).arrAt_eq_of_covers 7 _ (by decide +kernel) fun t hf y => ?_
  obtain ⟨p, q, rfl⟩ : ∃ (p : Fin 128) (q : Fin 2048), y = ix2 p q := ⟨y 0, y 1, pair_eq y⟩
  blk_simp
  rw [after0_7, point]
  refine Eq.trans ?_ (spot t p q (fun i => Norms.rows _ _ _ _ i + m ((c : Thread nD τ).loc main_arg6) i)).symm
  refine congrArg₂ (fun x y : EReal => x + y) ?_ ?_
  · exact Norms.rows_congr p (place t p) q (x_at m c t p) (ct_at m c t p) (g_at m c t) (s_at m c t)
  · blk_ext [iblk, V, place, Products.column, idx_val t]

/-- The sums of the blocks' parts, block by block, are the total. -/
theorem total_eq (f : Fin 2048 → Fin 2048 → EReal) (g : Fin cfg0.N → Fin 2048 → EReal) (hg : ∀ t q, g t q = ∑ p : Fin 128, f (place t p) q)
    (t : Fin cfg0.N) (h : t.val % 16 = 15) (q : Fin 2048) :
    ∑ s : Fin 16, g ⟨16 * (t.val / 16) + s.val, Pipeline.run_point_lt_of_flush t h s⟩ q = Norms.total f (ix2 0 q) := by
  refine Eq.trans (Finset.sum_congr rfl fun s _ => ?_) (Products.sum_columns (S := 16) (n := 128) rfl fun r => f r q).symm
  rw [hg]
  have e : t.val / 16 = 0 := Nat.div_eq_of_lt t.isLt
  refine Finset.sum_congr rfl fun p _ => congrArg (fun r => f r q) (Fin.ext ?_)
  simp [place, Products.column, e]

/-- A block's part of the weights' gradient. -/
def weightPart (t : Fin cfg0.N) (q : Fin 2048) : EReal :=
  ∑ r, Norms.weightTerm (iblk m c 0 t) (iblk m c 2 t) (both (iblk m c 4 t) (iblk m c 5 t)) r q
/-- A block's part of the factors' gradient. -/
def scalePart (t : Fin cfg0.N) (q : Fin 2048) : EReal :=
  ∑ r, Norms.scaleTerm (iblk m c 0 t) (iblk m c 1 t) (both (iblk m c 4 t) (iblk m c 5 t)) r q
/-- A block's part of the shifts' gradient. -/
def shiftPart (t : Fin cfg0.N) (q : Fin 2048) : EReal :=
  ∑ r, Norms.shiftTerm (both (iblk m c 4 t) (iblk m c 5 t)) r q

theorem firstWeight (t : Fin cfg0.N) (h : t.val % 16 = 0) (q : Fin 2048) : ((outsAt0 m c t.val t.isLt).2.1 (ix2 0 q) : EReal) = 0 + weightPart m c t q := by
  rw [outsAt0_A m c t h h h]
  dsimp only
  frame_out
  rw [weightTerm_at]
  pointwise [k0_pay14]
  rfl

theorem nextWeight (t : Fin cfg0.N) (h : ¬t.val % 16 = 0) (q : Fin 2048) : ((outsAt0 m c t.val t.isLt).2.1 (ix2 0 q) : EReal)
    = (outsAt0 m c (t.val - 1) (Nat.lt_of_le_of_lt (Nat.sub_le _ _) t.isLt)).2.1 (ix2 0 q) + weightPart m c t q := by
  rw [outsAt0_B m c t h h h]
  dsimp only
  frame_out
  exact weightTerm_at _ _ _ _ _ _ _

theorem firstScale (t : Fin cfg0.N) (h : t.val % 16 = 0) (q : Fin 2048) : ((outsAt0 m c t.val t.isLt).2.2.1 (ix2 0 q) : EReal) = 0 + scalePart m c t q := by
  rw [outsAt0_A m c t h h h]
  dsimp only
  frame_out
  rw [scaleTerm_at]
  pointwise [k0_pay16]
  rfl

theorem nextScale (t : Fin cfg0.N) (h : ¬t.val % 16 = 0) (q : Fin 2048) : ((outsAt0 m c t.val t.isLt).2.2.1 (ix2 0 q) : EReal)
    = (outsAt0 m c (t.val - 1) (Nat.lt_of_le_of_lt (Nat.sub_le _ _) t.isLt)).2.2.1 (ix2 0 q) + scalePart m c t q := by
  rw [outsAt0_B m c t h h h]
  dsimp only
  frame_out
  exact scaleTerm_at _ _ _ _ _ _ _

theorem firstShift (t : Fin cfg0.N) (h : t.val % 16 = 0) (q : Fin 2048) : ((outsAt0 m c t.val t.isLt).2.2.2 (ix2 0 q) : EReal) = 0 + shiftPart m c t q := by
  rw [outsAt0_A m c t h h h]
  dsimp only
  frame_out
  rw [shiftTerm_at]
  pointwise [k0_pay1]
  rfl

theorem nextShift (t : Fin cfg0.N) (h : ¬t.val % 16 = 0) (q : Fin 2048) : ((outsAt0 m c t.val t.isLt).2.2.2 (ix2 0 q) : EReal)
    = (outsAt0 m c (t.val - 1) (Nat.lt_of_le_of_lt (Nat.sub_le _ _) t.isLt)).2.2.2 (ix2 0 q) + shiftPart m c t q := by
  rw [outsAt0_B m c t h h h]
  dsimp only
  frame_out
  exact shiftTerm_at _ _ _ _ _

theorem spot8 (t : Fin cfg0.N) (q : Fin 2048) (f : Products.Table 1 2048) : f ((win0_8.blk t).view.emb (ix2 0 q)) = f (ix2 0 q) := by
  blk_ext [idx_val t]

theorem spot9 (t : Fin cfg0.N) (q : Fin 2048) (f : Products.Table 1 2048) : f ((win0_9.blk t).view.emb (ix2 0 q)) = f (ix2 0 q) := by
  blk_ext [idx_val t]

theorem spot10 (t : Fin cfg0.N) (q : Fin 2048) (f : Products.Table 1 2048) : f ((win0_10.blk t).view.emb (ix2 0 q)) = f (ix2 0 q) := by
  blk_ext [idx_val t]

/-- The gradient of the norm's weights. -/
theorem arrayG : (dats m 0 c).arrAt 8 cfg0.N
    = Norms.total (Norms.weightTerm (m ((c : Thread nD τ).loc main_arg0)) (m ((c : Thread nD τ).loc main_arg2))
        (both (m ((c : Thread nD τ).loc main_arg4)) (m ((c : Thread nD τ).loc main_arg5)))) := by
  refine (dats m 0 c).arrAt_eq_of_covers 8 _ (by decide +kernel) fun t hf y => ?_
  have h := (flush0_8 t).1 hf
  obtain ⟨p, q, rfl⟩ : ∃ (p : Fin 1) (q : Fin 2048), y = ix2 p q := ⟨y 0, y 1, pair_eq y⟩
  obtain rfl : p = 0 := Subsingleton.elim _ _
  blk_simp
  rw [after0_8]
  refine Eq.trans ?_ (spot8 t q (Norms.total _)).symm
  have e := Pipeline.eq_sum_fin_of_reset_step_apply_of_flush (N := cfg0.N) (ι := Fin 2048) (M := EReal)
    (fun n hn q => (outsAt0 m c n hn).2.1 (ix2 0 q)) 16 (fun _ => 0) (weightPart m c) (firstWeight m c) (nextWeight m c) t h q
  exact e.trans ((zero_add _).trans (total_eq _ _ (fun t q => Finset.sum_congr rfl fun r _ => Norms.weightTerm_congr r (place t r) q (x_at m c t r) (ct_at m c t r) (s_at m c t)) t h q))

/-- The gradient of the modulation's factors. -/
theorem arrayS : (dats m 0 c).arrAt 9 cfg0.N
    = Norms.total (Norms.scaleTerm (m ((c : Thread nD τ).loc main_arg0)) (m ((c : Thread nD τ).loc main_arg1))
        (both (m ((c : Thread nD τ).loc main_arg4)) (m ((c : Thread nD τ).loc main_arg5)))) := by
  refine (dats m 0 c).arrAt_eq_of_covers 9 _ (by decide +kernel) fun t hf y => ?_
  have h := (flush0_9 t).1 hf
  obtain ⟨p, q, rfl⟩ : ∃ (p : Fin 1) (q : Fin 2048), y = ix2 p q := ⟨y 0, y 1, pair_eq y⟩
  obtain rfl : p = 0 := Subsingleton.elim _ _
  blk_simp
  rw [after0_9]
  refine Eq.trans ?_ (spot9 t q (Norms.total _)).symm
  have e := Pipeline.eq_sum_fin_of_reset_step_apply_of_flush (N := cfg0.N) (ι := Fin 2048) (M := EReal)
    (fun n hn q => (outsAt0 m c n hn).2.2.1 (ix2 0 q)) 16 (fun _ => 0) (scalePart m c) (firstScale m c) (nextScale m c) t h q
  exact e.trans ((zero_add _).trans (total_eq _ _ (fun t q => Finset.sum_congr rfl fun r _ => Norms.scaleTerm_congr r (place t r) q (x_at m c t r) (ct_at m c t r) (g_at m c t)) t h q))

theorem shiftPart_eq (t : Fin cfg0.N) (q : Fin 2048) : shiftPart m c t q
    = ∑ r, Norms.shiftTerm (both (m ((c : Thread nD τ).loc main_arg4)) (m ((c : Thread nD τ).loc main_arg5))) (place t r) q :=
  Finset.sum_congr rfl fun r _ => ct_at m c t r q

/-- The gradient of the modulation's shifts. -/
theorem arrayB : (dats m 0 c).arrAt 10 cfg0.N
    = Norms.total (Norms.shiftTerm (both (m ((c : Thread nD τ).loc main_arg4)) (m ((c : Thread nD τ).loc main_arg5)))) := by
  refine (dats m 0 c).arrAt_eq_of_covers 10 _ (by decide +kernel) fun t hf y => ?_
  have h := (flush0_10 t).1 hf
  obtain ⟨p, q, rfl⟩ : ∃ (p : Fin 1) (q : Fin 2048), y = ix2 p q := ⟨y 0, y 1, pair_eq y⟩
  obtain rfl : p = 0 := Subsingleton.elim _ _
  blk_simp
  rw [after0_10]
  refine Eq.trans ?_ (spot10 t q (Norms.total _)).symm
  have e := Pipeline.eq_sum_fin_of_reset_step_apply_of_flush (N := cfg0.N) (ι := Fin 2048) (M := EReal)
    (fun n hn q => (outsAt0 m c n hn).2.2.2 (ix2 0 q)) 16 (fun _ => 0) (shiftPart m c) (firstShift m c) (nextShift m c) t h q
  exact e.trans ((zero_add _).trans (total_eq (Norms.shiftTerm _) (shiftPart m c) (shiftPart_eq m c) t h q))

end Cert.Kernel51Ideal.Value

namespace Cert.Reference51Ideal.Value

open Cert.Reference51Ideal Cert.Reference51Ideal.Gen Idealize.ShloMosaic Idealize.ShloMosaic.TcCoe
open Tables (pair_eq)

variable (m : (ℓ : Loc nD τ sig) → Buf (Elt Ideal) ℓ) (c : Dev nD)

theorem resultX : res_main_v48 m c
    = fun i => Norms.rows (m ((c.tc : Thread nD τ).loc main_arg0)) (m ((c.tc : Thread nD τ).loc main_arg1)) (m ((c.tc : Thread nD τ).loc main_arg2))
        (Cert.Kernel51Ideal.Value.both (m ((c.tc : Thread nD τ).loc main_arg4)) (m ((c.tc : Thread nD τ).loc main_arg5))) i + m ((c.tc : Thread nD τ).loc main_arg6) i := by
  funext i
  rw [pair_eq i]
  pointwise [res_main_v48]
  simp only [Fin.sum_univ_one]
  rfl

/-- The factors that normalise the rows. -/
def factors (x : FVec Ideal S2048x2048 .f32) : FVec Ideal S2048x1 .f32 :=
  Host.rsqrt (addf (Host.divf (broadcastInDim S2048x1 ![0] bcast_S2048_S2048x1_0
      (Host.reduceAdd (mulf x x) (constant S_ .f32 0x00000000#32) reducesTo_S2048x2048_S2048_d1 h_S_))
    (broadcastInDim S2048x1 ![] bcast_S_S2048x1 (constant S_ .f32 0x45000000#32)))
    (broadcastInDim S2048x1 ![] bcast_S_S2048x1 (constant S_ .f32 0x358637BD#32)))

theorem factors_at (x : FVec Ideal S2048x2048 .f32) (r : Fin 2048) (o : Fin 1) : factors x (ix2 r o) = Norms.scale (Norms.row x r) := by
  pointwise [factors]
  rfl

variable (x a b : FVec Ideal S2048x2048 .f32) (g sc : FVec Ideal S1x2048 .f32)

theorem resultG : shapeCast _ (Host.reduceAdd (mulf (mulf x (broadcastInDim S2048x2048 ![0, 1] bcast_S2048x1_S2048x2048_0_1 (factors x)))
      (mulf (addf a b) (broadcastInDim S2048x2048 ![0, 1] bcast_S1x2048_S2048x2048_0_1
        (addf (broadcastInDim S1x2048 ![] bcast_S_S1x2048 (constant S_ .f32 0x3F800000#32)) sc))))
      (constant S_ .f32 0x00000000#32) reducesTo_S2048x2048_S2048_d0 h_S_) shapeCasts_S2048_S1x2048
    = Norms.total (Norms.weightTerm x sc (Cert.Kernel51Ideal.Value.both a b)) := by
  funext i
  rw [pair_eq i]
  pointwise
  simp only [factors_at]
  rfl

theorem resultS : shapeCast _ (Host.reduceAdd (mulf (mulf (mulf x (broadcastInDim S2048x2048 ![0, 1] bcast_S2048x1_S2048x2048_0_1 (factors x)))
      (broadcastInDim S2048x2048 ![0, 1] bcast_S1x2048_S2048x2048_0_1 g)) (addf a b))
      (constant S_ .f32 0x00000000#32) reducesTo_S2048x2048_S2048_d0 h_S_) shapeCasts_S2048_S1x2048
    = Norms.total (Norms.scaleTerm x g (Cert.Kernel51Ideal.Value.both a b)) := by
  funext i
  rw [pair_eq i]
  pointwise
  simp only [factors_at]
  rfl

theorem resultB : shapeCast _ (Host.reduceAdd (addf a b) (constant S_ .f32 0x00000000#32) reducesTo_S2048x2048_S2048_d0 h_S_) shapeCasts_S2048_S1x2048
    = Norms.total (Norms.shiftTerm (Cert.Kernel51Ideal.Value.both a b)) := by
  funext i
  rw [pair_eq i]
  pointwise
  rfl

end Cert.Reference51Ideal.Value

end
-- ==== Proof.NormForward.lean ====
module

public import proofs.«01_k».proof.Proof.Gen.Kernel54Ideal.Value
public import proofs.«01_k».proof.Proof.Gen.Reference54Ideal.Run
public import proofs.«01_k».proof.Proof.Gen.Kernel56Ideal.Value
public import proofs.«01_k».proof.Proof.Gen.Reference56Ideal.Run
public import proofs.«01_k».proof.Proof.Gen.Kernel57Ideal.Value
public import proofs.«01_k».proof.Proof.Gen.Reference57Ideal.Run
public import proofs.«01_k».proof.Proof.Norms
public import Idealize.ShloMosaic.Lib.Pipeline.ValueKit
public import Idealize.ShloMosaic.Lib.Pipeline.ReadBack
public import Idealize.ShloMosaic.Lib.Pointwise
public import Idealize.ShloMosaic.Lib.Tactic.CleanTypes

/-! # The norms' forward calls: the modulated norms and the tokens' losses -/

@[expose] public section

set_option maxRecDepth 16384

noncomputable section

namespace Norms

open Idealize.ShloMosaic Products

variable {M M' : ℕ}

/-- The normalised rows, weighted. -/
def normed (x : Table M 2048) (g : Table 1 2048) : Table M 2048 := fun i => x i * scale (row x (i 0)) * g (ix2 0 (i 1))

/-- The normalised rows, weighted and modulated. -/
def shifted (x : Table M 2048) (g sc sh : Table 1 2048) : Table M 2048 :=
  fun i => normed x g i * (1 + sc (ix2 0 (i 1))) + sh (ix2 0 (i 1))

/-- The rows with a gated branch added. -/
def added (x out : Table M 2048) (g : Table 1 2048) : Table M 2048 := fun i => x i + g (ix2 0 (i 1)) * out i

/-- Half the mean of a row's squared errors. -/
def errors (y tgt : Row) : EReal :=
  Ideal.ofBits .f32 0x3F000000#32 * Ideal.div (∑ k, (y k - tgt k) * (y k - tgt k)) (Ideal.ofBits .f32 0x45000000#32)

/-- Each row's loss. -/
def losses (x f tgt : Table M 2048) (g2 g : Table 1 2048) : Table M 1 := fun i => errors (row (normed (added x f g2) g) (i 0)) (row tgt (i 0))

theorem added_congr {x out : Table M 2048} {x' out' : Table M' 2048} {g g' : Table 1 2048} (r : Fin M) (r' : Fin M') (q : Fin 2048)
    (hx : ∀ k, x (ix2 r k) = x' (ix2 r' k)) (ho : ∀ k, out (ix2 r k) = out' (ix2 r' k)) (hg : ∀ k, g (ix2 0 k) = g' (ix2 0 k)) :
    added x out g (ix2 r q) = added x' out' g' (ix2 r' q) := by
  show x (ix2 r q) + g (ix2 0 q) * out (ix2 r q) = x' (ix2 r' q) + g' (ix2 0 q) * out' (ix2 r' q)
  rw [hx, ho, hg]

theorem normed_congr {x : Table M 2048} {x' : Table M' 2048} {g g' : Table 1 2048} (r : Fin M) (r' : Fin M') (q : Fin 2048)
    (hx : ∀ k, x (ix2 r k) = x' (ix2 r' k)) (hg : ∀ k, g (ix2 0 k) = g' (ix2 0 k)) : normed x g (ix2 r q) = normed x' g' (ix2 r' q) := by
  show x (ix2 r q) * scale (row x r) * g (ix2 0 q) = x' (ix2 r' q) * scale (row x' r') * g' (ix2 0 q)
  rw [show row x r = row x' r' from funext hx, hx, hg]

theorem shifted_congr {x : Table M 2048} {x' : Table M' 2048} {g sc sh g' sc' sh' : Table 1 2048} (r : Fin M) (r' : Fin M') (q : Fin 2048)
    (hx : ∀ k, x (ix2 r k) = x' (ix2 r' k)) (hg : ∀ k, g (ix2 0 k) = g' (ix2 0 k)) (hs : ∀ k, sc (ix2 0 k) = sc' (ix2 0 k))
    (hh : ∀ k, sh (ix2 0 k) = sh' (ix2 0 k)) : shifted x g sc sh (ix2 r q) = shifted x' g' sc' sh' (ix2 r' q) := by
  show normed x g (ix2 r q) * (1 + sc (ix2 0 q)) + sh (ix2 0 q) = normed x' g' (ix2 r' q) * (1 + sc' (ix2 0 q)) + sh' (ix2 0 q)
  rw [normed_congr r r' q hx hg, hs, hh]

theorem losses_congr {x f tgt : Table M 2048} {x' f' tgt' : Table M' 2048} {g2 g g2' g' : Table 1 2048} (r : Fin M) (r' : Fin M') (o : Fin 1)
    (hx : ∀ k, x (ix2 r k) = x' (ix2 r' k)) (hf : ∀ k, f (ix2 r k) = f' (ix2 r' k)) (ht : ∀ k, tgt (ix2 r k) = tgt' (ix2 r' k))
    (h2 : ∀ k, g2 (ix2 0 k) = g2' (ix2 0 k)) (hg : ∀ k, g (ix2 0 k) = g' (ix2 0 k)) : losses x f tgt g2 g (ix2 r o) = losses x' f' tgt' g2' g' (ix2 r' o) :=
  congrArg₂ errors (funext fun k => normed_congr r r' k (fun k => added_congr r r' k hx hf h2) hg) (funext ht)

end Norms

/-! ## The first norm -/

namespace Cert.Kernel56Ideal.Value

open Cert.Kernel56Ideal Cert.Kernel56Ideal.Gen Idealize.ShloMosaic Idealize.ShloMosaic.TcCoe
open Tables (pair_eq)

theorem value (x : Vec Ideal S256x2048 .f32) (g sc sh : Vec Ideal S1x2048 .f32) (p : Fin 256) (q : Fin 2048) :
    (k0_pay1 (F := Ideal) x g sc sh (ix2 p q) : EReal) = Norms.shifted x g sc sh (ix2 p q) := by
  pointwise [k0_pay1]
  rfl

variable (m : (ℓ : Loc nD τ sig) → Buf (Elt Ideal) ℓ) (c : Dev nD)

theorem idx_val : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- A block's row among all rows. -/
def place (t : Fin cfg0.N) (p : Fin 256) : Fin 2048 := Products.column (S := 8) (n := 256) rfl t p

theorem spot (t : Fin cfg0.N) (p : Fin 256) (q : Fin 2048) (f : Products.Table 2048 2048) :
    f ((win0_4.blk t).view.emb (ix2 p q)) = f (ix2 (place t p) q) := by
  blk_ext [place, Products.column, idx_val t]

/-- The modulated norm of the rows. -/
theorem array : (dats m 0 c).arrAt 4 cfg0.N = Norms.shifted (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  obtain ⟨p, q, rfl⟩ : ∃ (p : Fin 256) (q : Fin 2048), y = ix2 p q := ⟨y 0, y 1, pair_eq y⟩
  blk_simp
  rw [after0_4]
  unfold out0_4
  frame_out
  refine Eq.trans ?_ (spot t p q (Norms.shifted _ _ _ _)).symm
  refine (value _ _ _ _ p q).trans (Norms.shifted_congr p (place t p) q (fun k => ?_) (fun k => ?_) (fun k => ?_) (fun k => ?_))
  · blk_ext [iblk, V, place, Products.column, idx_val t]
  · blk_ext [iblk, V, idx_val t]
  · blk_ext [iblk, V, idx_val t]
  · blk_ext [iblk, V, idx_val t]

end Cert.Kernel56Ideal.Value

namespace Cert.Reference56Ideal.Value

open Cert.Reference56Ideal Cert.Reference56Ideal.Gen Idealize.ShloMosaic Idealize.ShloMosaic.TcCoe
open Tables (pair_eq)

theorem result (x : FVec Ideal S2048x2048 .f32) (g sc sh : FVec Ideal S1x2048 .f32) :
    truncf .bf16 (addf (mulf (mulf (mulf x (broadcastInDim S2048x2048 ![0, 1] bcast_S2048x1_S2048x2048_0_1
        (Host.rsqrt (addf (Host.divf (broadcastInDim S2048x1 ![0] bcast_S2048_S2048x1_0
          (Host.reduceAdd (mulf x x) (constant S_ .f32 0x00000000#32) reducesTo_S2048x2048_S2048_d1 h_S_))
          (broadcastInDim S2048x1 ![] bcast_S_S2048x1 (constant S_ .f32 0x45000000#32)))
          (broadcastInDim S2048x1 ![] bcast_S_S2048x1 (constant S_ .f32 0x358637BD#32))))))
      (broadcastInDim S2048x2048 ![0, 1] bcast_S1x2048_S2048x2048_0_1 g))
      (broadcastInDim S2048x2048 ![0, 1] bcast_S1x2048_S2048x2048_0_1
        (addf (broadcastInDim S1x2048 ![] bcast_S_S1x2048 (constant S_ .f32 0x3F800000#32)) sc)))
      (broadcastInDim S2048x2048 ![0, 1] bcast_S1x2048_S2048x2048_0_1 sh)) bitsLt_bf16_f32
    = (Norms.shifted x g sc sh : FVec Ideal S2048x2048 .bf16) := by
  funext i
  rw [pair_eq i]
  pointwise
  rfl

end Cert.Reference56Ideal.Value

/-! ## The second norm, after the mixers' residual -/

namespace Cert.Kernel57Ideal.Value

open Cert.Kernel57Ideal Cert.Kernel57Ideal.Gen Idealize.ShloMosaic Idealize.ShloMosaic.TcCoe
open Tables (pair_eq)

theorem sum_at (x : Vec Ideal S128x2048 .f32) (out : Vec Ideal S128x2048 .f32) (g : Vec Ideal S1x2048 .f32) (p : Fin 128) (q : Fin 2048) :
    (k0_pay1 (F := Ideal) x out g (ix2 p q) : EReal) = Norms.added x out g (ix2 p q) := by
  pointwise [k0_pay1]
  rfl

theorem value (x out : Vec Ideal S128x2048 .f32) (g1 g sc sh : Vec Ideal S1x2048 .f32) (p : Fin 128) (q : Fin 2048) :
    (k0_pay2 (F := Ideal) x out g1 g sc sh (ix2 p q) : EReal) = Norms.shifted (Norms.added x out g1) g sc sh (ix2 p q) := by
  pointwise [k0_pay2]
  try simp only [sum_at]
  rfl

variable (m : (ℓ : Loc nD τ sig) → Buf (Elt Ideal) ℓ) (c : Dev nD)

theorem idx_val : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, _)

/-- A block's row among all rows. -/
def place (t : Fin cfg0.N) (p : Fin 128) : Fin 2048 := Products.column (S := 16) (n := 128) rfl t p

theorem spot6 (t : Fin cfg0.N) (p : Fin 128) (q : Fin 2048) (f : Products.Table 2048 2048) :
    f ((win0_6.blk t).view.emb (ix2 p q)) = f (ix2 (place t p) q) := by
  blk_ext [place, Products.column, idx_val t]

theorem spot7 (t : Fin cfg0.N) (p : Fin 128) (q : Fin 2048) (f : Products.Table 2048 2048) :
    f ((win0_7.blk t).view.emb (ix2 p q)) = f (ix2 (place t p) q) := by
  blk_ext [place, Products.column, idx_val t]

theorem added_at (t : Fin cfg0.N) (p : Fin 128) (q : Fin 2048) : Norms.added (iblk m c 0 t) (iblk m c 1 t) (iblk m c 2 t) (ix2 p q)
    = Norms.added (m ((c : Thread nD τ).loc main_arg0)) (m ((c : Thread nD τ).loc main_arg1)) (m ((c : Thread nD τ).loc main_arg2)) (ix2 (place t p) q) := by
  refine Norms.added_congr p (place t p) q (fun k => ?_) (fun k => ?_) (fun k => ?_)
  · blk_ext [iblk, V, place, Products.column, idx_val t]
  · blk_ext [iblk, V, place, Products.column, idx_val t]
  · blk_ext [iblk, V, idx_val t]

/-- The rows with the branch. -/
theorem arrayX : (dats m 0 c).arrAt 6 cfg0.N
    = Norms.added (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨p, q, rfl⟩ : ∃ (p : Fin 128) (q : Fin 2048), y = ix2 p q := ⟨y 0, y 1, pair_eq y⟩
  blk_simp
  rw [after0_6]
  unfold out0_6
  frame_out
  refine Eq.trans ?_ (spot6 t p q (Norms.added _ _ _)).symm
  exact (sum_at _ _ _ p q).trans (added_at m c t p q)

/-- Their modulated norm. -/
theorem arrayN : (dats m 0 c).arrAt 7 cfg0.N
    = Norms.shifted (Norms.added (m ((c : Thread nD τ).loc main_arg0)) (m ((c : Thread nD τ).loc main_arg1)) (m ((c : Thread nD τ).loc main_arg2)))
      (m ((c : Thread nD τ).loc main_arg3)) (m ((c : Thread nD τ).loc main_arg4)) (m ((c : Thread nD τ).loc main_arg5)) := by
  refine (dats m 0 c).arrAt_eq_of_covers 7 _ (by decide +kernel) fun t hf y => ?_
  obtain ⟨p, q, rfl⟩ : ∃ (p : Fin 128) (q : Fin 2048), y = ix2 p q := ⟨y 0, y 1, pair_eq y⟩
  blk_simp
  rw [after0_7]
  unfold out0_7
  frame_out
  refine Eq.trans ?_ (spot7 t p q (Norms.shifted _ _ _ _)).symm
  refine (value _ _ _ _ _ _ p q).trans (Norms.shifted_congr p (place t p) q (added_at m c t p) (fun k => ?_) (fun k => ?_) (fun k => ?_))
  · blk_ext [iblk, V, idx_val t]
  · blk_ext [iblk, V, idx_val t]
  · blk_ext [iblk, V, idx_val t]

end Cert.Kernel57Ideal.Value

namespace Cert.Reference57Ideal.Value

open Cert.Reference57Ideal Cert.Reference57Ideal.Gen Idealize.ShloMosaic Idealize.ShloMosaic.TcCoe
open Tables (pair_eq)

variable (x out : FVec Ideal S2048x2048 .f32) (g1 g sc sh : FVec Ideal S1x2048 .f32)

theorem resultX : addf x (mulf (broadcastInDim S2048x2048 ![0, 1] bcast_S1x2048_S2048x2048_0_1 g1) out) = Norms.added x out g1 := by
  funext i
  rw [pair_eq i]
  pointwise
  rfl

theorem resultN : truncf .bf16 (addf (mulf (mulf (mulf (addf x (mulf (broadcastInDim S2048x2048 ![0, 1] bcast_S1x2048_S2048x2048_0_1 g1) out))
        (broadcastInDim S2048x2048 ![0, 1] bcast_S2048x1_S2048x2048_0_1
        (Host.rsqrt (addf (Host.divf (broadcastInDim S2048x1 ![0] bcast_S2048_S2048x1_0
          (Host.reduceAdd (mulf (addf x (mulf (broadcastInDim S2048x2048 ![0, 1] bcast_S1x2048_S2048x2048_0_1 g1) out))
            (addf x (mulf (broadcastInDim S2048x2048 ![0, 1] bcast_S1x2048_S2048x2048_0_1 g1) out)))
            (constant S_ .f32 0x00000000#32) reducesTo_S2048x2048_S2048_d1 h_S_))
          (broadcastInDim S2048x1 ![] bcast_S_S2048x1 (constant S_ .f32 0x45000000#32)))
          (broadcastInDim S2048x1 ![] bcast_S_S2048x1 (constant S_ .f32 0x358637BD#32))))))
      (broadcastInDim S2048x2048 ![0, 1] bcast_S1x2048_S2048x2048_0_1 g))
      (broadcastInDim S2048x2048 ![0, 1] bcast_S1x2048_S2048x2048_0_1
        (addf (broadcastInDim S1x2048 ![] bcast_S_S1x2048 (constant S_ .f32 0x3F800000#32)) sc)))
      (broadcastInDim S2048x2048 ![0, 1] bcast_S1x2048_S2048x2048_0_1 sh)) bitsLt_bf16_f32
    = (Norms.shifted (Norms.added x out g1) g sc sh : FVec Ideal S2048x2048 .bf16) := by
  funext i
  rw [pair_eq i]
  pointwise
  rfl

end Cert.Reference57Ideal.Value

/-! ## The losses -/

namespace Cert.Kernel54Ideal.Value

open Cert.Kernel54Ideal Cert.Kernel54Ideal.Gen Idealize.ShloMosaic Idealize.ShloMosaic.TcCoe
open Tables (pair_eq)

theorem value (x f tgt : Vec Ideal S128x2048 .f32) (g2 g : Vec Ideal S1x2048 .f32) (p : Fin 128) (o : Fin 1) :
    (k0_pay1 (F := Ideal) x f tgt g2 g (ix2 p o) : EReal) = Norms.losses x f tgt g2 g (ix2 p o) := by
  pointwise [k0_pay1]
  rfl

variable (m : (ℓ : Loc nD τ sig) → Buf (Elt Ideal) ℓ) (c : Dev nD)

theorem idx_val : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- A block's row among all rows. -/
def place (t : Fin cfg0.N) (p : Fin 128) : Fin 2048 := Products.column (S := 16) (n := 128) rfl t p

theorem spot (t : Fin cfg0.N) (p : Fin 128) (o : Fin 1) (f : Products.Table 2048 1) :
    f ((win0_5.blk t).view.emb (ix2 p o)) = f (ix2 (place t p) o) := by
  blk_ext [place, Products.column, idx_val t]

/-- The tokens' losses. -/
theorem array : (dats m 0 c).arrAt 5 cfg0.N = Norms.losses (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨p, o, rfl⟩ : ∃ (p : Fin 128) (o : Fin 1), y = ix2 p o := ⟨y 0, y 1, pair_eq y⟩
  blk_simp
  rw [after0_5]
  unfold out0_5
  frame_out
  refine Eq.trans ?_ (spot t p o (Norms.losses _ _ _ _ _)).symm
  refine (value _ _ _ _ _ p o).trans (Norms.losses_congr p (place t p) o (fun k => ?_) (fun k => ?_) (fun k => ?_) (fun k => ?_) (fun k => ?_))
  · blk_ext [iblk, V, place, Products.column, idx_val t]
  · blk_ext [iblk, V, place, Products.column, idx_val t]
  · blk_ext [iblk, V, place, Products.column, idx_val t]
  · blk_ext [iblk, V, idx_val t]
  · blk_ext [iblk, V, idx_val t]

end Cert.Kernel54Ideal.Value

namespace Cert.Reference54Ideal.Value

open Cert.Reference54Ideal Cert.Reference54Ideal.Gen Idealize.ShloMosaic Idealize.ShloMosaic.TcCoe
open Tables (pair_eq)

/-- The normalised rows, weighted, as the program forms them. -/
abbrev weighted (y : FVec Ideal S2048x2048 .f32) (g : FVec Ideal S1x2048 .f32) : FVec Ideal S2048x2048 .f32 :=
  mulf (mulf y (broadcastInDim S2048x2048 ![0, 1] bcast_S2048x1_S2048x2048_0_1
      (Host.rsqrt (addf (Host.divf (broadcastInDim S2048x1 ![0] bcast_S2048_S2048x1_0
        (Host.reduceAdd (mulf y y) (constant S_ .f32 0x00000000#32) reducesTo_S2048x2048_S2048_d1 h_S_))
        (broadcastInDim S2048x1 ![] bcast_S_S2048x1 (constant S_ .f32 0x45000000#32)))
        (broadcastInDim S2048x1 ![] bcast_S_S2048x1 (constant S_ .f32 0x358637BD#32))))))
    (broadcastInDim S2048x2048 ![0, 1] bcast_S1x2048_S2048x2048_0_1 g)

/-- The means of the squared errors, halved, as the program forms them. -/
abbrev halves (y tgt : FVec Ideal S2048x2048 .f32) : FVec Ideal S2048x1 .f32 :=
  mulf (broadcastInDim S2048x1 ![] bcast_S_S2048x1 (constant S_ .f32 0x3F000000#32))
    (Host.divf (broadcastInDim S2048x1 ![0] bcast_S2048_S2048x1_0
      (Host.reduceAdd (mulf (subf y tgt) (subf y tgt)) (constant S_ .f32 0x00000000#32) reducesTo_S2048x2048_S2048_d1 h_S_))
      (broadcastInDim S2048x1 ![] bcast_S_S2048x1 (constant S_ .f32 0x45000000#32)))

theorem result (x f tgt : FVec Ideal S2048x2048 .f32) (g2 g : FVec Ideal S1x2048 .f32) :
    halves (weighted (addf x (mulf (broadcastInDim S2048x2048 ![0, 1] bcast_S1x2048_S2048x2048_0_1 g2) f)) g) tgt
      = Norms.losses x f tgt g2 g := by
  funext i
  rw [pair_eq i]
  pointwise
  rfl

end Cert.Reference54Ideal.Value

end
-- ==== Proof.NormSteps.lean ====
module

public import proofs.«01_k».proof.Proof.NormForward

/-! # Sums over the rows, block by block, and the gradients at a gated branch -/

@[expose] public section

noncomputable section

namespace Norms

open Idealize.ShloMosaic Products

variable {M M' : ℕ}

/-- The gradient of the rows, of the cotangents of the normalised rows. -/
def restored (x d : Table M 2048) : Table M 2048 := fun i => back (row x (i 0)) (row d (i 0)) (x i) (d i)

/-- The same, with the rows' own cotangents. -/
def joined (x d b : Table M 2048) : Table M 2048 := fun i =>
  b i + d i * scale (row x (i 0)) + x i * through (row x (i 0)) (row d (i 0)) + through (row x (i 0)) (row d (i 0)) * x i

/-- The cotangents under a gate. -/
def gated (g : Table 1 2048) (d : Table M 2048) : Table M 2048 := fun i => g (ix2 0 (i 1)) * d i

/-- The cotangents through the weights. -/
def weighted (a : Table M 2048) (g : Table 1 2048) : Table M 2048 := fun i => a i * g (ix2 0 (i 1))

/-- The cotangents of the weighted normalised rows, from the rows' losses. -/
def errorCt (y tgt : Table M 2048) (g : Table 1 2048) : Table M 2048 := fun i =>
  Ideal.div (Ideal.ofBits .f32 0x3F000000#32) (Ideal.ofBits .f32 0x45000000#32) * (Ideal.ofBits .f32 0x40000000#32 * (normed y g i - tgt i))

/-- A row's part of the gradient of the gate. -/
def gateTerm (d out : Table M 2048) (r : Fin M) (q : Fin 2048) : EReal := d (ix2 r q) * out (ix2 r q)

/-- A row's part of the gradient of the weights of a norm without modulation. -/
def normTerm (x a : Table M 2048) (r : Fin M) (q : Fin 2048) : EReal := x (ix2 r q) * scale (row x r) * a (ix2 r q)

theorem restored_congr {x d : Table M 2048} {x' d' : Table M' 2048} (r : Fin M) (r' : Fin M') (q : Fin 2048)
    (hx : ∀ k, x (ix2 r k) = x' (ix2 r' k)) (hd : ∀ k, d (ix2 r k) = d' (ix2 r' k)) : restored x d (ix2 r q) = restored x' d' (ix2 r' q) := by
  show back (row x r) (row d r) _ _ = back (row x' r') (row d' r') _ _
  rw [show row x r = row x' r' from funext hx, show row d r = row d' r' from funext hd, hx, hd]

theorem joined_congr {x d b : Table M 2048} {x' d' b' : Table M' 2048} (r : Fin M) (r' : Fin M') (q : Fin 2048)
    (hx : ∀ k, x (ix2 r k) = x' (ix2 r' k)) (hd : ∀ k, d (ix2 r k) = d' (ix2 r' k)) (hb : ∀ k, b (ix2 r k) = b' (ix2 r' k)) :
    joined x d b (ix2 r q) = joined x' d' b' (ix2 r' q) := by
  show b (ix2 r q) + d (ix2 r q) * scale (row x r) + x (ix2 r q) * through (row x r) (row d r) + through (row x r) (row d r) * x (ix2 r q)
    = b' (ix2 r' q) + d' (ix2 r' q) * scale (row x' r') + x' (ix2 r' q) * through (row x' r') (row d' r') + through (row x' r') (row d' r') * x' (ix2 r' q)
  rw [show row x r = row x' r' from funext hx, show row d r = row d' r' from funext hd, hx, hd, hb]

theorem modulated_congr {a : Table M 2048} {a' : Table M' 2048} {sc g sc' g' : Table 1 2048} (r : Fin M) (r' : Fin M') (q : Fin 2048)
    (ha : ∀ k, a (ix2 r k) = a' (ix2 r' k)) (hs : ∀ k, sc (ix2 0 k) = sc' (ix2 0 k)) (hg : ∀ k, g (ix2 0 k) = g' (ix2 0 k)) :
    modulated a sc g (ix2 r q) = modulated a' sc' g' (ix2 r' q) := by
  show a (ix2 r q) * (1 + sc (ix2 0 q)) * g (ix2 0 q) = a' (ix2 r' q) * (1 + sc' (ix2 0 q)) * g' (ix2 0 q)
  rw [ha, hs, hg]

theorem weighted_congr {a : Table M 2048} {a' : Table M' 2048} {g g' : Table 1 2048} (r : Fin M) (r' : Fin M') (q : Fin 2048)
    (ha : ∀ k, a (ix2 r k) = a' (ix2 r' k)) (hg : ∀ k, g (ix2 0 k) = g' (ix2 0 k)) : weighted a g (ix2 r q) = weighted a' g' (ix2 r' q) := by
  show a (ix2 r q) * g (ix2 0 q) = a' (ix2 r' q) * g' (ix2 0 q)
  rw [ha, hg]

theorem errorCt_congr {y tgt : Table M 2048} {y' tgt' : Table M' 2048} {g g' : Table 1 2048} (r : Fin M) (r' : Fin M') (q : Fin 2048)
    (hy : ∀ k, y (ix2 r k) = y' (ix2 r' k)) (ht : ∀ k, tgt (ix2 r k) = tgt' (ix2 r' k)) (hg : ∀ k, g (ix2 0 k) = g' (ix2 0 k)) :
    errorCt y tgt g (ix2 r q) = errorCt y' tgt' g' (ix2 r' q) := by
  unfold errorCt
  rw [normed_congr r r' q hy hg, ht]

theorem gated_congr {d : Table M 2048} {d' : Table M' 2048} {g g' : Table 1 2048} (r : Fin M) (r' : Fin M') (q : Fin 2048)
    (hg : ∀ k, g (ix2 0 k) = g' (ix2 0 k)) (hd : ∀ k, d (ix2 r k) = d' (ix2 r' k)) : gated g d (ix2 r q) = gated g' d' (ix2 r' q) := by
  show g (ix2 0 q) * d (ix2 r q) = g' (ix2 0 q) * d' (ix2 r' q)
  rw [hg, hd]

theorem gateTerm_congr {d out : Table M 2048} {d' out' : Table M' 2048} (r : Fin M) (r' : Fin M') (q : Fin 2048)
    (hd : ∀ k, d (ix2 r k) = d' (ix2 r' k)) (ho : ∀ k, out (ix2 r k) = out' (ix2 r' k)) : gateTerm d out r q = gateTerm d' out' r' q := by
  unfold gateTerm
  rw [hd, ho]

theorem normTerm_congr {x a : Table M 2048} {x' a' : Table M' 2048} (r : Fin M) (r' : Fin M') (q : Fin 2048)
    (hx : ∀ k, x (ix2 r k) = x' (ix2 r' k)) (ha : ∀ k, a (ix2 r k) = a' (ix2 r' k)) : normTerm x a r q = normTerm x' a' r' q := by
  unfold normTerm
  rw [show row x r = row x' r' from funext hx, hx, ha]

/-- What accumulates over the blocks of 128 rows, from zero on, is the total over all rows. -/
theorem total_of_steps {N : ℕ} (hN : N = 16) (acc : (n : ℕ) → n < N → Fin 2048 → EReal) (f : Fin 2048 → Fin 2048 → EReal)
    (part : Fin N → Fin 2048 → EReal)
    (hp : ∀ t q, part t q = ∑ p : Fin 128, f (Products.column (S := 16) (n := 128) rfl (t.cast hN) p) q)
    (first : ∀ t : Fin N, t.val % 16 = 0 → ∀ q, acc t.val t.isLt q = 0 + part t q)
    (next : ∀ t : Fin N, ¬t.val % 16 = 0 → ∀ q, acc t.val t.isLt q
      = acc (t.val - 1) (Nat.lt_of_le_of_lt (Nat.sub_le _ _) t.isLt) q + part t q)
    (t : Fin N) (h : t.val % 16 = 15) (q : Fin 2048) : acc t.val t.isLt q = total f (ix2 0 q) := by
  subst hN
  have e := Pipeline.eq_sum_fin_of_reset_step_apply_of_flush (N := 16) (ι := Fin 2048) (M := EReal) acc 16 (fun _ => 0) part first next t h q
  refine e.trans ((zero_add _).trans ((Finset.sum_congr rfl fun s _ => ?_).trans (Products.sum_columns (S := 16) (n := 128) rfl fun r => f r q).symm))
  rw [hp]
  have z : t.val / 16 = 0 := Nat.div_eq_of_lt t.isLt
  refine Finset.sum_congr rfl fun p _ => congrArg (fun r => f r q) (Fin.ext ?_)
  simp [Products.column, z]

end Norms

end
-- ==== Proof.LossGrads.lean ====
module

public import proofs.«01_k».proof.Proof.Gen.Kernel52Ideal.Value
public import proofs.«01_k».proof.Proof.Gen.Reference52Ideal.Run
public import proofs.«01_k».proof.Proof.NormSteps
public import Idealize.ShloMosaic.Lib.Pipeline.ValueKit
public import Idealize.ShloMosaic.Lib.Pipeline.ReadBack
public import Idealize.ShloMosaic.Lib.Pointwise
public import Idealize.ShloMosaic.Lib.Tactic.CleanTypes

/-! # The gradients of the tokens' losses -/

@[expose] public section

set_option maxRecDepth 16384

noncomputable section

namespace Cert.Kernel52Ideal.Value

open Cert.Kernel52Ideal Cert.Kernel52Ideal.Gen Idealize.ShloMosaic Idealize.ShloMosaic.TcCoe
open Tables (pair_eq)
open Norms (added restored weighted errorCt gated gateTerm normTerm total)

section Blocks

variable (x0 x1 x2 : Vec Ideal S128x2048 .f32) (x3 x4 : Vec Ideal S1x2048 .f32) (x5 : Vec Ideal S128x1 .f32) (h5 : ∀ p o, (x5 (ix2 p o) : EReal) = 1)

theorem sum_at (p : Fin 128) (q : Fin 2048) : k0_pay2 (F := Ideal) x0 x1 x3 (ix2 p q) = added x0 x1 x3 (ix2 p q) := by
  pointwise [k0_pay2]
  rfl

theorem spread_at (p : Fin 128) (o : Fin 1) : k0_pay3 (F := Ideal) x0 x1 x3 (ix2 p o) = Norms.spread (Norms.row (added x0 x1 x3) p) := by
  pointwise [k0_pay3]
  simp only [sum_at]
  rfl

theorem scale_at (p : Fin 128) (o : Fin 1) : k0_pay4 (F := Ideal) x0 x1 x3 (ix2 p o) = Norms.scale (Norms.row (added x0 x1 x3) p) := by
  pointwise [k0_pay4]
  rw [spread_at]
  rfl

theorem slope_at (p : Fin 128) (o : Fin 1) : k0_pay5 (F := Ideal) x0 x1 x3 (ix2 p o) = Norms.slope (Norms.row (added x0 x1 x3) p) := by
  pointwise [k0_pay5]
  rw [spread_at, scale_at]
  rfl

include h5 in
theorem error_at (p : Fin 128) (q : Fin 2048) : k0_pay7 (F := Ideal) x0 x1 x2 x3 x4 x5 (ix2 p q) = errorCt (added x0 x1 x3) x2 x4 (ix2 p q) := by
  pointwise [k0_pay7, k0_pay6]
  simp only [sum_at, scale_at, h5, Fin.sum_univ_one, mul_one]
  rfl

include h5 in
theorem restored_at (p : Fin 128) (q : Fin 2048) :
    k0_pay9 (F := Ideal) x4 (k0_pay2 x0 x1 x3) (k0_pay4 x0 x1 x3) (k0_pay5 x0 x1 x3) (k0_pay7 x0 x1 x2 x3 x4 x5) (ix2 p q)
      = restored (added x0 x1 x3) (weighted (errorCt (added x0 x1 x3) x2 x4) x4) (ix2 p q) := by
  pointwise [k0_pay9]
  simp only [sum_at, scale_at, slope_at, error_at x0 x1 x2 x3 x4 x5 h5, Fin.sum_univ_one]
  rfl

include h5 in
theorem gated_at (p : Fin 128) (q : Fin 2048) :
    (k0_pay10 (F := Ideal) x3 x4 (k0_pay2 x0 x1 x3) (k0_pay4 x0 x1 x3) (k0_pay5 x0 x1 x3) (k0_pay7 x0 x1 x2 x3 x4 x5) (ix2 p q) : EReal)
      = gated x3 (restored (added x0 x1 x3) (weighted (errorCt (added x0 x1 x3) x2 x4) x4)) (ix2 p q) := by
  pointwise [k0_pay10]
  simp only [restored_at x0 x1 x2 x3 x4 x5 h5]
  rfl

include h5 in
theorem gateTerm_at (p : Fin 1) (q : Fin 2048) (acc : Vec Ideal S1x2048 .f32) :
    k0_pay12 (F := Ideal) x1 x4 (k0_pay2 x0 x1 x3) (k0_pay4 x0 x1 x3) (k0_pay5 x0 x1 x3) (k0_pay7 x0 x1 x2 x3 x4 x5) acc (ix2 p q)
      = acc (ix2 p q) + ∑ r, gateTerm (restored (added x0 x1 x3) (weighted (errorCt (added x0 x1 x3) x2 x4) x4)) x1 r q := by
  pointwise [k0_pay12]
  simp only [restored_at x0 x1 x2 x3 x4 x5 h5]
  rfl

include h5 in
theorem normTerm_at (p : Fin 1) (q : Fin 2048) (acc : Vec Ideal S1x2048 .f32) :
    k0_pay1 (F := Ideal) (k0_pay8 (k0_pay6 x0 x1 x3) (k0_pay7 x0 x1 x2 x3 x4 x5)) acc (ix2 p q)
      = acc (ix2 p q) + ∑ r, normTerm (added x0 x1 x3) (errorCt (added x0 x1 x3) x2 x4) r q := by
  pointwise [k0_pay1, k0_pay8, k0_pay6]
  simp only [sum_at, scale_at, error_at x0 x1 x2 x3 x4 x5 h5]
  rfl

end Blocks

variable (m : (ℓ : Loc nD τ sig) → Buf (Elt Ideal) ℓ) (c : Dev nD)

theorem idx_val : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![0, 0] ∧ win0_9.index t = ![0, 0] :=
  (by decide +kernel : ∀ t : Fin grid0.N, _)

/-- The losses' cotangents are ones. -/
theorem ones_at (t : Fin cfg0.N) (p : Fin 128) (o : Fin 1) : (iblk m c 5 t (ix2 p o) : EReal) = (1 : EReal) := by
  have e : V m c main_v0 = (broadcastInDim S2048x1 ![] bcast_S_S2048x1 (constant S_ .f32 0x3F800000#32) : FVec Ideal S2048x1 .f32) := by
    after_results <;> rfl
  refine Eq.trans (b := V m c main_v0 (ix2 (Products.column (S := 16) (n := 128) rfl t p) o)) ?_ ?_
  · blk_ext [iblk, Products.column, idx_val t]
  · rw [e]
    pointwise

/-! The values of a point's block. -/

/-- The rows with the branch. -/
abbrev hidden (t : Fin cfg0.N) : Products.Table 128 2048 := added (iblk m c 0 t) (iblk m c 1 t) (iblk m c 3 t)
/-- The cotangents of the normalised rows, weighted. -/
abbrev ct (t : Fin cfg0.N) : Products.Table 128 2048 := errorCt (hidden m c t) (iblk m c 2 t) (iblk m c 4 t)
/-- The gradient of the rows. -/
abbrev dx (t : Fin cfg0.N) : Products.Table 128 2048 := restored (hidden m c t) (weighted (ct m c t) (iblk m c 4 t))

theorem pointX (t : Fin cfg0.N) (p : Fin 128) (q : Fin 2048) : ((outsAt0 m c t.val t.isLt).1 (ix2 p q) : EReal) = dx m c t (ix2 p q) := by
  by_cases h : t.val % 16 = 0
  · rw [outsAt0_A m c t h h]
    dsimp only
    frame_out
    exact restored_at _ _ _ _ _ _ (ones_at m c t) p q
  · rw [outsAt0_B m c t h h]
    dsimp only
    frame_out
    exact restored_at _ _ _ _ _ _ (ones_at m c t) p q

theorem pointF (t : Fin cfg0.N) (p : Fin 128) (q : Fin 2048) : ((outsAt0 m c t.val t.isLt).2.1 (ix2 p q) : EReal)
    = gated (iblk m c 3 t) (dx m c t) (ix2 p q) := by
  by_cases h : t.val % 16 = 0
  · rw [outsAt0_A m c t h h]
    dsimp only
    frame_out
    exact gated_at _ _ _ _ _ _ (ones_at m c t) p q
  · rw [outsAt0_B m c t h h]
    dsimp only
    frame_out
    exact gated_at _ _ _ _ _ _ (ones_at m c t) p q

/-! The blocks' entries among all entries. -/

/-- A block's row among all rows. -/
def place (t : Fin cfg0.N) (p : Fin 128) : Fin 2048 := Products.column (S := 16) (n := 128) rfl t p

theorem x_at (t : Fin cfg0.N) (p : Fin 128) (k : Fin 2048) : (iblk m c 0 t (ix2 p k) : EReal) = m ((c : Thread nD τ).loc main_arg0) (ix2 (place t p) k) := by
  refine Eq.trans (b := V m c main_arg0 (ix2 (place t p) k)) ?_ (congrFun (V_main_arg0 m c) _)
  blk_ext [iblk, place, Products.column, idx_val t]

theorem f_at (t : Fin cfg0.N) (p : Fin 128) (k : Fin 2048) : (iblk m c 1 t (ix2 p k) : EReal) = m ((c : Thread nD τ).loc main_arg1) (ix2 (place t p) k) := by
  refine Eq.trans (b := V m c main_arg1 (ix2 (place t p) k)) ?_ (congrFun (V_main_arg1 m c) _)
  blk_ext [iblk, place, Products.column, idx_val t]

theorem tgt_at (t : Fin cfg0.N) (p : Fin 128) (k : Fin 2048) : (iblk m c 2 t (ix2 p k) : EReal) = m ((c : Thread nD τ).loc main_arg2) (ix2 (place t p) k) := by
  refine Eq.trans (b := V m c main_arg2 (ix2 (place t p) k)) ?_ (congrFun (V_main_arg2 m c) _)
  blk_ext [iblk, place, Products.column, idx_val t]

theorem gate_at (t : Fin cfg0.N) (k : Fin 2048) : (iblk m c 3 t (ix2 0 k) : EReal) = m ((c : Thread nD τ).loc main_arg3) (ix2 0 k) := by
  refine Eq.trans (b := V m c main_arg3 (ix2 0 k)) ?_ (congrFun (V_main_arg3 m c) _)
  blk_ext [iblk, idx_val t]

theorem g_at (t : Fin cfg0.N) (k : Fin 2048) : (iblk m c 4 t (ix2 0 k) : EReal) = m ((c : Thread nD τ).loc main_arg4) (ix2 0 k) := by
  refine Eq.trans (b := V m c main_arg4 (ix2 0 k)) ?_ (congrFun (V_main_arg4 m c) _)
  blk_ext [iblk, idx_val t]

/-- All rows with the branch. -/
abbrev Hidden : Products.Table 2048 2048 := added (m ((c : Thread nD τ).loc main_arg0)) (m ((c : Thread nD τ).loc main_arg1)) (m ((c : Thread nD τ).loc main_arg3))
/-- The cotangents of all normalised rows, weighted. -/
abbrev Ct : Products.Table 2048 2048 := errorCt (Hidden m c) (m ((c : Thread nD τ).loc main_arg2)) (m ((c : Thread nD τ).loc main_arg4))
/-- The gradient of all rows. -/
abbrev Dx : Products.Table 2048 2048 := restored (Hidden m c) (weighted (Ct m c) (m ((c : Thread nD τ).loc main_arg4)))

theorem hidden_at (t : Fin cfg0.N) (p : Fin 128) (q : Fin 2048) : hidden m c t (ix2 p q) = Hidden m c (ix2 (place t p) q) :=
  Norms.added_congr p (place t p) q (x_at m c t p) (f_at m c t p) (gate_at m c t)

theorem ct_at (t : Fin cfg0.N) (p : Fin 128) (q : Fin 2048) : ct m c t (ix2 p q) = Ct m c (ix2 (place t p) q) :=
  Norms.errorCt_congr p (place t p) q (hidden_at m c t p) (tgt_at m c t p) (g_at m c t)

theorem dx_at (t : Fin cfg0.N) (p : Fin 128) (q : Fin 2048) : dx m c t (ix2 p q) = Dx m c (ix2 (place t p) q) :=
  Norms.restored_congr p (place t p) q (hidden_at m c t p) fun k => Norms.weighted_congr p (place t p) k (ct_at m c t p) (g_at m c t)

theorem spots (t : Fin cfg0.N) (p : Fin 128) (q : Fin 2048) (f : Products.Table 2048 2048) :
    f ((win0_6.blk t).view.emb (ix2 p q)) = f (ix2 (place t p) q) ∧ f ((win0_7.blk t).view.emb (ix2 p q)) = f (ix2 (place t p) q) := by
  constructor
  · blk_ext [place, Products.column, idx_val t]
  · blk_ext [place, Products.column, idx_val t]

theorem spots_sum (t : Fin cfg0.N) (q : Fin 2048) (f : Products.Table 1 2048) :
    f ((win0_8.blk t).view.emb (ix2 0 q)) = f (ix2 0 q) ∧ f ((win0_9.blk t).view.emb (ix2 0 q)) = f (ix2 0 q) := by
  constructor
  · blk_ext [idx_val t]
  · blk_ext [idx_val t]

/-- The gradient of the rows. -/
theorem arrayX : (dats m 0 c).arrAt 6 cfg0.N = Dx m c := by
  refine (dats m 0 c).arrAt_eq_of_covers 6 _ (by decide +kernel) fun t hf y => ?_
  obtain ⟨p, q, rfl⟩ : ∃ (p : Fin 128) (q : Fin 2048), y = ix2 p q := ⟨y 0, y 1, pair_eq y⟩
  blk_simp
  rw [after0_6, pointX]
  exact (dx_at m c t p q).trans (spots t p q (Dx m c)).1.symm

/-- The gradient of the branch. -/
theorem arrayF : (dats m 0 c).arrAt 7 cfg0.N = gated (m ((c : Thread nD τ).loc main_arg3)) (Dx m c) := by
  refine (dats m 0 c).arrAt_eq_of_covers 7 _ (by decide +kernel) fun t hf y => ?_
  obtain ⟨p, q, rfl⟩ : ∃ (p : Fin 128) (q : Fin 2048), y = ix2 p q := ⟨y 0, y 1, pair_eq y⟩
  blk_simp
  rw [after0_7, pointF]
  exact (Norms.gated_congr p (place t p) q (gate_at m c t) (dx_at m c t p)).trans (spots t p q (gated _ (Dx m c))).2.symm

theorem firstGate (t : Fin cfg0.N) (h : t.val % 16 = 0) (q : Fin 2048) : ((outsAt0 m c t.val t.isLt).2.2.1 (ix2 0 q) : EReal)
    = 0 + ∑ r, gateTerm (dx m c t) (iblk m c 1 t) r q := by
  rw [outsAt0_A m c t h h]
  dsimp only
  frame_out
  refine (gateTerm_at _ _ _ _ _ _ (ones_at m c t) _ _ _).trans ?_
  pointwise [k0_pay11]

theorem nextGate (t : Fin cfg0.N) (h : ¬t.val % 16 = 0) (q : Fin 2048) : ((outsAt0 m c t.val t.isLt).2.2.1 (ix2 0 q) : EReal)
    = (outsAt0 m c (t.val - 1) (Nat.lt_of_le_of_lt (Nat.sub_le _ _) t.isLt)).2.2.1 (ix2 0 q) + ∑ r, gateTerm (dx m c t) (iblk m c 1 t) r q := by
  rw [outsAt0_B m c t h h]
  dsimp only
  frame_out
  exact gateTerm_at _ _ _ _ _ _ (ones_at m c t) _ _ _

theorem firstNorm (t : Fin cfg0.N) (h : t.val % 16 = 0) (q : Fin 2048) : ((outsAt0 m c t.val t.isLt).2.2.2 (ix2 0 q) : EReal)
    = 0 + ∑ r, normTerm (hidden m c t) (ct m c t) r q := by
  rw [outsAt0_A m c t h h]
  dsimp only
  frame_out
  refine (normTerm_at _ _ _ _ _ _ (ones_at m c t) _ _ _).trans ?_
  pointwise [k0_pay13]

theorem nextNorm (t : Fin cfg0.N) (h : ¬t.val % 16 = 0) (q : Fin 2048) : ((outsAt0 m c t.val t.isLt).2.2.2 (ix2 0 q) : EReal)
    = (outsAt0 m c (t.val - 1) (Nat.lt_of_le_of_lt (Nat.sub_le _ _) t.isLt)).2.2.2 (ix2 0 q) + ∑ r, normTerm (hidden m c t) (ct m c t) r q := by
  rw [outsAt0_B m c t h h]
  dsimp only
  frame_out
  exact normTerm_at _ _ _ _ _ _ (ones_at m c t) _ _ _

/-- The gradient of the gate. -/
theorem arrayA : (dats m 0 c).arrAt 8 cfg0.N = total (gateTerm (Dx m c) (m ((c : Thread nD τ).loc main_arg1))) := by
  refine (dats m 0 c).arrAt_eq_of_covers 8 _ (by decide +kernel) fun t hf y => ?_
  obtain ⟨p, q, rfl⟩ : ∃ (p : Fin 1) (q : Fin 2048), y = ix2 p q := ⟨y 0, y 1, pair_eq y⟩
  obtain rfl : p = 0 := Subsingleton.elim _ _
  blk_simp
  rw [after0_8]
  refine Eq.trans ?_ (spots_sum t q (total _)).1.symm
  exact Norms.total_of_steps (N := cfg0.N) rfl (fun n hn q => (outsAt0 m c n hn).2.2.1 (ix2 0 q)) _ _
    (fun t q => Finset.sum_congr rfl fun r _ => Norms.gateTerm_congr r (place t r) q (dx_at m c t r) (f_at m c t r))
    (firstGate m c) (nextGate m c) t ((flush0_8 t).1 hf) q

/-- The gradient of the norm's weights. -/
theorem arrayG : (dats m 0 c).arrAt 9 cfg0.N = total (normTerm (Hidden m c) (Ct m c)) := by
  refine (dats m 0 c).arrAt_eq_of_covers 9 _ (by decide +kernel) fun t hf y => ?_
  obtain ⟨p, q, rfl⟩ : ∃ (p : Fin 1) (q : Fin 2048), y = ix2 p q := ⟨y 0, y 1, pair_eq y⟩
  obtain rfl : p = 0 := Subsingleton.elim _ _
  blk_simp
  rw [after0_9]
  refine Eq.trans ?_ (spots_sum t q (total _)).2.symm
  exact Norms.total_of_steps (N := cfg0.N) rfl (fun n hn q => (outsAt0 m c n hn).2.2.2 (ix2 0 q)) _ _
    (fun t q => Finset.sum_congr rfl fun r _ => Norms.normTerm_congr r (place t r) q (hidden_at m c t r) (ct_at m c t r))
    (firstNorm m c) (nextNorm m c) t ((flush0_9 t).1 hf) q

end Cert.Kernel52Ideal.Value

namespace Cert.Reference52Ideal.Value

open Cert.Reference52Ideal Cert.Reference52Ideal.Gen Idealize.ShloMosaic Idealize.ShloMosaic.TcCoe
open Tables (pair_eq)
open Norms (added restored weighted errorCt gated gateTerm normTerm total)

/-- The factors that normalise the rows. -/
def factors (x : FVec Ideal S2048x2048 .f32) : FVec Ideal S2048x1 .f32 :=
  Host.rsqrt (addf (Host.divf (broadcastInDim S2048x1 ![0] bcast_S2048_S2048x1_0
      (Host.reduceAdd (mulf x x) (constant S_ .f32 0x00000000#32) reducesTo_S2048x2048_S2048_d1 h_S_))
    (broadcastInDim S2048x1 ![] bcast_S_S2048x1 (constant S_ .f32 0x45000000#32)))
    (broadcastInDim S2048x1 ![] bcast_S_S2048x1 (constant S_ .f32 0x358637BD#32)))

theorem factors_at (x : FVec Ideal S2048x2048 .f32) (r : Fin 2048) (o : Fin 1) : factors x (ix2 r o) = Norms.scale (Norms.row x r) := by
  pointwise [factors]
  rfl

/-- The rows with the branch, as the program forms them. -/
def sums (x f : FVec Ideal S2048x2048 .f32) (g2 : FVec Ideal S1x2048 .f32) : FVec Ideal S2048x2048 .f32 :=
  addf x (mulf (broadcastInDim S2048x2048 ![0, 1] bcast_S1x2048_S2048x2048_0_1 g2) f)

theorem sums_eq (x f : FVec Ideal S2048x2048 .f32) (g2 : FVec Ideal S1x2048 .f32) : sums x f g2 = added x f g2 := by
  funext i
  rw [pair_eq i]
  pointwise [sums]
  rfl

/-- The cotangents of the weighted normalised rows, as the program forms them. -/
def errors (h tgt : FVec Ideal S2048x2048 .f32) (g : FVec Ideal S1x2048 .f32) : FVec Ideal S2048x2048 .f32 :=
  mulf (broadcastInDim S2048x2048 ![0] bcast_S2048_S2048x2048_0 (Host.reduceAdd (Host.divf
      (mulf (broadcastInDim S2048x1 ![] bcast_S_S2048x1 (constant S_ .f32 0x3F000000#32))
        (broadcastInDim S2048x1 ![] bcast_S_S2048x1 (constant S_ .f32 0x3F800000#32)))
      (broadcastInDim S2048x1 ![] bcast_S_S2048x1 (constant S_ .f32 0x45000000#32))) (constant S_ .f32 0x00000000#32) reducesTo_S2048x1_S2048_d1 h_S_))
    (mulf (broadcastInDim S2048x2048 ![] bcast_S_S2048x2048 (constant S_ .f32 0x40000000#32))
      (subf (mulf (mulf h (broadcastInDim S2048x2048 ![0, 1] bcast_S2048x1_S2048x2048_0_1 (factors h)))
        (broadcastInDim S2048x2048 ![0, 1] bcast_S1x2048_S2048x2048_0_1 g)) tgt))

theorem errors_eq (h tgt : FVec Ideal S2048x2048 .f32) (g : FVec Ideal S1x2048 .f32) : errors h tgt g = errorCt h tgt g := by
  funext i
  obtain ⟨p, q, rfl⟩ : ∃ (p : Fin 2048) (q : Fin 2048), i = ix2 p q := ⟨i 0, i 1, pair_eq i⟩
  pointwise [errors]
  simp only [factors_at, Fin.sum_univ_one, mul_one]
  rfl

/-- The products with the rows, summed over each row, under the factors' derivative, as the program forms them. -/
def means (h d : FVec Ideal S2048x2048 .f32) : FVec Ideal S2048x2048 .f32 :=
  broadcastInDim S2048x2048 ![0] bcast_S2048_S2048x2048_0 (Host.reduceAdd (Host.divf (mulf
      (shapeCast _ (Host.reduceAdd (mulf h d) (constant S_ .f32 0x00000000#32) reducesTo_S2048x2048_S2048_d1 h_S_) shapeCasts_S2048_S2048x1)
      (mulf (broadcastInDim S2048x1 ![] bcast_S_S2048x1 (constant S_ .f32 0xBF000000#32)) (Host.divf (factors h)
        (addf (Host.divf (broadcastInDim S2048x1 ![0] bcast_S2048_S2048x1_0
            (Host.reduceAdd (mulf h h) (constant S_ .f32 0x00000000#32) reducesTo_S2048x2048_S2048_d1 h_S_))
          (broadcastInDim S2048x1 ![] bcast_S_S2048x1 (constant S_ .f32 0x45000000#32)))
          (broadcastInDim S2048x1 ![] bcast_S_S2048x1 (constant S_ .f32 0x358637BD#32))))))
    (broadcastInDim S2048x1 ![] bcast_S_S2048x1 (constant S_ .f32 0x45000000#32))) (constant S_ .f32 0x00000000#32) reducesTo_S2048x1_S2048_d1 h_S_)

/-- The gradient of the rows, as the program forms it. -/
def grads (h a : FVec Ideal S2048x2048 .f32) (g : FVec Ideal S1x2048 .f32) : FVec Ideal S2048x2048 .f32 :=
  addf (addf (mulf (mulf a (broadcastInDim S2048x2048 ![0, 1] bcast_S1x2048_S2048x2048_0_1 g))
      (broadcastInDim S2048x2048 ![0, 1] bcast_S2048x1_S2048x2048_0_1 (factors h)))
    (mulf h (means h (mulf a (broadcastInDim S2048x2048 ![0, 1] bcast_S1x2048_S2048x2048_0_1 g)))))
    (mulf (means h (mulf a (broadcastInDim S2048x2048 ![0, 1] bcast_S1x2048_S2048x2048_0_1 g))) h)

theorem grads_eq (h a : FVec Ideal S2048x2048 .f32) (g : FVec Ideal S1x2048 .f32) : grads h a g = restored h (weighted a g) := by
  funext i
  obtain ⟨p, q, rfl⟩ : ∃ (p : Fin 2048) (q : Fin 2048), i = ix2 p q := ⟨i 0, i 1, pair_eq i⟩
  pointwise [grads, means]
  simp only [factors_at, Fin.sum_univ_one]
  rfl

variable (m : (ℓ : Loc nD τ sig) → Buf (Elt Ideal) ℓ) (c : Dev nD)

/-- All rows with the branch. -/
abbrev Hidden : Products.Table 2048 2048 :=
  added (m ((c.tc : Thread nD τ).loc main_arg0)) (m ((c.tc : Thread nD τ).loc main_arg1)) (m ((c.tc : Thread nD τ).loc main_arg3))
/-- The gradient of all rows. -/
abbrev Dx : Products.Table 2048 2048 :=
  restored (Hidden m c) (weighted (errorCt (Hidden m c) (m ((c.tc : Thread nD τ).loc main_arg2)) (m ((c.tc : Thread nD τ).loc main_arg4)))
    (m ((c.tc : Thread nD τ).loc main_arg4)))

theorem resultX : res_main_v54 m c = Dx m c := by
  have e : res_main_v54 m c = grads (sums (m ((c.tc : Thread nD τ).loc main_arg0)) (m ((c.tc : Thread nD τ).loc main_arg1)) (m ((c.tc : Thread nD τ).loc main_arg3)))
      (errors (sums (m ((c.tc : Thread nD τ).loc main_arg0)) (m ((c.tc : Thread nD τ).loc main_arg1)) (m ((c.tc : Thread nD τ).loc main_arg3)))
        (m ((c.tc : Thread nD τ).loc main_arg2)) (m ((c.tc : Thread nD τ).loc main_arg4))) (m ((c.tc : Thread nD τ).loc main_arg4)) := by
    unfold res_main_v54 grads means errors factors sums
    rfl
  rw [e, grads_eq, errors_eq, sums_eq]

theorem resultF : res_main_v60 m c = gated (m ((c.tc : Thread nD τ).loc main_arg3)) (Dx m c) := by
  have e : res_main_v60 m c = (truncf .bf16 (mulf (broadcastInDim S2048x2048 ![0, 1] bcast_S1x2048_S2048x2048_0_1 (m ((c.tc : Thread nD τ).loc main_arg3)))
      (res_main_v54 m c)) bitsLt_bf16_f32 : FVec Ideal S2048x2048 .bf16) := by
    unfold res_main_v60 res_main_v54
    rfl
  rw [e, resultX]
  funext i
  rw [pair_eq i]
  pointwise
  rfl

theorem resultA : res_main_v59 m c = total (gateTerm (Dx m c) (m ((c.tc : Thread nD τ).loc main_arg1))) := by
  have e : res_main_v59 m c = (shapeCast _ (Host.reduceAdd (mulf (res_main_v54 m c : FVec Ideal S2048x2048 .f32) (m ((c.tc : Thread nD τ).loc main_arg1)))
      (constant S_ .f32 0x00000000#32) reducesTo_S2048x2048_S2048_d0 h_S_) shapeCasts_S2048_S1x2048 : FVec Ideal S1x2048 .f32) := by
    unfold res_main_v59 res_main_v54
    rfl
  rw [e, resultX]
  funext i
  rw [pair_eq i]
  pointwise
  rfl

theorem resultG (x f tgt : FVec Ideal S2048x2048 .f32) (g2 g : FVec Ideal S1x2048 .f32) :
    shapeCast _ (Host.reduceAdd (mulf (mulf (sums x f g2)
      (broadcastInDim S2048x2048 ![0, 1] bcast_S2048x1_S2048x2048_0_1 (factors (sums x f g2)))) (errors (sums x f g2) tgt g))
      (constant S_ .f32 0x00000000#32) reducesTo_S2048x2048_S2048_d0 h_S_) shapeCasts_S2048_S1x2048
    = total (normTerm (added x f g2) (errorCt (added x f g2) tgt g)) := by
  rw [errors_eq, sums_eq]
  funext i
  rw [pair_eq i]
  pointwise
  simp only [factors_at]
  rfl

end Cert.Reference52Ideal.Value

end
-- ==== Proof.ResidualGrads.lean ====
module

public import proofs.«01_k».proof.Proof.Gen.Kernel53Ideal.Value
public import proofs.«01_k».proof.Proof.Gen.Reference53Ideal.Run
public import proofs.«01_k».proof.Proof.NormSteps
public import Idealize.ShloMosaic.Lib.Pipeline.ValueKit
public import Idealize.ShloMosaic.Lib.Pipeline.ReadBack
public import Idealize.ShloMosaic.Lib.Pointwise
public import Idealize.ShloMosaic.Lib.Tactic.CleanTypes

/-! # The gradients through the second norm and the residual before it -/

@[expose] public section

set_option maxRecDepth 16384

noncomputable section

namespace Cert.Kernel53Ideal.Value

open Cert.Kernel53Ideal Cert.Kernel53Ideal.Gen Idealize.ShloMosaic Idealize.ShloMosaic.TcCoe
open Tables (pair_eq)
open Norms (added joined modulated gated gateTerm weightTerm scaleTerm shiftTerm total)

section Blocks

variable (x0 x1 : Vec Ideal S128x2048 .f32) (x2 x3 x4 : Vec Ideal S1x2048 .f32) (x6 x7 : Vec Ideal S128x2048 .f32)

theorem sum_at (p : Fin 128) (q : Fin 2048) : k0_pay7 (F := Ideal) x0 x1 x2 (ix2 p q) = added x0 x1 x2 (ix2 p q) := by
  pointwise [k0_pay7]
  rfl

theorem spread_at (p : Fin 128) (o : Fin 1) : k0_pay8 (F := Ideal) x0 x1 x2 (ix2 p o) = Norms.spread (Norms.row (added x0 x1 x2) p) := by
  pointwise [k0_pay8]
  simp only [sum_at]
  rfl

theorem scale_at (p : Fin 128) (o : Fin 1) : k0_pay9 (F := Ideal) x0 x1 x2 (ix2 p o) = Norms.scale (Norms.row (added x0 x1 x2) p) := by
  pointwise [k0_pay9]
  rw [spread_at]
  rfl

theorem slope_at (p : Fin 128) (o : Fin 1) : k0_pay10 (F := Ideal) x0 x1 x2 (ix2 p o) = Norms.slope (Norms.row (added x0 x1 x2) p) := by
  pointwise [k0_pay10]
  rw [spread_at, scale_at]
  rfl

theorem joined_at (p : Fin 128) (q : Fin 2048) :
    k0_pay19 (F := Ideal) x3 (k0_pay7 x0 x1 x2) (k0_pay9 x0 x1 x2) (k0_pay10 x0 x1 x2) (k0_pay12 x4) (k0_pay13 x6) (k0_pay14 x7) (ix2 p q)
      = joined (added x0 x1 x2) (modulated x7 x4 x3) x6 (ix2 p q) := by
  pointwise [k0_pay19, k0_pay17, k0_pay12, k0_pay13, k0_pay14]
  simp only [sum_at, scale_at, slope_at, Fin.sum_univ_one]
  rfl

theorem gated_at (p : Fin 128) (q : Fin 2048) :
    (k0_pay20 (F := Ideal) x2 x3 (k0_pay7 x0 x1 x2) (k0_pay9 x0 x1 x2) (k0_pay10 x0 x1 x2) (k0_pay12 x4) (k0_pay13 x6) (k0_pay14 x7) (ix2 p q) : EReal)
      = gated x2 (joined (added x0 x1 x2) (modulated x7 x4 x3) x6) (ix2 p q) := by
  pointwise [k0_pay20]
  simp only [joined_at]
  rfl

theorem gateTerm_at (p : Fin 1) (q : Fin 2048) (acc : Vec Ideal S1x2048 .f32) :
    k0_pay22 (F := Ideal) x1 x3 (k0_pay7 x0 x1 x2) (k0_pay9 x0 x1 x2) (k0_pay10 x0 x1 x2) (k0_pay12 x4) (k0_pay13 x6) (k0_pay14 x7) acc (ix2 p q)
      = acc (ix2 p q) + ∑ r, gateTerm (joined (added x0 x1 x2) (modulated x7 x4 x3) x6) x1 r q := by
  pointwise [k0_pay22]
  simp only [joined_at]
  rfl

theorem weightTerm_at (p : Fin 1) (q : Fin 2048) (acc : Vec Ideal S1x2048 .f32) :
    k0_pay2 (F := Ideal) (k0_pay18 (k0_pay11 x0 x1 x2) (k0_pay12 x4) (k0_pay14 x7)) acc (ix2 p q)
      = acc (ix2 p q) + ∑ r, weightTerm (added x0 x1 x2) x4 x7 r q := by
  pointwise [k0_pay2, k0_pay18, k0_pay11, k0_pay12, k0_pay14, k0_pay17]
  simp only [sum_at, scale_at]
  rfl

theorem scaleTerm_at (p : Fin 1) (q : Fin 2048) (acc : Vec Ideal S1x2048 .f32) :
    k0_pay4 (F := Ideal) (k0_pay16 x0 x1 x2 x3 x7) acc (ix2 p q) = acc (ix2 p q) + ∑ r, scaleTerm (added x0 x1 x2) x3 x7 r q := by
  pointwise [k0_pay4, k0_pay16, k0_pay11, k0_pay14]
  simp only [sum_at, scale_at]
  rfl

theorem shiftTerm_at (p : Fin 1) (q : Fin 2048) (acc : Vec Ideal S1x2048 .f32) :
    k0_pay6 (F := Ideal) (k0_pay15 x7) acc (ix2 p q) = acc (ix2 p q) + ∑ r, shiftTerm x7 r q := by
  pointwise [k0_pay6, k0_pay15, k0_pay14]
  rfl

end Blocks

variable (m : (ℓ : Loc nD τ sig) → Buf (Elt Ideal) ℓ) (c : Dev nD)

theorem idx_val : ∀ t : Fin cfg0.N, win0_0.index t = ![t.val, 0] ∧ win0_1.index t = ![t.val, 0] ∧ win0_2.index t = ![0, 0]
    ∧ win0_3.index t = ![0, 0] ∧ win0_4.index t = ![0, 0] ∧ win0_6.index t = ![t.val, 0] ∧ win0_7.index t = ![t.val, 0]
    ∧ win0_8.index t = ![t.val, 0] ∧ win0_9.index t = ![t.val, 0]
    ∧ win0_10.index t = ![0, 0] ∧ win0_11.index t = ![0, 0] ∧ win0_12.index t = ![0, 0] ∧ win0_13.index t = ![0, 0] :=
  (by decide +kernel : ∀ t : Fin grid0.N, _)

/-! The values of a point's block. -/

/-- The rows with the branch. -/
abbrev hidden (t : Fin cfg0.N) : Products.Table 128 2048 := added (iblk m c 0 t) (iblk m c 1 t) (iblk m c 2 t)
/-- The gradient of the rows. -/
abbrev dx (t : Fin cfg0.N) : Products.Table 128 2048 := joined (hidden m c t) (modulated (iblk m c 7 t) (iblk m c 4 t) (iblk m c 3 t)) (iblk m c 6 t)

theorem pointX (t : Fin cfg0.N) (p : Fin 128) (q : Fin 2048) : ((outsAt0 m c t.val t.isLt).1 (ix2 p q) : EReal) = dx m c t (ix2 p q) := by
  by_cases h : t.val % 16 = 0
  · rw [outsAt0_A m c t h h h h]
    dsimp only
    frame_out
    exact joined_at _ _ _ _ _ _ _ p q
  · rw [outsAt0_B m c t h h h h]
    dsimp only
    frame_out
    exact joined_at _ _ _ _ _ _ _ p q

theorem pointO (t : Fin cfg0.N) (p : Fin 128) (q : Fin 2048) : ((outsAt0 m c t.val t.isLt).2.1 (ix2 p q) : EReal)
    = gated (iblk m c 2 t) (dx m c t) (ix2 p q) := by
  by_cases h : t.val % 16 = 0
  · rw [outsAt0_A m c t h h h h]
    dsimp only
    frame_out
    exact gated_at _ _ _ _ _ _ _ p q
  · rw [outsAt0_B m c t h h h h]
    dsimp only
    frame_out
    exact gated_at _ _ _ _ _ _ _ p q

/-! The blocks' entries among all entries. -/

/-- A block's row among all rows. -/
def place (t : Fin cfg0.N) (p : Fin 128) : Fin 2048 := Products.column (S := 16) (n := 128) rfl t p

theorem out_at (t : Fin cfg0.N) (p : Fin 128) (k : Fin 2048) : (iblk m c 1 t (ix2 p k) : EReal) = m ((c : Thread nD τ).loc main_arg1) (ix2 (place t p) k) := by
  blk_ext [iblk, V, place, Products.column, idx_val t]

theorem gate_at (t : Fin cfg0.N) (k : Fin 2048) : (iblk m c 2 t (ix2 0 k) : EReal) = m ((c : Thread nD τ).loc main_arg2) (ix2 0 k) := by
  blk_ext [iblk, V, idx_val t]

theorem g_at (t : Fin cfg0.N) (k : Fin 2048) : (iblk m c 3 t (ix2 0 k) : EReal) = m ((c : Thread nD τ).loc main_arg3) (ix2 0 k) := by
  blk_ext [iblk, V, idx_val t]

theorem s_at (t : Fin cfg0.N) (k : Fin 2048) : (iblk m c 4 t (ix2 0 k) : EReal) = m ((c : Thread nD τ).loc main_arg4) (ix2 0 k) := by
  blk_ext [iblk, V, idx_val t]

theorem ctx_at (t : Fin cfg0.N) (p : Fin 128) (k : Fin 2048) : (iblk m c 6 t (ix2 p k) : EReal) = m ((c : Thread nD τ).loc main_arg6) (ix2 (place t p) k) := by
  blk_ext [iblk, V, place, Products.column, idx_val t]

theorem ct_at (t : Fin cfg0.N) (p : Fin 128) (k : Fin 2048) : (iblk m c 7 t (ix2 p k) : EReal) = m ((c : Thread nD τ).loc main_arg7) (ix2 (place t p) k) := by
  blk_ext [iblk, V, place, Products.column, idx_val t]

/-- All rows with the branch. -/
abbrev Hidden : Products.Table 2048 2048 := added (m ((c : Thread nD τ).loc main_arg0)) (m ((c : Thread nD τ).loc main_arg1)) (m ((c : Thread nD τ).loc main_arg2))
/-- The gradient of all rows. -/
abbrev Dx : Products.Table 2048 2048 :=
  joined (Hidden m c) (modulated (m ((c : Thread nD τ).loc main_arg7)) (m ((c : Thread nD τ).loc main_arg4)) (m ((c : Thread nD τ).loc main_arg3)))
    (m ((c : Thread nD τ).loc main_arg6))

theorem hidden_at (t : Fin cfg0.N) (p : Fin 128) (q : Fin 2048) : hidden m c t (ix2 p q) = Hidden m c (ix2 (place t p) q) :=
  Norms.added_congr p (place t p) q (fun k => by blk_ext [iblk, V, place, Products.column, idx_val t]) (out_at m c t p) (gate_at m c t)

theorem dx_at (t : Fin cfg0.N) (p : Fin 128) (q : Fin 2048) : dx m c t (ix2 p q) = Dx m c (ix2 (place t p) q) :=
  Norms.joined_congr p (place t p) q (hidden_at m c t p) (fun k => Norms.modulated_congr p (place t p) k (ct_at m c t p) (s_at m c t) (g_at m c t))
    (ctx_at m c t p)

theorem spot8 (t : Fin cfg0.N) (p : Fin 128) (q : Fin 2048) (f : Products.Table 2048 2048) :
    f ((win0_8.blk t).view.emb (ix2 p q)) = f (ix2 (place t p) q) := by
  blk_ext [place, Products.column, idx_val t]

theorem spot9 (t : Fin cfg0.N) (p : Fin 128) (q : Fin 2048) (f : Products.Table 2048 2048) :
    f ((win0_9.blk t).view.emb (ix2 p q)) = f (ix2 (place t p) q) := by
  blk_ext [place, Products.column, idx_val t]

theorem spots (t : Fin cfg0.N) (q : Fin 2048) (f : Products.Table 1 2048) : f ((win0_10.blk t).view.emb (ix2 0 q)) = f (ix2 0 q)
    ∧ f ((win0_11.blk t).view.emb (ix2 0 q)) = f (ix2 0 q) ∧ f ((win0_12.blk t).view.emb (ix2 0 q)) = f (ix2 0 q)
    ∧ f ((win0_13.blk t).view.emb (ix2 0 q)) = f (ix2 0 q) := by
  refine ⟨?_, ?_, ?_, ?_⟩
  · blk_ext [idx_val t]
  · blk_ext [idx_val t]
  · blk_ext [idx_val t]
  · blk_ext [idx_val t]

/-- The gradient of the rows. -/
theorem arrayX : (dats m 0 c).arrAt 8 cfg0.N = Dx m c := by
  refine (dats m 0 c).arrAt_eq_of_covers 8 _ (by decide +kernel) fun t hf y => ?_
  obtain ⟨p, q, rfl⟩ : ∃ (p : Fin 128) (q : Fin 2048), y = ix2 p q := ⟨y 0, y 1, pair_eq y⟩
  blk_simp
  rw [after0_8, pointX]
  exact (dx_at m c t p q).trans (spot8 t p q (Dx m c)).symm

/-- The gradient of the branch. -/
theorem arrayO : (dats m 0 c).arrAt 9 cfg0.N = gated (m ((c : Thread nD τ).loc main_arg2)) (Dx m c) := by
  refine (dats m 0 c).arrAt_eq_of_covers 9 _ (by decide +kernel) fun t hf y => ?_
  obtain ⟨p, q, rfl⟩ : ∃ (p : Fin 128) (q : Fin 2048), y = ix2 p q := ⟨y 0, y 1, pair_eq y⟩
  blk_simp
  rw [after0_9, pointO]
  exact (Norms.gated_congr p (place t p) q (gate_at m c t) (dx_at m c t p)).trans (spot9 t p q (gated _ (Dx m c))).symm

theorem firstGate (t : Fin cfg0.N) (h : t.val % 16 = 0) (q : Fin 2048) : ((outsAt0 m c t.val t.isLt).2.2.1 (ix2 0 q) : EReal)
    = 0 + ∑ r, gateTerm (dx m c t) (iblk m c 1 t) r q := by
  rw [outsAt0_A m c t h h h h]
  dsimp only
  frame_out
  rw [gateTerm_at]
  pointwise [k0_pay21]

theorem nextGate (t : Fin cfg0.N) (h : ¬t.val % 16 = 0) (q : Fin 2048) : ((outsAt0 m c t.val t.isLt).2.2.1 (ix2 0 q) : EReal)
    = (outsAt0 m c (t.val - 1) (Nat.lt_of_le_of_lt (Nat.sub_le _ _) t.isLt)).2.2.1 (ix2 0 q) + ∑ r, gateTerm (dx m c t) (iblk m c 1 t) r q := by
  rw [outsAt0_B m c t h h h h]
  dsimp only
  frame_out
  exact gateTerm_at _ _ _ _ _ _ _ _ _ _

theorem firstWeight (t : Fin cfg0.N) (h : t.val % 16 = 0) (q : Fin 2048) : ((outsAt0 m c t.val t.isLt).2.2.2.1 (ix2 0 q) : EReal)
    = 0 + ∑ r, weightTerm (hidden m c t) (iblk m c 4 t) (iblk m c 7 t) r q := by
  rw [outsAt0_A m c t h h h h]
  dsimp only
  frame_out
  rw [weightTerm_at]
  pointwise [k0_pay1]

theorem nextWeight (t : Fin cfg0.N) (h : ¬t.val % 16 = 0) (q : Fin 2048) : ((outsAt0 m c t.val t.isLt).2.2.2.1 (ix2 0 q) : EReal)
    = (outsAt0 m c (t.val - 1) (Nat.lt_of_le_of_lt (Nat.sub_le _ _) t.isLt)).2.2.2.1 (ix2 0 q)
      + ∑ r, weightTerm (hidden m c t) (iblk m c 4 t) (iblk m c 7 t) r q := by
  rw [outsAt0_B m c t h h h h]
  dsimp only
  frame_out
  exact weightTerm_at _ _ _ _ _ _ _ _

theorem firstScale (t : Fin cfg0.N) (h : t.val % 16 = 0) (q : Fin 2048) : ((outsAt0 m c t.val t.isLt).2.2.2.2.1 (ix2 0 q) : EReal)
    = 0 + ∑ r, scaleTerm (hidden m c t) (iblk m c 3 t) (iblk m c 7 t) r q := by
  rw [outsAt0_A m c t h h h h]
  dsimp only
  frame_out
  rw [scaleTerm_at]
  pointwise [k0_pay3]

theorem nextScale (t : Fin cfg0.N) (h : ¬t.val % 16 = 0) (q : Fin 2048) : ((outsAt0 m c t.val t.isLt).2.2.2.2.1 (ix2 0 q) : EReal)
    = (outsAt0 m c (t.val - 1) (Nat.lt_of_le_of_lt (Nat.sub_le _ _) t.isLt)).2.2.2.2.1 (ix2 0 q)
      + ∑ r, scaleTerm (hidden m c t) (iblk m c 3 t) (iblk m c 7 t) r q := by
  rw [outsAt0_B m c t h h h h]
  dsimp only
  frame_out
  exact scaleTerm_at _ _ _ _ _ _ _ _

theorem firstShift (t : Fin cfg0.N) (h : t.val % 16 = 0) (q : Fin 2048) : ((outsAt0 m c t.val t.isLt).2.2.2.2.2 (ix2 0 q) : EReal)
    = 0 + ∑ r, shiftTerm (iblk m c 7 t) r q := by
  rw [outsAt0_A m c t h h h h]
  dsimp only
  frame_out
  rw [shiftTerm_at]
  pointwise [k0_pay5]

theorem nextShift (t : Fin cfg0.N) (h : ¬t.val % 16 = 0) (q : Fin 2048) : ((outsAt0 m c t.val t.isLt).2.2.2.2.2 (ix2 0 q) : EReal)
    = (outsAt0 m c (t.val - 1) (Nat.lt_of_le_of_lt (Nat.sub_le _ _) t.isLt)).2.2.2.2.2 (ix2 0 q) + ∑ r, shiftTerm (iblk m c 7 t) r q := by
  rw [outsAt0_B m c t h h h h]
  dsimp only
  frame_out
  exact shiftTerm_at _ _ _ _

/-- The gradient of the gate. -/
theorem arrayA : (dats m 0 c).arrAt 10 cfg0.N = total (gateTerm (Dx m c) (m ((c : Thread nD τ).loc main_arg1))) := by
  refine (dats m 0 c).arrAt_eq_of_covers 10 _ (by decide +kernel) fun t hf y => ?_
  obtain ⟨p, q, rfl⟩ : ∃ (p : Fin 1) (q : Fin 2048), y = ix2 p q := ⟨y 0, y 1, pair_eq y⟩
  obtain rfl : p = 0 := Subsingleton.elim _ _
  blk_simp
  rw [after0_10]
  refine Eq.trans ?_ (spots t q (total _)).1.symm
  exact Norms.total_of_steps (N := cfg0.N) rfl (fun n hn q => (outsAt0 m c n hn).2.2.1 (ix2 0 q)) _ _
    (fun t q => Finset.sum_congr rfl fun r _ => Norms.gateTerm_congr r (place t r) q (dx_at m c t r) (out_at m c t r))
    (firstGate m c) (nextGate m c) t ((flush0_10 t).1 hf) q

/-- The gradient of the norm's weights. -/
theorem arrayG : (dats m 0 c).arrAt 11 cfg0.N
    = total (weightTerm (Hidden m c) (m ((c : Thread nD τ).loc main_arg4)) (m ((c : Thread nD τ).loc main_arg7))) := by
  refine (dats m 0 c).arrAt_eq_of_covers 11 _ (by decide +kernel) fun t hf y => ?_
  obtain ⟨p, q, rfl⟩ : ∃ (p : Fin 1) (q : Fin 2048), y = ix2 p q := ⟨y 0, y 1, pair_eq y⟩
  obtain rfl : p = 0 := Subsingleton.elim _ _
  blk_simp
  rw [after0_11]
  refine Eq.trans ?_ (spots t q (total _)).2.1.symm
  exact Norms.total_of_steps (N := cfg0.N) rfl (fun n hn q => (outsAt0 m c n hn).2.2.2.1 (ix2 0 q)) _ _
    (fun t q => Finset.sum_congr rfl fun r _ => Norms.weightTerm_congr r (place t r) q (hidden_at m c t r) (ct_at m c t r) (s_at m c t))
    (firstWeight m c) (nextWeight m c) t ((flush0_11 t).1 hf) q

/-- The gradient of the modulation's factors. -/
theorem arrayS : (dats m 0 c).arrAt 12 cfg0.N
    = total (scaleTerm (Hidden m c) (m ((c : Thread nD τ).loc main_arg3)) (m ((c : Thread nD τ).loc main_arg7))) := by
  refine (dats m 0 c).arrAt_eq_of_covers 12 _ (by decide +kernel) fun t hf y => ?_
  obtain ⟨p, q, rfl⟩ : ∃ (p : Fin 1) (q : Fin 2048), y = ix2 p q := ⟨y 0, y 1, pair_eq y⟩
  obtain rfl : p = 0 := Subsingleton.elim _ _
  blk_simp
  rw [after0_12]
  refine Eq.trans ?_ (spots t q (total _)).2.2.1.symm
  exact Norms.total_of_steps (N := cfg0.N) rfl (fun n hn q => (outsAt0 m c n hn).2.2.2.2.1 (ix2 0 q)) _ _
    (fun t q => Finset.sum_congr rfl fun r _ => Norms.scaleTerm_congr r (place t r) q (hidden_at m c t r) (ct_at m c t r) (g_at m c t))
    (firstScale m c) (nextScale m c) t ((flush0_12 t).1 hf) q

/-- The gradient of the modulation's shifts. -/
theorem arrayB : (dats m 0 c).arrAt 13 cfg0.N = total (shiftTerm (m ((c : Thread nD τ).loc main_arg7))) := by
  refine (dats m 0 c).arrAt_eq_of_covers 13 _ (by decide +kernel) fun t hf y => ?_
  obtain ⟨p, q, rfl⟩ : ∃ (p : Fin 1) (q : Fin 2048), y = ix2 p q := ⟨y 0, y 1, pair_eq y⟩
  obtain rfl : p = 0 := Subsingleton.elim _ _
  blk_simp
  rw [after0_13]
  refine Eq.trans ?_ (spots t q (total _)).2.2.2.symm
  exact Norms.total_of_steps (N := cfg0.N) rfl (fun n hn q => (outsAt0 m c n hn).2.2.2.2.2 (ix2 0 q)) _ _
    (fun t q => Finset.sum_congr rfl fun r _ => ct_at m c t r q)
    (firstShift m c) (nextShift m c) t ((flush0_13 t).1 hf) q

end Cert.Kernel53Ideal.Value

namespace Cert.Reference53Ideal.Value

open Cert.Reference53Ideal Cert.Reference53Ideal.Gen Idealize.ShloMosaic Idealize.ShloMosaic.TcCoe
open Tables (pair_eq)
open Norms (added joined modulated gated gateTerm weightTerm scaleTerm shiftTerm total)

variable (m : (ℓ : Loc nD τ sig) → Buf (Elt Ideal) ℓ) (c : Dev nD)

/-- The gradient of all rows. -/
abbrev Dx : Products.Table 2048 2048 :=
  joined (added (m ((c.tc : Thread nD τ).loc main_arg0)) (m ((c.tc : Thread nD τ).loc main_arg1)) (m ((c.tc : Thread nD τ).loc main_arg2)))
    (modulated (m ((c.tc : Thread nD τ).loc main_arg7)) (m ((c.tc : Thread nD τ).loc main_arg4)) (m ((c.tc : Thread nD τ).loc main_arg3)))
    (m ((c.tc : Thread nD τ).loc main_arg6))

theorem resultX : res_main_v51 m c = Dx m c := by
  funext i
  rw [pair_eq i]
  pointwise [res_main_v51]
  simp only [Fin.sum_univ_one]
  rfl

theorem resultO : res_main_v58 m c = gated (m ((c.tc : Thread nD τ).loc main_arg2)) (Dx m c) := by
  funext i
  rw [pair_eq i]
  pointwise [res_main_v58]
  simp only [Fin.sum_univ_one]
  rfl

theorem resultA : res_main_v57 m c = total (gateTerm (Dx m c) (m ((c.tc : Thread nD τ).loc main_arg1))) := by
  funext i
  rw [pair_eq i]
  pointwise [res_main_v57]
  simp only [Fin.sum_univ_one]
  rfl

/-- The factors that normalise the rows. -/
def factors (x : FVec Ideal S2048x2048 .f32) : FVec Ideal S2048x1 .f32 :=
  Host.rsqrt (addf (Host.divf (broadcastInDim S2048x1 ![0] bcast_S2048_S2048x1_0
      (Host.reduceAdd (mulf x x) (constant S_ .f32 0x00000000#32) reducesTo_S2048x2048_S2048_d1 h_S_))
    (broadcastInDim S2048x1 ![] bcast_S_S2048x1 (constant S_ .f32 0x45000000#32)))
    (broadcastInDim S2048x1 ![] bcast_S_S2048x1 (constant S_ .f32 0x358637BD#32)))

theorem factors_at (x : FVec Ideal S2048x2048 .f32) (r : Fin 2048) (o : Fin 1) : factors x (ix2 r o) = Norms.scale (Norms.row x r) := by
  pointwise [factors]
  rfl

/-- The rows with the branch, as the program forms them. -/
def sums (x out : FVec Ideal S2048x2048 .f32) (g1 : FVec Ideal S1x2048 .f32) : FVec Ideal S2048x2048 .f32 :=
  addf x (mulf (broadcastInDim S2048x2048 ![0, 1] bcast_S1x2048_S2048x2048_0_1 g1) out)

theorem sums_eq (x out : FVec Ideal S2048x2048 .f32) (g1 : FVec Ideal S1x2048 .f32) : sums x out g1 = added x out g1 := by
  funext i
  rw [pair_eq i]
  pointwise [sums]
  rfl

variable (x out a : FVec Ideal S2048x2048 .f32) (g1 g sc : FVec Ideal S1x2048 .f32)

theorem resultG : shapeCast _ (Host.reduceAdd (mulf (mulf (sums x out g1)
      (broadcastInDim S2048x2048 ![0, 1] bcast_S2048x1_S2048x2048_0_1 (factors (sums x out g1))))
      (mulf (shapeCast _ a shapeCasts_S2048x2048_S2048x2048) (broadcastInDim S2048x2048 ![0, 1] bcast_S1x2048_S2048x2048_0_1
        (addf (broadcastInDim S1x2048 ![] bcast_S_S1x2048 (constant S_ .f32 0x3F800000#32)) sc))))
      (constant S_ .f32 0x00000000#32) reducesTo_S2048x2048_S2048_d0 h_S_) shapeCasts_S2048_S1x2048
    = total (weightTerm (added x out g1) sc a) := by
  rw [sums_eq]
  funext i
  rw [pair_eq i]
  pointwise
  simp only [factors_at]
  rfl

theorem resultS : shapeCast _ (Host.reduceAdd (mulf (mulf (mulf (sums x out g1)
      (broadcastInDim S2048x2048 ![0, 1] bcast_S2048x1_S2048x2048_0_1 (factors (sums x out g1))))
      (broadcastInDim S2048x2048 ![0, 1] bcast_S1x2048_S2048x2048_0_1 g)) (shapeCast _ a shapeCasts_S2048x2048_S2048x2048))
      (constant S_ .f32 0x00000000#32) reducesTo_S2048x2048_S2048_d0 h_S_) shapeCasts_S2048_S1x2048
    = total (scaleTerm (added x out g1) g a) := by
  rw [sums_eq]
  funext i
  rw [pair_eq i]
  pointwise
  simp only [factors_at]
  rfl

theorem resultB : shapeCast _ (Host.reduceAdd a (constant S_ .f32 0x00000000#32) reducesTo_S2048x2048_S2048_d0 h_S_) shapeCasts_S2048_S1x2048
    = total (shiftTerm a) := by
  funext i
  rw [pair_eq i]
  pointwise
  rfl

end Cert.Reference53Ideal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.WeightGrads
public import proofs.«01_k».proof.Proof.InputGrads
public import proofs.«01_k».proof.Proof.Forward
public import proofs.«01_k».proof.Proof.FfnIn
public import proofs.«01_k».proof.Proof.AttnFwd
public import proofs.«01_k».proof.Proof.Agree
public import proofs.«01_k».proof.Proof.FfnOutDx
public import proofs.«01_k».proof.Proof.FfnInDx
public import proofs.«01_k».proof.Proof.FfnInDw
public import proofs.«01_k».proof.Proof.FfnOutDw
public import Idealize.ShloMosaic.Adequacy
public import Idealize.ShloMosaic.Init
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Kernel37
public import proofs.«01_k».proof.Proof.Gen.Kernel37.Skeleton
public import proofs.«01_k».proof.Proof.Gen.Kernel37.Launch
public import proofs.«01_k».proof.Proof.Gen.Kernel37.Points
public import proofs.«01_k».proof.Proof.Gen.Kernel37.Frame
public import proofs.«01_k».proof.Proof.Gen.Kernel37Ideal
public import proofs.«01_k».proof.Proof.Gen.Kernel37Ideal.Skeleton
public import proofs.«01_k».proof.Proof.Gen.Kernel37Ideal.Launch
public import proofs.«01_k».proof.Proof.Gen.Kernel37Ideal.Points
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Kernel38
public import proofs.«01_k».proof.Proof.Gen.Kernel38.Skeleton
public import proofs.«01_k».proof.Proof.Gen.Kernel38.Launch
public import proofs.«01_k».proof.Proof.Gen.Kernel38.Points
public import proofs.«01_k».proof.Proof.Gen.Kernel38.Frame
public import proofs.«01_k».proof.Proof.Gen.Kernel38Ideal
public import proofs.«01_k».proof.Proof.Gen.Kernel38Ideal.Skeleton
public import proofs.«01_k».proof.Proof.Gen.Kernel38Ideal.Launch
public import proofs.«01_k».proof.Proof.Gen.Kernel38Ideal.Points
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import proofs.«01_k».proof.Proof.Gen.Kernel39
public import proofs.«01_k».proof.Proof.Gen.Kernel39.Skeleton
public import proofs.«01_k».proof.Proof.Gen.Kernel39.Launch
public import proofs.«01_k».proof.Proof.Gen.Kernel39.Points
public import proofs.«01_k».proof.Proof.Gen.Kernel39.Frame
public import proofs.«01_k».proof.Proof.Gen.Kernel39Ideal
public import proofs.«01_k».proof.Proof.Gen.Kernel39Ideal.Skeleton
public import proofs.«01_k».proof.Proof.Gen.Kernel39Ideal.Launch
public import proofs.«01_k».proof.Proof.Gen.Kernel39Ideal.Points
public import proofs.«01_k».proof.Proof.Gen.Kernel39Ideal.Frame
public import proofs.«01_k».proof.Proof.Gen.Kernel39Ideal.Value
public import proofs.«01_k».proof.Proof.Gen.Reference39Ideal
public import proofs.«01_k».proof.Proof.Gen.Reference39Ideal.Run
public import proofs.«01_k».proof.Proof.Gen.Kernel40
public import proofs.«01_k».proof.Proof.Gen.Kernel40.Skeleton
public import proofs.«01_k».proof.Proof.Gen.Kernel40.Launch
public import proofs.«01_k».proof.Proof.Gen.Kernel40.Points
public import proofs.«01_k».proof.Proof.Gen.Kernel40.Frame
public import proofs.«01_k».proof.Proof.Gen.Kernel40Ideal
public import proofs.«01_k».proof.Proof.Gen.Kernel40Ideal.Skeleton
public import proofs.«01_k».proof.Proof.Gen.Kernel40Ideal.Launch
public import proofs.«01_k».proof.Proof.Gen.Kernel40Ideal.Points
public import proofs.«01_k».proof.Proof.Gen.Kernel40Ideal.Frame
public import proofs.«01_k».proof.Proof.Gen.Kernel40Ideal.Value
public import proofs.«01_k».proof.Proof.Gen.Reference40Ideal
public import proofs.«01_k».proof.Proof.Gen.Reference40Ideal.Run
public import proofs.«01_k».proof.Proof.Gen.Kernel41
public import proofs.«01_k».proof.Proof.Gen.Kernel41.Skeleton
public import proofs.«01_k».proof.Proof.Gen.Kernel41.Launch
public import proofs.«01_k».proof.Proof.Gen.Kernel41.Points
public import proofs.«01_k».proof.Proof.Gen.Kernel41.Frame
public import proofs.«01_k».proof.Proof.Gen.Kernel41Ideal
public import proofs.«01_k».proof.Proof.Gen.Kernel41Ideal.Skeleton
public import proofs.«01_k».proof.Proof.Gen.Kernel41Ideal.Launch
public import proofs.«01_k».proof.Proof.Gen.Kernel41Ideal.Points
public import proofs.«01_k».proof.Proof.Gen.Kernel41Ideal.Frame
public import proofs.«01_k».proof.Proof.Gen.Kernel41Ideal.Value
public import proofs.«01_k».proof.Proof.Gen.Reference41Ideal
public import proofs.«01_k».proof.Proof.Gen.Reference41Ideal.Run
public import proofs.«01_k».proof.Proof.Gen.Kernel42
public import proofs.«01_k».proof.Proof.Gen.Kernel42.Skeleton
public import proofs.«01_k».proof.Proof.Gen.Kernel42.Launch
public import proofs.«01_k».proof.Proof.Gen.Kernel42.Points
public import proofs.«01_k».proof.Proof.Gen.Kernel42.Frame
public import proofs.«01_k».proof.Proof.Gen.Kernel42Ideal
public import proofs.«01_k».proof.Proof.Gen.Kernel42Ideal.Skeleton
public import proofs.«01_k».proof.Proof.Gen.Kernel42Ideal.Launch
public import proofs.«01_k».proof.Proof.Gen.Kernel42Ideal.Points
public import proofs.«01_k».proof.Proof.Gen.Kernel42Ideal.Frame
public import proofs.«01_k».proof.Proof.Gen.Kernel42Ideal.Value
public import proofs.«01_k».proof.Proof.Gen.Reference42Ideal
public import proofs.«01_k».proof.Proof.Gen.Reference42Ideal.Run
public import proofs.«01_k».proof.Proof.Gen.Kernel48
public import proofs.«01_k».proof.Proof.Gen.Kernel48.Skeleton
public import proofs.«01_k».proof.Proof.Gen.Kernel48.Launch
public import proofs.«01_k».proof.Proof.Gen.Kernel48.Points
public import proofs.«01_k».proof.Proof.Gen.Kernel48.Frame
public import proofs.«01_k».proof.Proof.Gen.Kernel48Ideal
public import proofs.«01_k».proof.Proof.Gen.Kernel48Ideal.Skeleton
public import proofs.«01_k».proof.Proof.Gen.Kernel48Ideal.Launch
public import proofs.«01_k».proof.Proof.Gen.Kernel48Ideal.Points
public import proofs.«01_k».proof.Proof.Gen.Kernel48Ideal.Frame
public import proofs.«01_k».proof.Proof.Gen.Kernel48Ideal.Value
public import proofs.«01_k».proof.Proof.Gen.Reference48Ideal
public import proofs.«01_k».proof.Proof.Gen.Reference48Ideal.Run
public import proofs.«01_k».proof.Proof.Gen.Kernel49
public import proofs.«01_k».proof.Proof.Gen.Kernel49.Skeleton
public import proofs.«01_k».proof.Proof.Gen.Kernel49.Launch
public import proofs.«01_k».proof.Proof.Gen.Kernel49.Points
public import proofs.«01_k».proof.Proof.Gen.Kernel49.Frame
public import proofs.«01_k».proof.Proof.Gen.Kernel49Ideal
public import proofs.«01_k».proof.Proof.Gen.Kernel49Ideal.Skeleton
public import proofs.«01_k».proof.Proof.Gen.Kernel49Ideal.Launch
public import proofs.«01_k».proof.Proof.Gen.Kernel49Ideal.Points
public import proofs.«01_k».proof.Proof.Gen.Kernel49Ideal.Frame
public import proofs.«01_k».proof.Proof.Gen.Kernel49Ideal.Value
public import proofs.«01_k».proof.Proof.Gen.Reference49Ideal
public import proofs.«01_k».proof.Proof.Gen.Reference49Ideal.Run
public import proofs.«01_k».proof.Proof.Gen.Kernel50
public import proofs.«01_k».proof.Proof.Gen.Kernel50.Skeleton
public import proofs.«01_k».proof.Proof.Gen.Kernel50.Launch
public import proofs.«01_k».proof.Proof.Gen.Kernel50.Points
public import proofs.«01_k».proof.Proof.Gen.Kernel50.Frame
public import proofs.«01_k».proof.Proof.Gen.Kernel50Ideal
public import proofs.«01_k».proof.Proof.Gen.Kernel50Ideal.Skeleton
public import proofs.«01_k».proof.Proof.Gen.Kernel50Ideal.Launch
public import proofs.«01_k».proof.Proof.Gen.Kernel50Ideal.Points
public import proofs.«01_k».proof.Proof.Gen.Kernel50Ideal.Frame
public import proofs.«01_k».proof.Proof.Gen.Kernel50Ideal.Value
public import proofs.«01_k».proof.Proof.Gen.Reference50Ideal
public import proofs.«01_k».proof.Proof.Gen.Reference50Ideal.Run
public import proofs.«01_k».proof.Proof.Gen.Kernel55
public import proofs.«01_k».proof.Proof.Gen.Kernel55.Skeleton
public import proofs.«01_k».proof.Proof.Gen.Kernel55.Launch
public import proofs.«01_k».proof.Proof.Gen.Kernel55.Points
public import proofs.«01_k».proof.Proof.Gen.Kernel55.Frame
public import proofs.«01_k».proof.Proof.Gen.Kernel55Ideal
public import proofs.«01_k».proof.Proof.Gen.Kernel55Ideal.Skeleton
public import proofs.«01_k».proof.Proof.Gen.Kernel55Ideal.Launch
public import proofs.«01_k».proof.Proof.Gen.Kernel55Ideal.Points
public import proofs.«01_k».proof.Proof.Gen.Kernel55Ideal.Frame
public import proofs.«01_k».proof.Proof.Gen.Kernel55Ideal.Value
public import proofs.«01_k».proof.Proof.Gen.Reference55Ideal
public import proofs.«01_k».proof.Proof.Gen.Reference55Ideal.Run
public import proofs.«01_k».proof.Proof.Gen.Kernel51
public import proofs.«01_k».proof.Proof.Gen.Kernel51.Skeleton
public import proofs.«01_k».proof.Proof.Gen.Kernel51.Launch
public import proofs.«01_k».proof.Proof.Gen.Kernel51.Points
public import proofs.«01_k».proof.Proof.Gen.Kernel51.Frame
public import proofs.«01_k».proof.Proof.Gen.Kernel51Ideal
public import proofs.«01_k».proof.Proof.Gen.Kernel51Ideal.Skeleton
public import proofs.«01_k».proof.Proof.Gen.Kernel51Ideal.Launch
public import proofs.«01_k».proof.Proof.Gen.Kernel51Ideal.Points
public import proofs.«01_k».proof.Proof.Gen.Kernel51Ideal.Frame
public import proofs.«01_k».proof.Proof.Gen.Kernel51Ideal.Value
public import proofs.«01_k».proof.Proof.Gen.Reference51Ideal
public import proofs.«01_k».proof.Proof.Gen.Reference51Ideal.Run
public import proofs.«01_k».proof.Proof.Gen.Kernel52
public import proofs.«01_k».proof.Proof.Gen.Kernel52.Skeleton
public import proofs.«01_k».proof.Proof.Gen.Kernel52.Launch
public import proofs.«01_k».proof.Proof.Gen.Kernel52.Points
public import proofs.«01_k».proof.Proof.Gen.Kernel52.Frame
public import proofs.«01_k».proof.Proof.Gen.Kernel52Ideal
public import proofs.«01_k».proof.Proof.Gen.Kernel52Ideal.Skeleton
public import proofs.«01_k».proof.Proof.Gen.Kernel52Ideal.Launch
public import proofs.«01_k».proof.Proof.Gen.Kernel52Ideal.Points
public import proofs.«01_k».proof.Proof.Gen.Kernel52Ideal.Frame
public import proofs.«01_k».proof.Proof.Gen.Kernel52Ideal.Value
public import proofs.«01_k».proof.Proof.Gen.Reference52Ideal
public import proofs.«01_k».proof.Proof.Gen.Reference52Ideal.Run
public import proofs.«01_k».proof.Proof.Gen.Kernel53
public import proofs.«01_k».proof.Proof.Gen.Kernel53.Skeleton
public import proofs.«01_k».proof.Proof.Gen.Kernel53.Launch
public import proofs.«01_k».proof.Proof.Gen.Kernel53.Points
public import proofs.«01_k».proof.Proof.Gen.Kernel53.Frame
public import proofs.«01_k».proof.Proof.Gen.Kernel53Ideal
public import proofs.«01_k».proof.Proof.Gen.Kernel53Ideal.Skeleton
public import proofs.«01_k».proof.Proof.Gen.Kernel53Ideal.Launch
public import proofs.«01_k».proof.Proof.Gen.Kernel53Ideal.Points
public import proofs.«01_k».proof.Proof.Gen.Kernel53Ideal.Frame
public import proofs.«01_k».proof.Proof.Gen.Kernel53Ideal.Value
public import proofs.«01_k».proof.Proof.Gen.Reference53Ideal
public import proofs.«01_k».proof.Proof.Gen.Reference53Ideal.Run
public import proofs.«01_k».proof.Proof.Gen.Kernel54
public import proofs.«01_k».proof.Proof.Gen.Kernel54.Skeleton
public import proofs.«01_k».proof.Proof.Gen.Kernel54.Launch
public import proofs.«01_k».proof.Proof.Gen.Kernel54.Points
public import proofs.«01_k».proof.Proof.Gen.Kernel54.Frame
public import proofs.«01_k».proof.Proof.Gen.Kernel54Ideal
public import proofs.«01_k».proof.Proof.Gen.Kernel54Ideal.Skeleton
public import proofs.«01_k».proof.Proof.Gen.Kernel54Ideal.Launch
public import proofs.«01_k».proof.Proof.Gen.Kernel54Ideal.Points
public import proofs.«01_k».proof.Proof.Gen.Kernel54Ideal.Frame
public import proofs.«01_k».proof.Proof.Gen.Kernel54Ideal.Value
public import proofs.«01_k».proof.Proof.Gen.Reference54Ideal
public import proofs.«01_k».proof.Proof.Gen.Reference54Ideal.Run
public import proofs.«01_k».proof.Proof.Gen.Kernel56
public import proofs.«01_k».proof.Proof.Gen.Kernel56.Skeleton
public import proofs.«01_k».proof.Proof.Gen.Kernel56.Launch
public import proofs.«01_k».proof.Proof.Gen.Kernel56.Points
public import proofs.«01_k».proof.Proof.Gen.Kernel56.Frame
public import proofs.«01_k».proof.Proof.Gen.Kernel56Ideal
public import proofs.«01_k».proof.Proof.Gen.Kernel56Ideal.Skeleton
public import proofs.«01_k».proof.Proof.Gen.Kernel56Ideal.Launch
public import proofs.«01_k».proof.Proof.Gen.Kernel56Ideal.Points
public import proofs.«01_k».proof.Proof.Gen.Kernel56Ideal.Frame
public import proofs.«01_k».proof.Proof.Gen.Kernel56Ideal.Value
public import proofs.«01_k».proof.Proof.Gen.Reference56Ideal
public import proofs.«01_k».proof.Proof.Gen.Reference56Ideal.Run
public import proofs.«01_k».proof.Proof.Gen.Kernel57
public import proofs.«01_k».proof.Proof.Gen.Kernel57.Skeleton
public import proofs.«01_k».proof.Proof.Gen.Kernel57.Launch
public import proofs.«01_k».proof.Proof.Gen.Kernel57.Points
public import proofs.«01_k».proof.Proof.Gen.Kernel57.Frame
public import proofs.«01_k».proof.Proof.Gen.Kernel57Ideal
public import proofs.«01_k».proof.Proof.Gen.Kernel57Ideal.Skeleton
public import proofs.«01_k».proof.Proof.Gen.Kernel57Ideal.Launch
public import proofs.«01_k».proof.Proof.Gen.Kernel57Ideal.Points
public import proofs.«01_k».proof.Proof.Gen.Kernel57Ideal.Frame
public import proofs.«01_k».proof.Proof.Gen.Kernel57Ideal.Value
public import proofs.«01_k».proof.Proof.Gen.Reference57Ideal
public import proofs.«01_k».proof.Proof.Gen.Reference57Ideal.Run
public import proofs.«01_k».proof.Proof.OptimiserLarge
public import proofs.«01_k».proof.Proof.OptimiserSmall
public import proofs.«01_k».proof.Proof.Modulation
public import proofs.«01_k».proof.Proof.Conditions
public import proofs.«01_k».proof.Proof.Merge
public import proofs.«01_k».proof.Proof.Norms
public import proofs.«01_k».proof.Proof.NormGrads
public import proofs.«01_k».proof.Proof.NormForward
public import proofs.«01_k».proof.Proof.NormSteps
public import proofs.«01_k».proof.Proof.LossGrads
public import proofs.«01_k».proof.Proof.ResidualGrads

@[expose] public section

noncomputable section

namespace Cert.Proof

open Idealize.ShloMosaic Idealize.SL.Sem Cert.Kernel

/-- A program without semaphores that ends with its results and its arguments leaves the arguments and every counter as they were. -/
theorem keeps {nD : ℕ} {τ : Topo} {sig : RefSig} {Val : EltTy → Type} {w : WPT (PUnit × MemSt nD τ sig Val)}
    {A B : Dev nD → PUnit × MemSt nD τ sig Val → Prop} (hs : sig.nSem + sig.nDmaSem = 0) (h : w fun r => ∀ c, A c r ∧ B c r) :
    w fun r => (∀ c, B c r) ∧ r.2.sem = fun _ => 0 :=
  w.mono (fun r h => ⟨fun c => (h c).2, sem_eq_zero_of_no_sems hs r.2⟩) h

/-- A program's result under another name. -/
theorem renamed {α ι : Type} {β : ι → Type} {w : WPT α} {x : (c : ι) → α → β c} {a v : (c : ι) → β c} {B : ι → α → Prop}
    (h : w fun r => ∀ c, x c r = a c ∧ B c r) (e : ∀ c, a c = v c) : w fun r => ∀ c, x c r = v c ∧ B c r :=
  w.mono (fun _ h c => ⟨(h c).1.trans (e c), (h c).2⟩) h

/-- The same of two results. -/
theorem renamed2 {α ι : Type} {β γ : ι → Type} {w : WPT α} {x : (c : ι) → α → β c} {a v : (c : ι) → β c} {y : (c : ι) → α → γ c}
    {b u : (c : ι) → γ c} {B : ι → α → Prop} (h : w fun r => ∀ c, x c r = a c ∧ y c r = b c ∧ B c r) (e : ∀ c, a c = v c) (f : ∀ c, b c = u c) :
    w fun r => ∀ c, x c r = v c ∧ y c r = u c ∧ B c r :=
  w.mono (fun _ h c => ⟨(h c).1.trans (e c), (h c).2.1.trans (f c), (h c).2.2⟩) h

/-- The same with four results. -/
theorem renamed4 {α ι : Type} {β γ δ ε : ι → Type} {w : WPT α} {x : (c : ι) → α → β c} {a v : (c : ι) → β c} {y : (c : ι) → α → γ c}
    {b u : (c : ι) → γ c} {z : (c : ι) → α → δ c} {d t : (c : ι) → δ c} {k : (c : ι) → α → ε c} {l s : (c : ι) → ε c} {B : ι → α → Prop}
    (h : w fun r => ∀ c, x c r = a c ∧ y c r = b c ∧ z c r = d c ∧ k c r = l c ∧ B c r)
    (ea : ∀ c, a c = v c) (eb : ∀ c, b c = u c) (ed : ∀ c, d c = t c) (el : ∀ c, l c = s c) :
    w fun r => ∀ c, x c r = v c ∧ y c r = u c ∧ z c r = t c ∧ k c r = s c ∧ B c r :=
  w.mono (fun _ h c => ⟨(h c).1.trans (ea c), (h c).2.1.trans (eb c), (h c).2.2.1.trans (ed c), (h c).2.2.2.1.trans (el c), (h c).2.2.2.2⟩) h

/-- The same with three results. -/
theorem renamed3 {α ι : Type} {β γ δ : ι → Type} {w : WPT α} {x : (c : ι) → α → β c} {a v : (c : ι) → β c} {y : (c : ι) → α → γ c}
    {b u : (c : ι) → γ c} {z : (c : ι) → α → δ c} {d t : (c : ι) → δ c} {B : ι → α → Prop}
    (h : w fun r => ∀ c, x c r = a c ∧ y c r = b c ∧ z c r = d c ∧ B c r) (ea : ∀ c, a c = v c) (eb : ∀ c, b c = u c) (ed : ∀ c, d c = t c) :
    w fun r => ∀ c, x c r = v c ∧ y c r = u c ∧ z c r = t c ∧ B c r :=
  w.mono (fun _ h c => ⟨(h c).1.trans (ea c), (h c).2.1.trans (eb c), (h c).2.2.1.trans (ed c), (h c).2.2.2⟩) h

/-- The same with six results. -/
theorem renamed6 {α ι : Type} {β γ δ ε ζ η : ι → Type} {w : WPT α} {x : (c : ι) → α → β c} {a v : (c : ι) → β c} {y : (c : ι) → α → γ c}
    {b u : (c : ι) → γ c} {z : (c : ι) → α → δ c} {d t : (c : ι) → δ c} {k : (c : ι) → α → ε c} {l s : (c : ι) → ε c}
    {k' : (c : ι) → α → ζ c} {l' s' : (c : ι) → ζ c} {k'' : (c : ι) → α → η c} {l'' s'' : (c : ι) → η c} {B : ι → α → Prop}
    (h : w fun r => ∀ c, x c r = a c ∧ y c r = b c ∧ z c r = d c ∧ k c r = l c ∧ k' c r = l' c ∧ k'' c r = l'' c ∧ B c r)
    (ea : ∀ c, a c = v c) (eb : ∀ c, b c = u c) (ed : ∀ c, d c = t c) (el : ∀ c, l c = s c) (el' : ∀ c, l' c = s' c)
    (el'' : ∀ c, l'' c = s'' c) :
    w fun r => ∀ c, x c r = v c ∧ y c r = u c ∧ z c r = t c ∧ k c r = s c ∧ k' c r = s' c ∧ k'' c r = s'' c ∧ B c r :=
  w.mono (fun _ h c => ⟨(h c).1.trans (ea c), (h c).2.1.trans (eb c), (h c).2.2.1.trans (ed c), (h c).2.2.2.1.trans (el c),
    (h c).2.2.2.2.1.trans (el' c), (h c).2.2.2.2.2.1.trans (el'' c), (h c).2.2.2.2.2.2⟩) h

/-- A program with two results, the second left out. -/
theorem first_result {α ι : Type} {w : WPT α} {A B C : ι → α → Prop} (h : w fun r => ∀ c, A c r ∧ B c r ∧ C c r) : w fun r => ∀ c, A c r ∧ C c r :=
  w.mono (fun _ h c => ⟨(h c).1, (h c).2.2⟩) h

/-- The reference runs and leaves its arguments and every counter as they were. -/
theorem frameR (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun r h => ⟨fun c => (h c).2.2.2, Idealize.ShloMosaic.sem_eq_zero_of_no_sems (by decide) r.2⟩)
    (Cert.ReferenceIdeal.Value.run (F := Ideal) m ρ)

/-- The named constants are the words the kernel holds. -/
theorem names : Cert.preserves_Kernel_KernelIdeal :=
  ⟨IdealRules.named_const.statement Cert.KernelIdeal.κ "scale_log2e" .f32 0x3DD53B95#32 _ rfl,
    IdealRules.named_const.statement Cert.KernelIdeal.κ "scale" .f32 0x3D93CD3A#32 _ rfl,
    IdealRules.named_const.statement Cert.KernelIdeal.κ "inv_scale" .f32 0x415DB3D7#32 _ rfl⟩

/-- The launch and the reference compute the same three gradients. -/
theorem equal : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m ρ m' ρ' hpre hagree
  refine ⟨fun c => Cert.KernelIdeal.Value.resQ m c, fun c => Cert.KernelIdeal.Value.resKV m c,
    fun c => Cert.KernelIdeal.Value.resKR m c, ?_, ?_⟩
  · refine (θ_run _ _ _).mono (fun r h c => ?_) (Cert.KernelIdeal.Value.run_blocks (F := Ideal) m ρ)
    obtain ⟨h4, h5, h6, hk⟩ := h c
    haveI := Cert.Pre_finite.facts
    obtain ⟨σ, hσ⟩ := Cert.Pre_finite.score_real (hpre c)
    exact ⟨h4.trans (Cert.KernelIdeal.Value.array4 hσ), h5.trans (Cert.KernelIdeal.Value.array5 hσ),
      h6.trans (Cert.KernelIdeal.Value.array6 hσ), hk⟩
  · refine (θ_run _ _ _).mono (fun r h c => ?_) (Cert.ReferenceIdeal.Value.run (F := Ideal) m' ρ')
    obtain ⟨h0, h1, h2, hk⟩ := h c
    obtain ⟨a0, a1, a2, a3⟩ := hagree c
    obtain ⟨e0, e1, e2⟩ := AttnBwd.agree0 (m := m) (m' := m') (c := c) a0 a1 a2 a3
    exact ⟨h0.trans e0, h1.trans e1, h2.trans e2, hk⟩

/-- The launch and the reference compute the same gradient of the activations. -/
theorem equal2 : Cert.algebraic_Kernel2Ideal_Reference2Ideal_pre_finite2 (hKernel2Ideal := Cert.Kernel2Ideal.Gen.facts)
    (hReference2Ideal := Cert.Reference2Ideal.Gen.facts) (hPre_finite2 := Cert.Pre_finite2.facts) := by
  intro m ρ m' ρ' hpre hagree
  refine ⟨_, renamed (Cert.Kernel2Ideal.Value.run_blocks (F := Ideal) m ρ) fun c => Cert.Kernel2Ideal.Value.array m c,
    renamed (Cert.Reference2Ideal.Value.run (F := Ideal) m' ρ') fun c => ?_⟩
  obtain ⟨a0, a1, a2⟩ := hagree c
  rw [a0, a1, a2]
  haveI := Cert.Pre_finite2.facts
  exact Cert.Reference2Ideal.Value.result _ _ _ (Cert.Pre_finite2.through_real (hpre c))

/-- The launch and the reference compute the same gradient of the mixer's input. -/
theorem equal3 : Cert.algebraic_Kernel3Ideal_Reference3Ideal (hKernel3Ideal := Cert.Kernel3Ideal.Gen.facts)
    (hReference3Ideal := Cert.Reference3Ideal.Gen.facts) := by
  intro m ρ m' ρ' _ hagree
  refine ⟨_, renamed (Cert.Kernel3Ideal.Value.run_blocks (F := Ideal) m ρ) fun c => Cert.Kernel3Ideal.Value.array m c,
    renamed (Cert.Reference3Ideal.Value.run (F := Ideal) m' ρ') fun c => ?_⟩
  obtain ⟨a0, a1⟩ := hagree c
  rw [a0, a1]
  exact Cert.Reference3Ideal.Value.result _ _

/-- The launch and the reference compute the same gradient of the input weights. -/
theorem equal4 : Cert.algebraic_Kernel4Ideal_Reference4Ideal (hKernel4Ideal := Cert.Kernel4Ideal.Gen.facts)
    (hReference4Ideal := Cert.Reference4Ideal.Gen.facts) := by
  intro m ρ m' ρ' _ hagree
  refine ⟨_, renamed (Cert.Kernel4Ideal.Value.run_blocks (F := Ideal) m ρ) fun c => Cert.Kernel4Ideal.Value.array m c,
    renamed (Cert.Reference4Ideal.Value.run (F := Ideal) m' ρ') fun c => ?_⟩
  obtain ⟨a0, a1⟩ := hagree c
  rw [a0, a1]
  exact Cert.Reference4Ideal.Value.result _ _

/-- The launch and the reference compute the same gradient of the output weights. -/
theorem equal5 : Cert.algebraic_Kernel5Ideal_Reference5Ideal (hKernel5Ideal := Cert.Kernel5Ideal.Gen.facts)
    (hReference5Ideal := Cert.Reference5Ideal.Gen.facts) := by
  intro m ρ m' ρ' _ hagree
  refine ⟨_, renamed (Cert.Kernel5Ideal.Value.run_blocks (F := Ideal) m ρ) fun c => Cert.Kernel5Ideal.Value.array m c,
    renamed (Cert.Reference5Ideal.Value.run (F := Ideal) m' ρ') fun c => ?_⟩
  obtain ⟨a0, a1⟩ := hagree c
  rw [a0, a1]
  exact Cert.Reference5Ideal.Value.result _ _

/-- The launch and the reference compute the same gradient of the gates' input. -/
theorem equal6 : Cert.algebraic_Kernel6Ideal_Reference6Ideal (hKernel6Ideal := Cert.Kernel6Ideal.Gen.facts)
    (hReference6Ideal := Cert.Reference6Ideal.Gen.facts) := by
  intro m ρ m' ρ' _ hagree
  refine ⟨_, renamed (Cert.Kernel6Ideal.Value.run_blocks (F := Ideal) m ρ) fun c => Cert.Kernel6Ideal.Value.array m c,
    renamed (Cert.Reference6Ideal.Value.run (F := Ideal) m' ρ') fun c => ?_⟩
  obtain ⟨a0, a1⟩ := hagree c
  rw [a0, a1]
  exact Cert.Reference6Ideal.Value.result _ _

/-- The launch and the reference compute the same gradient of the gates' weights. -/
theorem equal7 : Cert.algebraic_Kernel7Ideal_Reference7Ideal (hKernel7Ideal := Cert.Kernel7Ideal.Gen.facts)
    (hReference7Ideal := Cert.Reference7Ideal.Gen.facts) := by
  intro m ρ m' ρ' _ hagree
  refine ⟨_, renamed (Cert.Kernel7Ideal.Value.run_blocks (F := Ideal) m ρ) fun c => Cert.Kernel7Ideal.Value.array m c,
    renamed (Cert.Reference7Ideal.Value.run (F := Ideal) m' ρ') fun c => ?_⟩
  obtain ⟨a0, a1⟩ := hagree c
  rw [a0, a1]
  exact Cert.Reference7Ideal.Value.result _ _

/-- The launch and the reference compute the same gradient of the mixers' input. -/
theorem equal8 : Cert.algebraic_Kernel8Ideal_Reference8Ideal (hKernel8Ideal := Cert.Kernel8Ideal.Gen.facts)
    (hReference8Ideal := Cert.Reference8Ideal.Gen.facts) := by
  intro m ρ m' ρ' _ hagree
  refine ⟨_, renamed (Cert.Kernel8Ideal.Value.run_blocks (F := Ideal) m ρ) fun c => Cert.Kernel8Ideal.Value.array m c,
    renamed (Cert.Reference8Ideal.Value.run (F := Ideal) m' ρ') fun c => ?_⟩
  obtain ⟨a0, a1⟩ := hagree c
  rw [a0, a1]
  exact Cert.Reference8Ideal.Value.result _ _

/-- The launch and the reference compute the same gradient of the input weights of the mixers. -/
theorem equal9 : Cert.algebraic_Kernel9Ideal_Reference9Ideal (hKernel9Ideal := Cert.Kernel9Ideal.Gen.facts)
    (hReference9Ideal := Cert.Reference9Ideal.Gen.facts) := by
  intro m ρ m' ρ' _ hagree
  refine ⟨_, renamed (Cert.Kernel9Ideal.Value.run_blocks (F := Ideal) m ρ) fun c => Cert.Kernel9Ideal.Value.array m c,
    renamed (Cert.Reference9Ideal.Value.run (F := Ideal) m' ρ') fun c => ?_⟩
  obtain ⟨a0, a1⟩ := hagree c
  rw [a0, a1]
  exact Cert.Reference9Ideal.Value.result _ _

/-- The launch and the reference compute the same gradient of the merged mixers. -/
theorem equal10 : Cert.algebraic_Kernel10Ideal_Reference10Ideal (hKernel10Ideal := Cert.Kernel10Ideal.Gen.facts)
    (hReference10Ideal := Cert.Reference10Ideal.Gen.facts) := by
  intro m ρ m' ρ' _ hagree
  refine ⟨_, renamed (Cert.Kernel10Ideal.Value.run_blocks (F := Ideal) m ρ) fun c => Cert.Kernel10Ideal.Value.array m c,
    renamed (Cert.Reference10Ideal.Value.run (F := Ideal) m' ρ') fun c => ?_⟩
  obtain ⟨a0, a1⟩ := hagree c
  rw [a0, a1]
  exact Cert.Reference10Ideal.Value.result _ _

/-- The launch and the reference compute the same gradient of the output projection's weights. -/
theorem equal11 : Cert.algebraic_Kernel11Ideal_Reference11Ideal (hKernel11Ideal := Cert.Kernel11Ideal.Gen.facts)
    (hReference11Ideal := Cert.Reference11Ideal.Gen.facts) := by
  intro m ρ m' ρ' _ hagree
  refine ⟨_, renamed (Cert.Kernel11Ideal.Value.run_blocks (F := Ideal) m ρ) fun c => Cert.Kernel11Ideal.Value.array m c,
    renamed (Cert.Reference11Ideal.Value.run (F := Ideal) m' ρ') fun c => ?_⟩
  obtain ⟨a0, a1⟩ := hagree c
  rw [a0, a1]
  exact Cert.Reference11Ideal.Value.result _ _

/-- The launch and the reference compute the same gradient of the gated unit's input. -/
theorem equal12 : Cert.algebraic_Kernel12Ideal_Reference12Ideal (hKernel12Ideal := Cert.Kernel12Ideal.Gen.facts)
    (hReference12Ideal := Cert.Reference12Ideal.Gen.facts) := by
  intro m ρ m' ρ' _ hagree
  refine ⟨_, renamed (Cert.Kernel12Ideal.Value.run_blocks (F := Ideal) m ρ) fun c => Cert.Kernel12Ideal.Value.array m c,
    renamed (Cert.Reference12Ideal.Value.run (F := Ideal) m' ρ') fun c => ?_⟩
  obtain ⟨a0, a1⟩ := hagree c
  rw [a0, a1]
  exact Cert.Reference12Ideal.Value.result _ _

/-- The launch and the reference compute the same gradient of the gated unit's weights. -/
theorem equal13 : Cert.algebraic_Kernel13Ideal_Reference13Ideal (hKernel13Ideal := Cert.Kernel13Ideal.Gen.facts)
    (hReference13Ideal := Cert.Reference13Ideal.Gen.facts) := by
  intro m ρ m' ρ' _ hagree
  refine ⟨_, renamed (Cert.Kernel13Ideal.Value.run_blocks (F := Ideal) m ρ) fun c => Cert.Kernel13Ideal.Value.array m c,
    renamed (Cert.Reference13Ideal.Value.run (F := Ideal) m' ρ') fun c => ?_⟩
  obtain ⟨a0, a1⟩ := hagree c
  rw [a0, a1]
  exact Cert.Reference13Ideal.Value.result _ _

/-- The launch and the reference compute the same gradient of the heads' outputs. -/
theorem equal14 : Cert.algebraic_Kernel14Ideal_Reference14Ideal (hKernel14Ideal := Cert.Kernel14Ideal.Gen.facts)
    (hReference14Ideal := Cert.Reference14Ideal.Gen.facts) := by
  intro m ρ m' ρ' _ hagree
  refine ⟨_, renamed (Cert.Kernel14Ideal.Value.run_blocks (F := Ideal) m ρ) fun c => Cert.Kernel14Ideal.Value.array m c,
    renamed (Cert.Reference14Ideal.Value.run (F := Ideal) m' ρ') fun c => ?_⟩
  obtain ⟨a0, a1⟩ := hagree c
  rw [a0, a1]
  exact Cert.Reference14Ideal.Value.result _ _

/-- The launch and the reference compute the same gradient of the attention's output weights. -/
theorem equal15 : Cert.algebraic_Kernel15Ideal_Reference15Ideal (hKernel15Ideal := Cert.Kernel15Ideal.Gen.facts)
    (hReference15Ideal := Cert.Reference15Ideal.Gen.facts) := by
  intro m ρ m' ρ' _ hagree
  refine ⟨_, renamed (Cert.Kernel15Ideal.Value.run_blocks (F := Ideal) m ρ) fun c => Cert.Kernel15Ideal.Value.array m c,
    renamed (Cert.Reference15Ideal.Value.run (F := Ideal) m' ρ') fun c => ?_⟩
  obtain ⟨a0, a1⟩ := hagree c
  rw [a0, a1]
  exact Cert.Reference15Ideal.Value.result _ _

/-- The launch and the reference compute the same gradient of the queries' low rank inputs. -/
theorem equal16 : Cert.algebraic_Kernel16Ideal_Reference16Ideal (hKernel16Ideal := Cert.Kernel16Ideal.Gen.facts)
    (hReference16Ideal := Cert.Reference16Ideal.Gen.facts) := by
  intro m ρ m' ρ' _ hagree
  refine ⟨_, renamed (Cert.Kernel16Ideal.Value.run_blocks (F := Ideal) m ρ) fun c => Cert.Kernel16Ideal.Value.array m c,
    renamed (Cert.Reference16Ideal.Value.run (F := Ideal) m' ρ') fun c => ?_⟩
  obtain ⟨a0, a1⟩ := hagree c
  rw [a0, a1]
  exact Cert.Reference16Ideal.Value.result _ _

/-- The launch and the reference compute the same gradient of the queries' weights. -/
theorem equal17 : Cert.algebraic_Kernel17Ideal_Reference17Ideal (hKernel17Ideal := Cert.Kernel17Ideal.Gen.facts)
    (hReference17Ideal := Cert.Reference17Ideal.Gen.facts) := by
  intro m ρ m' ρ' _ hagree
  refine ⟨_, renamed (Cert.Kernel17Ideal.Value.run_blocks (F := Ideal) m ρ) fun c => Cert.Kernel17Ideal.Value.array m c,
    renamed (Cert.Reference17Ideal.Value.run (F := Ideal) m' ρ') fun c => ?_⟩
  obtain ⟨a0, a1⟩ := hagree c
  rw [a0, a1]
  exact Cert.Reference17Ideal.Value.result _ _

/-- The launch and the reference compute the same gradient of the keys' and values' low rank inputs. -/
theorem equal18 : Cert.algebraic_Kernel18Ideal_Reference18Ideal (hKernel18Ideal := Cert.Kernel18Ideal.Gen.facts)
    (hReference18Ideal := Cert.Reference18Ideal.Gen.facts) := by
  intro m ρ m' ρ' _ hagree
  refine ⟨_, renamed (Cert.Kernel18Ideal.Value.run_blocks (F := Ideal) m ρ) fun c => Cert.Kernel18Ideal.Value.array m c,
    renamed (Cert.Reference18Ideal.Value.run (F := Ideal) m' ρ') fun c => ?_⟩
  obtain ⟨a0, a1⟩ := hagree c
  rw [a0, a1]
  exact Cert.Reference18Ideal.Value.result _ _

/-- The launch and the reference compute the same gradient of the keys' and values' weights. -/
theorem equal19 : Cert.algebraic_Kernel19Ideal_Reference19Ideal (hKernel19Ideal := Cert.Kernel19Ideal.Gen.facts)
    (hReference19Ideal := Cert.Reference19Ideal.Gen.facts) := by
  intro m ρ m' ρ' _ hagree
  refine ⟨_, renamed (Cert.Kernel19Ideal.Value.run_blocks (F := Ideal) m ρ) fun c => Cert.Kernel19Ideal.Value.array m c,
    renamed (Cert.Reference19Ideal.Value.run (F := Ideal) m' ρ') fun c => ?_⟩
  obtain ⟨a0, a1⟩ := hagree c
  rw [a0, a1]
  exact Cert.Reference19Ideal.Value.result _ _

/-- The launch and the reference compute the same gated activations and halves. -/
theorem equal20 : Cert.algebraic_Kernel20Ideal_Reference20Ideal (hKernel20Ideal := Cert.Kernel20Ideal.Gen.facts)
    (hReference20Ideal := Cert.Reference20Ideal.Gen.facts) := by
  intro m ρ m' ρ' _ hagree
  refine ⟨_, _, renamed2 (Cert.Kernel20Ideal.Value.run_blocks (F := Ideal) m ρ) (fun c => Cert.Kernel20Ideal.Value.array m c)
      fun c => Cert.Kernel20Ideal.Value.array4 m c,
    renamed2 (Cert.Reference20Ideal.Value.run (F := Ideal) m' ρ') (fun c => ?_) fun c => ?_⟩
  · obtain ⟨a0, a1⟩ := hagree c
    rw [a0, a1]
    exact Cert.Reference20Ideal.Value.result _ _
  · obtain ⟨a0, a1⟩ := hagree c
    rw [a0, a1]
    exact Cert.Reference20Ideal.Value.result4 _ _

/-- The launch and the reference compute the same feed-forward output. -/
theorem equal21 : Cert.algebraic_Kernel21Ideal_Reference21Ideal (hKernel21Ideal := Cert.Kernel21Ideal.Gen.facts)
    (hReference21Ideal := Cert.Reference21Ideal.Gen.facts) := by
  intro m ρ m' ρ' _ hagree
  refine ⟨_, renamed (Cert.Kernel21Ideal.Value.run_blocks (F := Ideal) m ρ) fun c => Cert.Kernel21Ideal.Value.array m c,
    renamed (Cert.Reference21Ideal.Value.run (F := Ideal) m' ρ') fun c => ?_⟩
  obtain ⟨a0, a1⟩ := hagree c
  rw [a0, a1]
  exact Cert.Reference21Ideal.Value.result _ _

/-- The launch and the reference compute the same gates. -/
theorem equal22 : Cert.algebraic_Kernel22Ideal_Reference22Ideal (hKernel22Ideal := Cert.Kernel22Ideal.Gen.facts)
    (hReference22Ideal := Cert.Reference22Ideal.Gen.facts) := by
  intro m ρ m' ρ' _ hagree
  refine ⟨_, renamed (Cert.Kernel22Ideal.Value.run_blocks (F := Ideal) m ρ) fun c => Cert.Kernel22Ideal.Value.array m c,
    renamed (Cert.Reference22Ideal.Value.run (F := Ideal) m' ρ') fun c => ?_⟩
  obtain ⟨a0, a1⟩ := hagree c
  rw [a0, a1]
  exact Cert.Reference22Ideal.Value.result _ _

/-- The launch and the reference compute the same inputs of the mixers. -/
theorem equal23 : Cert.algebraic_Kernel23Ideal_Reference23Ideal (hKernel23Ideal := Cert.Kernel23Ideal.Gen.facts)
    (hReference23Ideal := Cert.Reference23Ideal.Gen.facts) := by
  intro m ρ m' ρ' _ hagree
  refine ⟨_, renamed (Cert.Kernel23Ideal.Value.run_blocks (F := Ideal) m ρ) fun c => Cert.Kernel23Ideal.Value.array m c,
    renamed (Cert.Reference23Ideal.Value.run (F := Ideal) m' ρ') fun c => ?_⟩
  obtain ⟨a0, a1⟩ := hagree c
  rw [a0, a1]
  exact Cert.Reference23Ideal.Value.result _ _

/-- The launch and the reference compute the same projected output. -/
theorem equal24 : Cert.algebraic_Kernel24Ideal_Reference24Ideal (hKernel24Ideal := Cert.Kernel24Ideal.Gen.facts)
    (hReference24Ideal := Cert.Reference24Ideal.Gen.facts) := by
  intro m ρ m' ρ' _ hagree
  refine ⟨_, renamed (Cert.Kernel24Ideal.Value.run_blocks (F := Ideal) m ρ) fun c => Cert.Kernel24Ideal.Value.array m c,
    renamed (Cert.Reference24Ideal.Value.run (F := Ideal) m' ρ') fun c => ?_⟩
  obtain ⟨a0, a1⟩ := hagree c
  rw [a0, a1]
  exact Cert.Reference24Ideal.Value.result _ _

/-- The launch and the reference compute the same halves of the gated unit. -/
theorem equal25 : Cert.algebraic_Kernel25Ideal_Reference25Ideal (hKernel25Ideal := Cert.Kernel25Ideal.Gen.facts)
    (hReference25Ideal := Cert.Reference25Ideal.Gen.facts) := by
  intro m ρ m' ρ' _ hagree
  refine ⟨_, renamed (Cert.Kernel25Ideal.Value.run_blocks (F := Ideal) m ρ) fun c => Cert.Kernel25Ideal.Value.array m c,
    renamed (Cert.Reference25Ideal.Value.run (F := Ideal) m' ρ') fun c => ?_⟩
  obtain ⟨a0, a1⟩ := hagree c
  rw [a0, a1]
  exact Cert.Reference25Ideal.Value.result _ _

/-- The launch and the reference compute the same attention output. -/
theorem equal26 : Cert.algebraic_Kernel26Ideal_Reference26Ideal (hKernel26Ideal := Cert.Kernel26Ideal.Gen.facts)
    (hReference26Ideal := Cert.Reference26Ideal.Gen.facts) := by
  intro m ρ m' ρ' _ hagree
  refine ⟨_, renamed (Cert.Kernel26Ideal.Value.run_blocks (F := Ideal) m ρ) fun c => Cert.Kernel26Ideal.Value.array m c,
    renamed (Cert.Reference26Ideal.Value.run (F := Ideal) m' ρ') fun c => ?_⟩
  obtain ⟨a0, a1⟩ := hagree c
  rw [a0, a1]
  exact Cert.Reference26Ideal.Value.result _ _

/-- The launch and the reference compute the same queries. -/
theorem equal27 : Cert.algebraic_Kernel27Ideal_Reference27Ideal (hKernel27Ideal := Cert.Kernel27Ideal.Gen.facts)
    (hReference27Ideal := Cert.Reference27Ideal.Gen.facts) := by
  intro m ρ m' ρ' _ hagree
  refine ⟨_, renamed (Cert.Kernel27Ideal.Value.run_blocks (F := Ideal) m ρ) fun c => Cert.Kernel27Ideal.Value.array m c,
    renamed (Cert.Reference27Ideal.Value.run (F := Ideal) m' ρ') fun c => ?_⟩
  obtain ⟨a0, a1⟩ := hagree c
  rw [a0, a1]
  exact Cert.Reference27Ideal.Value.result _ _

/-- The launch and the reference compute the same keys and values. -/
theorem equal28 : Cert.algebraic_Kernel28Ideal_Reference28Ideal (hKernel28Ideal := Cert.Kernel28Ideal.Gen.facts)
    (hReference28Ideal := Cert.Reference28Ideal.Gen.facts) := by
  intro m ρ m' ρ' _ hagree
  refine ⟨_, renamed (Cert.Kernel28Ideal.Value.run_blocks (F := Ideal) m ρ) fun c => Cert.Kernel28Ideal.Value.array m c,
    renamed (Cert.Reference28Ideal.Value.run (F := Ideal) m' ρ') fun c => ?_⟩
  obtain ⟨a0, a1⟩ := hagree c
  rw [a0, a1]
  exact Cert.Reference28Ideal.Value.result _ _

/-- The named constant is the one that replaces it. -/
theorem names29 : Cert.preserves_Kernel29_Kernel29Ideal :=
  IdealRules.named_const.statement Cert.Kernel29Ideal.κ "scale_log2e" .f32 0x3DD53B95#32 _ rfl

/-- The launch and the reference compute the same attention. -/
theorem equal29 : Cert.algebraic_Kernel29Ideal_Reference29Ideal_pre_finite29 (hKernel29Ideal := Cert.Kernel29Ideal.Gen.facts)
    (hReference29Ideal := Cert.Reference29Ideal.Gen.facts) (hPre_finite29 := Cert.Pre_finite29.facts) := by
  intro m ρ m' ρ' hpre hagree
  haveI := Cert.Pre_finite29.facts
  refine ⟨_, renamed (Cert.Kernel29Ideal.Value.run_blocks (F := Ideal) m ρ) fun c => Cert.Kernel29Ideal.Value.array m c
      (Cert.Pre_finite29.score_real (hpre c)),
    renamed (Cert.Reference29Ideal.Value.run (F := Ideal) m' ρ') fun c => ?_⟩
  obtain ⟨a0, a1, a2⟩ := hagree c
  refine (Cert.Reference29Ideal.Value.result m' c).trans ?_
  rw [a0, a1, a2]

/-- The launch and the reference update the modulation weights alike. -/
theorem equal30 : Cert.algebraic_Kernel30Ideal_Reference30Ideal (hKernel30Ideal := Cert.Kernel30Ideal.Gen.facts)
    (hReference30Ideal := Cert.Reference30Ideal.Gen.facts) := by
  intro m ρ m' ρ' _ hagree
  refine ⟨_, _, _, _, renamed4 (Cert.Kernel30Ideal.Value.run_blocks (F := Ideal) m ρ) (fun c => Cert.Kernel30Ideal.Value.gradient m c) (fun c => Cert.Kernel30Ideal.Value.change m c)
      (fun c => Cert.Kernel30Ideal.Value.mean1 m c) (fun c => Cert.Kernel30Ideal.Value.mean2 m c),
    renamed4 (Cert.Reference30Ideal.Value.run (F := Ideal) m' ρ') (fun c => (hagree c).2.1) (fun c => ?_) (fun c => ?_) (fun c => ?_)⟩ <;>
    · obtain ⟨a0, a1, a2, a3, _⟩ := hagree c
      rw [a1]
      first | rw [a0, a2, a3]; rfl | rw [a2]; rfl | rw [a3]; rfl

/-- The launch and the reference update the feed-forward output weights alike. -/
theorem equal31 : Cert.algebraic_Kernel31Ideal_Reference31Ideal (hKernel31Ideal := Cert.Kernel31Ideal.Gen.facts)
    (hReference31Ideal := Cert.Reference31Ideal.Gen.facts) := by
  intro m ρ m' ρ' _ hagree
  refine ⟨_, _, _, _, renamed4 (Cert.Kernel31Ideal.Value.run_blocks (F := Ideal) m ρ) (fun c => Cert.Kernel31Ideal.Value.gradient m c) (fun c => Cert.Kernel31Ideal.Value.change m c)
      (fun c => Cert.Kernel31Ideal.Value.mean1 m c) (fun c => Cert.Kernel31Ideal.Value.mean2 m c),
    renamed4 (Cert.Reference31Ideal.Value.run (F := Ideal) m' ρ') (fun c => (hagree c).2.1) (fun c => ?_) (fun c => ?_) (fun c => ?_)⟩ <;>
    · obtain ⟨a0, a1, a2, a3, _⟩ := hagree c
      rw [a1]
      first | rw [a0, a2, a3]; rfl | rw [a2]; rfl | rw [a3]; rfl

/-- The launch and the reference update the feed-forward input weights alike. -/
theorem equal32 : Cert.algebraic_Kernel32Ideal_Reference32Ideal (hKernel32Ideal := Cert.Kernel32Ideal.Gen.facts)
    (hReference32Ideal := Cert.Reference32Ideal.Gen.facts) := by
  intro m ρ m' ρ' _ hagree
  refine ⟨_, _, _, _, renamed4 (Cert.Kernel32Ideal.Value.run_blocks (F := Ideal) m ρ) (fun c => Cert.Kernel32Ideal.Value.gradient m c) (fun c => Cert.Kernel32Ideal.Value.change m c)
      (fun c => Cert.Kernel32Ideal.Value.mean1 m c) (fun c => Cert.Kernel32Ideal.Value.mean2 m c),
    renamed4 (Cert.Reference32Ideal.Value.run (F := Ideal) m' ρ') (fun c => (hagree c).2.1) (fun c => ?_) (fun c => ?_) (fun c => ?_)⟩ <;>
    · obtain ⟨a0, a1, a2, a3⟩ := hagree c
      rw [a1]
      first | rw [a0, a2, a3]; rfl | rw [a2]; rfl | rw [a3]; rfl

/-- The launch and the reference update the output projection alike. -/
theorem equal33 : Cert.algebraic_Kernel33Ideal_Reference33Ideal (hKernel33Ideal := Cert.Kernel33Ideal.Gen.facts)
    (hReference33Ideal := Cert.Reference33Ideal.Gen.facts) := by
  intro m ρ m' ρ' _ hagree
  refine ⟨_, _, _, _, renamed4 (Cert.Kernel33Ideal.Value.run_blocks (F := Ideal) m ρ) (fun c => Cert.Kernel33Ideal.Value.gradient m c) (fun c => Cert.Kernel33Ideal.Value.change m c)
      (fun c => Cert.Kernel33Ideal.Value.mean1 m c) (fun c => Cert.Kernel33Ideal.Value.mean2 m c),
    renamed4 (Cert.Reference33Ideal.Value.run (F := Ideal) m' ρ') (fun c => (hagree c).2.1) (fun c => ?_) (fun c => ?_) (fun c => ?_)⟩ <;>
    · obtain ⟨a0, a1, a2, a3, _⟩ := hagree c
      rw [a1]
      first | rw [a0, a2, a3]; rfl | rw [a2]; rfl | rw [a3]; rfl

/-- The launch and the reference update the gated unit's weights alike. -/
theorem equal34 : Cert.algebraic_Kernel34Ideal_Reference34Ideal (hKernel34Ideal := Cert.Kernel34Ideal.Gen.facts)
    (hReference34Ideal := Cert.Reference34Ideal.Gen.facts) := by
  intro m ρ m' ρ' _ hagree
  refine ⟨_, _, _, _, renamed4 (Cert.Kernel34Ideal.Value.run_blocks (F := Ideal) m ρ) (fun c => Cert.Kernel34Ideal.Value.gradient m c) (fun c => Cert.Kernel34Ideal.Value.change m c)
      (fun c => Cert.Kernel34Ideal.Value.mean1 m c) (fun c => Cert.Kernel34Ideal.Value.mean2 m c),
    renamed4 (Cert.Reference34Ideal.Value.run (F := Ideal) m' ρ') (fun c => (hagree c).2.1) (fun c => ?_) (fun c => ?_) (fun c => ?_)⟩ <;>
    · obtain ⟨a0, a1, a2, a3⟩ := hagree c
      rw [a1]
      first | rw [a0, a2, a3]; rfl | rw [a2]; rfl | rw [a3]; rfl

/-- The launch and the reference update the attention's output weights alike. -/
theorem equal35 : Cert.algebraic_Kernel35Ideal_Reference35Ideal (hKernel35Ideal := Cert.Kernel35Ideal.Gen.facts)
    (hReference35Ideal := Cert.Reference35Ideal.Gen.facts) := by
  intro m ρ m' ρ' _ hagree
  refine ⟨_, _, _, _, renamed4 (Cert.Kernel35Ideal.Value.run_blocks (F := Ideal) m ρ) (fun c => Cert.Kernel35Ideal.Value.gradient m c) (fun c => Cert.Kernel35Ideal.Value.change m c)
      (fun c => Cert.Kernel35Ideal.Value.mean1 m c) (fun c => Cert.Kernel35Ideal.Value.mean2 m c),
    renamed4 (Cert.Reference35Ideal.Value.run (F := Ideal) m' ρ') (fun c => (hagree c).2.1) (fun c => ?_) (fun c => ?_) (fun c => ?_)⟩ <;>
    · obtain ⟨a0, a1, a2, a3⟩ := hagree c
      rw [a1]
      first | rw [a0, a2, a3]; rfl | rw [a2]; rfl | rw [a3]; rfl

/-- The launch and the reference update the queries' weights alike. -/
theorem equal36 : Cert.algebraic_Kernel36Ideal_Reference36Ideal (hKernel36Ideal := Cert.Kernel36Ideal.Gen.facts)
    (hReference36Ideal := Cert.Reference36Ideal.Gen.facts) := by
  intro m ρ m' ρ' _ hagree
  refine ⟨_, _, _, _, renamed4 (Cert.Kernel36Ideal.Value.run_blocks (F := Ideal) m ρ) (fun c => Cert.Kernel36Ideal.Value.gradient m c) (fun c => Cert.Kernel36Ideal.Value.change m c)
      (fun c => Cert.Kernel36Ideal.Value.mean1 m c) (fun c => Cert.Kernel36Ideal.Value.mean2 m c),
    renamed4 (Cert.Reference36Ideal.Value.run (F := Ideal) m' ρ') (fun c => (hagree c).2.1) (fun c => ?_) (fun c => ?_) (fun c => ?_)⟩ <;>
    · obtain ⟨a0, a1, a2, a3, _⟩ := hagree c
      rw [a1]
      first | rw [a0, a2, a3]; rfl | rw [a2]; rfl | rw [a3]; rfl

/-- The launch and the reference update the keys' and values' weights alike. -/
theorem equal37 : Cert.algebraic_Kernel37Ideal_Reference37Ideal (hKernel37Ideal := Cert.Kernel37Ideal.Gen.facts)
    (hReference37Ideal := Cert.Reference37Ideal.Gen.facts) := by
  intro m ρ m' ρ' _ hagree
  refine ⟨_, _, _, _, renamed4 (Cert.Kernel37Ideal.Value.run_blocks (F := Ideal) m ρ) (fun c => Cert.Kernel37Ideal.Value.gradient m c) (fun c => Cert.Kernel37Ideal.Value.change m c)
      (fun c => Cert.Kernel37Ideal.Value.mean1 m c) (fun c => Cert.Kernel37Ideal.Value.mean2 m c),
    renamed4 (Cert.Reference37Ideal.Value.run (F := Ideal) m' ρ') (fun c => (hagree c).2.1) (fun c => ?_) (fun c => ?_) (fun c => ?_)⟩ <;>
    · obtain ⟨a0, a1, a2, a3⟩ := hagree c
      rw [a1]
      first | rw [a0, a2, a3]; rfl | rw [a2]; rfl | rw [a3]; rfl

/-- The launch and the reference update the input projection alike. -/
theorem equal38 : Cert.algebraic_Kernel38Ideal_Reference38Ideal (hKernel38Ideal := Cert.Kernel38Ideal.Gen.facts)
    (hReference38Ideal := Cert.Reference38Ideal.Gen.facts) := by
  intro m ρ m' ρ' _ hagree
  refine ⟨_, _, _, _, renamed4 (Cert.Kernel38Ideal.Value.run_blocks (F := Ideal) m ρ) (fun c => Cert.Kernel38Ideal.Value.gradient m c) (fun c => Cert.Kernel38Ideal.Value.change m c)
      (fun c => Cert.Kernel38Ideal.Value.mean1 m c) (fun c => Cert.Kernel38Ideal.Value.mean2 m c),
    renamed4 (Cert.Reference38Ideal.Value.run (F := Ideal) m' ρ') (fun c => (hagree c).2.1) (fun c => ?_) (fun c => ?_) (fun c => ?_)⟩ <;>
    · obtain ⟨a0, a1, a2, a3⟩ := hagree c
      rw [a1]
      first | rw [a0, a2, a3]; rfl | rw [a2]; rfl | rw [a3]; rfl

/-- The launch and the reference update the small weights alike. -/
theorem equal39 : Cert.algebraic_Kernel39Ideal_Reference39Ideal (hKernel39Ideal := Cert.Kernel39Ideal.Gen.facts)
    (hReference39Ideal := Cert.Reference39Ideal.Gen.facts) := by
  intro m ρ m' ρ' _ hagree
  refine ⟨_, _, _, _, renamed4 (Cert.Kernel39Ideal.Value.run_blocks (F := Ideal) m ρ) (fun c => Cert.Kernel39Ideal.Value.gradient m c) (fun c => Cert.Kernel39Ideal.Value.change m c)
      (fun c => Cert.Kernel39Ideal.Value.mean1 m c) (fun c => Cert.Kernel39Ideal.Value.mean2 m c),
    renamed4 (Cert.Reference39Ideal.Value.run (F := Ideal) m' ρ') (fun c => (hagree c).2.1) (fun c => ?_) (fun c => ?_) (fun c => ?_)⟩ <;>
    · obtain ⟨a0, a1, a2, a3⟩ := hagree c
      rw [a1]
      first | rw [a0, a2, a3]; rfl | rw [a2]; rfl | rw [a3]; rfl

/-- The launch and the reference compute the same gradients of the modulation weights and of the bias. -/
theorem equal40 : Cert.algebraic_Kernel40Ideal_Reference40Ideal (hKernel40Ideal := Cert.Kernel40Ideal.Gen.facts)
    (hReference40Ideal := Cert.Reference40Ideal.Gen.facts) := by
  intro m ρ m' ρ' _ hagree
  refine ⟨_, _, renamed2 (Cert.Kernel40Ideal.Value.run_both m ρ)
      (fun c => Cert.Kernel40Ideal.Value.array m c)
      (fun c => rfl),
    renamed2 (Cert.Reference40Ideal.Value.run (F := Ideal) m' ρ') (fun c => ?_) (fun c => ?_)⟩
  · obtain ⟨a0, a1, a2⟩ := hagree c
    rw [a0, a2]
    exact Cert.Reference40Ideal.Value.result _ _
  · obtain ⟨a0, a1, a2⟩ := hagree c
    rw [a1]
    exact Cert.Reference40Ideal.Value.bias _

/-- The launch and the reference compute the same gradient of the modulation's input. -/
theorem equal41 : Cert.algebraic_Kernel41Ideal_Reference41Ideal (hKernel41Ideal := Cert.Kernel41Ideal.Gen.facts)
    (hReference41Ideal := Cert.Reference41Ideal.Gen.facts) := by
  intro m ρ m' ρ' _ hagree
  refine ⟨_, renamed (Cert.Kernel41Ideal.Value.run_blocks (F := Ideal) m ρ)
      (fun c => Cert.Kernel41Ideal.Value.array m c),
    renamed (Cert.Reference41Ideal.Value.run (F := Ideal) m' ρ') (fun c => ?_)⟩
  obtain ⟨a0, a1⟩ := hagree c
  rw [a0, a1]
  exact Cert.Reference41Ideal.Value.result _ _

/-- The launch and the reference compute the same modulation. -/
theorem equal42 : Cert.algebraic_Kernel42Ideal_Reference42Ideal (hKernel42Ideal := Cert.Kernel42Ideal.Gen.facts)
    (hReference42Ideal := Cert.Reference42Ideal.Gen.facts) := by
  intro m ρ m' ρ' _ hagree
  refine ⟨_, renamed (Cert.Kernel42Ideal.Value.run_blocks (F := Ideal) m ρ)
      (fun c => Cert.Kernel42Ideal.Value.array m c),
    renamed (Cert.Reference42Ideal.Value.run (F := Ideal) m' ρ') (fun c => ?_)⟩
  obtain ⟨a0, a1⟩ := hagree c
  rw [a0, a1]
  exact Cert.Reference42Ideal.Value.result _ _

/-- The launch and the reference compute the same merged branches. -/
theorem equal48 : Cert.algebraic_Kernel48Ideal_Reference48Ideal (hKernel48Ideal := Cert.Kernel48Ideal.Gen.facts)
    (hReference48Ideal := Cert.Reference48Ideal.Gen.facts) := by
  intro m ρ m' ρ' _ hagree
  refine ⟨_, renamed (Cert.Kernel48Ideal.Value.run_blocks (F := Ideal) m ρ)
      (fun c => Cert.Kernel48Ideal.Value.array m c),
    renamed (Cert.Reference48Ideal.Value.run (F := Ideal) m' ρ') (fun c => ?_)⟩
  obtain ⟨a0, a1, a2⟩ := hagree c
  rw [a0, a1, a2]
  exact Cert.Reference48Ideal.Value.result _ _ _

/-- The launch and the reference compute the same gradients of the branches and gates. -/
theorem equal49 : Cert.algebraic_Kernel49Ideal_Reference49Ideal (hKernel49Ideal := Cert.Kernel49Ideal.Gen.facts)
    (hReference49Ideal := Cert.Reference49Ideal.Gen.facts) := by
  intro m ρ m' ρ' _ hagree
  refine ⟨_, _, _, renamed3 (Cert.Kernel49Ideal.Value.run_blocks (F := Ideal) m ρ)
      (fun c => Cert.Kernel49Ideal.Value.arrayA m c)
      (fun c => Cert.Kernel49Ideal.Value.arrayB m c)
      (fun c => Cert.Kernel49Ideal.Value.arrayG m c),
    renamed3 (Cert.Reference49Ideal.Value.run (F := Ideal) m' ρ') (fun c => ?_) (fun c => ?_) (fun c => ?_)⟩
  · obtain ⟨a0, a1, a2, a3, _⟩ := hagree c
    rw [a0, a2, a3]
    exact Cert.Reference49Ideal.Value.resultA _ _ _
  · obtain ⟨a0, a1, a2, a3, _⟩ := hagree c
    rw [a2, a3]
    exact Cert.Reference49Ideal.Value.resultB _ _
  · obtain ⟨a0, a1, a2, a3, _⟩ := hagree c
    rw [a0, a1, a2, a3]
    exact Cert.Reference49Ideal.Value.resultG _ _ _ _

/-- The launch and the reference compute the same gradient of the conditions. -/
theorem equal50 : Cert.algebraic_Kernel50Ideal_Reference50Ideal (hKernel50Ideal := Cert.Kernel50Ideal.Gen.facts)
    (hReference50Ideal := Cert.Reference50Ideal.Gen.facts) := by
  intro m ρ m' ρ' _ hagree
  refine ⟨_, renamed (Cert.Kernel50Ideal.Value.run_blocks (F := Ideal) m ρ)
      (fun c => Cert.Kernel50Ideal.Value.array m c),
    renamed (Cert.Reference50Ideal.Value.run (F := Ideal) m' ρ') (fun c => ?_)⟩
  obtain ⟨a0, a1⟩ := hagree c
  rw [a0, a1]
  exact Cert.Reference50Ideal.Value.result _ _

/-- The launch and the reference compute the same activated conditions. -/
theorem equal55 : Cert.algebraic_Kernel55Ideal_Reference55Ideal (hKernel55Ideal := Cert.Kernel55Ideal.Gen.facts)
    (hReference55Ideal := Cert.Reference55Ideal.Gen.facts) := by
  intro m ρ m' ρ' _ hagree
  refine ⟨_, renamed (Cert.Kernel55Ideal.Value.run_blocks (F := Ideal) m ρ)
      (fun c => Cert.Kernel55Ideal.Value.array m c),
    renamed (Cert.Reference55Ideal.Value.run (F := Ideal) m' ρ') (fun c => ?_)⟩
  have a0 := hagree c
  rw [a0]
  exact Cert.Reference55Ideal.Value.result _

/-- The launch and the reference compute the same gradients through the first norm. -/
theorem equal51 : Cert.algebraic_Kernel51Ideal_Reference51Ideal (hKernel51Ideal := Cert.Kernel51Ideal.Gen.facts)
    (hReference51Ideal := Cert.Reference51Ideal.Gen.facts) := by
  intro m ρ m' ρ' _ hagree
  refine ⟨_, _, _, _, renamed4 (Cert.Kernel51Ideal.Value.run_blocks (F := Ideal) m ρ)
      (fun c => Cert.Kernel51Ideal.Value.arrayX m c)
      (fun c => Cert.Kernel51Ideal.Value.arrayG m c)
      (fun c => Cert.Kernel51Ideal.Value.arrayS m c)
      (fun c => Cert.Kernel51Ideal.Value.arrayB m c),
    renamed4 (Cert.Reference51Ideal.Value.run (F := Ideal) m' ρ') (fun c => ?_) (fun c => ?_) (fun c => ?_) (fun c => ?_)⟩
  · refine (Cert.Reference51Ideal.Value.resultX m' c).trans ?_
    obtain ⟨a0, a1, a2, a3, a4, a5, a6⟩ := hagree c
    rw [a0, a1, a2, a4, a5, a6]
  · obtain ⟨a0, a1, a2, a3, a4, a5, a6⟩ := hagree c
    rw [a0, a2, a4, a5]
    exact Cert.Reference51Ideal.Value.resultG _ _ _ _
  · obtain ⟨a0, a1, a2, a3, a4, a5, a6⟩ := hagree c
    rw [a0, a1, a4, a5]
    exact Cert.Reference51Ideal.Value.resultS _ _ _ _
  · obtain ⟨a0, a1, a2, a3, a4, a5, a6⟩ := hagree c
    rw [a4, a5]
    exact Cert.Reference51Ideal.Value.resultB _ _

/-- The launch and the reference compute the same gradients of the losses. -/
theorem equal52 : Cert.algebraic_Kernel52Ideal_Reference52Ideal (hKernel52Ideal := Cert.Kernel52Ideal.Gen.facts)
    (hReference52Ideal := Cert.Reference52Ideal.Gen.facts) := by
  intro m ρ m' ρ' _ hagree
  refine ⟨_, _, _, _, renamed4 (Cert.Kernel52Ideal.Value.run_blocks (F := Ideal) m ρ)
      (fun c => Cert.Kernel52Ideal.Value.arrayX m c)
      (fun c => Cert.Kernel52Ideal.Value.arrayF m c)
      (fun c => Cert.Kernel52Ideal.Value.arrayA m c)
      (fun c => Cert.Kernel52Ideal.Value.arrayG m c),
    renamed4 (Cert.Reference52Ideal.Value.run (F := Ideal) m' ρ') (fun c => ?_) (fun c => ?_) (fun c => ?_) (fun c => ?_)⟩
  · refine (Cert.Reference52Ideal.Value.resultX m' c).trans ?_
    dsimp only [Cert.Reference52Ideal.Value.Dx, Cert.Reference52Ideal.Value.Hidden]
    obtain ⟨a0, a1, a2, a3, a4⟩ := hagree c
    rw [a0, a1, a2, a3, a4]
  · refine (Cert.Reference52Ideal.Value.resultF m' c).trans ?_
    dsimp only [Cert.Reference52Ideal.Value.Dx, Cert.Reference52Ideal.Value.Hidden]
    obtain ⟨a0, a1, a2, a3, a4⟩ := hagree c
    rw [a0, a1, a2, a3, a4]
  · refine (Cert.Reference52Ideal.Value.resultA m' c).trans ?_
    dsimp only [Cert.Reference52Ideal.Value.Dx, Cert.Reference52Ideal.Value.Hidden]
    obtain ⟨a0, a1, a2, a3, a4⟩ := hagree c
    rw [a0, a1, a2, a3, a4]
  · obtain ⟨a0, a1, a2, a3, a4⟩ := hagree c
    rw [a0, a1, a2, a3, a4]
    exact Cert.Reference52Ideal.Value.resultG _ _ _ _ _

/-- The launch and the reference compute the same gradients through the second norm and the residual. -/
theorem equal53 : Cert.algebraic_Kernel53Ideal_Reference53Ideal (hKernel53Ideal := Cert.Kernel53Ideal.Gen.facts)
    (hReference53Ideal := Cert.Reference53Ideal.Gen.facts) := by
  intro m ρ m' ρ' _ hagree
  refine ⟨_, _, _, _, _, _, renamed6 (Cert.Kernel53Ideal.Value.run_blocks (F := Ideal) m ρ)
      (fun c => Cert.Kernel53Ideal.Value.arrayX m c)
      (fun c => Cert.Kernel53Ideal.Value.arrayO m c)
      (fun c => Cert.Kernel53Ideal.Value.arrayA m c)
      (fun c => Cert.Kernel53Ideal.Value.arrayG m c)
      (fun c => Cert.Kernel53Ideal.Value.arrayS m c)
      (fun c => Cert.Kernel53Ideal.Value.arrayB m c),
    renamed6 (Cert.Reference53Ideal.Value.run (F := Ideal) m' ρ') (fun c => ?_) (fun c => ?_) (fun c => ?_) (fun c => ?_) (fun c => ?_) (fun c => ?_)⟩
  · refine (Cert.Reference53Ideal.Value.resultX m' c).trans ?_
    dsimp only [Cert.Reference53Ideal.Value.Dx]
    obtain ⟨a0, a1, a2, a3, a4, a5, a6, a7⟩ := hagree c
    rw [a0, a1, a2, a3, a4, a6, a7]
  · refine (Cert.Reference53Ideal.Value.resultO m' c).trans ?_
    dsimp only [Cert.Reference53Ideal.Value.Dx]
    obtain ⟨a0, a1, a2, a3, a4, a5, a6, a7⟩ := hagree c
    rw [a0, a1, a2, a3, a4, a6, a7]
  · refine (Cert.Reference53Ideal.Value.resultA m' c).trans ?_
    dsimp only [Cert.Reference53Ideal.Value.Dx]
    obtain ⟨a0, a1, a2, a3, a4, a5, a6, a7⟩ := hagree c
    rw [a0, a1, a2, a3, a4, a6, a7]
  · obtain ⟨a0, a1, a2, a3, a4, a5, a6, a7⟩ := hagree c
    rw [a0, a1, a2, a4, a7]
    exact Cert.Reference53Ideal.Value.resultG _ _ _ _ _
  · obtain ⟨a0, a1, a2, a3, a4, a5, a6, a7⟩ := hagree c
    rw [a0, a1, a2, a3, a7]
    exact Cert.Reference53Ideal.Value.resultS _ _ _ _ _
  · obtain ⟨a0, a1, a2, a3, a4, a5, a6, a7⟩ := hagree c
    rw [a7]
    exact Cert.Reference53Ideal.Value.resultB _

/-- The launch and the reference compute the same losses. -/
theorem equal54 : Cert.algebraic_Kernel54Ideal_Reference54Ideal (hKernel54Ideal := Cert.Kernel54Ideal.Gen.facts)
    (hReference54Ideal := Cert.Reference54Ideal.Gen.facts) := by
  intro m ρ m' ρ' _ hagree
  refine ⟨_, renamed (Cert.Kernel54Ideal.Value.run_blocks (F := Ideal) m ρ)
      (fun c => Cert.Kernel54Ideal.Value.array m c),
    renamed (Cert.Reference54Ideal.Value.run (F := Ideal) m' ρ') (fun c => ?_)⟩
  obtain ⟨a0, a1, a2, a3, a4⟩ := hagree c
  rw [a0, a1, a2, a3, a4]
  exact Cert.Reference54Ideal.Value.result _ _ _ _ _

/-- The launch and the reference compute the same modulated norm. -/
theorem equal56 : Cert.algebraic_Kernel56Ideal_Reference56Ideal (hKernel56Ideal := Cert.Kernel56Ideal.Gen.facts)
    (hReference56Ideal := Cert.Reference56Ideal.Gen.facts) := by
  intro m ρ m' ρ' _ hagree
  refine ⟨_, renamed (Cert.Kernel56Ideal.Value.run_blocks (F := Ideal) m ρ)
      (fun c => Cert.Kernel56Ideal.Value.array m c),
    renamed (Cert.Reference56Ideal.Value.run (F := Ideal) m' ρ') (fun c => ?_)⟩
  obtain ⟨a0, a1, a2, a3⟩ := hagree c
  rw [a0, a1, a2, a3]
  exact Cert.Reference56Ideal.Value.result _ _ _ _

/-- The launch and the reference compute the same residual and its modulated norm. -/
theorem equal57 : Cert.algebraic_Kernel57Ideal_Reference57Ideal (hKernel57Ideal := Cert.Kernel57Ideal.Gen.facts)
    (hReference57Ideal := Cert.Reference57Ideal.Gen.facts) := by
  intro m ρ m' ρ' _ hagree
  refine ⟨_, _, renamed2 (Cert.Kernel57Ideal.Value.run_blocks (F := Ideal) m ρ)
      (fun c => Cert.Kernel57Ideal.Value.arrayX m c)
      (fun c => Cert.Kernel57Ideal.Value.arrayN m c),
    renamed2 (Cert.Reference57Ideal.Value.run (F := Ideal) m' ρ') (fun c => ?_) (fun c => ?_)⟩
  · obtain ⟨a0, a1, a2, a3, a4, a5⟩ := hagree c
    rw [a0, a1, a2]
    exact Cert.Reference57Ideal.Value.resultX _ _ _
  · obtain ⟨a0, a1, a2, a3, a4, a5⟩ := hagree c
    rw [a0, a1, a2, a3, a4, a5]
    exact Cert.Reference57Ideal.Value.resultN _ _ _ _ _ _

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Kernel40.Gen.facts, Cert.Kernel40Ideal.Gen.facts, Cert.Reference40Ideal.Gen.facts,
    Cert.Kernel41.Gen.facts, Cert.Kernel41Ideal.Gen.facts, Cert.Reference41Ideal.Gen.facts,
    Cert.Kernel42.Gen.facts, Cert.Kernel42Ideal.Gen.facts, Cert.Reference42Ideal.Gen.facts,
    Cert.Kernel48.Gen.facts, Cert.Kernel48Ideal.Gen.facts, Cert.Reference48Ideal.Gen.facts,
    Cert.Kernel49.Gen.facts, Cert.Kernel49Ideal.Gen.facts, Cert.Reference49Ideal.Gen.facts,
    Cert.Kernel50.Gen.facts, Cert.Kernel50Ideal.Gen.facts, Cert.Reference50Ideal.Gen.facts,
    Cert.Kernel55.Gen.facts, Cert.Kernel55Ideal.Gen.facts, Cert.Reference55Ideal.Gen.facts,
    Cert.Kernel51.Gen.facts, Cert.Kernel51Ideal.Gen.facts, Cert.Reference51Ideal.Gen.facts,
    Cert.Kernel52.Gen.facts, Cert.Kernel52Ideal.Gen.facts, Cert.Reference52Ideal.Gen.facts,
    Cert.Kernel53.Gen.facts, Cert.Kernel53Ideal.Gen.facts, Cert.Reference53Ideal.Gen.facts,
    Cert.Kernel54.Gen.facts, Cert.Kernel54Ideal.Gen.facts, Cert.Reference54Ideal.Gen.facts,
    Cert.Kernel56.Gen.facts, Cert.Kernel56Ideal.Gen.facts, Cert.Reference56Ideal.Gen.facts,
    Cert.Kernel57.Gen.facts, Cert.Kernel57Ideal.Gen.facts, Cert.Reference57Ideal.Gen.facts,
    Cert.Pre_finite.facts, Cert.Pre_finite2.facts, Cert.Pre_finite29.facts,
    fun m ρ _ => Cert.Kernel.Gen.frame m ρ, fun m ρ _ => Cert.KernelIdeal.Gen.frame m ρ,
    fun m ρ _ => Cert.KernelIdeal.Gen.frame m ρ, fun m ρ _ => frameR m ρ, fun m ρ _ => frameR m ρ,
    fun m ρ _ => Cert.Kernel2.Gen.frame m ρ, fun m ρ _ => Cert.Kernel2Ideal.Gen.frame m ρ,
    fun m ρ _ => Cert.Kernel2Ideal.Gen.frame m ρ,
    fun m ρ _ => keeps (by decide) (Cert.Reference2Ideal.Value.run m ρ), fun m ρ _ => keeps (by decide) (Cert.Reference2Ideal.Value.run m ρ),
    fun m ρ _ => Cert.Kernel3.Gen.frame m ρ, fun m ρ _ => Cert.Kernel3Ideal.Gen.frame m ρ,
    fun m ρ _ => keeps (by decide) (Cert.Reference3Ideal.Value.run m ρ),
    fun m ρ _ => Cert.Kernel4.Gen.frame m ρ, fun m ρ _ => Cert.Kernel4Ideal.Gen.frame m ρ,
    fun m ρ _ => keeps (by decide) (Cert.Reference4Ideal.Value.run m ρ),
    fun m ρ _ => Cert.Kernel5.Gen.frame m ρ, fun m ρ _ => Cert.Kernel5Ideal.Gen.frame m ρ,
    fun m ρ _ => keeps (by decide) (Cert.Reference5Ideal.Value.run m ρ),
    fun m ρ _ => Cert.Kernel6.Gen.frame m ρ, fun m ρ _ => Cert.Kernel6Ideal.Gen.frame m ρ,
    fun m ρ _ => keeps (by decide) (Cert.Reference6Ideal.Value.run m ρ),
    fun m ρ _ => Cert.Kernel7.Gen.frame m ρ, fun m ρ _ => Cert.Kernel7Ideal.Gen.frame m ρ,
    fun m ρ _ => keeps (by decide) (Cert.Reference7Ideal.Value.run m ρ),
    fun m ρ _ => Cert.Kernel8.Gen.frame m ρ, fun m ρ _ => Cert.Kernel8Ideal.Gen.frame m ρ,
    fun m ρ _ => keeps (by decide) (Cert.Reference8Ideal.Value.run m ρ),
    fun m ρ _ => Cert.Kernel9.Gen.frame m ρ, fun m ρ _ => Cert.Kernel9Ideal.Gen.frame m ρ,
    fun m ρ _ => keeps (by decide) (Cert.Reference9Ideal.Value.run m ρ),
    fun m ρ _ => Cert.Kernel10.Gen.frame m ρ, fun m ρ _ => Cert.Kernel10Ideal.Gen.frame m ρ,
    fun m ρ _ => keeps (by decide) (Cert.Reference10Ideal.Value.run m ρ),
    fun m ρ _ => Cert.Kernel11.Gen.frame m ρ, fun m ρ _ => Cert.Kernel11Ideal.Gen.frame m ρ,
    fun m ρ _ => keeps (by decide) (Cert.Reference11Ideal.Value.run m ρ),
    fun m ρ _ => Cert.Kernel12.Gen.frame m ρ, fun m ρ _ => Cert.Kernel12Ideal.Gen.frame m ρ,
    fun m ρ _ => keeps (by decide) (Cert.Reference12Ideal.Value.run m ρ),
    fun m ρ _ => Cert.Kernel13.Gen.frame m ρ, fun m ρ _ => Cert.Kernel13Ideal.Gen.frame m ρ,
    fun m ρ _ => keeps (by decide) (Cert.Reference13Ideal.Value.run m ρ),
    fun m ρ _ => Cert.Kernel14.Gen.frame m ρ, fun m ρ _ => Cert.Kernel14Ideal.Gen.frame m ρ,
    fun m ρ _ => keeps (by decide) (Cert.Reference14Ideal.Value.run m ρ),
    fun m ρ _ => Cert.Kernel15.Gen.frame m ρ, fun m ρ _ => Cert.Kernel15Ideal.Gen.frame m ρ,
    fun m ρ _ => keeps (by decide) (Cert.Reference15Ideal.Value.run m ρ),
    fun m ρ _ => Cert.Kernel16.Gen.frame m ρ, fun m ρ _ => Cert.Kernel16Ideal.Gen.frame m ρ,
    fun m ρ _ => keeps (by decide) (Cert.Reference16Ideal.Value.run m ρ),
    fun m ρ _ => Cert.Kernel17.Gen.frame m ρ, fun m ρ _ => Cert.Kernel17Ideal.Gen.frame m ρ,
    fun m ρ _ => keeps (by decide) (Cert.Reference17Ideal.Value.run m ρ),
    fun m ρ _ => Cert.Kernel18.Gen.frame m ρ, fun m ρ _ => Cert.Kernel18Ideal.Gen.frame m ρ,
    fun m ρ _ => keeps (by decide) (Cert.Reference18Ideal.Value.run m ρ),
    fun m ρ _ => Cert.Kernel19.Gen.frame m ρ, fun m ρ _ => Cert.Kernel19Ideal.Gen.frame m ρ,
    fun m ρ _ => keeps (by decide) (Cert.Reference19Ideal.Value.run m ρ),
    fun m ρ _ => Cert.Kernel20.Gen.frame m ρ, fun m ρ _ => Cert.Kernel20Ideal.Gen.frame m ρ,
    fun m ρ _ => keeps (by decide) (first_result (Cert.Reference20Ideal.Value.run m ρ)),
    fun m ρ _ => Cert.Kernel21.Gen.frame m ρ, fun m ρ _ => Cert.Kernel21Ideal.Gen.frame m ρ,
    fun m ρ _ => keeps (by decide) (Cert.Reference21Ideal.Value.run m ρ),
    fun m ρ _ => Cert.Kernel22.Gen.frame m ρ, fun m ρ _ => Cert.Kernel22Ideal.Gen.frame m ρ,
    fun m ρ _ => keeps (by decide) (Cert.Reference22Ideal.Value.run m ρ),
    fun m ρ _ => Cert.Kernel23.Gen.frame m ρ, fun m ρ _ => Cert.Kernel23Ideal.Gen.frame m ρ,
    fun m ρ _ => keeps (by decide) (Cert.Reference23Ideal.Value.run m ρ),
    fun m ρ _ => Cert.Kernel24.Gen.frame m ρ, fun m ρ _ => Cert.Kernel24Ideal.Gen.frame m ρ,
    fun m ρ _ => keeps (by decide) (Cert.Reference24Ideal.Value.run m ρ),
    fun m ρ _ => Cert.Kernel25.Gen.frame m ρ, fun m ρ _ => Cert.Kernel25Ideal.Gen.frame m ρ,
    fun m ρ _ => keeps (by decide) (Cert.Reference25Ideal.Value.run m ρ),
    fun m ρ _ => Cert.Kernel26.Gen.frame m ρ, fun m ρ _ => Cert.Kernel26Ideal.Gen.frame m ρ,
    fun m ρ _ => keeps (by decide) (Cert.Reference26Ideal.Value.run m ρ),
    fun m ρ _ => Cert.Kernel27.Gen.frame m ρ, fun m ρ _ => Cert.Kernel27Ideal.Gen.frame m ρ,
    fun m ρ _ => keeps (by decide) (Cert.Reference27Ideal.Value.run m ρ),
    fun m ρ _ => Cert.Kernel28.Gen.frame m ρ, fun m ρ _ => Cert.Kernel28Ideal.Gen.frame m ρ,
    fun m ρ _ => keeps (by decide) (Cert.Reference28Ideal.Value.run m ρ),
    fun m ρ _ => Cert.Kernel29.Gen.frame m ρ, fun m ρ _ => Cert.Kernel29Ideal.Gen.frame m ρ, fun m ρ _ => Cert.Kernel29Ideal.Gen.frame m ρ,
    fun m ρ _ => keeps (by decide) (Cert.Reference29Ideal.Value.run m ρ), fun m ρ _ => keeps (by decide) (Cert.Reference29Ideal.Value.run m ρ),
    fun m ρ _ => Cert.Kernel30.Gen.frame m ρ, fun m ρ _ => Cert.Kernel30Ideal.Gen.frame m ρ,
    fun m ρ _ => keeps (by decide) (first_result (first_result (first_result (Cert.Reference30Ideal.Value.run m ρ)))),
    fun m ρ _ => Cert.Kernel31.Gen.frame m ρ, fun m ρ _ => Cert.Kernel31Ideal.Gen.frame m ρ,
    fun m ρ _ => keeps (by decide) (first_result (first_result (first_result (Cert.Reference31Ideal.Value.run m ρ)))),
    fun m ρ _ => Cert.Kernel32.Gen.frame m ρ, fun m ρ _ => Cert.Kernel32Ideal.Gen.frame m ρ,
    fun m ρ _ => keeps (by decide) (first_result (first_result (first_result (Cert.Reference32Ideal.Value.run m ρ)))),
    fun m ρ _ => Cert.Kernel33.Gen.frame m ρ, fun m ρ _ => Cert.Kernel33Ideal.Gen.frame m ρ,
    fun m ρ _ => keeps (by decide) (first_result (first_result (first_result (Cert.Reference33Ideal.Value.run m ρ)))),
    fun m ρ _ => Cert.Kernel34.Gen.frame m ρ, fun m ρ _ => Cert.Kernel34Ideal.Gen.frame m ρ,
    fun m ρ _ => keeps (by decide) (first_result (first_result (first_result (Cert.Reference34Ideal.Value.run m ρ)))),
    fun m ρ _ => Cert.Kernel35.Gen.frame m ρ, fun m ρ _ => Cert.Kernel35Ideal.Gen.frame m ρ,
    fun m ρ _ => keeps (by decide) (first_result (first_result (first_result (Cert.Reference35Ideal.Value.run m ρ)))),
    fun m ρ _ => Cert.Kernel36.Gen.frame m ρ, fun m ρ _ => Cert.Kernel36Ideal.Gen.frame m ρ,
    fun m ρ _ => keeps (by decide) (first_result (first_result (first_result (Cert.Reference36Ideal.Value.run m ρ)))),
    fun m ρ _ => Cert.Kernel37.Gen.frame m ρ, fun m ρ _ => Cert.Kernel37Ideal.Gen.frame m ρ,
    fun m ρ _ => keeps (by decide) (first_result (first_result (first_result (Cert.Reference37Ideal.Value.run m ρ)))),
    fun m ρ _ => Cert.Kernel38.Gen.frame m ρ, fun m ρ _ => Cert.Kernel38Ideal.Gen.frame m ρ,
    fun m ρ _ => keeps (by decide) (first_result (first_result (first_result (Cert.Reference38Ideal.Value.run m ρ)))),
    fun m ρ _ => Cert.Kernel39.Gen.frame m ρ, fun m ρ _ => Cert.Kernel39Ideal.Gen.frame m ρ,
    fun m ρ _ => keeps (by decide) (first_result (first_result (first_result (Cert.Reference39Ideal.Value.run m ρ)))),
    fun m ρ _ => Cert.Kernel40.Gen.frame m ρ, fun m ρ _ => Cert.Kernel40Ideal.Gen.frame m ρ,
    fun m ρ _ => keeps (by decide) (first_result (Cert.Reference40Ideal.Value.run m ρ)),
    fun m ρ _ => Cert.Kernel41.Gen.frame m ρ, fun m ρ _ => Cert.Kernel41Ideal.Gen.frame m ρ,
    fun m ρ _ => keeps (by decide) (Cert.Reference41Ideal.Value.run m ρ),
    fun m ρ _ => Cert.Kernel42.Gen.frame m ρ, fun m ρ _ => Cert.Kernel42Ideal.Gen.frame m ρ,
    fun m ρ _ => keeps (by decide) (Cert.Reference42Ideal.Value.run m ρ),
    fun m ρ _ => Cert.Kernel48.Gen.frame m ρ, fun m ρ _ => Cert.Kernel48Ideal.Gen.frame m ρ,
    fun m ρ _ => keeps (by decide) (Cert.Reference48Ideal.Value.run m ρ),
    fun m ρ _ => Cert.Kernel49.Gen.frame m ρ, fun m ρ _ => Cert.Kernel49Ideal.Gen.frame m ρ,
    fun m ρ _ => keeps (by decide) (first_result (first_result (Cert.Reference49Ideal.Value.run m ρ))),
    fun m ρ _ => Cert.Kernel50.Gen.frame m ρ, fun m ρ _ => Cert.Kernel50Ideal.Gen.frame m ρ,
    fun m ρ _ => keeps (by decide) (Cert.Reference50Ideal.Value.run m ρ),
    fun m ρ _ => Cert.Kernel55.Gen.frame m ρ, fun m ρ _ => Cert.Kernel55Ideal.Gen.frame m ρ,
    fun m ρ _ => keeps (by decide) (Cert.Reference55Ideal.Value.run m ρ),
    fun m ρ _ => Cert.Kernel51.Gen.frame m ρ, fun m ρ _ => Cert.Kernel51Ideal.Gen.frame m ρ,
    fun m ρ _ => keeps (by decide) (first_result (first_result (first_result (Cert.Reference51Ideal.Value.run m ρ)))),
    fun m ρ _ => Cert.Kernel52.Gen.frame m ρ, fun m ρ _ => Cert.Kernel52Ideal.Gen.frame m ρ,
    fun m ρ _ => keeps (by decide) (first_result (first_result (first_result (Cert.Reference52Ideal.Value.run m ρ)))),
    fun m ρ _ => Cert.Kernel53.Gen.frame m ρ, fun m ρ _ => Cert.Kernel53Ideal.Gen.frame m ρ,
    fun m ρ _ => keeps (by decide) (first_result (first_result (first_result (first_result (first_result (Cert.Reference53Ideal.Value.run m ρ)))))),
    fun m ρ _ => Cert.Kernel54.Gen.frame m ρ, fun m ρ _ => Cert.Kernel54Ideal.Gen.frame m ρ,
    fun m ρ _ => keeps (by decide) (Cert.Reference54Ideal.Value.run m ρ),
    fun m ρ _ => Cert.Kernel56.Gen.frame m ρ, fun m ρ _ => Cert.Kernel56Ideal.Gen.frame m ρ,
    fun m ρ _ => keeps (by decide) (Cert.Reference56Ideal.Value.run m ρ),
    fun m ρ _ => Cert.Kernel57.Gen.frame m ρ, fun m ρ _ => Cert.Kernel57Ideal.Gen.frame m ρ,
    fun m ρ _ => keeps (by decide) (first_result (Cert.Reference57Ideal.Value.run m ρ)),
    names, equal, trivial, equal2, trivial, equal3, trivial, equal4, trivial, equal5,
    trivial, equal6, trivial, equal7, trivial, equal8, trivial, equal9, trivial, equal10, trivial, equal11,
    trivial, equal12, trivial, equal13, trivial, equal14, trivial, equal15, trivial, equal16, trivial, equal17,
    trivial, equal18, trivial, equal19, trivial, equal20, trivial, equal21, trivial, equal22, trivial, equal23,
    trivial, equal24, trivial, equal25, trivial, equal26, trivial, equal27, trivial, equal28, names29, equal29,
    trivial, equal30, trivial, equal31, trivial, equal32, trivial, equal33, trivial, equal34, trivial, equal35,
    trivial, equal36, trivial, equal37, trivial, equal38, trivial, equal39, trivial, equal40, trivial, equal41,
    trivial, equal42, trivial, equal48, trivial, equal49, trivial, equal50, trivial, equal55, trivial, equal51,
    trivial, equal52, trivial, equal53, trivial, equal54, trivial, equal56, trivial, equal57⟩

end Cert.Proof

end
